-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_all_finite [hPre_all_finite : Cert.Pre_all_finite.Facts] (m : (ℓ : Loc Cert.AttnIdeal.nD Cert.AttnIdeal.τ Cert.AttnIdeal.sig) → Buf (Elt Ideal) ℓ) : Prop :=
  ∀ c : Dev Cert.AttnIdeal.nD,
    (Cert.Pre_all_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).1 = (fun _ => 1#1)
    ∧ (Cert.Pre_all_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.1 = (fun _ => 1#1)
    ∧ (Cert.Pre_all_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.1 = (fun _ => 1#1)
    ∧ (Cert.Pre_all_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.1 = (fun _ => 1#1)
    ∧ (Cert.Pre_all_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.1 = (fun _ => 1#1)
    ∧ (Cert.Pre_all_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_all_finite [hPre_all_finite : Cert.Pre_all_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_all_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).1 = (fun _ => 1#1)
    ∧ (Cert.Pre_all_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.1 = (fun _ => 1#1)
    ∧ (Cert.Pre_all_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.1 = (fun _ => 1#1)
    ∧ (Cert.Pre_all_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.1 = (fun _ => 1#1)
    ∧ (Cert.Pre_all_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.1 = (fun _ => 1#1)
    ∧ (Cert.Pre_all_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.2.2 = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_ffn_finite [hPre_ffn_finite : Cert.Pre_ffn_finite.Facts] (m : (ℓ : Loc Cert.LastIdeal.nD Cert.LastIdeal.τ Cert.LastIdeal.sig) → Buf (Elt Ideal) ℓ) : Prop :=
  ∀ c : Dev Cert.LastIdeal.nD,
    (Cert.Pre_ffn_finite.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8)) (m ((c.tc : Thread Cert.LastIdeal.nD Cert.LastIdeal.τ).loc Cert.LastIdeal.main_arg9))).1 = (fun _ => 1#1)
    ∧ (Cert.Pre_ffn_finite.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8)) (m ((c.tc : Thread Cert.LastIdeal.nD Cert.LastIdeal.τ).loc Cert.LastIdeal.main_arg9))).2.1 = (fun _ => 1#1)
    ∧ (Cert.Pre_ffn_finite.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8)) (m ((c.tc : Thread Cert.LastIdeal.nD Cert.LastIdeal.τ).loc Cert.LastIdeal.main_arg9))).2.2.1 = (fun _ => 1#1)
    ∧ (Cert.Pre_ffn_finite.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8)) (m ((c.tc : Thread Cert.LastIdeal.nD Cert.LastIdeal.τ).loc Cert.LastIdeal.main_arg9))).2.2.2.1 = (fun _ => 1#1)
    ∧ (Cert.Pre_ffn_finite.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8)) (m ((c.tc : Thread Cert.LastIdeal.nD Cert.LastIdeal.τ).loc Cert.LastIdeal.main_arg9))).2.2.2.2.1 = (fun _ => 1#1)
    ∧ (Cert.Pre_ffn_finite.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8)) (m ((c.tc : Thread Cert.LastIdeal.nD Cert.LastIdeal.τ).loc Cert.LastIdeal.main_arg9))).2.2.2.2.2 = (fun _ => 1#1)

def Pre_LastRefIdeal (m : (ℓ : Loc Cert.LastRefIdeal.nD Cert.LastRefIdeal.τ Cert.LastRefIdeal.sig) → Buf (Elt Ideal) ℓ) : Prop :=
  True

def Pre_LastRefIdeal_ffn_finite [hPre_ffn_finite : Cert.Pre_ffn_finite.Facts] (m : (ℓ : Loc Cert.LastRefIdeal.nD Cert.LastRefIdeal.τ Cert.LastRefIdeal.sig) → Buf (Elt Ideal) ℓ) : Prop :=
  ∀ c : Dev Cert.LastRefIdeal.nD,
    (Cert.Pre_ffn_finite.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8)) (m ((c.tc : Thread Cert.LastRefIdeal.nD Cert.LastRefIdeal.τ).loc Cert.LastRefIdeal.main_arg9))).1 = (fun _ => 1#1)
    ∧ (Cert.Pre_ffn_finite.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8)) (m ((c.tc : Thread Cert.LastRefIdeal.nD Cert.LastRefIdeal.τ).loc Cert.LastRefIdeal.main_arg9))).2.1 = (fun _ => 1#1)
    ∧ (Cert.Pre_ffn_finite.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8)) (m ((c.tc : Thread Cert.LastRefIdeal.nD Cert.LastRefIdeal.τ).loc Cert.LastRefIdeal.main_arg9))).2.2.1 = (fun _ => 1#1)
    ∧ (Cert.Pre_ffn_finite.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8)) (m ((c.tc : Thread Cert.LastRefIdeal.nD Cert.LastRefIdeal.τ).loc Cert.LastRefIdeal.main_arg9))).2.2.2.1 = (fun _ => 1#1)
    ∧ (Cert.Pre_ffn_finite.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8)) (m ((c.tc : Thread Cert.LastRefIdeal.nD Cert.LastRefIdeal.τ).loc Cert.LastRefIdeal.main_arg9))).2.2.2.2.1 = (fun _ => 1#1)
    ∧ (Cert.Pre_ffn_finite.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8)) (m ((c.tc : Thread Cert.LastRefIdeal.nD Cert.LastRefIdeal.τ).loc Cert.LastRefIdeal.main_arg9))).2.2.2.2.2 = (fun _ => 1#1)

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_all_finite [hAttnIdeal : Cert.AttnIdeal.Facts] [hPre_all_finite : Cert.Pre_all_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_all_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_all_finite [hAttnRefIdeal : Cert.AttnRefIdeal.Facts] [hPre_all_finite : Cert.Pre_all_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_all_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8)
      ∧ r.2.mem ((c.tc : Thread Cert.Last.nD Cert.Last.τ).loc Cert.Last.main_arg9) = m ((c.tc : Thread Cert.Last.nD Cert.Last.τ).loc Cert.Last.main_arg9))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9))
      ∧ r.2.sem = fun _ => 0)

def quiescent_LastIdeal_pre_ffn_finite [hLastIdeal : Cert.LastIdeal.Facts] [hPre_ffn_finite : Cert.Pre_ffn_finite.Facts] : Prop :=
  ∀ (m : (ℓ : Loc Cert.LastIdeal.nD Cert.LastIdeal.τ Cert.LastIdeal.sig) → Buf (Elt Ideal) ℓ) (g : Dev Cert.LastIdeal.nD → PrngReg), Pre_LastIdeal_ffn_finite m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9))
      ∧ r.2.sem = fun _ => 0)

def quiescent_LastRefIdeal_pre_ffn_finite [hLastRefIdeal : Cert.LastRefIdeal.Facts] [hPre_ffn_finite : Cert.Pre_ffn_finite.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal_ffn_finite m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6)
      ∧ r.2.mem ((c.tc : Thread Cert.Sgu.nD Cert.Sgu.τ).loc Cert.Sgu.main_arg7) = m ((c.tc : Thread Cert.Sgu.nD Cert.Sgu.τ).loc Cert.Sgu.main_arg7)
      ∧ r.2.mem ((c.tc : Thread Cert.Sgu.nD Cert.Sgu.τ).loc Cert.Sgu.main_arg8) = m ((c.tc : Thread Cert.Sgu.nD Cert.Sgu.τ).loc Cert.Sgu.main_arg8)
      ∧ r.2.mem ((c.tc : Thread Cert.Sgu.nD Cert.Sgu.τ).loc Cert.Sgu.main_arg9) = m ((c.tc : Thread Cert.Sgu.nD Cert.Sgu.τ).loc Cert.Sgu.main_arg9)
      ∧ r.2.mem ((c.tc : Thread Cert.Sgu.nD Cert.Sgu.τ).loc Cert.Sgu.main_arg10) = m ((c.tc : Thread Cert.Sgu.nD Cert.Sgu.τ).loc Cert.Sgu.main_arg10)
      ∧ r.2.mem ((c.tc : Thread Cert.Sgu.nD Cert.Sgu.τ).loc Cert.Sgu.main_arg11) = m ((c.tc : Thread Cert.Sgu.nD Cert.Sgu.τ).loc Cert.Sgu.main_arg11))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
      ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
      ∧ r.2.mem ((c.tc : Thread Cert.SguIdeal.nD Cert.SguIdeal.τ).loc Cert.SguIdeal.main_arg8) = m ((c.tc : Thread Cert.SguIdeal.nD Cert.SguIdeal.τ).loc Cert.SguIdeal.main_arg8)
      ∧ r.2.mem ((c.tc : Thread Cert.SguIdeal.nD Cert.SguIdeal.τ).loc Cert.SguIdeal.main_arg9) = m ((c.tc : Thread Cert.SguIdeal.nD Cert.SguIdeal.τ).loc Cert.SguIdeal.main_arg9)
      ∧ r.2.mem ((c.tc : Thread Cert.SguIdeal.nD Cert.SguIdeal.τ).loc Cert.SguIdeal.main_arg10) = m ((c.tc : Thread Cert.SguIdeal.nD Cert.SguIdeal.τ).loc Cert.SguIdeal.main_arg10)
      ∧ r.2.mem ((c.tc : Thread Cert.SguIdeal.nD Cert.SguIdeal.τ).loc Cert.SguIdeal.main_arg11) = m ((c.tc : Thread Cert.SguIdeal.nD Cert.SguIdeal.τ).loc Cert.SguIdeal.main_arg11))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6)
      ∧ r.2.mem ((c.tc : Thread Cert.SguRefIdeal.nD Cert.SguRefIdeal.τ).loc Cert.SguRefIdeal.main_arg7) = m ((c.tc : Thread Cert.SguRefIdeal.nD Cert.SguRefIdeal.τ).loc Cert.SguRefIdeal.main_arg7)
      ∧ r.2.mem ((c.tc : Thread Cert.SguRefIdeal.nD Cert.SguRefIdeal.τ).loc Cert.SguRefIdeal.main_arg8) = m ((c.tc : Thread Cert.SguRefIdeal.nD Cert.SguRefIdeal.τ).loc Cert.SguRefIdeal.main_arg8)
      ∧ r.2.mem ((c.tc : Thread Cert.SguRefIdeal.nD Cert.SguRefIdeal.τ).loc Cert.SguRefIdeal.main_arg9) = m ((c.tc : Thread Cert.SguRefIdeal.nD Cert.SguRefIdeal.τ).loc Cert.SguRefIdeal.main_arg9)
      ∧ r.2.mem ((c.tc : Thread Cert.SguRefIdeal.nD Cert.SguRefIdeal.τ).loc Cert.SguRefIdeal.main_arg10) = m ((c.tc : Thread Cert.SguRefIdeal.nD Cert.SguRefIdeal.τ).loc Cert.SguRefIdeal.main_arg10)
      ∧ r.2.mem ((c.tc : Thread Cert.SguRefIdeal.nD Cert.SguRefIdeal.τ).loc Cert.SguRefIdeal.main_arg11) = m ((c.tc : Thread Cert.SguRefIdeal.nD Cert.SguRefIdeal.τ).loc Cert.SguRefIdeal.main_arg11))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6)
      ∧ r.2.mem ((c.tc : Thread Cert.Inp.nD Cert.Inp.τ).loc Cert.Inp.main_arg7) = m ((c.tc : Thread Cert.Inp.nD Cert.Inp.τ).loc Cert.Inp.main_arg7)
      ∧ r.2.mem ((c.tc : Thread Cert.Inp.nD Cert.Inp.τ).loc Cert.Inp.main_arg8) = m ((c.tc : Thread Cert.Inp.nD Cert.Inp.τ).loc Cert.Inp.main_arg8)
      ∧ r.2.mem ((c.tc : Thread Cert.Inp.nD Cert.Inp.τ).loc Cert.Inp.main_arg9) = m ((c.tc : Thread Cert.Inp.nD Cert.Inp.τ).loc Cert.Inp.main_arg9)
      ∧ r.2.mem ((c.tc : Thread Cert.Inp.nD Cert.Inp.τ).loc Cert.Inp.main_arg10) = m ((c.tc : Thread Cert.Inp.nD Cert.Inp.τ).loc Cert.Inp.main_arg10))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
      ∧ r.2.mem ((c.tc : Thread Cert.InpIdeal.nD Cert.InpIdeal.τ).loc Cert.InpIdeal.main_arg7) = m ((c.tc : Thread Cert.InpIdeal.nD Cert.InpIdeal.τ).loc Cert.InpIdeal.main_arg7)
      ∧ r.2.mem ((c.tc : Thread Cert.InpIdeal.nD Cert.InpIdeal.τ).loc Cert.InpIdeal.main_arg8) = m ((c.tc : Thread Cert.InpIdeal.nD Cert.InpIdeal.τ).loc Cert.InpIdeal.main_arg8)
      ∧ r.2.mem ((c.tc : Thread Cert.InpIdeal.nD Cert.InpIdeal.τ).loc Cert.InpIdeal.main_arg9) = m ((c.tc : Thread Cert.InpIdeal.nD Cert.InpIdeal.τ).loc Cert.InpIdeal.main_arg9)
      ∧ r.2.mem ((c.tc : Thread Cert.InpIdeal.nD Cert.InpIdeal.τ).loc Cert.InpIdeal.main_arg10) = m ((c.tc : Thread Cert.InpIdeal.nD Cert.InpIdeal.τ).loc Cert.InpIdeal.main_arg10))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6)
      ∧ r.2.mem ((c.tc : Thread Cert.InpRefIdeal.nD Cert.InpRefIdeal.τ).loc Cert.InpRefIdeal.main_arg7) = m ((c.tc : Thread Cert.InpRefIdeal.nD Cert.InpRefIdeal.τ).loc Cert.InpRefIdeal.main_arg7)
      ∧ r.2.mem ((c.tc : Thread Cert.InpRefIdeal.nD Cert.InpRefIdeal.τ).loc Cert.InpRefIdeal.main_arg8) = m ((c.tc : Thread Cert.InpRefIdeal.nD Cert.InpRefIdeal.τ).loc Cert.InpRefIdeal.main_arg8)
      ∧ r.2.mem ((c.tc : Thread Cert.InpRefIdeal.nD Cert.InpRefIdeal.τ).loc Cert.InpRefIdeal.main_arg9) = m ((c.tc : Thread Cert.InpRefIdeal.nD Cert.InpRefIdeal.τ).loc Cert.InpRefIdeal.main_arg9)
      ∧ r.2.mem ((c.tc : Thread Cert.InpRefIdeal.nD Cert.InpRefIdeal.τ).loc Cert.InpRefIdeal.main_arg10) = m ((c.tc : Thread Cert.InpRefIdeal.nD Cert.InpRefIdeal.τ).loc Cert.InpRefIdeal.main_arg10))
      ∧ r.2.sem = fun _ => 0)

def preserves_Attn_AttnIdeal : Prop :=
  True

def algebraic_AttnIdeal_AttnRefIdeal_pre_all_finite [hAttnIdeal : Cert.AttnIdeal.Facts] [hAttnRefIdeal : Cert.AttnRefIdeal.Facts] [hPre_all_finite : Cert.Pre_all_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_all_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v76) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v57) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def preserves_Last_LastIdeal : Prop :=
  True

def algebraic_LastIdeal_LastRefIdeal_pre_ffn_finite [hLastIdeal : Cert.LastIdeal.Facts] [hLastRefIdeal : Cert.LastRefIdeal.Facts] [hPre_ffn_finite : Cert.Pre_ffn_finite.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal_ffn_finite m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)
      ∧ m' ((c.tc : Thread Cert.LastRefIdeal.nD Cert.LastRefIdeal.τ).loc Cert.LastRefIdeal.main_arg9) = m ((c.tc : Thread Cert.LastIdeal.nD Cert.LastIdeal.τ).loc Cert.LastIdeal.main_arg9)) →
    ∃ (v0 : (c : Dev Cert.LastIdeal.nD) → Buf (Elt Ideal) ((c.tc : Thread Cert.LastIdeal.nD Cert.LastIdeal.τ).loc Cert.LastIdeal.main_v0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
          ∧ r.2.mem ((c.tc : Thread Cert.LastIdeal.nD Cert.LastIdeal.τ).loc Cert.LastIdeal.main_arg9) = m ((c.tc : Thread Cert.LastIdeal.nD Cert.LastIdeal.τ).loc Cert.LastIdeal.main_arg9))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v71) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8)
          ∧ r.2.mem ((c.tc : Thread Cert.LastRefIdeal.nD Cert.LastRefIdeal.τ).loc Cert.LastRefIdeal.main_arg9) = m' ((c.tc : Thread Cert.LastRefIdeal.nD Cert.LastRefIdeal.τ).loc Cert.LastRefIdeal.main_arg9))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)
      ∧ m' ((c.tc : Thread Cert.SguRefIdeal.nD Cert.SguRefIdeal.τ).loc Cert.SguRefIdeal.main_arg6) = m ((c.tc : Thread Cert.SguIdeal.nD Cert.SguIdeal.τ).loc Cert.SguIdeal.main_arg6)
      ∧ m' ((c.tc : Thread Cert.SguRefIdeal.nD Cert.SguRefIdeal.τ).loc Cert.SguRefIdeal.main_arg7) = m ((c.tc : Thread Cert.SguIdeal.nD Cert.SguIdeal.τ).loc Cert.SguIdeal.main_arg7)
      ∧ m' ((c.tc : Thread Cert.SguRefIdeal.nD Cert.SguRefIdeal.τ).loc Cert.SguRefIdeal.main_arg8) = m ((c.tc : Thread Cert.SguIdeal.nD Cert.SguIdeal.τ).loc Cert.SguIdeal.main_arg8)
      ∧ m' ((c.tc : Thread Cert.SguRefIdeal.nD Cert.SguRefIdeal.τ).loc Cert.SguRefIdeal.main_arg9) = m ((c.tc : Thread Cert.SguIdeal.nD Cert.SguIdeal.τ).loc Cert.SguIdeal.main_arg9)
      ∧ m' ((c.tc : Thread Cert.SguRefIdeal.nD Cert.SguRefIdeal.τ).loc Cert.SguRefIdeal.main_arg10) = m ((c.tc : Thread Cert.SguIdeal.nD Cert.SguIdeal.τ).loc Cert.SguIdeal.main_arg10)
      ∧ m' ((c.tc : Thread Cert.SguRefIdeal.nD Cert.SguRefIdeal.τ).loc Cert.SguRefIdeal.main_arg11) = m ((c.tc : Thread Cert.SguIdeal.nD Cert.SguIdeal.τ).loc Cert.SguIdeal.main_arg11)) →
    ∃ (v0 : (c : Dev Cert.SguIdeal.nD) → Buf (Elt Ideal) ((c.tc : Thread Cert.SguIdeal.nD Cert.SguIdeal.τ).loc Cert.SguIdeal.main_v0)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v0) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
          ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
          ∧ r.2.mem ((c.tc : Thread Cert.SguIdeal.nD Cert.SguIdeal.τ).loc Cert.SguIdeal.main_arg8) = m ((c.tc : Thread Cert.SguIdeal.nD Cert.SguIdeal.τ).loc Cert.SguIdeal.main_arg8)
          ∧ r.2.mem ((c.tc : Thread Cert.SguIdeal.nD Cert.SguIdeal.τ).loc Cert.SguIdeal.main_arg9) = m ((c.tc : Thread Cert.SguIdeal.nD Cert.SguIdeal.τ).loc Cert.SguIdeal.main_arg9)
          ∧ r.2.mem ((c.tc : Thread Cert.SguIdeal.nD Cert.SguIdeal.τ).loc Cert.SguIdeal.main_arg10) = m ((c.tc : Thread Cert.SguIdeal.nD Cert.SguIdeal.τ).loc Cert.SguIdeal.main_arg10)
          ∧ r.2.mem ((c.tc : Thread Cert.SguIdeal.nD Cert.SguIdeal.τ).loc Cert.SguIdeal.main_arg11) = m ((c.tc : Thread Cert.SguIdeal.nD Cert.SguIdeal.τ).loc Cert.SguIdeal.main_arg11))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v75) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6)
          ∧ r.2.mem ((c.tc : Thread Cert.SguRefIdeal.nD Cert.SguRefIdeal.τ).loc Cert.SguRefIdeal.main_arg7) = m' ((c.tc : Thread Cert.SguRefIdeal.nD Cert.SguRefIdeal.τ).loc Cert.SguRefIdeal.main_arg7)
          ∧ r.2.mem ((c.tc : Thread Cert.SguRefIdeal.nD Cert.SguRefIdeal.τ).loc Cert.SguRefIdeal.main_arg8) = m' ((c.tc : Thread Cert.SguRefIdeal.nD Cert.SguRefIdeal.τ).loc Cert.SguRefIdeal.main_arg8)
          ∧ r.2.mem ((c.tc : Thread Cert.SguRefIdeal.nD Cert.SguRefIdeal.τ).loc Cert.SguRefIdeal.main_arg9) = m' ((c.tc : Thread Cert.SguRefIdeal.nD Cert.SguRefIdeal.τ).loc Cert.SguRefIdeal.main_arg9)
          ∧ r.2.mem ((c.tc : Thread Cert.SguRefIdeal.nD Cert.SguRefIdeal.τ).loc Cert.SguRefIdeal.main_arg10) = m' ((c.tc : Thread Cert.SguRefIdeal.nD Cert.SguRefIdeal.τ).loc Cert.SguRefIdeal.main_arg10)
          ∧ r.2.mem ((c.tc : Thread Cert.SguRefIdeal.nD Cert.SguRefIdeal.τ).loc Cert.SguRefIdeal.main_arg11) = m' ((c.tc : Thread Cert.SguRefIdeal.nD Cert.SguRefIdeal.τ).loc Cert.SguRefIdeal.main_arg11))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v12) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)
      ∧ m' ((c.tc : Thread Cert.InpRefIdeal.nD Cert.InpRefIdeal.τ).loc Cert.InpRefIdeal.main_arg7) = m ((c.tc : Thread Cert.InpIdeal.nD Cert.InpIdeal.τ).loc Cert.InpIdeal.main_arg7)
      ∧ m' ((c.tc : Thread Cert.InpRefIdeal.nD Cert.InpRefIdeal.τ).loc Cert.InpRefIdeal.main_arg8) = m ((c.tc : Thread Cert.InpIdeal.nD Cert.InpIdeal.τ).loc Cert.InpIdeal.main_arg8)
      ∧ m' ((c.tc : Thread Cert.InpRefIdeal.nD Cert.InpRefIdeal.τ).loc Cert.InpRefIdeal.main_arg9) = m ((c.tc : Thread Cert.InpIdeal.nD Cert.InpIdeal.τ).loc Cert.InpIdeal.main_arg9)
      ∧ m' ((c.tc : Thread Cert.InpRefIdeal.nD Cert.InpRefIdeal.τ).loc Cert.InpRefIdeal.main_arg10) = m ((c.tc : Thread Cert.InpIdeal.nD Cert.InpIdeal.τ).loc Cert.InpIdeal.main_arg10)) →
    ∃ (v0 : (c : Dev Cert.InpIdeal.nD) → Buf (Elt Ideal) ((c.tc : Thread Cert.InpIdeal.nD Cert.InpIdeal.τ).loc Cert.InpIdeal.main_v0_0)) (v1 : (c : Dev Cert.InpIdeal.nD) → Buf (Elt Ideal) ((c.tc : Thread Cert.InpIdeal.nD Cert.InpIdeal.τ).loc Cert.InpIdeal.main_v0_1)) (v2 : (c : Dev Cert.InpIdeal.nD) → Buf (Elt Ideal) ((c.tc : Thread Cert.InpIdeal.nD Cert.InpIdeal.τ).loc Cert.InpIdeal.main_v0_2)) (v3 : (c : Dev Cert.InpIdeal.nD) → Buf (Elt Ideal) ((c.tc : Thread Cert.InpIdeal.nD Cert.InpIdeal.τ).loc Cert.InpIdeal.main_v0_3)) (v4 : (c : Dev Cert.InpIdeal.nD) → Buf (Elt Ideal) ((c.tc : Thread Cert.InpIdeal.nD Cert.InpIdeal.τ).loc Cert.InpIdeal.main_v0_4)) (v5 : (c : Dev Cert.InpIdeal.nD) → Buf (Elt Ideal) ((c.tc : Thread Cert.InpIdeal.nD Cert.InpIdeal.τ).loc Cert.InpIdeal.main_v0_5)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v0_0) = v0 c
          ∧ r.2.mem ((c.tc : Thread Cert.InpIdeal.nD Cert.InpIdeal.τ).loc Cert.InpIdeal.main_v0_1) = v1 c
          ∧ r.2.mem ((c.tc : Thread Cert.InpIdeal.nD Cert.InpIdeal.τ).loc Cert.InpIdeal.main_v0_2) = v2 c
          ∧ r.2.mem ((c.tc : Thread Cert.InpIdeal.nD Cert.InpIdeal.τ).loc Cert.InpIdeal.main_v0_3) = v3 c
          ∧ r.2.mem ((c.tc : Thread Cert.InpIdeal.nD Cert.InpIdeal.τ).loc Cert.InpIdeal.main_v0_4) = v4 c
          ∧ r.2.mem ((c.tc : Thread Cert.InpIdeal.nD Cert.InpIdeal.τ).loc Cert.InpIdeal.main_v0_5) = v5 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
          ∧ r.2.mem ((c.tc : Thread Cert.InpIdeal.nD Cert.InpIdeal.τ).loc Cert.InpIdeal.main_arg7) = m ((c.tc : Thread Cert.InpIdeal.nD Cert.InpIdeal.τ).loc Cert.InpIdeal.main_arg7)
          ∧ r.2.mem ((c.tc : Thread Cert.InpIdeal.nD Cert.InpIdeal.τ).loc Cert.InpIdeal.main_arg8) = m ((c.tc : Thread Cert.InpIdeal.nD Cert.InpIdeal.τ).loc Cert.InpIdeal.main_arg8)
          ∧ r.2.mem ((c.tc : Thread Cert.InpIdeal.nD Cert.InpIdeal.τ).loc Cert.InpIdeal.main_arg9) = m ((c.tc : Thread Cert.InpIdeal.nD Cert.InpIdeal.τ).loc Cert.InpIdeal.main_arg9)
          ∧ r.2.mem ((c.tc : Thread Cert.InpIdeal.nD Cert.InpIdeal.τ).loc Cert.InpIdeal.main_arg10) = m ((c.tc : Thread Cert.InpIdeal.nD Cert.InpIdeal.τ).loc Cert.InpIdeal.main_arg10))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v117) = v0 c
          ∧ r.2.mem ((c.tc : Thread Cert.InpRefIdeal.nD Cert.InpRefIdeal.τ).loc Cert.InpRefIdeal.main_v118) = v1 c
          ∧ r.2.mem ((c.tc : Thread Cert.InpRefIdeal.nD Cert.InpRefIdeal.τ).loc Cert.InpRefIdeal.main_v119) = v2 c
          ∧ r.2.mem ((c.tc : Thread Cert.InpRefIdeal.nD Cert.InpRefIdeal.τ).loc Cert.InpRefIdeal.main_v121) = v3 c
          ∧ r.2.mem ((c.tc : Thread Cert.InpRefIdeal.nD Cert.InpRefIdeal.τ).loc Cert.InpRefIdeal.main_v123) = v4 c
          ∧ r.2.mem ((c.tc : Thread Cert.InpRefIdeal.nD Cert.InpRefIdeal.τ).loc Cert.InpRefIdeal.main_v125) = v5 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6)
          ∧ r.2.mem ((c.tc : Thread Cert.InpRefIdeal.nD Cert.InpRefIdeal.τ).loc Cert.InpRefIdeal.main_arg7) = m' ((c.tc : Thread Cert.InpRefIdeal.nD Cert.InpRefIdeal.τ).loc Cert.InpRefIdeal.main_arg7)
          ∧ r.2.mem ((c.tc : Thread Cert.InpRefIdeal.nD Cert.InpRefIdeal.τ).loc Cert.InpRefIdeal.main_arg8) = m' ((c.tc : Thread Cert.InpRefIdeal.nD Cert.InpRefIdeal.τ).loc Cert.InpRefIdeal.main_arg8)
          ∧ r.2.mem ((c.tc : Thread Cert.InpRefIdeal.nD Cert.InpRefIdeal.τ).loc Cert.InpRefIdeal.main_arg9) = m' ((c.tc : Thread Cert.InpRefIdeal.nD Cert.InpRefIdeal.τ).loc Cert.InpRefIdeal.main_arg9)
          ∧ r.2.mem ((c.tc : Thread Cert.InpRefIdeal.nD Cert.InpRefIdeal.τ).loc Cert.InpRefIdeal.main_arg10) = m' ((c.tc : Thread Cert.InpRefIdeal.nD Cert.InpRefIdeal.τ).loc Cert.InpRefIdeal.main_arg10))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hSgu : Cert.Sgu.Facts) (hSguIdeal : Cert.SguIdeal.Facts) (hSguRefIdeal : Cert.SguRefIdeal.Facts) (hOut : Cert.Out.Facts) (hOutIdeal : Cert.OutIdeal.Facts) (hOutRefIdeal : Cert.OutRefIdeal.Facts) (hInp : Cert.Inp.Facts) (hInpIdeal : Cert.InpIdeal.Facts) (hInpRefIdeal : Cert.InpRefIdeal.Facts) (hPre_all_finite : Cert.Pre_all_finite.Facts) (hPre_ffn_finite : Cert.Pre_ffn_finite.Facts),
    quiescent_Attn (hAttn := hAttn)
    ∧ quiescent_AttnIdeal (hAttnIdeal := hAttnIdeal)
    ∧ quiescent_AttnIdeal_pre_all_finite (hAttnIdeal := hAttnIdeal) (hPre_all_finite := hPre_all_finite)
    ∧ quiescent_AttnRefIdeal (hAttnRefIdeal := hAttnRefIdeal)
    ∧ quiescent_AttnRefIdeal_pre_all_finite (hAttnRefIdeal := hAttnRefIdeal) (hPre_all_finite := hPre_all_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Last (hLast := hLast)
    ∧ quiescent_LastIdeal (hLastIdeal := hLastIdeal)
    ∧ quiescent_LastIdeal_pre_ffn_finite (hLastIdeal := hLastIdeal) (hPre_ffn_finite := hPre_ffn_finite)
    ∧ quiescent_LastRefIdeal (hLastRefIdeal := hLastRefIdeal)
    ∧ quiescent_LastRefIdeal_pre_ffn_finite (hLastRefIdeal := hLastRefIdeal) (hPre_ffn_finite := hPre_ffn_finite)
    ∧ quiescent_Sgu (hSgu := hSgu)
    ∧ quiescent_SguIdeal (hSguIdeal := hSguIdeal)
    ∧ quiescent_SguRefIdeal (hSguRefIdeal := hSguRefIdeal)
    ∧ quiescent_Out (hOut := hOut)
    ∧ quiescent_OutIdeal (hOutIdeal := hOutIdeal)
    ∧ quiescent_OutRefIdeal (hOutRefIdeal := hOutRefIdeal)
    ∧ quiescent_Inp (hInp := hInp)
    ∧ quiescent_InpIdeal (hInpIdeal := hInpIdeal)
    ∧ quiescent_InpRefIdeal (hInpRefIdeal := hInpRefIdeal)
    ∧ preserves_Attn_AttnIdeal
    ∧ algebraic_AttnIdeal_AttnRefIdeal_pre_all_finite (hAttnIdeal := hAttnIdeal) (hAttnRefIdeal := hAttnRefIdeal) (hPre_all_finite := hPre_all_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Last_LastIdeal
    ∧ algebraic_LastIdeal_LastRefIdeal_pre_ffn_finite (hLastIdeal := hLastIdeal) (hLastRefIdeal := hLastRefIdeal) (hPre_ffn_finite := hPre_ffn_finite)
    ∧ preserves_Sgu_SguIdeal
    ∧ algebraic_SguIdeal_SguRefIdeal (hSguIdeal := hSguIdeal) (hSguRefIdeal := hSguRefIdeal)
    ∧ preserves_Out_OutIdeal
    ∧ algebraic_OutIdeal_OutRefIdeal (hOutIdeal := hOutIdeal) (hOutRefIdeal := hOutRefIdeal)
    ∧ preserves_Inp_InpIdeal
    ∧ algebraic_InpIdeal_InpRefIdeal (hInpIdeal := hInpIdeal) (hInpRefIdeal := hInpRefIdeal)
-- ==== Pre_all_finite.lean ====
abbrev S4x64 : Shape := ⟨2, ![4, 64]⟩
abbrev S128x1 : Shape := ⟨2, ![128, 1]⟩
abbrev S4x8192x512 : Shape := ⟨3, ![4, 8192, 512]⟩
abbrev S4x512x8192 : Shape := ⟨3, ![4, 512, 8192]⟩
abbrev S4x256x512 : Shape := ⟨3, ![4, 256, 512]⟩
abbrev S4x512x256 : Shape := ⟨3, ![4, 512, 256]⟩
abbrev S_ : Shape := ⟨0, ![]⟩

class Facts : Prop where
  bcast_S_S4x64 : S_.BroadcastsInDim S4x64 (![] : Fin 0 → Fin S4x64.rank)
  bitsLt_bf16_f32 : FTy.bits .bf16 < FTy.bits .f32
  bcast_S_S4x8192x512 : S_.BroadcastsInDim S4x8192x512 (![] : Fin 0 → Fin S4x8192x512.rank)
  bcast_S_S4x512x8192 : S_.BroadcastsInDim S4x512x8192 (![] : Fin 0 → Fin S4x512x8192.rank)
  bcast_S_S4x256x512 : S_.BroadcastsInDim S4x256x512 (![] : Fin 0 → Fin S4x256x512.rank)
  bcast_S_S4x512x256 : S_.BroadcastsInDim S4x512x256 (![] : Fin 0 → Fin S4x512x256.rank)

variable [Facts]

def fn_part1 {F : FTy → Type} [FloatOps F] (main_arg6 : FVec F S4x512x256 .bf16) (main_v2 : IVec S4x64 1) (main_v6 : IVec S4x8192x512 1) (main_v10 : IVec S4x8192x512 1) (main_v14 : IVec S4x512x8192 1) (main_v18 : IVec S4x256x512 1) : IVec S4x64 1 × IVec S4x8192x512 1 × IVec S4x8192x512 1 × IVec S4x512x8192 1 × IVec S4x256x512 1 × IVec S4x512x256 1 :=
  let main_v19 : FVec F S4x512x256 .f32 := (extf .f32 · bitsLt_bf16_f32) main_arg6
  let main_v20 : FVec F S4x512x256 .f32 := Host.absf main_v19
  let main_cst_4 : FVec F S_ .f32 := constant S_ .f32 0x7F800000#32
  let main_v21 : FVec F S4x512x256 .f32 := broadcastInDim S4x512x256 ![] bcast_S_S4x512x256 main_cst_4
  let main_v22 : IVec S4x512x256 1 := cmpf .olt main_v20 main_v21
  (main_v2, main_v6, main_v10, main_v14, main_v18, main_v22)

def fn {F : FTy → Type} [FloatOps F] (main_arg0 : FVec F S4x64 .f32) (main_arg1 : FVec F S128x1 .f32) (main_arg2 : FVec F S4x8192x512 .bf16) (main_arg3 : FVec F S4x8192x512 .bf16) (main_arg4 : FVec F S4x512x8192 .bf16) (main_arg5 : FVec F S4x256x512 .bf16) (main_arg6 : FVec F S4x512x256 .bf16) : IVec S4x64 1 × IVec S4x8192x512 1 × IVec S4x8192x512 1 × IVec S4x512x8192 1 × IVec S4x256x512 1 × IVec S4x512x256 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_v3 : FVec F S4x8192x512 .f32 := (extf .f32 · bitsLt_bf16_f32) main_arg2
  let main_v4 : FVec F S4x8192x512 .f32 := Host.absf main_v3
  let main_cst_0 : FVec F S_ .f32 := constant S_ .f32 0x7F800000#32
  let main_v5 : FVec F S4x8192x512 .f32 := broadcastInDim S4x8192x512 ![] bcast_S_S4x8192x512 main_cst_0
  let main_v6 : IVec S4x8192x512 1 := cmpf .olt main_v4 main_v5
  let main_v7 : FVec F S4x8192x512 .f32 := (extf .f32 · bitsLt_bf16_f32) main_arg3
  let main_v8 : FVec F S4x8192x512 .f32 := Host.absf main_v7
  let main_cst_1 : FVec F S_ .f32 := constant S_ .f32 0x7F800000#32
  let main_v9 : FVec F S4x8192x512 .f32 := broadcastInDim S4x8192x512 ![] bcast_S_S4x8192x512 main_cst_1
  let main_v10 : IVec S4x8192x512 1 := cmpf .olt main_v8 main_v9
  let main_v11 : FVec F S4x512x8192 .f32 := (extf .f32 · bitsLt_bf16_f32) main_arg4
  let main_v12 : FVec F S4x512x8192 .f32 := Host.absf main_v11
  let main_cst_2 : FVec F S_ .f32 := constant S_ .f32 0x7F800000#32
  let main_v13 : FVec F S4x512x8192 .f32 := broadcastInDim S4x512x8192 ![] bcast_S_S4x512x8192 main_cst_2
  let main_v14 : IVec S4x512x8192 1 := cmpf .olt main_v12 main_v13
  let main_v15 : FVec F S4x256x512 .f32 := (extf .f32 · bitsLt_bf16_f32) main_arg5
  let main_v16 : FVec F S4x256x512 .f32 := Host.absf main_v15
  let main_cst_3 : FVec F S_ .f32 := constant S_ .f32 0x7F800000#32
  let main_v17 : FVec F S4x256x512 .f32 := broadcastInDim S4x256x512 ![] bcast_S_S4x256x512 main_cst_3
  let main_v18 : IVec S4x256x512 1 := cmpf .olt main_v16 main_v17
  fn_part1 (F := F) main_arg6 main_v2 main_v6 main_v10 main_v14 main_v18
-- ==== Pre_ffn_finite.lean ====
abbrev S32768x1024 : Shape := ⟨2, ![32768, 1024]⟩
abbrev S1x1024 : Shape := ⟨2, ![1, 1024]⟩
abbrev S4x1x1024 : Shape := ⟨3, ![4, 1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S1x1024 : S_.BroadcastsInDim S1x1024 (![] : Fin 0 → Fin S1x1024.rank)
  bcast_S_S4x1x1024 : S_.BroadcastsInDim S4x1x1024 (![] : Fin 0 → Fin S4x1x1024.rank)
  bitsLt_bf16_f32 : FTy.bits .bf16 < FTy.bits .f32
  bcast_S_S1024x5632 : S_.BroadcastsInDim S1024x5632 (![] : Fin 0 → Fin S1024x5632.rank)
  bcast_S_S3x5632 : S_.BroadcastsInDim S3x5632 (![] : Fin 0 → Fin S3x5632.rank)
  bcast_S_S1x5632 : S_.BroadcastsInDim S1x5632 (![] : Fin 0 → Fin S1x5632.rank)

variable [Facts]

def fn_part1 {F : FTy → Type} [FloatOps F] (main_v2 : IVec S1x1024 1) (main_v5 : IVec S4x1x1024 1) (main_v8 : IVec S4x1x1024 1) (main_v12 : IVec S1024x5632 1) (main_v15 : IVec S3x5632 1) (main_v16 : FVec F S1x5632 .f32) (main_v17 : FVec F S1x5632 .f32) : IVec S1x1024 1 × IVec S4x1x1024 1 × IVec S4x1x1024 1 × IVec S1024x5632 1 × IVec S3x5632 1 × IVec S1x5632 1 :=
  let main_v18 : IVec S1x5632 1 := cmpf .olt main_v16 main_v17
  (main_v2, main_v5, main_v8, main_v12, main_v15, main_v18)

def fn {F : FTy → Type} [FloatOps F] (main_arg0 : FVec F S32768x1024 .f32) (main_arg1 : FVec F S1x1024 .f32) (main_arg2 : FVec F S4x1x1024 .f32) (main_arg3 : FVec F S4x1x1024 .f32) (main_arg4 : FVec F S4x1x1024 .f32) (main_arg5 : FVec F S1024x5632 .bf16) (main_arg6 : FVec F S3x5632 .f32) (main_arg7 : FVec F S1x5632 .f32) (main_arg8 : FVec F S2816x1024 .bf16) (main_arg9 : FVec F S1x1024 .f32) : IVec S1x1024 1 × IVec S4x1x1024 1 × IVec S4x1x1024 1 × IVec S1024x5632 1 × IVec S3x5632 1 × IVec S1x5632 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S4x1x1024 .f32 := Host.absf main_arg2
  let main_cst_0 : FVec F S_ .f32 := constant S_ .f32 0x7F800000#32
  let main_v4 : FVec F S4x1x1024 .f32 := broadcastInDim S4x1x1024 ![] bcast_S_S4x1x1024 main_cst_0
  let main_v5 : IVec S4x1x1024 1 := cmpf .olt main_v3 main_v4
  let main_v6 : FVec F S4x1x1024 .f32 := Host.absf main_arg3
  let main_cst_1 : FVec F S_ .f32 := constant S_ .f32 0x7F800000#32
  let main_v7 : FVec F S4x1x1024 .f32 := broadcastInDim S4x1x1024 ![] bcast_S_S4x1x1024 main_cst_1
  let main_v8 : IVec S4x1x1024 1 := cmpf .olt main_v6 main_v7
  let main_v9 : FVec F S1024x5632 .f32 := (extf .f32 · bitsLt_bf16_f32) main_arg5
  let main_v10 : FVec F S1024x5632 .f32 := Host.absf main_v9
  let main_cst_2 : FVec F S_ .f32 := constant S_ .f32 0x7F800000#32
  let main_v11 : FVec F S1024x5632 .f32 := broadcastInDim S1024x5632 ![] bcast_S_S1024x5632 main_cst_2
  let main_v12 : IVec S1024x5632 1 := cmpf .olt main_v10 main_v11
  let main_v13 : FVec F S3x5632 .f32 := Host.absf main_arg6
  let main_cst_3 : FVec F S_ .f32 := constant S_ .f32 0x7F800000#32
  let main_v14 : FVec F S3x5632 .f32 := broadcastInDim S3x5632 ![] bcast_S_S3x5632 main_cst_3
  let main_v15 : IVec S3x5632 1 := cmpf .olt main_v13 main_v14
  let main_v16 : FVec F S1x5632 .f32 := Host.absf main_arg7
  let main_cst_4 : FVec F S_ .f32 := constant S_ .f32 0x7F800000#32
  let main_v17 : FVec F S1x5632 .f32 := broadcastInDim S1x5632 ![] bcast_S_S1x5632 main_cst_4
  fn_part1 (F := F) main_v2 main_v5 main_v8 main_v12 main_v15 main_v16 main_v17
-- ==== Attn.lean ====
abbrev S4x64 : Shape := ⟨2, ![4, 64]⟩
abbrev S128x1 : Shape := ⟨2, ![128, 1]⟩
abbrev S4x8192x512 : Shape := ⟨3, ![4, 8192, 512]⟩
abbrev S4x512x8192 : Shape := ⟨3, ![4, 512, 8192]⟩
abbrev S4x256x512 : Shape := ⟨3, ![4, 256, 512]⟩
abbrev S4x512x256 : Shape := ⟨3, ![4, 512, 256]⟩
abbrev S1x8192x128 : Shape := ⟨3, ![1, 8192, 128]⟩
abbrev S1x128x8192 : Shape := ⟨3, ![1, 128, 8192]⟩
abbrev S1x256x128 : Shape := ⟨3, ![1, 256, 128]⟩
abbrev S1x128x256 : Shape := ⟨3, ![1, 128, 256]⟩
abbrev S2x8448x256 : Shape := ⟨3, ![2, 8448, 256]⟩
abbrev S2x128x256 : Shape := ⟨3, ![2, 128, 256]⟩
abbrev S256x128 : Shape := ⟨2, ![256, 128]⟩
abbrev S1x64 : Shape := ⟨2, ![1, 64]⟩
abbrev S1 : Shape := ⟨1, ![1]⟩
abbrev S1x1 : Shape := ⟨2, ![1, 1]⟩
abbrev S256x256 : Shape := ⟨2, ![256, 256]⟩
abbrev S1x256x256 : Shape := ⟨3, ![1, 256, 256]⟩
abbrev S32x8x256 : Shape := ⟨3, ![32, 8, 256]⟩
abbrev S8x256 : Shape := ⟨2, ![8, 256]⟩
abbrev S256 : Shape := ⟨1, ![256]⟩
abbrev S1x256 : Shape := ⟨2, ![1, 256]⟩
abbrev S128x256 : Shape := ⟨2, ![128, 256]⟩

abbrev nBuf : Space → Nat
  | .hbm => 8
  | .vmem => 17
  | .smem => 0
  | _ => 0

abbrev bufTy : (tb : Table) → Fin (tcTables nBuf tb) → BufTy
  | .hbm, ⟨0, _⟩ => ⟨S4x64, .f32⟩
  | .hbm, ⟨1, _⟩ => ⟨S128x1, .f32⟩
  | .hbm, ⟨2, _⟩ => ⟨S4x8192x512, .bf16⟩
  | .hbm, ⟨3, _⟩ => ⟨S4x8192x512, .bf16⟩
  | .hbm, ⟨4, _⟩ => ⟨S4x512x8192, .bf16⟩
  | .hbm, ⟨5, _⟩ => ⟨S4x256x512, .bf16⟩
  | .hbm, ⟨6, _⟩ => ⟨S4x512x256, .bf16⟩
  | .hbm, ⟨7, _⟩ => ⟨S4x8192x512, .bf16⟩
  | .local _ .vmem, ⟨0, _⟩ => ⟨S4x64, .f32⟩
  | .local _ .vmem, ⟨1, _⟩ => ⟨S128x1, .f32⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x128x8192, .bf16⟩
  | .local _ .vmem, ⟨7, _⟩ => ⟨S1x128x8192, .bf16⟩
  | .local _ .vmem, ⟨8, _⟩ => ⟨S1x256x128, .bf16⟩
  | .local _ .vmem, ⟨9, _⟩ => ⟨S1x256x128, .bf16⟩
  | .local _ .vmem, ⟨10, _⟩ => ⟨S1x128x256, .bf16⟩
  | .local _ .vmem, ⟨11, _⟩ => ⟨S1x128x256, .bf16⟩
  | .local _ .vmem, ⟨12, _⟩ => ⟨S1x8192x128, .bf16⟩
  | .local _ .vmem, ⟨13, _⟩ => ⟨S1x8192x128, .bf16⟩
  | .local _ .vmem, ⟨14, _⟩ => ⟨S2x8448x256, .f32⟩
  | .local _ .vmem, ⟨15, _⟩ => ⟨S2x8448x256, .f32⟩
  | .local _ .vmem, ⟨16, _⟩ => ⟨S2x128x256, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  c0_i32
@[reducible] def k0_t1_loop : Scf.Loop 32 :=
  let c0_i32_404 : BitVec 32 := 0#32
  let c31_i32 : BitVec 32 := 31#32
  let v556 : BitVec 32 := Scalar.addi c0_i32_404 c31_i32
  let c1_i32 : BitVec 32 := 1#32
  ⟨c0_i32_404, v556, c1_i32⟩
def k0_cond1 (k0_t1 : Fin k0_t1_loop.trips) : BitVec 1 :=
  let c0_i32_404 : BitVec 32 := 0#32
  let c1_i32 : BitVec 32 := 1#32
  let arg13 : BitVec 32 := Scf.iv c0_i32_404 c1_i32 k0_t1
  let c2_i32 : BitVec 32 := 2#32
  let c0_i32_1241 : BitVec 32 := 0#32
  let v1709 : BitVec 1 := Scalar.cmpi .eq c2_i32 c0_i32_1241
  let c1_i32_1242 : BitVec 32 := 1#32
  let v1710 : BitVec 32 := Scalar.select v1709 c1_i32_1242 c2_i32
  let v1711 : BitVec 32 := Scalar.remsi arg13 v1710
  let c0_i32_1244 : BitVec 32 := 0#32
  let v1713 : BitVec 1 := Scalar.cmpi .slt v1711 c0_i32_1244
  let c0_i32_1245 : BitVec 32 := 0#32
  let v1714 : BitVec 1 := Scalar.cmpi .slt v1710 c0_i32_1245
  let v1715 : BitVec 1 := Scalar.xori v1713 v1714
  let c0_i32_1243 : BitVec 32 := 0#32
  let v1712 : BitVec 1 := Scalar.cmpi .ne v1711 c0_i32_1243
  let v1716 : BitVec 1 := Scalar.andi v1715 v1712
  let v1717 : BitVec 32 := Scalar.addi v1711 v1710
  let v1718 : BitVec 32 := Scalar.select v1716 v1717 v1711
  let c0_i32_1246 : BitVec 32 := 0#32
  let v1719 : BitVec 1 := Scalar.cmpi .eq v1718 c0_i32_1246
  let v1720 : BitVec 32 := Scalar.extui v1719
  let c0_i32_1247 : BitVec 32 := 0#32
  let v1721 : BitVec 1 := Scalar.cmpi .ne v1720 c0_i32_1247
  v1721

def k0_mult2 (k0_t1 : Fin k0_t1_loop.trips) : BitVec 32 :=
  let c0_i32_404 : BitVec 32 := 0#32
  let c1_i32 : BitVec 32 := 1#32
  let arg13 : BitVec 32 := Scf.iv c0_i32_404 c1_i32 k0_t1
  let c1_i32_1248 : BitVec 32 := 1#32
  let v1723 : BitVec 32 := Scalar.addi arg13 c1_i32_1248
  let c256_i32 : BitVec 32 := 256#32
  let v1724 : BitVec 32 := Scalar.muli v1723 c256_i32
  v1724
def k0_off1 (k0_t1 : Fin k0_t1_loop.trips) : Fin 3 → Nat :=
  let c0_1249 : Index := 0#32
  let c0_i32_404 : BitVec 32 := 0#32
  let c1_i32 : BitVec 32 := 1#32
  let arg13 : BitVec 32 := Scf.iv c0_i32_404 c1_i32 k0_t1
  let c1_i32_1248 : BitVec 32 := 1#32
  let v1723 : BitVec 32 := Scalar.addi arg13 c1_i32_1248
  let c256_i32 : BitVec 32 := 256#32
  let v1724 : BitVec 32 := Scalar.muli v1723 c256_i32
  let v1725 : BitVec 32 := v1724
  let v1726 : Index := Scalar.indexCast v1725
  let c0_1250 : Index := 0#32
  ![0, v1726.toNat, 0]
def k0_mult3 (k0_t1 : Fin k0_t1_loop.trips) : BitVec 32 :=
  let c0_i32_404 : BitVec 32 := 0#32
  let c1_i32 : BitVec 32 := 1#32
  let arg13 : BitVec 32 := Scf.iv c0_i32_404 c1_i32 k0_t1
  let c256_i32_2514 : BitVec 32 := 256#32
  let v3404 : BitVec 32 := Scalar.muli arg13 c256_i32_2514
  v3404
def k0_off2 (k0_t1 : Fin k0_t1_loop.trips) : Fin 3 → Nat :=
  let c0_2515 : Index := 0#32
  let c0_i32_404 : BitVec 32 := 0#32
  let c1_i32 : BitVec 32 := 1#32
  let arg13 : BitVec 32 := Scf.iv c0_i32_404 c1_i32 k0_t1
  let c256_i32_2514 : BitVec 32 := 256#32
  let v3404 : BitVec 32 := Scalar.muli arg13 c256_i32_2514
  let v3405 : BitVec 32 := v3404
  let v3406 : Index := Scalar.indexCast v3405
  let c0_2516 : Index := 0#32
  ![0, v3406.toNat, 0]
def k0_mult4 (k0_t1 : Fin k0_t1_loop.trips) : BitVec 32 :=
  let c0_i32_404 : BitVec 32 := 0#32
  let c1_i32 : BitVec 32 := 1#32
  let arg13 : BitVec 32 := Scf.iv c0_i32_404 c1_i32 k0_t1
  let c1_i32_1248 : BitVec 32 := 1#32
  let v1723 : BitVec 32 := Scalar.addi arg13 c1_i32_1248
  let c256_i32 : BitVec 32 := 256#32
  let v1724 : BitVec 32 := Scalar.muli v1723 c256_i32
  v1724
def k0_off3 (k0_t1 : Fin k0_t1_loop.trips) : Fin 3 → Nat :=
  let c0_1249 : Index := 0#32
  let c0_i32_404 : BitVec 32 := 0#32
  let c1_i32 : BitVec 32 := 1#32
  let arg13 : BitVec 32 := Scf.iv c0_i32_404 c1_i32 k0_t1
  let c1_i32_1248 : BitVec 32 := 1#32
  let v1723 : BitVec 32 := Scalar.addi arg13 c1_i32_1248
  let c256_i32 : BitVec 32 := 256#32
  let v1724 : BitVec 32 := Scalar.muli v1723 c256_i32
  let v1725 : BitVec 32 := v1724
  let v1726 : Index := Scalar.indexCast v1725
  let c0_1250 : Index := 0#32
  ![0, v1726.toNat, 0]
def k0_mult5 (k0_t1 : Fin k0_t1_loop.trips) : BitVec 32 :=
  let c0_i32_404 : BitVec 32 := 0#32
  let c1_i32 : BitVec 32 := 1#32
  let arg13 : BitVec 32 := Scf.iv c0_i32_404 c1_i32 k0_t1
  let c256_i32_2514 : BitVec 32 := 256#32
  let v3404 : BitVec 32 := Scalar.muli arg13 c256_i32_2514
  v3404
def k0_off4 (k0_t1 : Fin k0_t1_loop.trips) : Fin 3 → Nat :=
  let c0_2515 : Index := 0#32
  let c0_i32_404 : BitVec 32 := 0#32
  let c1_i32 : BitVec 32 := 1#32
  let arg13 : BitVec 32 := Scf.iv c0_i32_404 c1_i32 k0_t1
  let c256_i32_2514 : BitVec 32 := 256#32
  let v3404 : BitVec 32 := Scalar.muli arg13 c256_i32_2514
  let v3405 : BitVec 32 := v3404
  let v3406 : Index := Scalar.indexCast v3405
  let c0_2516 : Index := 0#32
  ![0, v3406.toNat, 0]
def k0_mult6 : BitVec 32 :=
  let c7936_i32 : BitVec 32 := 7936#32
  c7936_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnRefIdeal.lean ====
abbrev S4x64 : Shape := ⟨2, ![4, 64]⟩
abbrev S128x1 : Shape := ⟨2, ![128, 1]⟩
abbrev S4x8192x512 : Shape := ⟨3, ![4, 8192, 512]⟩
abbrev S4x512x8192 : Shape := ⟨3, ![4, 512, 8192]⟩
abbrev S4x256x512 : Shape := ⟨3, ![4, 256, 512]⟩
abbrev S4x512x256 : Shape := ⟨3, ![4, 512, 256]⟩
abbrev S1x64 : Shape := ⟨2, ![1, 64]⟩
abbrev S64 : Shape := ⟨1, ![64]⟩
abbrev S_ : Shape := ⟨0, ![]⟩
abbrev S4x8192x4x2x64 : Shape := ⟨5, ![4, 8192, 4, 2, 64]⟩
abbrev S4x4x2x8192x64 : Shape := ⟨5, ![4, 4, 2, 8192, 64]⟩
abbrev S4x256x4x2x64 : Shape := ⟨5, ![4, 256, 4, 2, 64]⟩
abbrev S4x4x2x256x64 : Shape := ⟨5, ![4, 4, 2, 256, 64]⟩
abbrev S4x4x2x8448x64 : Shape := ⟨5, ![4, 4, 2, 8448, 64]⟩
abbrev S4x256x4x128 : Shape := ⟨4, ![4, 256, 4, 128]⟩
abbrev S4x4x256x128 : Shape := ⟨4, ![4, 4, 256, 128]⟩
abbrev S4x8192x4x128 : Shape := ⟨4, ![4, 8192, 4, 128]⟩
abbrev S4x4x8192x128 : Shape := ⟨4, ![4, 4, 8192, 128]⟩
abbrev S4x4x8448x128 : Shape := ⟨4, ![4, 4, 8448, 128]⟩
abbrev S4x4x2x8192x8448 : Shape := ⟨5, ![4, 4, 2, 8192, 8448]⟩
abbrev S4x4x2x8192 : Shape := ⟨4, ![4, 4, 2, 8192]⟩
abbrev S4x4x2x8192x1 : Shape := ⟨5, ![4, 4, 2, 8192, 1]⟩
abbrev S4x4x1x8192x8448 : Shape := ⟨5, ![4, 4, 1, 8192, 8448]⟩
abbrev S4x4x8192x8448 : Shape := ⟨4, ![4, 4, 8192, 8448]⟩
abbrev S128 : Shape := ⟨1, ![128]⟩
abbrev S4x4x8192 : Shape := ⟨3, ![4, 4, 8192]⟩
abbrev S4x4x8192x1 : Shape := ⟨4, ![4, 4, 8192, 1]⟩
abbrev S1x1x1x128 : Shape := ⟨4, ![1, 1, 1, 128]⟩

abbrev nBuf : Space → Nat
  | .hbm => 95
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S128x1, .f32⟩
  | .hbm, ⟨2, _⟩ => ⟨S4x8192x512, .bf16⟩
  | .hbm, ⟨3, _⟩ => ⟨S4x8192x512, .bf16⟩
  | .hbm, ⟨4, _⟩ => ⟨S4x512x8192, .bf16⟩
  | .hbm, ⟨5, _⟩ => ⟨S4x256x512, .bf16⟩
  | .hbm, ⟨6, _⟩ => ⟨S4x512x256, .bf16⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4x8192x512, .f32⟩
  | .hbm, ⟨27, _⟩ => ⟨S4x8192x512, .f32⟩
  | .hbm, ⟨28, _⟩ => ⟨S4x512x8192, .f32⟩
  | .hbm, ⟨29, _⟩ => ⟨S4x256x512, .f32⟩
  | .hbm, ⟨30, _⟩ => ⟨S4x512x256, .f32⟩
  | .hbm, ⟨31, _⟩ => ⟨S4x8192x4x2x64, .f32⟩
  | .hbm, ⟨32, _⟩ => ⟨S4x4x2x8192x64, .f32⟩
  | .hbm, ⟨33, _⟩ => ⟨S4x256x4x2x64, .f32⟩
  | .hbm, ⟨34, _⟩ => ⟨S4x4x2x256x64, .f32⟩
  | .hbm, ⟨35, _⟩ => ⟨S4x8192x4x2x64, .f32⟩
  | .hbm, ⟨36, _⟩ => ⟨S4x4x2x8192x64, .f32⟩
  | .hbm, ⟨37, _⟩ => ⟨S4x4x2x8448x64, .f32⟩
  | .hbm, ⟨38, _⟩ => ⟨S4x256x512, .f32⟩
  | .hbm, ⟨39, _⟩ => ⟨S4x256x4x128, .f32⟩
  | .hbm, ⟨40, _⟩ => ⟨S4x4x256x128, .f32⟩
  | .hbm, ⟨41, _⟩ => ⟨S4x8192x512, .f32⟩
  | .hbm, ⟨42, _⟩ => ⟨S4x8192x4x128, .f32⟩
  | .hbm, ⟨43, _⟩ => ⟨S4x4x8192x128, .f32⟩
  | .hbm, ⟨44, _⟩ => ⟨S4x4x8448x128, .f32⟩
  | .hbm, ⟨45, _⟩ => ⟨S4x4x2x8192x8448, .f32⟩
  | .hbm, ⟨46, _⟩ => ⟨S_, .f32⟩
  | .hbm, ⟨47, _⟩ => ⟨S_, .f32⟩
  | .hbm, ⟨48, _⟩ => ⟨S4x4x2x8192x8448, .f32⟩
  | .hbm, ⟨49, _⟩ => ⟨S4x4x2x8192x8448, .f32⟩
  | .hbm, ⟨50, _⟩ => ⟨S_, .f32⟩
  | .hbm, ⟨51, _⟩ => ⟨S4x4x2x8192, .f32⟩
  | .hbm, ⟨52, _⟩ => ⟨S_, .f32⟩
  | .hbm, ⟨53, _⟩ => ⟨S4x4x2x8192, .f32⟩
  | .hbm, ⟨54, _⟩ => ⟨S4x4x2x8192, .f32⟩
  | .hbm, ⟨55, _⟩ => ⟨S4x4x2x8192x1, .f32⟩
  | .hbm, ⟨56, _⟩ => ⟨S4x4x2x8192x8448, .f32⟩
  | .hbm, ⟨57, _⟩ => ⟨S4x4x2x8192x8448, .f32⟩
  | .hbm, ⟨58, _⟩ => ⟨S4x4x2x8192x8448, .f32⟩
  | .hbm, ⟨59, _⟩ => ⟨S_, .f32⟩
  | .hbm, ⟨60, _⟩ => ⟨S4x4x2x8192, .f32⟩
  | .hbm, ⟨61, _⟩ => ⟨S4x4x2x8192x1, .f32⟩
  | .hbm, ⟨62, _⟩ => ⟨S4x4x2x8192x8448, .f32⟩
  | .hbm, ⟨63, _⟩ => ⟨S4x4x2x8192x8448, .f32⟩
  | .hbm, ⟨64, _⟩ => ⟨S4x4x1x8192x8448, .f32⟩
  | .hbm, ⟨65, _⟩ => ⟨S4x4x8192x8448, .f32⟩
  | .hbm, ⟨66, _⟩ => ⟨S4x4x1x8192x8448, .f32⟩
  | .hbm, ⟨67, _⟩ => ⟨S4x4x8192x8448, .f32⟩
  | .hbm, ⟨68, _⟩ => ⟨S4x4x8192x8448, .f32⟩
  | .hbm, ⟨69, _⟩ => ⟨S4x4x8192x8448, .f32⟩
  | .hbm, ⟨70, _⟩ => ⟨S4x4x8192x8448, .f32⟩
  | .hbm, ⟨71, _⟩ => ⟨S4x4x8192x128, .f32⟩
  | .hbm, ⟨72, _⟩ => ⟨S128, .f32⟩
  | .hbm, ⟨73, _⟩ => ⟨S4x4x8192x128, .f32⟩
  | .hbm, ⟨74, _⟩ => ⟨S_, .f32⟩
  | .hbm, ⟨75, _⟩ => ⟨S4x4x8192, .f32⟩
  | .hbm, ⟨76, _⟩ => ⟨S4x4x8192x1, .f32⟩
  | .hbm, ⟨77, _⟩ => ⟨S_, .f32⟩
  | .hbm, ⟨78, _⟩ => ⟨S4x4x8192x1, .f32⟩
  | .hbm, ⟨79, _⟩ => ⟨S4x4x8192x1, .f32⟩
  | .hbm, ⟨80, _⟩ => ⟨S_, .f32⟩
  | .hbm, ⟨81, _⟩ => ⟨S4x4x8192x1, .f32⟩
  | .hbm, ⟨82, _⟩ => ⟨S4x4x8192x1, .f32⟩
  | .hbm, ⟨83, _⟩ => ⟨S4x4x8192x1, .f32⟩
  | .hbm, ⟨84, _⟩ => ⟨S4x4x8192x128, .f32⟩
  | .hbm, ⟨85, _⟩ => ⟨S4x4x8192x128, .f32⟩
  | .hbm, ⟨86, _⟩ => ⟨S1x1x1x128, .f32⟩
  | .hbm, ⟨87, _⟩ => ⟨S4x4x8192x128, .f32⟩
  | .hbm, ⟨88, _⟩ => ⟨S4x4x8192x128, .f32⟩
  | .hbm, ⟨89, _⟩ => ⟨S_, .f32⟩
  | .hbm, ⟨90, _⟩ => ⟨S4x4x8192x128, .f32⟩
  | .hbm, ⟨91, _⟩ => ⟨S4x4x8192x128, .f32⟩
  | .hbm, ⟨92, _⟩ => ⟨S4x8192x4x128, .f32⟩
  | .hbm, ⟨93, _⟩ => ⟨S4x8192x512, .f32⟩
  | .hbm, ⟨94, _⟩ => ⟨S4x8192x512, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_6 : Ref sig .tc := ⟨.hbm, 74, rfl⟩
abbrev main_v60 : Ref sig .tc := ⟨.hbm, 75, rfl⟩
abbrev main_v61 : Ref sig .tc := ⟨.hbm, 76, rfl⟩
abbrev main_cst_7 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_9 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]
-- ==== Ffn.lean ====
abbrev S32768x1024 : Shape := ⟨2, ![32768, 1024]⟩
abbrev S1x1024 : Shape := ⟨2, ![1, 1024]⟩
abbrev S4x1x1024 : Shape := ⟨3, ![4, 1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S16x1024 : Shape := ⟨2, ![16, 1024]⟩
abbrev S1024x1024 : Shape := ⟨2, ![1024, 1024]⟩
abbrev S1x1x1024 : Shape := ⟨3, ![1, 1, 1024]⟩
abbrev S1056x1024 : Shape := ⟨2, ![1056, 1024]⟩
abbrev S1024x2816 : Shape := ⟨2, ![1024, 2816]⟩
abbrev S16 : Shape := ⟨1, ![16]⟩
abbrev S16x1 : Shape := ⟨2, ![16, 1]⟩
abbrev S1024 : Shape := ⟨1, ![1024]⟩
abbrev S1024x1 : Shape := ⟨2, ![1024, 1]⟩
abbrev S1024x256 : Shape := ⟨2, ![1024, 256]⟩
abbrev S1056x256 : Shape := ⟨2, ![1056, 256]⟩
abbrev S3x256 : Shape := ⟨2, ![3, 256]⟩
abbrev S1x256 : Shape := ⟨2, ![1, 256]⟩

abbrev nBuf : Space → Nat
  | .hbm => 11
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x5632, .bf16⟩
  | .hbm, ⟨6, _⟩ => ⟨S3x5632, .f32⟩
  | .hbm, ⟨7, _⟩ => ⟨S1x5632, .f32⟩
  | .hbm, ⟨8, _⟩ => ⟨S2816x1024, .bf16⟩
  | .hbm, ⟨9, _⟩ => ⟨S1x1024, .f32⟩
  | .hbm, ⟨10, _⟩ => ⟨S32768x1024, .f32⟩
  | .local _ .vmem, ⟨0, _⟩ => ⟨S16x1024, .f32⟩
  | .local _ .vmem, ⟨1, _⟩ => ⟨S16x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x5632, .bf16⟩
  | .local _ .vmem, ⟨14, _⟩ => ⟨S3x5632, .f32⟩
  | .local _ .vmem, ⟨15, _⟩ => ⟨S1x5632, .f32⟩
  | .local _ .vmem, ⟨16, _⟩ => ⟨S2816x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1056x1024, .bf16⟩
  | .local _ .vmem, ⟨21, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnRefIdeal.lean ====
abbrev S32768x1024 : Shape := ⟨2, ![32768, 1024]⟩
abbrev S1x1024 : Shape := ⟨2, ![1, 1024]⟩
abbrev S4x1x1024 : Shape := ⟨3, ![4, 1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S5632 : Shape := ⟨1, ![5632]⟩
abbrev S4x8192x5632 : Shape := ⟨3, ![4, 8192, 5632]⟩
abbrev S4x8194x5632 : Shape := ⟨3, ![4, 8194, 5632]⟩
abbrev S1x1x5632 : Shape := ⟨3, ![1, 1, 5632]⟩
abbrev S4x8192x2816 : Shape := ⟨3, ![4, 8192, 2816]⟩

abbrev nBuf : Space → Nat
  | .hbm => 82
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x5632, .bf16⟩
  | .hbm, ⟨6, _⟩ => ⟨S3x5632, .f32⟩
  | .hbm, ⟨7, _⟩ => ⟨S1x5632, .f32⟩
  | .hbm, ⟨8, _⟩ => ⟨S2816x1024, .bf16⟩
  | .hbm, ⟨9, _⟩ => ⟨S1x1024, .f32⟩
  | .hbm, ⟨10, _⟩ => ⟨S4x8192x1024, .f32⟩
  | .hbm, ⟨11, _⟩ => ⟨S1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S1024x5632, .f32⟩
  | .hbm, ⟨36, _⟩ => ⟨S5632, .f32⟩
  | .hbm, ⟨37, _⟩ => ⟨S2816x1024, .f32⟩
  | .hbm, ⟨38, _⟩ => ⟨S4x8192x5632, .f32⟩
  | .hbm, ⟨39, _⟩ => ⟨S_, .i32⟩
  | .hbm, ⟨40, _⟩ => ⟨S_, .f32⟩
  | .hbm, ⟨41, _⟩ => ⟨S4x8194x5632, .f32⟩
  | .hbm, ⟨42, _⟩ => ⟨S4x8192x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S4x8192x5632, .f32⟩
  | .hbm, ⟨47, _⟩ => ⟨S4x8192x5632, .f32⟩
  | .hbm, ⟨48, _⟩ => ⟨S4x8192x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S4x8192x5632, .f32⟩
  | .hbm, ⟨53, _⟩ => ⟨S4x8192x5632, .f32⟩
  | .hbm, ⟨54, _⟩ => ⟨S4x8192x5632, .f32⟩
  | .hbm, ⟨55, _⟩ => ⟨S4x8192x5632, .f32⟩
  | .hbm, ⟨56, _⟩ => ⟨S1x5632, .f32⟩
  | .hbm, ⟨57, _⟩ => ⟨S5632, .f32⟩
  | .hbm, ⟨58, _⟩ => ⟨S1x1x5632, .f32⟩
  | .hbm, ⟨59, _⟩ => ⟨S4x8192x5632, .f32⟩
  | .hbm, ⟨60, _⟩ => ⟨S4x8192x5632, .f32⟩
  | .hbm, ⟨61, _⟩ => ⟨S4x8192x5632, .f32⟩
  | .hbm, ⟨62, _⟩ => ⟨S1x1x5632, .f32⟩
  | .hbm, ⟨63, _⟩ => ⟨S4x8192x5632, .f32⟩
  | .hbm, ⟨64, _⟩ => ⟨S4x8192x5632, .f32⟩
  | .hbm, ⟨65, _⟩ => ⟨S4x8192x2816, .f32⟩
  | .hbm, ⟨66, _⟩ => ⟨S4x8192x2816, .f32⟩
  | .hbm, ⟨67, _⟩ => ⟨S4x8192x2816, .f32⟩
  | .hbm, ⟨68, _⟩ => ⟨S4x8192x2816, .f32⟩
  | .hbm, ⟨69, _⟩ => ⟨S_, .f32⟩
  | .hbm, ⟨70, _⟩ => ⟨S4x8192x2816, .f32⟩
  | .hbm, ⟨71, _⟩ => ⟨S4x8192x2816, .f32⟩
  | .hbm, ⟨72, _⟩ => ⟨S_, .f32⟩
  | .hbm, ⟨73, _⟩ => ⟨S4x8192x2816, .f32⟩
  | .hbm, ⟨74, _⟩ => ⟨S4x8192x2816, .f32⟩
  | .hbm, ⟨75, _⟩ => ⟨S4x8192x2816, .f32⟩
  | .hbm, ⟨76, _⟩ => ⟨S4x8192x2816, .f32⟩
  | .hbm, ⟨77, _⟩ => ⟨S4x8192x1024, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]
-- ==== Last.lean ====
abbrev S32768x1024 : Shape := ⟨2, ![32768, 1024]⟩
abbrev S1x1024 : Shape := ⟨2, ![1, 1024]⟩
abbrev S4x1x1024 : Shape := ⟨3, ![4, 1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S16x1024 : Shape := ⟨2, ![16, 1024]⟩
abbrev S1024x1024 : Shape := ⟨2, ![1024, 1024]⟩
abbrev S1x1x1024 : Shape := ⟨3, ![1, 1, 1024]⟩
abbrev S1056x1024 : Shape := ⟨2, ![1056, 1024]⟩
abbrev S1024x2816 : Shape := ⟨2, ![1024, 2816]⟩
abbrev S16 : Shape := ⟨1, ![16]⟩
abbrev S16x1 : Shape := ⟨2, ![16, 1]⟩
abbrev S1024 : Shape := ⟨1, ![1024]⟩
abbrev S1024x1 : Shape := ⟨2, ![1024, 1]⟩
abbrev S1024x256 : Shape := ⟨2, ![1024, 256]⟩
abbrev S1056x256 : Shape := ⟨2, ![1056, 256]⟩
abbrev S3x256 : Shape := ⟨2, ![3, 256]⟩
abbrev S1x256 : Shape := ⟨2, ![1, 256]⟩

abbrev nBuf : Space → Nat
  | .hbm => 11
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x5632, .bf16⟩
  | .hbm, ⟨6, _⟩ => ⟨S3x5632, .f32⟩
  | .hbm, ⟨7, _⟩ => ⟨S1x5632, .f32⟩
  | .hbm, ⟨8, _⟩ => ⟨S2816x1024, .bf16⟩
  | .hbm, ⟨9, _⟩ => ⟨S1x1024, .f32⟩
  | .hbm, ⟨10, _⟩ => ⟨S32768x1024, .f32⟩
  | .local _ .vmem, ⟨0, _⟩ => ⟨S16x1024, .f32⟩
  | .local _ .vmem, ⟨1, _⟩ => ⟨S16x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x5632, .bf16⟩
  | .local _ .vmem, ⟨14, _⟩ => ⟨S3x5632, .f32⟩
  | .local _ .vmem, ⟨15, _⟩ => ⟨S1x5632, .f32⟩
  | .local _ .vmem, ⟨16, _⟩ => ⟨S2816x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1056x1024, .bf16⟩
  | .local _ .vmem, ⟨21, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== LastRefIdeal.lean ====
abbrev S32768x1024 : Shape := ⟨2, ![32768, 1024]⟩
abbrev S1x1024 : Shape := ⟨2, ![1, 1024]⟩
abbrev S4x1x1024 : Shape := ⟨3, ![4, 1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S5632 : Shape := ⟨1, ![5632]⟩
abbrev S4x8192x5632 : Shape := ⟨3, ![4, 8192, 5632]⟩
abbrev S4x8194x5632 : Shape := ⟨3, ![4, 8194, 5632]⟩
abbrev S1x1x5632 : Shape := ⟨3, ![1, 1, 5632]⟩
abbrev S4x8192x2816 : Shape := ⟨3, ![4, 8192, 2816]⟩

abbrev nBuf : Space → Nat
  | .hbm => 99
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x5632, .bf16⟩
  | .hbm, ⟨6, _⟩ => ⟨S3x5632, .f32⟩
  | .hbm, ⟨7, _⟩ => ⟨S1x5632, .f32⟩
  | .hbm, ⟨8, _⟩ => ⟨S2816x1024, .bf16⟩
  | .hbm, ⟨9, _⟩ => ⟨S1x1024, .f32⟩
  | .hbm, ⟨10, _⟩ => ⟨S4x8192x1024, .f32⟩
  | .hbm, ⟨11, _⟩ => ⟨S1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S1024x5632, .f32⟩
  | .hbm, ⟨36, _⟩ => ⟨S5632, .f32⟩
  | .hbm, ⟨37, _⟩ => ⟨S2816x1024, .f32⟩
  | .hbm, ⟨38, _⟩ => ⟨S4x8192x5632, .f32⟩
  | .hbm, ⟨39, _⟩ => ⟨S_, .i32⟩
  | .hbm, ⟨40, _⟩ => ⟨S_, .f32⟩
  | .hbm, ⟨41, _⟩ => ⟨S4x8194x5632, .f32⟩
  | .hbm, ⟨42, _⟩ => ⟨S4x8192x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S4x8192x5632, .f32⟩
  | .hbm, ⟨47, _⟩ => ⟨S4x8192x5632, .f32⟩
  | .hbm, ⟨48, _⟩ => ⟨S4x8192x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S4x8192x5632, .f32⟩
  | .hbm, ⟨53, _⟩ => ⟨S4x8192x5632, .f32⟩
  | .hbm, ⟨54, _⟩ => ⟨S4x8192x5632, .f32⟩
  | .hbm, ⟨55, _⟩ => ⟨S4x8192x5632, .f32⟩
  | .hbm, ⟨56, _⟩ => ⟨S1x5632, .f32⟩
  | .hbm, ⟨57, _⟩ => ⟨S5632, .f32⟩
  | .hbm, ⟨58, _⟩ => ⟨S1x1x5632, .f32⟩
  | .hbm, ⟨59, _⟩ => ⟨S4x8192x5632, .f32⟩
  | .hbm, ⟨60, _⟩ => ⟨S4x8192x5632, .f32⟩
  | .hbm, ⟨61, _⟩ => ⟨S4x8192x5632, .f32⟩
  | .hbm, ⟨62, _⟩ => ⟨S1x1x5632, .f32⟩
  | .hbm, ⟨63, _⟩ => ⟨S4x8192x5632, .f32⟩
  | .hbm, ⟨64, _⟩ => ⟨S4x8192x5632, .f32⟩
  | .hbm, ⟨65, _⟩ => ⟨S4x8192x2816, .f32⟩
  | .hbm, ⟨66, _⟩ => ⟨S4x8192x2816, .f32⟩
  | .hbm, ⟨67, _⟩ => ⟨S4x8192x2816, .f32⟩
  | .hbm, ⟨68, _⟩ => ⟨S4x8192x2816, .f32⟩
  | .hbm, ⟨69, _⟩ => ⟨S_, .f32⟩
  | .hbm, ⟨70, _⟩ => ⟨S4x8192x2816, .f32⟩
  | .hbm, ⟨71, _⟩ => ⟨S4x8192x2816, .f32⟩
  | .hbm, ⟨72, _⟩ => ⟨S_, .f32⟩
  | .hbm, ⟨73, _⟩ => ⟨S4x8192x2816, .f32⟩
  | .hbm, ⟨74, _⟩ => ⟨S4x8192x2816, .f32⟩
  | .hbm, ⟨75, _⟩ => ⟨S4x8192x2816, .f32⟩
  | .hbm, ⟨76, _⟩ => ⟨S4x8192x2816, .f32⟩
  | .hbm, ⟨77, _⟩ => ⟨S4x8192x1024, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S1024, .f32⟩
  | .hbm, ⟨82, _⟩ => ⟨S4x8192x1024, .f32⟩
  | .hbm, ⟨83, _⟩ => ⟨S_, .f32⟩
  | .hbm, ⟨84, _⟩ => ⟨S4x8192, .f32⟩
  | .hbm, ⟨85, _⟩ => ⟨S4x8192x1, .f32⟩
  | .hbm, ⟨86, _⟩ => ⟨S_, .f32⟩
  | .hbm, ⟨87, _⟩ => ⟨S4x8192x1, .f32⟩
  | .hbm, ⟨88, _⟩ => ⟨S4x8192x1, .f32⟩
  | .hbm, ⟨89, _⟩ => ⟨S_, .f32⟩
  | .hbm, ⟨90, _⟩ => ⟨S4x8192x1, .f32⟩
  | .hbm, ⟨91, _⟩ => ⟨S4x8192x1, .f32⟩
  | .hbm, ⟨92, _⟩ => ⟨S4x8192x1, .f32⟩
  | .hbm, ⟨93, _⟩ => ⟨S4x8192x1024, .f32⟩
  | .hbm, ⟨94, _⟩ => ⟨S4x8192x1024, .f32⟩
  | .hbm, ⟨95, _⟩ => ⟨S1x1x1024, .f32⟩
  | .hbm, ⟨96, _⟩ => ⟨S4x8192x1024, .f32⟩
  | .hbm, ⟨97, _⟩ => ⟨S4x8192x1024, .f32⟩
  | .hbm, ⟨98, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_3 : Ref sig .tc := ⟨.hbm, 83, rfl⟩
abbrev main_v59 : Ref sig .tc := ⟨.hbm, 84, rfl⟩
abbrev main_v60 : Ref sig .tc := ⟨.hbm, 85, rfl⟩
abbrev main_cst_4 : Ref sig .tc := ⟨.hbm, 86, rfl⟩
abbrev main_v61 : Ref sig .tc := ⟨.hbm, 87, rfl⟩
abbrev main_v62 : Ref sig .tc := ⟨.hbm, 88, rfl⟩
abbrev main_cst_5 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]
-- ==== Sgu.lean ====
abbrev S32768x1024 : Shape := ⟨2, ![32768, 1024]⟩
abbrev S1x1024 : Shape := ⟨2, ![1, 1024]⟩
abbrev S4x1x1024 : Shape := ⟨3, ![4, 1, 1024]⟩
abbrev S1024x2048 : Shape := ⟨2, ![1024, 2048]⟩
abbrev S1x2048 : Shape := ⟨2, ![1, 2048]⟩
abbrev S8x128x128 : Shape := ⟨3, ![8, 128, 128]⟩
abbrev S128x1024 : Shape := ⟨2, ![128, 1024]⟩
abbrev S1024x1024 : Shape := ⟨2, ![1024, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S1x128x128 : Shape := ⟨3, ![1, 128, 128]⟩
abbrev S128x128 : Shape := ⟨2, ![128, 128]⟩

abbrev nBuf : Space → Nat
  | .hbm => 13
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x2048, .bf16⟩
  | .hbm, ⟨6, _⟩ => ⟨S1x2048, .f32⟩
  | .hbm, ⟨7, _⟩ => ⟨S1x1024, .f32⟩
  | .hbm, ⟨8, _⟩ => ⟨S1x1024, .f32⟩
  | .hbm, ⟨9, _⟩ => ⟨S8x128x128, .bf16⟩
  | .hbm, ⟨10, _⟩ => ⟨S128x1024, .f32⟩
  | .hbm, ⟨11, _⟩ => ⟨S1024x1024, .bf16⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x2048, .bf16⟩
  | .local _ .vmem, ⟨10, _⟩ => ⟨S1x2048, .f32⟩
  | .local _ .vmem, ⟨11, _⟩ => ⟨S1x1024, .f32⟩
  | .local _ .vmem, ⟨12, _⟩ => ⟨S1x1024, .f32⟩
  | .local _ .vmem, ⟨13, _⟩ => ⟨S8x128x128, .bf16⟩
  | .local _ .vmem, ⟨14, _⟩ => ⟨S128x1024, .f32⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== SguRefIdeal.lean ====
abbrev S32768x1024 : Shape := ⟨2, ![32768, 1024]⟩
abbrev S1x1024 : Shape := ⟨2, ![1, 1024]⟩
abbrev S4x1x1024 : Shape := ⟨3, ![4, 1, 1024]⟩
abbrev S1024x2048 : Shape := ⟨2, ![1024, 2048]⟩
abbrev S1x2048 : Shape := ⟨2, ![1, 2048]⟩
abbrev S8x128x128 : Shape := ⟨3, ![8, 128, 128]⟩
abbrev S128x1024 : Shape := ⟨2, ![128, 1024]⟩
abbrev S1024x1024 : Shape := ⟨2, ![1024, 1024]⟩
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S2048 : Shape := ⟨1, ![2048]⟩
abbrev S4x8192x2048 : Shape := ⟨3, ![4, 8192, 2048]⟩
abbrev S1x1x2048 : Shape := ⟨3, ![1, 1, 2048]⟩
abbrev S4x64x128x8x128 : Shape := ⟨5, ![4, 64, 128, 8, 128]⟩
abbrev S8x4x64x128x128 : Shape := ⟨5, ![8, 4, 64, 128, 128]⟩
abbrev S4x64x128x1024 : Shape := ⟨4, ![4, 64, 128, 1024]⟩
abbrev S1x1x128x1024 : Shape := ⟨4, ![1, 1, 128, 1024]⟩

abbrev nBuf : Space → Nat
  | .hbm => 99
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x2048, .bf16⟩
  | .hbm, ⟨6, _⟩ => ⟨S1x2048, .f32⟩
  | .hbm, ⟨7, _⟩ => ⟨S1x1024, .f32⟩
  | .hbm, ⟨8, _⟩ => ⟨S1x1024, .f32⟩
  | .hbm, ⟨9, _⟩ => ⟨S8x128x128, .bf16⟩
  | .hbm, ⟨10, _⟩ => ⟨S128x1024, .f32⟩
  | .hbm, ⟨11, _⟩ => ⟨S1024x1024, .bf16⟩
  | .hbm, ⟨12, _⟩ => ⟨S4x8192x1024, .f32⟩
  | .hbm, ⟨13, _⟩ => ⟨S1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S1x1x1024, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S1024x2048, .f32⟩
  | .hbm, ⟨38, _⟩ => ⟨S2048, .f32⟩
  | .hbm, ⟨39, _⟩ => ⟨S1024, .f32⟩
  | .hbm, ⟨40, _⟩ => ⟨S1024, .f32⟩
  | .hbm, ⟨41, _⟩ => ⟨S8x128x128, .f32⟩
  | .hbm, ⟨42, _⟩ => ⟨S1024x1024, .f32⟩
  | .hbm, ⟨43, _⟩ => ⟨S4x8192x2048, .f32⟩
  | .hbm, ⟨44, _⟩ => ⟨S1x1x2048, .f32⟩
  | .hbm, ⟨45, _⟩ => ⟨S4x8192x2048, .f32⟩
  | .hbm, ⟨46, _⟩ => ⟨S4x8192x2048, .f32⟩
  | .hbm, ⟨47, _⟩ => ⟨S_, .f32⟩
  | .hbm, ⟨48, _⟩ => ⟨S4x8192x2048, .f32⟩
  | .hbm, ⟨49, _⟩ => ⟨S4x8192x2048, .f32⟩
  | .hbm, ⟨50, _⟩ => ⟨S4x8192x2048, .f32⟩
  | .hbm, ⟨51, _⟩ => ⟨S_, .f32⟩
  | .hbm, ⟨52, _⟩ => ⟨S4x8192x2048, .f32⟩
  | .hbm, ⟨53, _⟩ => ⟨S4x8192x2048, .f32⟩
  | .hbm, ⟨54, _⟩ => ⟨S4x8192x2048, .f32⟩
  | .hbm, ⟨55, _⟩ => ⟨S4x8192x2048, .f32⟩
  | .hbm, ⟨56, _⟩ => ⟨S4x8192x1024, .f32⟩
  | .hbm, ⟨57, _⟩ => ⟨S4x8192x1024, .f32⟩
  | .hbm, ⟨58, _⟩ => ⟨S_, .f32⟩
  | .hbm, ⟨59, _⟩ => ⟨S4x8192, .f32⟩
  | .hbm, ⟨60, _⟩ => ⟨S4x8192x1, .f32⟩
  | .hbm, ⟨61, _⟩ => ⟨S_, .f32⟩
  | .hbm, ⟨62, _⟩ => ⟨S4x8192x1, .f32⟩
  | .hbm, ⟨63, _⟩ => ⟨S4x8192x1, .f32⟩
  | .hbm, ⟨64, _⟩ => ⟨S4x8192x1024, .f32⟩
  | .hbm, ⟨65, _⟩ => ⟨S4x8192x1024, .f32⟩
  | .hbm, ⟨66, _⟩ => ⟨S4x8192x1024, .f32⟩
  | .hbm, ⟨67, _⟩ => ⟨S_, .f32⟩
  | .hbm, ⟨68, _⟩ => ⟨S4x8192, .f32⟩
  | .hbm, ⟨69, _⟩ => ⟨S4x8192x1, .f32⟩
  | .hbm, ⟨70, _⟩ => ⟨S_, .f32⟩
  | .hbm, ⟨71, _⟩ => ⟨S4x8192x1, .f32⟩
  | .hbm, ⟨72, _⟩ => ⟨S4x8192x1, .f32⟩
  | .hbm, ⟨73, _⟩ => ⟨S_, .f32⟩
  | .hbm, ⟨74, _⟩ => ⟨S4x8192x1, .f32⟩
  | .hbm, ⟨75, _⟩ => ⟨S4x8192x1, .f32⟩
  | .hbm, ⟨76, _⟩ => ⟨S4x8192x1, .f32⟩
  | .hbm, ⟨77, _⟩ => ⟨S4x8192x1024, .f32⟩
  | .hbm, ⟨78, _⟩ => ⟨S4x8192x1024, .f32⟩
  | .hbm, ⟨79, _⟩ => ⟨S1x1x1024, .f32⟩
  | .hbm, ⟨80, _⟩ => ⟨S4x8192x1024, .f32⟩
  | .hbm, ⟨81, _⟩ => ⟨S4x8192x1024, .f32⟩
  | .hbm, ⟨82, _⟩ => ⟨S1x1x1024, .f32⟩
  | .hbm, ⟨83, _⟩ => ⟨S4x8192x1024, .f32⟩
  | .hbm, ⟨84, _⟩ => ⟨S4x8192x1024, .f32⟩
  | .hbm, ⟨85, _⟩ => ⟨S4x64x128x8x128, .f32⟩
  | .hbm, ⟨86, _⟩ => ⟨S8x4x64x128x128, .f32⟩
  | .hbm, ⟨87, _⟩ => ⟨S4x64x128x8x128, .f32⟩
  | .hbm, ⟨88, _⟩ => ⟨S4x64x128x1024, .f32⟩
  | .hbm, ⟨89, _⟩ => ⟨S1x1x128x1024, .f32⟩
  | .hbm, ⟨90, _⟩ => ⟨S4x64x128x1024, .f32⟩
  | .hbm, ⟨91, _⟩ => ⟨S4x64x128x1024, .f32⟩
  | .hbm, ⟨92, _⟩ => ⟨S4x8192x1024, .f32⟩
  | .hbm, ⟨93, _⟩ => ⟨S4x8192x1024, .f32⟩
  | .hbm, ⟨94, _⟩ => ⟨S4x8192x1024, .f32⟩
  | .hbm, ⟨95, _⟩ => ⟨S4x8192x1024, .f32⟩
  | .hbm, ⟨96, _⟩ => ⟨S4x8192x1024, .f32⟩
  | .hbm, ⟨97, _⟩ => ⟨S4x8192x1024, .f32⟩
  | .hbm, ⟨98, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Out.lean ====
abbrev S32768x1024 : Shape := ⟨2, ![32768, 1024]⟩
abbrev S4x128x64x512 : Shape := ⟨4, ![4, 128, 64, 512]⟩
abbrev S32768x512 : Shape := ⟨2, ![32768, 512]⟩
abbrev S512x1024 : Shape := ⟨2, ![512, 1024]⟩
abbrev S4x1x1024 : Shape := ⟨3, ![4, 1, 1024]⟩
abbrev S1024x1024 : Shape := ⟨2, ![1024, 1024]⟩
abbrev S1x128x8x512 : Shape := ⟨4, ![1, 128, 8, 512]⟩
abbrev S1024x512 : Shape := ⟨2, ![1024, 512]⟩
abbrev S1x1x1024 : Shape := ⟨3, ![1, 1, 1024]⟩
abbrev S1x128x1x512 : Shape := ⟨4, ![1, 128, 1, 512]⟩
abbrev S128x512 : Shape := ⟨2, ![128, 512]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S4x128x64x512, .f32⟩
  | .hbm, ⟨2, _⟩ => ⟨S32768x512, .bf16⟩
  | .hbm, ⟨3, _⟩ => ⟨S512x1024, .bf16⟩
  | .hbm, ⟨4, _⟩ => ⟨S512x1024, .bf16⟩
  | .hbm, ⟨5, _⟩ => ⟨S4x1x1024, .f32⟩
  | .hbm, ⟨6, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x128x8x512, .f32⟩
  | .local _ .vmem, ⟨3, _⟩ => ⟨S1x128x8x512, .f32⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1024x1024, .f32⟩
  | .local _ .vmem, ⟨11, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S32768x1024 : Shape := ⟨2, ![32768, 1024]⟩
abbrev S4x128x64x512 : Shape := ⟨4, ![4, 128, 64, 512]⟩
abbrev S32768x512 : Shape := ⟨2, ![32768, 512]⟩
abbrev S512x1024 : Shape := ⟨2, ![512, 1024]⟩
abbrev S4x1x1024 : Shape := ⟨3, ![4, 1, 1024]⟩
abbrev S4x8192x1024 : Shape := ⟨3, ![4, 8192, 1024]⟩
abbrev S4x64x128x512 : Shape := ⟨4, ![4, 64, 128, 512]⟩
abbrev S4x8192x512 : Shape := ⟨3, ![4, 8192, 512]⟩
abbrev S1024x1024 : Shape := ⟨2, ![1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x128x64x512, .f32⟩
  | .hbm, ⟨2, _⟩ => ⟨S32768x512, .bf16⟩
  | .hbm, ⟨3, _⟩ => ⟨S512x1024, .bf16⟩
  | .hbm, ⟨4, _⟩ => ⟨S512x1024, .bf16⟩
  | .hbm, ⟨5, _⟩ => ⟨S4x1x1024, .f32⟩
  | .hbm, ⟨6, _⟩ => ⟨S4x8192x1024, .f32⟩
  | .hbm, ⟨7, _⟩ => ⟨S4x64x128x512, .f32⟩
  | .hbm, ⟨8, _⟩ => ⟨S4x8192x512, .f32⟩
  | .hbm, ⟨9, _⟩ => ⟨S4x8192x512, .bf16⟩
  | .hbm, ⟨10, _⟩ => ⟨S4x8192x512, .f32⟩
  | .hbm, ⟨11, _⟩ => ⟨S1024x1024, .bf16⟩
  | .hbm, ⟨12, _⟩ => ⟨S1024x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Inp.lean ====
abbrev S32768x1024 : Shape := ⟨2, ![32768, 1024]⟩
abbrev S1x1024 : Shape := ⟨2, ![1, 1024]⟩
abbrev S4x1x1024 : Shape := ⟨3, ![4, 1, 1024]⟩
abbrev S1024x1536 : Shape := ⟨2, ![1024, 1536]⟩
abbrev S1024x1024 : Shape := ⟨2, ![1024, 1024]⟩
abbrev S512x1024 : Shape := ⟨2, ![512, 1024]⟩
abbrev S8192x128 : Shape := ⟨2, ![8192, 128]⟩
abbrev S3x1536 : Shape := ⟨2, ![3, 1536]⟩
abbrev S1x1536 : Shape := ⟨2, ![1, 1536]⟩
abbrev S32768x512 : Shape := ⟨2, ![32768, 512]⟩
abbrev S4x512x8192 : Shape := ⟨3, ![4, 512, 8192]⟩
abbrev S8x1024 : Shape := ⟨2, ![8, 1024]⟩
abbrev S1x1x1024 : Shape := ⟨3, ![1, 1, 1024]⟩
abbrev S1024x128 : Shape := ⟨2, ![1024, 128]⟩
abbrev S1024x512 : Shape := ⟨2, ![1024, 512]⟩
abbrev S1x512x1024 : Shape := ⟨3, ![1, 512, 1024]⟩
abbrev S1040x1536 : Shape := ⟨2, ![1040, 1536]⟩
abbrev S1024 : Shape := ⟨1, ![1024]⟩
abbrev S1024x1 : Shape := ⟨2, ![1024, 1]⟩
abbrev S8 : Shape := ⟨1, ![8]⟩
abbrev S8x1 : Shape := ⟨2, ![8, 1]⟩
abbrev S8x1536 : Shape := ⟨2, ![8, 1536]⟩

abbrev nBuf : Space → Nat
  | .hbm => 17
  | .vmem => 33
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1024x1536, .bf16⟩
  | .hbm, ⟨5, _⟩ => ⟨S1024x1024, .bf16⟩
  | .hbm, ⟨6, _⟩ => ⟨S512x1024, .bf16⟩
  | .hbm, ⟨7, _⟩ => ⟨S8192x128, .f32⟩
  | .hbm, ⟨8, _⟩ => ⟨S8192x128, .f32⟩
  | .hbm, ⟨9, _⟩ => ⟨S3x1536, .f32⟩
  | .hbm, ⟨10, _⟩ => ⟨S1x1536, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S32768x512, .bf16⟩
  | .hbm, ⟨15, _⟩ => ⟨S32768x512, .bf16⟩
  | .hbm, ⟨16, _⟩ => ⟨S4x512x8192, .bf16⟩
  | .local _ .vmem, ⟨0, _⟩ => ⟨S8x1024, .f32⟩
  | .local _ .vmem, ⟨1, _⟩ => ⟨S8x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x1536, .bf16⟩
  | .local _ .vmem, ⟨12, _⟩ => ⟨S1024x1024, .bf16⟩
  | .local _ .vmem, ⟨13, _⟩ => ⟨S512x1024, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S3x1536, .f32⟩
  | .local _ .vmem, ⟨19, _⟩ => ⟨S1x1536, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S1x512x1024, .bf16⟩
  | .local _ .vmem, ⟨31, _⟩ => ⟨S1x512x1024, .bf16⟩
  | .local _ .vmem, ⟨32, _⟩ => ⟨S1040x1536, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== InpRefIdeal.lean ====
abbrev S32768x1024 : Shape := ⟨2, ![32768, 1024]⟩
abbrev S1x1024 : Shape := ⟨2, ![1, 1024]⟩
abbrev S4x1x1024 : Shape := ⟨3, ![4, 1, 1024]⟩
abbrev S1024x1536 : Shape := ⟨2, ![1024, 1536]⟩
abbrev S1024x1024 : Shape := ⟨2, ![1024, 1024]⟩
abbrev S512x1024 : Shape := ⟨2, ![512, 1024]⟩
abbrev S8192x128 : Shape := ⟨2, ![8192, 128]⟩
abbrev S3x1536 : Shape := ⟨2, ![3, 1536]⟩
abbrev S1x1536 : Shape := ⟨2, ![1, 1536]⟩
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x1536 : Shape := ⟨3, ![4, 8192, 1536]⟩
abbrev S1536 : Shape := ⟨1, ![1536]⟩
abbrev S4x8194x1536 : Shape := ⟨3, ![4, 8194, 1536]⟩
abbrev S1x1x1536 : Shape := ⟨3, ![1, 1, 1536]⟩
abbrev S4x8192x512 : Shape := ⟨3, ![4, 8192, 512]⟩
abbrev S4x8192x8x2x64 : Shape := ⟨5, ![4, 8192, 8, 2, 64]⟩
abbrev S4x8x2x8192x64 : Shape := ⟨5, ![4, 8, 2, 8192, 64]⟩
abbrev S8192x2x64 : Shape := ⟨3, ![8192, 2, 64]⟩
abbrev S2x8192x64 : Shape := ⟨3, ![2, 8192, 64]⟩
abbrev S4x8x2x8192x32 : Shape := ⟨5, ![4, 8, 2, 8192, 32]⟩
abbrev S2x8192x32 : Shape := ⟨3, ![2, 8192, 32]⟩
abbrev S4x8x2x8192x16 : Shape := ⟨5, ![4, 8, 2, 8192, 16]⟩
abbrev S2x8192x16 : Shape := ⟨3, ![2, 8192, 16]⟩
abbrev S1x1x2x8192x16 : Shape := ⟨5, ![1, 1, 2, 8192, 16]⟩
abbrev S1024x512 : Shape := ⟨2, ![1024, 512]⟩
abbrev S32768x512 : Shape := ⟨2, ![32768, 512]⟩
abbrev S4x512x8192 : Shape := ⟨3, ![4, 512, 8192]⟩

abbrev nBuf : Space → Nat
  | .hbm => 144
  | .vmem => 0
  | .smem => 0
  | _ => 0

abbrev hbmTy0_0 (i : Nat) : BufTy := match i % 128 with
  | 0 => ⟨S32768x1024, .f32⟩
  | 1 => ⟨S1x1024, .f32⟩
  | 2 => ⟨S4x1x1024, .f32⟩
  | 3 => ⟨S4x1x1024, .f32⟩
  | 4 => ⟨S1024x1536, .bf16⟩
  | 5 => ⟨S1024x1024, .bf16⟩
  | 6 => ⟨S512x1024, .bf16⟩
  | 7 => ⟨S8192x128, .f32⟩
  | 8 => ⟨S8192x128, .f32⟩
  | 9 => ⟨S3x1536, .f32⟩
  | 10 => ⟨S1x1536, .f32⟩
  | 11 => ⟨S4x8192x1024, .f32⟩
  | 12 => ⟨S1024, .f32⟩
  | 13 => ⟨S4x8192x1024, .f32⟩
  | 14 => ⟨S_, .f32⟩
  | 15 => ⟨S4x8192, .f32⟩
  | 16 => ⟨S4x8192x1, .f32⟩
  | 17 => ⟨S_, .f32⟩
  | 18 => ⟨S4x8192x1, .f32⟩
  | 19 => ⟨S4x8192x1, .f32⟩
  | 20 => ⟨S_, .f32⟩
  | 21 => ⟨S4x8192x1, .f32⟩
  | 22 => ⟨S4x8192x1, .f32⟩
  | 23 => ⟨S4x8192x1, .f32⟩
  | 24 => ⟨S4x8192x1024, .f32⟩
  | 25 => ⟨S4x8192x1024, .f32⟩
  | 26 => ⟨S1x1x1024, .f32⟩
  | 27 => ⟨S4x8192x1024, .f32⟩
  | 28 => ⟨S4x8192x1024, .f32⟩
  | 29 => ⟨S_, .f32⟩
  | 30 => ⟨S4x1x1024, .f32⟩
  | 31 => ⟨S4x1x1024, .f32⟩
  | 32 => ⟨S4x8192x1024, .f32⟩
  | 33 => ⟨S4x8192x1024, .f32⟩
  | 34 => ⟨S4x8192x1024, .f32⟩
  | 35 => ⟨S4x8192x1024, .f32⟩
  | 36 => ⟨S1024x1536, .f32⟩
  | 37 => ⟨S4x8192x1536, .f32⟩
  | 38 => ⟨S1536, .f32⟩
  | 39 => ⟨S_, .i32⟩
  | 40 => ⟨S_, .f32⟩
  | 41 => ⟨S4x8194x1536, .f32⟩
  | 42 => ⟨S4x8192x1536, .f32⟩
  | 43 => ⟨S1x1536, .f32⟩
  | 44 => ⟨S1536, .f32⟩
  | 45 => ⟨S1x1x1536, .f32⟩
  | 46 => ⟨S4x8192x1536, .f32⟩
  | 47 => ⟨S4x8192x1536, .f32⟩
  | 48 => ⟨S4x8192x1536, .f32⟩
  | 49 => ⟨S1x1536, .f32⟩
  | 50 => ⟨S1536, .f32⟩
  | 51 => ⟨S1x1x1536, .f32⟩
  | 52 => ⟨S4x8192x1536, .f32⟩
  | 53 => ⟨S4x8192x1536, .f32⟩
  | 54 => ⟨S4x8192x1536, .f32⟩
  | 55 => ⟨S4x8192x1536, .f32⟩
  | 56 => ⟨S1x1536, .f32⟩
  | 57 => ⟨S1536, .f32⟩
  | 58 => ⟨S1x1x1536, .f32⟩
  | 59 => ⟨S4x8192x1536, .f32⟩
  | 60 => ⟨S4x8192x1536, .f32⟩
  | 61 => ⟨S4x8192x1536, .f32⟩
  | 62 => ⟨S1x1x1536, .f32⟩
  | 63 => ⟨S4x8192x1536, .f32⟩
  | 64 => ⟨S4x8192x1536, .f32⟩
  | 65 => ⟨S4x8192x512, .f32⟩
  | 66 => ⟨S4x8192x512, .f32⟩
  | 67 => ⟨S4x8192x512, .f32⟩
  | 68 => ⟨S1024x1024, .f32⟩
  | 69 => ⟨S4x8192x1024, .f32⟩
  | 70 => ⟨S4x8192x8x2x64, .f32⟩
  | 71 => ⟨S4x8x2x8192x64, .f32⟩
  | 72 => ⟨S8192x2x64, .f32⟩
  | 73 => ⟨S2x8192x64, .f32⟩
  | 74 => ⟨S8192x2x64, .f32⟩
  | 75 => ⟨S2x8192x64, .f32⟩
  | 76 => ⟨S4x8x2x8192x32, .f32⟩
  | 77 => ⟨S2x8192x32, .f32⟩
  | 78 => ⟨S2x8192x32, .f32⟩
  | 79 => ⟨S4x8x2x8192x16, .f32⟩
  | 80 => ⟨S4x8x2x8192x16, .f32⟩
  | 81 => ⟨S2x8192x16, .f32⟩
  | 82 => ⟨S1x1x2x8192x16, .f32⟩
  | 83 => ⟨S4x8x2x8192x16, .f32⟩
  | 84 => ⟨S4x8x2x8192x16, .f32⟩
  | 85 => ⟨S2x8192x16, .f32⟩
  | 86 => ⟨S1x1x2x8192x16, .f32⟩
  | 87 => ⟨S4x8x2x8192x16, .f32⟩
  | 88 => ⟨S4x8x2x8192x16, .f32⟩
  | 89 => ⟨S4x8x2x8192x16, .f32⟩
  | 90 => ⟨S2x8192x16, .f32⟩
  | 91 => ⟨S1x1x2x8192x16, .f32⟩
  | 92 => ⟨S4x8x2x8192x16, .f32⟩
  | 93 => ⟨S4x8x2x8192x16, .f32⟩
  | 94 => ⟨S2x8192x16, .f32⟩
  | 95 => ⟨S1x1x2x8192x16, .f32⟩
  | 96 => ⟨S4x8x2x8192x16, .f32⟩
  | 97 => ⟨S4x8x2x8192x16, .f32⟩
  | 98 => ⟨S4x8x2x8192x16, .f32⟩
  | 99 => ⟨S4x8x2x8192x32, .f32⟩
  | 100 => ⟨S4x8x2x8192x32, .f32⟩
  | 101 => ⟨S2x8192x32, .f32⟩
  | 102 => ⟨S2x8192x32, .f32⟩
  | 103 => ⟨S4x8x2x8192x16, .f32⟩
  | 104 => ⟨S4x8x2x8192x16, .f32⟩
  | 105 => ⟨S2x8192x16, .f32⟩
  | 106 => ⟨S1x1x2x8192x16, .f32⟩
  | 107 => ⟨S4x8x2x8192x16, .f32⟩
  | 108 => ⟨S4x8x2x8192x16, .f32⟩
  | 109 => ⟨S2x8192x16, .f32⟩
  | 110 => ⟨S1x1x2x8192x16, .f32⟩
  | 111 => ⟨S4x8x2x8192x16, .f32⟩
  | 112 => ⟨S4x8x2x8192x16, .f32⟩
  | 113 => ⟨S4x8x2x8192x16, .f32⟩
  | 114 => ⟨S2x8192x16, .f32⟩
  | 115 => ⟨S1x1x2x8192x16, .f32⟩
  | 116 => ⟨S4x8x2x8192x16, .f32⟩
  | 117 => ⟨S4x8x2x8192x16, .f32⟩
  | 118 => ⟨S2x8192x16, .f32⟩
  | 119 => ⟨S1x1x2x8192x16, .f32⟩
  | 120 => ⟨S4x8x2x8192x16, .f32⟩
  | 121 => ⟨S4x8x2x8192x16, .f32⟩
  | 122 => ⟨S4x8x2x8192x16, .f32⟩
  | 123 => ⟨S4x8x2x8192x32, .f32⟩
  | 124 => ⟨S4x8x2x8192x64, .f32⟩
  | 125 => ⟨S4x8192x8x2x64, .f32⟩
  | 126 => ⟨S4x8192x1024, .f32⟩
  | 127 => ⟨S4x8192x512, .f32⟩
  | _ => ⟨S32768x1024, .f32⟩

abbrev hbmTy0_1 (i : Nat) : BufTy := match i % 128 with
  | 0 => ⟨S_, .f32⟩
  | 1 => ⟨S4x8192x512, .f32⟩
  | 2 => ⟨S4x8192x512, .f32⟩
  | 3 => ⟨S4x8192x512, .f32⟩
  | 4 => ⟨S512x1024, .f32⟩
  | 5 => ⟨S1024x512, .f32⟩
  | 6 => ⟨S4x8192x512, .f32⟩
  | 7 => ⟨S32768x512, .f32⟩
  | 8 => ⟨S32768x512, .f32⟩
  | 9 => ⟨S32768x512, .f32⟩
  | 10 => ⟨S32768x512, .f32⟩
  | 11 => ⟨S32768x512, .bf16⟩
  | 12 => ⟨S32768x512, .f32⟩
  | 13 => ⟨S32768x512, .bf16⟩
  | 14 => ⟨S4x512x8192, .f32⟩
  | 15 => ⟨S4x512x8192, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_cst_3 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩

abbrev nD : Nat := 1
abbrev τ : Topo := Topo.v7x

variable {F : FTy → Type} [FloatOps F]
-- ==== Proof.AttnIdeal.Prog.lean ====
/- The attention kernel's body as a short program: a tile's stage as 33 blocks of 256 keys, each block the same few
   memory operations, and the whole body as a prologue, a loop over the query tiles and an epilogue.  The printed
   body is this program. -/
module

public import proofs.«01_k».proof.Proof.Gen.AttnIdeal.Skeleton
public import Idealize.ShloMosaic.Lib.Tactic

@[expose] public section

set_option synthInstance.maxSize 4096
set_option maxRecDepth 65536

noncomputable section

namespace Cert.Proof.AttnIdeal

open Cert.AttnIdeal Cert.AttnIdeal.Gen
open Idealize.ShloMosaic Idealize.SL.Sem

variable {F : FTy → Type} [FloatOps F]

/-! ## The values -/

/-- The scores of a block of keys against the queries of one sub-head, keys by queries. -/
def scr (q : FVec F S256x128 .bf16) (k : Vec F S1x256x128 .bf16) : FVec F S256x256 .f32 :=
  matmul dot_S256x128_S256x128_S256x256_1_1_0_0_n_n none (shapeCast S256x128 k shapeCasts_S1x256x128_S256x128) q
    (constant S256x256 .f32 0x00000000#32)

/-- A block of scores as it is stored. -/
def scr3 (s : FVec F S256x256 .f32) : FVec F S1x256x256 .f32 := shapeCast S1x256x256 s shapeCasts_S256x256_S1x256x256

/-- The maximum of a block of scores, over the keys, kept in eight rows. -/
def mx8 (s : FVec F S256x256 .f32) : FVec F S8x256 .f32 :=
  multiReduction .maximumf [0] S8x256 (shapeCast S32x8x256 s shapeCasts_S256x256_S32x8x256) 0xFF800000#32
    reduces_S32x8x256_S8x256 (.inl rfl) rfl

/-- The eight rows of maxima reduced to one. -/
def mxRow (m : FVec F S8x256 .f32) : FVec F S1x256 .f32 :=
  shapeCast S1x256 (multiReduction .maximumf [0] S256 m 0xFF800000#32 reduces_S8x256_S256 (.inl rfl) rfl) shapeCasts_S256_S1x256

/-- The unnormalised probabilities of a stored block of scores. -/
def prb (m : FVec F S1x256 .f32) (s : Vec F S1x256x256 .f32) : FVec F S256x256 .f32 :=
  exp2 (subf (shapeCast S256x256 s shapeCasts_S1x256x256_S256x256) (broadcastTo S256x256 m broadcasts_S1x256_S256x256))

/-- Their sum over the keys, kept in eight rows. -/
def sm8 (p : FVec F S256x256 .f32) : FVec F S8x256 .f32 :=
  multiReduction .add [0] S8x256 (shapeCast S32x8x256 p shapeCasts_S256x256_S32x8x256) 0x00000000#32
    reduces_S32x8x256_S8x256 (.inl rfl) rfl

/-- A block's contribution to the weighted sum of the values. -/
def pvm (v : Vec F S1x128x256 .bf16) (p : FVec F S256x256 .f32) : FVec F S128x256 .f32 :=
  matmul dot_S128x256_S256x256_S128x256_1_0_0_1_n_n none (shapeCast S128x256 v shapeCasts_S1x128x256_S128x256)
    (truncf .bf16 p bitsLt_bf16_f32) (constant S128x256 .f32 0x00000000#32)

/-- The accumulator after the first block. -/
def acc0 (x : FVec F S128x256 .f32) : FVec F S1x128x256 .f32 := shapeCast S1x128x256 x shapeCasts_S128x256_S1x128x256

/-- The accumulator after a later block. -/
def accS (a : Vec F S1x128x256 .f32) (x : FVec F S128x256 .f32) : FVec F S1x128x256 .f32 :=
  shapeCast S1x128x256 (addf (shapeCast S128x256 a shapeCasts_S1x128x256_S128x256) x) shapeCasts_S128x256_S1x128x256

/-- A query tile with all but the first sub-head's columns set to zero. -/
def qm0 (v2 : IVec S256x128 1) (q : Vec F S1x256x128 .bf16) : FVec F S256x128 .bf16 :=
  select v2 (shapeCast S256x128 q shapeCasts_S1x256x128_S256x128) (broadcast S256x128 (Scalar.ofBits .bf16 0x0000#16))

/-- A query tile with all but the second sub-head's columns set to zero. -/
def qm1 (v2 : IVec S256x128 1) (q : Vec F S1x256x128 .bf16) : FVec F S256x128 .bf16 :=
  select v2 (broadcast S256x128 (Scalar.ofBits .bf16 0x0000#16)) (shapeCast S256x128 q shapeCasts_S1x256x128_S256x128)

/-- One accumulator over its sum of probabilities. -/
def quo (l : FVec F S8x256 .f32) (a : Vec F S1x128x256 .f32) : FVec F S128x256 .f32 :=
  divf (shapeCast S128x256 a shapeCasts_S1x128x256_S128x256)
    (broadcastTo S128x256
      (shapeCast S1x256 (multiReduction .add [0] S256 l 0x00000000#32 reduces_S8x256_S256 (.inl rfl) rfl) shapeCasts_S256_S1x256)
      broadcasts_S1x256_S128x256)

/-- The difference of the two attentions. -/
def dif (lam : FVec F S1x1 .f32) (l0 l1 : FVec F S8x256 .f32) (a0 a1 : Vec F S1x128x256 .f32) : FVec F S128x256 .f32 :=
  subf (quo l0 a0) (mulf (broadcastTo S128x256 lam broadcasts_S1x1_S128x256) (quo l1 a1))

/-- The reciprocal root of the mean of squares, along the channels. -/
def rms (o : FVec F S128x256 .f32) : FVec F S128x256 .f32 :=
  broadcastTo S128x256
    (rsqrt (addf
      (divf (shapeCast S1x256 (multiReduction .add [0] S256 (mulf o o) 0x00000000#32 reduces_S128x256_S256 (.inl rfl) rfl) shapeCasts_S256_S1x256)
        (broadcast S1x256 (Scalar.ofBits .f32 0x43000000#32)))
      (broadcast S1x256 (Scalar.ofBits .f32 0x358637BD#32))))
    broadcasts_S1x256_S128x256

/-- The tile that is stored: the difference normalised, scaled and transposed. -/
def outT (o : FVec F S128x256 .f32) (g : Vec F S128x1 .f32) : FVec F S1x256x128 .bf16 :=
  shapeCast S1x256x128
    (truncf .bf16
      (transpose S256x128 [1, 0]
        (mulf (mulf (mulf o (rms o)) (broadcastTo S128x256 g broadcasts_S128x1_S128x256))
          (broadcast S128x256 (Scalar.ofBits .f32 0x3F4CCCCD#32)))
        transposes_S128x256_p1_0_S256x128)
      bitsLt_bf16_f32)
    shapeCasts_S256x128_S1x256x128

/-! ## The program -/

/-- Programs over the kernel's memory operations. -/
abbrev Pr (F : FTy → Type) [FloatOps F] (α : Type) := Prog (TpuEff nD τ sig (Elt F) Λ₀ .tc) α

theorem inbS (mi off : ℕ) (h0 : mi < 2) (h1 : off + 256 ≤ 8448) : ∀ a, (![mi, off, 0] : Fin 3 → ℕ) a + S1x256x256.size a ≤ S2x8448x256.size a := by
  intro a; fin_cases a <;> simp [S1x256x256, S2x8448x256, Shape.size] <;> omega

theorem inbA (mi : ℕ) (h0 : mi < 2) : ∀ a, (![mi, 0, 0] : Fin 3 → ℕ) a + S1x128x256.size a ≤ S2x128x256.size a := by
  intro a; fin_cases a <;> simp [S1x128x256, S2x128x256, Shape.size] <;> omega

theorem inbK (off : ℕ) (h1 : off + 256 ≤ 8192) : ∀ a, (![0, off, 0] : Fin 3 → ℕ) a + S1x256x128.size a ≤ S1x8192x128.size a := by
  intro a; fin_cases a <;> simp [S1x256x128, S1x8192x128, Shape.size] <;> omega

theorem inbV (off : ℕ) (h1 : off + 256 ≤ 8192) : ∀ a, (![0, 0, off] : Fin 3 → ℕ) a + S1x128x256.size a ≤ S1x128x8192.size a := by
  intro a; fin_cases a <;> simp [S1x128x256, S1x128x8192, Shape.size] <;> omega

/-- The keys' rows from `off`. -/
abbrev rK (off : ℕ) (h : off + 256 ≤ 8192) : Rect S1x8192x128 := Rect.unit (s := S1x8192x128) ![0, off, 0] S1x256x128.size (inbK off h)
/-- The values' columns from `off`. -/
abbrev rV (off : ℕ) (h : off + 256 ≤ 8192) : Rect S1x128x8192 := Rect.unit (s := S1x128x8192) ![0, 0, off] S1x128x256.size (inbV off h)
/-- Sub-head `mi`'s scores from row `off`. -/
abbrev rS (mi off : ℕ) (h0 : mi < 2) (h : off + 256 ≤ 8448) : Rect S2x8448x256 := Rect.unit (s := S2x8448x256) ![mi, off, 0] S1x256x256.size (inbS mi off h0 h)
/-- Sub-head `mi`'s accumulator. -/
abbrev rA (mi : ℕ) (h0 : mi < 2) : Rect S2x128x256 := Rect.unit (s := S2x128x256) ![mi, 0, 0] S1x128x256.size (inbA mi h0)

/-- A block's scores stored for one sub-head (the rectangle is read first, and what is read is dropped). -/
def putS (sw : Memref sig .tc .vmem S2x8448x256 .f32) (mi off : ℕ) (h0 : mi < 2) (h : off + 256 ≤ 8448)
    (s : FVec F S256x256 .f32) : Pr F PUnit := do
  let _x : Vec F S1x256x256 .f32 ← Prog.lift (.load sw (rS mi off h0 h).toLoadRect (View.loadsAt_vmem h_S1x256x256))
  Prog.lift (.store sw (rS mi off h0 h) (scr3 s) Finset.univ (View.stores_vmem_bits_univ h_S1x256x256 rfl) (.inl rfl))

/-- A block's stored scores for one sub-head. -/
def getS (sr : Memref sig .tc .vmem S2x8448x256 .f32) (mi off : ℕ) (h0 : mi < 2) (h : off + 256 ≤ 8448) : Pr F (Vec F S1x256x256 .f32) :=
  Prog.lift (.load sr (rS mi off h0 h).toLoadRect (View.loadsAt_vmem h_S1x256x256))

/-- One sub-head's accumulator read. -/
def getA (ac : Memref sig .tc .vmem S2x128x256 .f32) (mi : ℕ) (h0 : mi < 2) : Pr F (Vec F S1x128x256 .f32) :=
  Prog.lift (.load ac (rA mi h0).toLoadRect (View.loadsAt_vmem h_S1x128x256))

/-- One sub-head's accumulator written (read first, and what is read is dropped). -/
def putA (ac : Memref sig .tc .vmem S2x128x256 .f32) (mi : ℕ) (h0 : mi < 2) (x : FVec F S1x128x256 .f32) : Pr F PUnit := do
  let _x : Vec F S1x128x256 .f32 ← getA ac mi h0
  Prog.lift (.store ac (rA mi h0) x Finset.univ (View.stores_vmem_bits_univ h_S1x128x256 rfl) (.inl rfl))

section
variable (a5 : Memref sig .tc .vmem S1x8192x128 .bf16) (a6 : Memref sig .tc .vmem S1x128x8192 .bf16)
  (a7 : Memref sig .tc .vmem S1x256x128 .bf16) (a8 : Memref sig .tc .vmem S1x128x256 .bf16)

/-- The first block of keys: the context's. -/
def ldKC : Pr F (Vec F S1x256x128 .bf16) :=
  Prog.lift (.load a7 (Rect.unit (s := S1x256x128) ![0, 0, 0] S1x256x128.size inb_S1x256x128_S1x256x128_0_0_0).toLoadRect (View.loadsAt_vmem h_S1x256x128))
/-- The first block of values: the context's. -/
def ldVC : Pr F (Vec F S1x128x256 .bf16) :=
  Prog.lift (.load a8 (Rect.unit (s := S1x128x256) ![0, 0, 0] S1x128x256.size inb_S1x128x256_S1x128x256_0_0_0).toLoadRect (View.loadsAt_vmem h_S1x128x256))
/-- A later block of keys. -/
def ldK (off : ℕ) (h : off + 256 ≤ 8192) : Pr F (Vec F S1x256x128 .bf16) :=
  Prog.lift (.load a5 (rK off h).toLoadRect (View.loadsAt_vmem h_S1x256x128))
/-- A later block of values. -/
def ldV (off : ℕ) (h : off + 256 ≤ 8192) : Pr F (Vec F S1x128x256 .bf16) :=
  Prog.lift (.load a6 (rV off h).toLoadRect (View.loadsAt_vmem h_S1x128x256))

/-- A pair of values, one per sub-head. -/
abbrev Two (F : FTy → Type) [FloatOps F] := FVec F S8x256 .f32 × FVec F S8x256 .f32

/-- The scores of the first block, both sub-heads. -/
def sc0 (sw : Memref sig .tc .vmem S2x8448x256 .f32) (q0 q1 : FVec F S256x128 .bf16) : Pr F (Two F) := do
  let k ← ldKC a7
  putS sw 0 0 (by decide) (by decide) (scr q0 k)
  putS sw 1 0 (by decide) (by decide) (scr q1 k)
  pure (mx8 (scr q0 k), mx8 (scr q1 k))

/-- The scores of block `j + 1`, both sub-heads. -/
def scS (sw : Memref sig .tc .vmem S2x8448x256 .f32) (q0 q1 : FVec F S256x128 .bf16) (j : ℕ) (hj : j < 32) (M : Two F) : Pr F (Two F) := do
  let k ← ldK a5 (256 * j) (by omega)
  putS sw 0 (256 * (j + 1)) (by decide) (by omega) (scr q0 k)
  putS sw 1 (256 * (j + 1)) (by decide) (by omega) (scr q1 k)
  pure (maximumf M.1 (mx8 (scr q0 k)), maximumf M.2 (mx8 (scr q1 k)))

/-- The probabilities of the first block. -/
def pr0 (sr : Memref sig .tc .vmem S2x8448x256 .f32) (ac : Memref sig .tc .vmem S2x128x256 .f32) (m : FVec F S1x256 .f32 × FVec F S1x256 .f32) :
    Pr F (Two F) := do
  let v ← ldVC a8
  let s0 ← getS sr 0 0 (by decide) (by decide)
  putA ac 0 (by decide) (acc0 (pvm v (prb m.1 s0)))
  let s1 ← getS sr 1 0 (by decide) (by decide)
  putA ac 1 (by decide) (acc0 (pvm v (prb m.2 s1)))
  pure (sm8 (prb m.1 s0), sm8 (prb m.2 s1))

/-- The probabilities of block `j + 1`. -/
def prS (sr : Memref sig .tc .vmem S2x8448x256 .f32) (ac : Memref sig .tc .vmem S2x128x256 .f32) (m : FVec F S1x256 .f32 × FVec F S1x256 .f32)
    (j : ℕ) (hj : j < 32) (L : Two F) : Pr F (Two F) := do
  let v ← ldV a6 (256 * j) (by omega)
  let s0 ← getS sr 0 (256 * (j + 1)) (by decide) (by omega)
  let b0 ← getA ac 0 (by decide)
  putA ac 0 (by decide) (accS b0 (pvm v (prb m.1 s0)))
  let s1 ← getS sr 1 (256 * (j + 1)) (by decide) (by omega)
  let b1 ← getA ac 1 (by decide)
  putA ac 1 (by decide) (accS b1 (pvm v (prb m.2 s1)))
  pure (addf L.1 (sm8 (prb m.1 s0)), addf L.2 (sm8 (prb m.2 s1)))

/-- `n` steps from step `j`, each given that it is before step 32. -/
def steps {α : Type} (f : (j : ℕ) → j < 32 → α → Pr F α) : (n j : ℕ) → j + n = 32 → α → Pr F α
  | 0, _, _, c => pure c
  | n + 1, j, h, c => f j (by omega) c >>= steps f n (j + 1) (by omega)

/-- The prologue: the first tile's scores. -/
def scAll (sw : Memref sig .tc .vmem S2x8448x256 .f32) (q0 q1 : FVec F S256x128 .bf16) : Pr F (Two F) :=
  sc0 a7 sw q0 q1 >>= steps (fun j hj M => scS a5 sw q0 q1 j hj M) 32 0 rfl

/-- The epilogue: the last tile's probabilities. -/
def prAll (sr : Memref sig .tc .vmem S2x8448x256 .f32) (ac : Memref sig .tc .vmem S2x128x256 .f32) (m : FVec F S1x256 .f32 × FVec F S1x256 .f32) :
    Pr F (Two F) :=
  pr0 a8 sr ac m >>= steps (fun j hj L => prS a6 sr ac m j hj L) 32 0 rfl

/-- A stage: block by block, the next tile's scores and this tile's probabilities. -/
def stage (sw sr : Memref sig .tc .vmem S2x8448x256 .f32) (ac : Memref sig .tc .vmem S2x128x256 .f32) (q0 q1 : FVec F S256x128 .bf16)
    (m : FVec F S1x256 .f32 × FVec F S1x256 .f32) : Pr F (Two F × Two F) :=
  (do
    let M ← sc0 a7 sw q0 q1
    let L ← pr0 a8 sr ac m
    pure (M, L)) >>=
  steps (fun j hj c => do
    let M ← scS a5 sw q0 q1 j hj c.1
    let L ← prS a6 sr ac m j hj c.2
    pure (M, L)) 32 0 rfl

end

/-- The end of a tile: the accumulators over the sums, the difference normalised and stored at the rows that `r` names. -/
def fin (ac : Memref sig .tc .vmem S2x128x256 .f32) (a3 : Memref sig .tc .vmem S128x1 .f32) (a9 : Memref sig .tc .vmem S1x8192x128 .bf16) (h9 : a9.IsWhole)
    (lam : FVec F S1x1 .f32) (L : Two F) (off : Fin 3 → ℕ) (hi : ∀ a, off a + S1x256x128.size a ≤ S1x8192x128.size a)
    (hp : (Rect.unit (s := S1x8192x128) off S1x256x128.size hi).PackedRows (EltTy.packing .bf16)) : Pr F PUnit := do
  let b0 ← getA ac 0 (by decide)
  let b1 ← getA ac 1 (by decide)
  let g : Vec F S128x1 .f32 ← Prog.lift (.load a3 (Rect.unit (s := S128x1) ![0, 0] S128x1.size inb_S128x1_S128x1_0_0).toLoadRect (View.loadsAt_vmem h_S128x1))
  let _x : Vec F S1x256x128 .bf16 ← Prog.lift (.load a9 (Rect.unit (s := S1x8192x128) off S1x256x128.size hi).toLoadRect (View.loadsAt_vmem h_S1x256x128))
  Prog.lift (.store a9 (Rect.unit (s := S1x8192x128) off S1x256x128.size hi) (outT (dif lam L.1 L.2 b0 b1) g) Finset.univ
    (View.stores_vmem h_S1x256x128 (h9.storeExact_slice rfl _ hp) (fun _ => rfl)) (.inl rfl))

/-- The end of a trip once the stage's sums and maxima are known. -/
def trip (a3 : Memref sig .tc .vmem S128x1 .f32) (a4 : Memref sig .tc .vmem S1x8192x128 .bf16) (a5 : Memref sig .tc .vmem S1x8192x128 .bf16)
    (a6 : Memref sig .tc .vmem S1x128x8192 .bf16) (a7 : Memref sig .tc .vmem S1x256x128 .bf16) (a8 : Memref sig .tc .vmem S1x128x256 .bf16)
    (a9 : Memref sig .tc .vmem S1x8192x128 .bf16) (h9 : a9.IsWhole) (sw sr : Memref sig .tc .vmem S2x8448x256 .f32) (ac : Memref sig .tc .vmem S2x128x256 .f32)
    (v2 : IVec S256x128 1) (lam : FVec F S1x1 .f32) (m : FVec F S1x256 .f32 × FVec F S1x256 .f32)
    (offq : Fin 3 → ℕ) (hq : ∀ a, offq a + S1x256x128.size a ≤ S1x8192x128.size a)
    (off : Fin 3 → ℕ) (hi : ∀ a, off a + S1x256x128.size a ≤ S1x8192x128.size a)
    (hp : (Rect.unit (s := S1x8192x128) off S1x256x128.size hi).PackedRows (EltTy.packing .bf16)) :
    Pr F (FVec F S1x256 .f32 × FVec F S1x256 .f32) := do
  let q : Vec F S1x256x128 .bf16 ← Prog.lift (.load a4 (Rect.unit (s := S1x8192x128) offq S1x256x128.size hq).toLoadRect (View.loadsAt_vmem h_S1x256x128))
  let c ← stage a5 a6 a7 a8 sw sr ac (qm0 v2 q) (qm1 v2 q) m
  fin ac a3 a9 h9 lam c.2 off hi hp
  pure (mxRow c.1.1, mxRow c.1.2)

end Cert.Proof.AttnIdeal

end
-- ==== Proof.AttnIdeal.ProgEq.lean ====
/- The printed body is the short program of Prog. -/
module

public import proofs.«01_k».proof.Proof.AttnIdeal.Prog

@[expose] public section

set_option synthInstance.maxSize 4096
set_option maxRecDepth 65536

noncomputable section

namespace Cert.Proof.AttnIdeal

open Cert.AttnIdeal Cert.AttnIdeal.Gen
open Idealize.ShloMosaic Idealize.SL.Sem Idealize.ShloMosaic.Tactic

variable {F : FTy → Type} [FloatOps F]

universe v

/-- A program rebuilt from its operations is itself. -/
theorem rebuilt {E : Type → Type v} {α : Type} (p : Prog E α) :
    (Prog.rec (motive := fun _ => Prog E α) (fun a => Prog.ret a) (fun e _ ih => Prog.op e ih) p : Prog E α) = p := by
  induction p with
  | ret a => rfl
  | op e k ih => exact congrArg (Prog.op e) (funext ih)

/-- Two programs are equal if they are after being rebuilt from their operations. -/
theorem eq_of_rebuilt {E : Type → Type v} {α : Type} {p q : Prog E α}
    (h : (Prog.rec (motive := fun _ => Prog E α) (fun a => Prog.ret a) (fun e _ ih => Prog.op e ih) p : Prog E α) =
      Prog.rec (motive := fun _ => Prog E α) (fun a => Prog.ret a) (fun e _ ih => Prog.op e ih) q) : p = q := by
  rw [rebuilt, rebuilt] at h; exact h

/-- A trip at an even tile is a stage from the first score buffer to the second. -/
theorem body_even (i : grid0.Coords) (arg2 : Memref sig .tc .vmem S4x64 .f32) (harg2 : arg2.IsWhole) (arg3 : Memref sig .tc .vmem S128x1 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .bf16) (harg6 : arg6.IsWhole) (arg7 : Memref sig .tc .vmem S1x256x128 .bf16) (harg7 : arg7.IsWhole) (arg8 : Memref sig .tc .vmem S1x128x256 .bf16) (harg8 : arg8.IsWhole) (arg9 : Memref sig .tc .vmem S1x8192x128 .bf16) (harg9 : arg9.IsWhole) (arg10 : Memref sig .tc .vmem S2x8448x256 .f32) (harg10 : arg10.IsWhole) (arg11 : Memref sig .tc .vmem S2x8448x256 .f32) (harg11 : arg11.IsWhole) (arg12 : Memref sig .tc .vmem S2x128x256 .f32) (harg12 : arg12.IsWhole) (v2 : IVec S256x128 1) (v18 : FVec F S1x1 .f32) (v24 : FVec F S256x128 .bf16) (v25 : FVec F S256x128 .bf16) (v519 : FVec F S8x256 .f32) (v528 : FVec F S8x256 .f32) (v529 : FVec F S256x256 .f32)
    (t : Fin k0_t1_loop.trips) (h : k0_cond1 t = 1#1) (m : FVec F S1x256 .f32 × FVec F S1x256 .f32) :
    k0_t1_body i arg2 harg2 arg3 harg3 arg4 harg4 arg5 harg5 arg6 harg6 arg7 harg7 arg8 harg8 arg9 harg9 arg10 harg10 arg11 harg11 arg12 harg12 v2 v18 v24 v25 v519 v528 v529 t m =
      trip arg3 arg4 arg5 arg6 arg7 arg8 arg9 harg9 arg11 arg10 arg12 v2 v18 m (k0_off1 t) (k0_off1_inb t h) (k0_off2 t) (k0_off2_inb t h) (k0_off2_packedbf16 t h) := by
  obtain ⟨m0, m1⟩ := m
  unfold k0_t1_body
  simp only [dif_pos h]
  apply eq_of_rebuilt
  sl_kernel_rfl

/-- A trip at an odd tile is a stage from the second score buffer to the first. -/
theorem body_odd (i : grid0.Coords) (arg2 : Memref sig .tc .vmem S4x64 .f32) (harg2 : arg2.IsWhole) (arg3 : Memref sig .tc .vmem S128x1 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .bf16) (harg6 : arg6.IsWhole) (arg7 : Memref sig .tc .vmem S1x256x128 .bf16) (harg7 : arg7.IsWhole) (arg8 : Memref sig .tc .vmem S1x128x256 .bf16) (harg8 : arg8.IsWhole) (arg9 : Memref sig .tc .vmem S1x8192x128 .bf16) (harg9 : arg9.IsWhole) (arg10 : Memref sig .tc .vmem S2x8448x256 .f32) (harg10 : arg10.IsWhole) (arg11 : Memref sig .tc .vmem S2x8448x256 .f32) (harg11 : arg11.IsWhole) (arg12 : Memref sig .tc .vmem S2x128x256 .f32) (harg12 : arg12.IsWhole) (v2 : IVec S256x128 1) (v18 : FVec F S1x1 .f32) (v24 : FVec F S256x128 .bf16) (v25 : FVec F S256x128 .bf16) (v519 : FVec F S8x256 .f32) (v528 : FVec F S8x256 .f32) (v529 : FVec F S256x256 .f32)
    (t : Fin k0_t1_loop.trips) (h : ¬ (k0_cond1 t = 1#1)) (m : FVec F S1x256 .f32 × FVec F S1x256 .f32) :
    k0_t1_body i arg2 harg2 arg3 harg3 arg4 harg4 arg5 harg5 arg6 harg6 arg7 harg7 arg8 harg8 arg9 harg9 arg10 harg10 arg11 harg11 arg12 harg12 v2 v18 v24 v25 v519 v528 v529 t m =
      trip arg3 arg4 arg5 arg6 arg7 arg8 arg9 harg9 arg10 arg11 arg12 v2 v18 m (k0_off3 t) (k0_off3_inb t h) (k0_off4 t) (k0_off4_inb t h) (k0_off4_packedbf16 t h) := by
  obtain ⟨m0, m1⟩ := m
  unfold k0_t1_body
  simp only [dif_neg h]
  apply eq_of_rebuilt
  sl_kernel_rfl

/-- The loop's region: a stage whose direction between the two score buffers is the tile's parity. -/
def loopBody (arg3 : Memref sig .tc .vmem S128x1 .f32) (arg4 : Memref sig .tc .vmem S1x8192x128 .bf16) (arg5 : Memref sig .tc .vmem S1x8192x128 .bf16)
    (arg6 : Memref sig .tc .vmem S1x128x8192 .bf16) (arg7 : Memref sig .tc .vmem S1x256x128 .bf16) (arg8 : Memref sig .tc .vmem S1x128x256 .bf16)
    (arg9 : Memref sig .tc .vmem S1x8192x128 .bf16) (harg9 : arg9.IsWhole) (arg10 arg11 : Memref sig .tc .vmem S2x8448x256 .f32) (arg12 : Memref sig .tc .vmem S2x128x256 .f32)
    (v2 : IVec S256x128 1) (lam : FVec F S1x1 .f32) (t : Fin k0_t1_loop.trips) (m : FVec F S1x256 .f32 × FVec F S1x256 .f32) :
    Pr F (FVec F S1x256 .f32 × FVec F S1x256 .f32) :=
  if h : k0_cond1 t = 1#1 then
    trip arg3 arg4 arg5 arg6 arg7 arg8 arg9 harg9 arg11 arg10 arg12 v2 lam m (k0_off1 t) (k0_off1_inb t h) (k0_off2 t) (k0_off2_inb t h) (k0_off2_packedbf16 t h)
  else
    trip arg3 arg4 arg5 arg6 arg7 arg8 arg9 harg9 arg10 arg11 arg12 v2 lam m (k0_off3 t) (k0_off3_inb t h) (k0_off4 t) (k0_off4_inb t h) (k0_off4_packedbf16 t h)

/-- The printed region is that stage. -/
theorem body_eq (i : grid0.Coords) (arg2 : Memref sig .tc .vmem S4x64 .f32) (harg2 : arg2.IsWhole) (arg3 : Memref sig .tc .vmem S128x1 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .bf16) (harg6 : arg6.IsWhole) (arg7 : Memref sig .tc .vmem S1x256x128 .bf16) (harg7 : arg7.IsWhole) (arg8 : Memref sig .tc .vmem S1x128x256 .bf16) (harg8 : arg8.IsWhole) (arg9 : Memref sig .tc .vmem S1x8192x128 .bf16) (harg9 : arg9.IsWhole) (arg10 : Memref sig .tc .vmem S2x8448x256 .f32) (harg10 : arg10.IsWhole) (arg11 : Memref sig .tc .vmem S2x8448x256 .f32) (harg11 : arg11.IsWhole) (arg12 : Memref sig .tc .vmem S2x128x256 .f32) (harg12 : arg12.IsWhole) (v2 : IVec S256x128 1) (v18 : FVec F S1x1 .f32) (v24 : FVec F S256x128 .bf16) (v25 : FVec F S256x128 .bf16) (v519 : FVec F S8x256 .f32) (v528 : FVec F S8x256 .f32) (v529 : FVec F S256x256 .f32) :
    k0_t1_body i arg2 harg2 arg3 harg3 arg4 harg4 arg5 harg5 arg6 harg6 arg7 harg7 arg8 harg8 arg9 harg9 arg10 harg10 arg11 harg11 arg12 harg12 v2 v18 v24 v25 v519 v528 v529 = loopBody arg3 arg4 arg5 arg6 arg7 arg8 arg9 harg9 arg10 arg11 arg12 v2 v18 := by
  funext t m
  unfold loopBody
  split
  · exact body_even i arg2 harg2 arg3 harg3 arg4 harg4 arg5 harg5 arg6 harg6 arg7 harg7 arg8 harg8 arg9 harg9 arg10 harg10 arg11 harg11 arg12 harg12 v2 v18 v24 v25 v519 v528 v529 t ‹_› m
  · exact body_odd i arg2 harg2 arg3 harg3 arg4 harg4 arg5 harg5 arg6 harg6 arg7 harg7 arg8 harg8 arg9 harg9 arg10 harg10 arg11 harg11 arg12 harg12 v2 v18 v24 v25 v519 v528 v529 t ‹_› m

/-- The printed body up to its loop: what the loop reads of it. -/
def pre (i : grid0.Coords) (arg2 : Memref sig .tc .vmem S4x64 .f32) (harg2 : arg2.IsWhole) (arg3 : Memref sig .tc .vmem S128x1 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .bf16) (harg6 : arg6.IsWhole) (arg7 : Memref sig .tc .vmem S1x256x128 .bf16) (harg7 : arg7.IsWhole) (arg8 : Memref sig .tc .vmem S1x128x256 .bf16) (harg8 : arg8.IsWhole) (arg9 : Memref sig .tc .vmem S1x8192x128 .bf16) (harg9 : arg9.IsWhole) (arg10 : Memref sig .tc .vmem S2x8448x256 .f32) (harg10 : arg10.IsWhole) (arg11 : Memref sig .tc .vmem S2x8448x256 .f32) (harg11 : arg11.IsWhole) (arg12 : Memref sig .tc .vmem S2x128x256 .f32) (harg12 : arg12.IsWhole) : Pr F (IVec S256x128 1 × FVec F S1x1 .f32 × (FVec F S1x256 .f32 × FVec F S1x256 .f32)) := do
  let ⟨v2, v18, v24, v25, v33, v34⟩ : Σ' (v2 : IVec S256x128 1) (v18 : FVec F S1x1 .f32) (v24 : FVec F S256x128 .bf16) (v25 : FVec F S256x128 .bf16) (v33 : FVec F S8x256 .f32), FVec F S256x256 .f32 ← k0_part105 i arg2 harg2 arg3 harg3 arg4 harg4 arg5 harg5 arg6 harg6 arg7 harg7 arg8 harg8 arg9 harg9 arg10 harg10 arg11 harg11 arg12 harg12
  let ⟨v55, v64, v65⟩ : Σ' (v55 : FVec F S8x256 .f32) (v64 : FVec F S8x256 .f32), FVec F S256x256 .f32 ← k0_part106 i arg2 harg2 arg3 harg3 arg4 harg4 arg5 harg5 arg6 harg6 arg7 harg7 arg8 harg8 arg9 harg9 arg10 harg10 arg11 harg11 arg12 harg12 v24 v25 v33 v34
  let ⟨v87, v96, v97⟩ : Σ' (v87 : FVec F S8x256 .f32) (v96 : FVec F S8x256 .f32), FVec F S256x256 .f32 ← k0_part107 i arg2 harg2 arg3 harg3 arg4 harg4 arg5 harg5 arg6 harg6 arg7 harg7 arg8 harg8 arg9 harg9 arg10 harg10 arg11 harg11 arg12 harg12 v24 v25 v55 v64 v65
  let ⟨v119, v121, v128⟩ : Σ' (v119 : FVec F S8x256 .f32) (v121 : FVec F S256x128 .bf16), FVec F S8x256 .f32 ← k0_part108 i arg2 harg2 arg3 harg3 arg4 harg4 arg5 harg5 arg6 harg6 arg7 harg7 arg8 harg8 arg9 harg9 arg10 harg10 arg11 harg11 arg12 harg12 v24 v25 v87 v96 v97
  let ⟨v144, v151, v153, v158⟩ : Σ' (v144 : FVec F S8x256 .f32) (v151 : FVec F S8x256 .f32) (v153 : FVec F S256x128 .bf16), FVec F S32x8x256 .f32 ← k0_part109 i arg2 harg2 arg3 harg3 arg4 harg4 arg5 harg5 arg6 harg6 arg7 harg7 arg8 harg8 arg9 harg9 arg10 harg10 arg11 harg11 arg12 harg12 v24 v25 v119 v121 v128
  let ⟨v176, v183, v185, v186⟩ : Σ' (v176 : FVec F S8x256 .f32) (v183 : FVec F S8x256 .f32) (v185 : FVec F S256x128 .bf16), FVec F S256x256 .f32 ← k0_part110 i arg2 harg2 arg3 harg3 arg4 harg4 arg5 harg5 arg6 harg6 arg7 harg7 arg8 harg8 arg9 harg9 arg10 harg10 arg11 harg11 arg12 harg12 v24 v25 v144 v151 v153 v158
  let ⟨v208, v215, v217, v218⟩ : Σ' (v208 : FVec F S8x256 .f32) (v215 : FVec F S8x256 .f32) (v217 : FVec F S256x128 .bf16), FVec F S256x256 .f32 ← k0_part111 i arg2 harg2 arg3 harg3 arg4 harg4 arg5 harg5 arg6 harg6 arg7 harg7 arg8 harg8 arg9 harg9 arg10 harg10 arg11 harg11 arg12 harg12 v24 v25 v176 v183 v185 v186
  let ⟨v240, v247, v249, v250⟩ : Σ' (v240 : FVec F S8x256 .f32) (v247 : FVec F S8x256 .f32) (v249 : FVec F S256x128 .bf16), FVec F S256x256 .f32 ← k0_part112 i arg2 harg2 arg3 harg3 arg4 harg4 arg5 harg5 arg6 harg6 arg7 harg7 arg8 harg8 arg9 harg9 arg10 harg10 arg11 harg11 arg12 harg12 v24 v25 v208 v215 v217 v218
  let ⟨v272, v279, v281, v282⟩ : Σ' (v272 : FVec F S8x256 .f32) (v279 : FVec F S8x256 .f32) (v281 : FVec F S256x128 .bf16), FVec F S256x256 .f32 ← k0_part113 i arg2 harg2 arg3 harg3 arg4 harg4 arg5 harg5 arg6 harg6 arg7 harg7 arg8 harg8 arg9 harg9 arg10 harg10 arg11 harg11 arg12 harg12 v24 v25 v240 v247 v249 v250
  let ⟨v304, v311, v313, cst_225⟩ : Σ' (v304 : FVec F S8x256 .f32) (v311 : FVec F S8x256 .f32) (v313 : FVec F S256x128 .bf16), FVec F S256x256 .f32 ← k0_part114 i arg2 harg2 arg3 harg3 arg4 harg4 arg5 harg5 arg6 harg6 arg7 harg7 arg8 harg8 arg9 harg9 arg10 harg10 arg11 harg11 arg12 harg12 v24 v25 v272 v279 v281 v282
  let ⟨v336, v343, v344⟩ : Σ' (v336 : FVec F S8x256 .f32) (v343 : FVec F S8x256 .f32), Vec F S1x256x128 .bf16 ← k0_part115 i arg2 harg2 arg3 harg3 arg4 harg4 arg5 harg5 arg6 harg6 arg7 harg7 arg8 harg8 arg9 harg9 arg10 harg10 arg11 harg11 arg12 harg12 v24 v25 v304 v311 v313 cst_225
  let ⟨v368, v375⟩ : Σ' (v368 : FVec F S8x256 .f32), FVec F S8x256 .f32 ← k0_part116 i arg2 harg2 arg3 harg3 arg4 harg4 arg5 harg5 arg6 harg6 arg7 harg7 arg8 harg8 arg9 harg9 arg10 harg10 arg11 harg11 arg12 harg12 v24 v25 v336 v343 v344
  let ⟨v400, v407⟩ : Σ' (v400 : FVec F S8x256 .f32), FVec F S8x256 .f32 ← k0_part117 i arg2 harg2 arg3 harg3 arg4 harg4 arg5 harg5 arg6 harg6 arg7 harg7 arg8 harg8 arg9 harg9 arg10 harg10 arg11 harg11 arg12 harg12 v24 v25 v368 v375
  let ⟨v423, v432, v437⟩ : Σ' (v423 : FVec F S8x256 .f32) (v432 : FVec F S8x256 .f32), FVec F S32x8x256 .f32 ← k0_part118 i arg2 harg2 arg3 harg3 arg4 harg4 arg5 harg5 arg6 harg6 arg7 harg7 arg8 harg8 arg9 harg9 arg10 harg10 arg11 harg11 arg12 harg12 v24 v25 v400 v407
  let ⟨v455, v464, v465⟩ : Σ' (v455 : FVec F S8x256 .f32) (v464 : FVec F S8x256 .f32), FVec F S256x256 .f32 ← k0_part119 i arg2 harg2 arg3 harg3 arg4 harg4 arg5 harg5 arg6 harg6 arg7 harg7 arg8 harg8 arg9 harg9 arg10 harg10 arg11 harg11 arg12 harg12 v24 v25 v423 v432 v437
  let ⟨v487, v496, v497⟩ : Σ' (v487 : FVec F S8x256 .f32) (v496 : FVec F S8x256 .f32), FVec F S256x256 .f32 ← k0_part120 i arg2 harg2 arg3 harg3 arg4 harg4 arg5 harg5 arg6 harg6 arg7 harg7 arg8 harg8 arg9 harg9 arg10 harg10 arg11 harg11 arg12 harg12 v24 v25 v455 v464 v465
  let ⟨v519, v528, v529⟩ : Σ' (v519 : FVec F S8x256 .f32) (v528 : FVec F S8x256 .f32), FVec F S256x256 .f32 ← k0_part121 i arg2 harg2 arg3 harg3 arg4 harg4 arg5 harg5 arg6 harg6 arg7 harg7 arg8 harg8 arg9 harg9 arg10 harg10 arg11 harg11 arg12 harg12 v24 v25 v487 v496 v497
  let v530 : Vec F S1x256x256 .f32 ← Prog.lift (.load arg10 (Rect.unit (s := S2x8448x256) ![1, 7936, 0] S1x256x256.size inb_S2x8448x256_S1x256x256_1_7936_0).toLoadRect (View.loadsAt_vmem h_S1x256x256))
  Prog.lift (.store arg10 (Rect.unit (s := S2x8448x256) ![1, 7936, 0] S1x256x256.size inb_S2x8448x256_S1x256x256_1_7936_0) (k0_pay1206 v529) Finset.univ (View.stores_vmem_bits_univ h_S1x256x256 rfl) (.inl rfl))
  let v536 : Vec F S1x256x128 .bf16 ← Prog.lift (.load arg5 (Rect.unit (s := S1x8192x128) ![0, 7936, 0] S1x256x128.size inb_S1x8192x128_S1x256x128_0_7936_0).toLoadRect (View.loadsAt_vmem h_S1x256x128))
  let v539 : Vec F S1x256x256 .f32 ← Prog.lift (.load arg10 (Rect.unit (s := S2x8448x256) ![0, 8192, 0] S1x256x256.size inb_S2x8448x256_S1x256x256_0_8192_0).toLoadRect (View.loadsAt_vmem h_S1x256x256))
  Prog.lift (.store arg10 (Rect.unit (s := S2x8448x256) ![0, 8192, 0] S1x256x256.size inb_S2x8448x256_S1x256x256_0_8192_0) (k0_pay1209 v24 v536) Finset.univ (View.stores_vmem_bits_univ h_S1x256x256 rfl) (.inl rfl))
  let v546 : Vec F S1x256x256 .f32 ← Prog.lift (.load arg10 (Rect.unit (s := S2x8448x256) ![1, 8192, 0] S1x256x256.size inb_S2x8448x256_S1x256x256_1_8192_0).toLoadRect (View.loadsAt_vmem h_S1x256x256))
  Prog.lift (.store arg10 (Rect.unit (s := S2x8448x256) ![1, 8192, 0] S1x256x256.size inb_S2x8448x256_S1x256x256_1_8192_0) (k0_pay1211 v25 v536) Finset.univ (View.stores_vmem_bits_univ h_S1x256x256 rfl) (.inl rfl))
  pure (v2, v18, (k0_pay1212 v24 v528 v536, k0_pay1213 v25 v519 v529 v536))

/-- The printed body after its loop. -/
def post (i : grid0.Coords) (arg2 : Memref sig .tc .vmem S4x64 .f32) (harg2 : arg2.IsWhole) (arg3 : Memref sig .tc .vmem S128x1 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .bf16) (harg6 : arg6.IsWhole) (arg7 : Memref sig .tc .vmem S1x256x128 .bf16) (harg7 : arg7.IsWhole) (arg8 : Memref sig .tc .vmem S1x128x256 .bf16) (harg8 : arg8.IsWhole) (arg9 : Memref sig .tc .vmem S1x8192x128 .bf16) (harg9 : arg9.IsWhole) (arg10 : Memref sig .tc .vmem S2x8448x256 .f32) (harg10 : arg10.IsWhole) (arg11 : Memref sig .tc .vmem S2x8448x256 .f32) (harg11 : arg11.IsWhole) (arg12 : Memref sig .tc .vmem S2x128x256 .f32) (harg12 : arg12.IsWhole) (v18 : FVec F S1x1 .f32) (v557_0 v557_1 : FVec F S1x256 .f32) : Pr F PUnit := do
  let v558 : Vec F S1x128x256 .bf16 ← Prog.lift (.load arg8 (Rect.unit (s := S1x128x256) ![0, 0, 0] S1x128x256.size inb_S1x128x256_S1x128x256_0_0_0).toLoadRect (View.loadsAt_vmem h_S1x128x256))
  let v560 : Vec F S1x256x256 .f32 ← Prog.lift (.load arg11 (Rect.unit (s := S2x8448x256) ![0, 0, 0] S1x256x256.size inb_S2x8448x256_S1x256x256_0_0_0).toLoadRect (View.loadsAt_vmem h_S1x256x256))
  let v559 : FVec F S128x256 .bf16 := k0_pay1220 v558
  let ⟨v578, v585, v593, v595⟩ : Σ' (v578 : FVec F S8x256 .f32) (v585 : FVec F S128x256 .bf16) (v593 : FVec F S8x256 .f32), FVec F S128x256 .f32 ← k0_part123 i arg2 harg2 arg3 harg3 arg4 harg4 arg5 harg5 arg6 harg6 arg7 harg7 arg8 harg8 arg9 harg9 arg10 harg10 arg11 harg11 arg12 harg12 v557_0 v557_1 v559 v560
  let ⟨v609, v619, v627, v629⟩ : Σ' (v609 : FVec F S8x256 .f32) (v619 : FVec F S128x256 .bf16) (v627 : FVec F S8x256 .f32), FVec F S128x256 .f32 ← k0_part124 i arg2 harg2 arg3 harg3 arg4 harg4 arg5 harg5 arg6 harg6 arg7 harg7 arg8 harg8 arg9 harg9 arg10 harg10 arg11 harg11 arg12 harg12 v557_0 v557_1 v578 v585 v593 v595
  let ⟨v643, v653, v661, v663⟩ : Σ' (v643 : FVec F S8x256 .f32) (v653 : FVec F S128x256 .bf16) (v661 : FVec F S8x256 .f32), FVec F S128x256 .f32 ← k0_part125 i arg2 harg2 arg3 harg3 arg4 harg4 arg5 harg5 arg6 harg6 arg7 harg7 arg8 harg8 arg9 harg9 arg10 harg10 arg11 harg11 arg12 harg12 v557_0 v557_1 v609 v619 v627 v629
  let ⟨v677, v687, v695, v696, cst_507⟩ : Σ' (v677 : FVec F S8x256 .f32) (v687 : FVec F S128x256 .bf16) (v695 : FVec F S8x256 .f32) (v696 : FVec F S256x256 .bf16), FVec F S128x256 .f32 ← k0_part126 i arg2 harg2 arg3 harg3 arg4 harg4 arg5 harg5 arg6 harg6 arg7 harg7 arg8 harg8 arg9 harg9 arg10 harg10 arg11 harg11 arg12 harg12 v557_0 v557_1 v643 v653 v661 v663
  let ⟨v711, v721, v729, v730⟩ : Σ' (v711 : FVec F S8x256 .f32) (v721 : FVec F S128x256 .bf16) (v729 : FVec F S8x256 .f32), FVec F S256x256 .bf16 ← k0_part127 i arg2 harg2 arg3 harg3 arg4 harg4 arg5 harg5 arg6 harg6 arg7 harg7 arg8 harg8 arg9 harg9 arg10 harg10 arg11 harg11 arg12 harg12 v557_0 v557_1 v677 v687 v695 v696 cst_507
  let ⟨v745, v755, v760, v763⟩ : Σ' (v745 : FVec F S8x256 .f32) (v755 : FVec F S128x256 .bf16) (v760 : FVec F S256x256 .f32), FVec F S8x256 .f32 ← k0_part128 i arg2 harg2 arg3 harg3 arg4 harg4 arg5 harg5 arg6 harg6 arg7 harg7 arg8 harg8 arg9 harg9 arg10 harg10 arg11 harg11 arg12 harg12 v557_0 v557_1 v711 v721 v729 v730
  let ⟨v779, v789, v794, v796⟩ : Σ' (v779 : FVec F S8x256 .f32) (v789 : FVec F S128x256 .bf16) (v794 : FVec F S256x256 .f32), FVec F S8x256 .f32 ← k0_part129 i arg2 harg2 arg3 harg3 arg4 harg4 arg5 harg5 arg6 harg6 arg7 harg7 arg8 harg8 arg9 harg9 arg10 harg10 arg11 harg11 arg12 harg12 v557_0 v557_1 v745 v755 v760
  let ⟨v797, v813, v823, v828, v829⟩ : Σ' (v797 : FVec F S8x256 .f32) (v813 : FVec F S8x256 .f32) (v823 : FVec F S128x256 .bf16) (v828 : FVec F S256x256 .f32), FVec F S32x8x256 .f32 ← k0_part130 i arg2 harg2 arg3 harg3 arg4 harg4 arg5 harg5 arg6 harg6 arg7 harg7 arg8 harg8 arg9 harg9 arg10 harg10 arg11 harg11 arg12 harg12 v557_0 v557_1 v763 v779 v789 v794 v796
  let ⟨v831, v847, v857, v862, v863⟩ : Σ' (v831 : FVec F S8x256 .f32) (v847 : FVec F S8x256 .f32) (v857 : FVec F S128x256 .bf16) (v862 : FVec F S256x256 .f32), FVec F S32x8x256 .f32 ← k0_part131 i arg2 harg2 arg3 harg3 arg4 harg4 arg5 harg5 arg6 harg6 arg7 harg7 arg8 harg8 arg9 harg9 arg10 harg10 arg11 harg11 arg12 harg12 v557_0 v557_1 v797 v813 v823 v828 v829
  let ⟨v865, v881, v891, v896⟩ : Σ' (v865 : FVec F S8x256 .f32) (v881 : FVec F S8x256 .f32) (v891 : FVec F S128x256 .bf16), FVec F S256x256 .f32 ← k0_part132 i arg2 harg2 arg3 harg3 arg4 harg4 arg5 harg5 arg6 harg6 arg7 harg7 arg8 harg8 arg9 harg9 arg10 harg10 arg11 harg11 arg12 harg12 v557_0 v557_1 v831 v847 v857 v862 v863
  let ⟨v899, v915, v925, v929⟩ : Σ' (v899 : FVec F S8x256 .f32) (v915 : FVec F S8x256 .f32) (v925 : FVec F S128x256 .bf16), FVec F S256x256 .f32 ← k0_part133 i arg2 harg2 arg3 harg3 arg4 harg4 arg5 harg5 arg6 harg6 arg7 harg7 arg8 harg8 arg9 harg9 arg10 harg10 arg11 harg11 arg12 harg12 v557_0 v557_1 v865 v881 v891 v896
  let ⟨v933, v949, v959, v961, v962⟩ : Σ' (v933 : FVec F S8x256 .f32) (v949 : FVec F S8x256 .f32) (v959 : FVec F S128x256 .bf16) (v961 : FVec F S256x256 .f32), FVec F S256x256 .f32 ← k0_part134 i arg2 harg2 arg3 harg3 arg4 harg4 arg5 harg5 arg6 harg6 arg7 harg7 arg8 harg8 arg9 harg9 arg10 harg10 arg11 harg11 arg12 harg12 v557_0 v557_1 v899 v915 v925 v929
  let ⟨v967, v983, v993, v995⟩ : Σ' (v967 : FVec F S8x256 .f32) (v983 : FVec F S8x256 .f32) (v993 : FVec F S128x256 .bf16), FVec F S256x256 .f32 ← k0_part135 i arg2 harg2 arg3 harg3 arg4 harg4 arg5 harg5 arg6 harg6 arg7 harg7 arg8 harg8 arg9 harg9 arg10 harg10 arg11 harg11 arg12 harg12 v557_1 v933 v949 v959 v961 v962
  let ⟨v1001, v1017, v1027, v1028⟩ : Σ' (v1001 : FVec F S8x256 .f32) (v1017 : FVec F S8x256 .f32) (v1027 : FVec F S128x256 .bf16), Vec F S1x256x256 .f32 ← k0_part136 i arg2 harg2 arg3 harg3 arg4 harg4 arg5 harg5 arg6 harg6 arg7 harg7 arg8 harg8 arg9 harg9 arg10 harg10 arg11 harg11 arg12 harg12 v557_0 v557_1 v967 v983 v993 v995
  let ⟨v1035, v1051, v1061⟩ : Σ' (v1035 : FVec F S8x256 .f32) (v1051 : FVec F S8x256 .f32), FVec F S128x256 .bf16 ← k0_part137 i arg2 harg2 arg3 harg3 arg4 harg4 arg5 harg5 arg6 harg6 arg7 harg7 arg8 harg8 arg9 harg9 arg10 harg10 arg11 harg11 arg12 harg12 v557_0 v557_1 v1001 v1017 v1027 v1028
  let ⟨v1069, v1085, v1095⟩ : Σ' (v1069 : FVec F S8x256 .f32) (v1085 : FVec F S8x256 .f32), FVec F S128x256 .bf16 ← k0_part138 i arg2 harg2 arg3 harg3 arg4 harg4 arg5 harg5 arg6 harg6 arg7 harg7 arg8 harg8 arg9 harg9 arg10 harg10 arg11 harg11 arg12 harg12 v557_0 v557_1 v1035 v1051 v1061
  let ⟨v1103, v1119, v1129⟩ : Σ' (v1103 : FVec F S8x256 .f32) (v1119 : FVec F S8x256 .f32), FVec F S128x256 .bf16 ← k0_part139 i arg2 harg2 arg3 harg3 arg4 harg4 arg5 harg5 arg6 harg6 arg7 harg7 arg8 harg8 arg9 harg9 arg10 harg10 arg11 harg11 arg12 harg12 v557_0 v557_1 v1069 v1085 v1095
  let ⟨v1137, v1153, v1163⟩ : Σ' (v1137 : FVec F S8x256 .f32) (v1153 : FVec F S8x256 .f32), FVec F S128x256 .bf16 ← k0_part140 i arg2 harg2 arg3 harg3 arg4 harg4 arg5 harg5 arg6 harg6 arg7 harg7 arg8 harg8 arg9 harg9 arg10 harg10 arg11 harg11 arg12 harg12 v557_0 v557_1 v1103 v1119 v1129
  let ⟨v1171, v1187, v1196⟩ : Σ' (v1171 : FVec F S8x256 .f32) (v1187 : FVec F S8x256 .f32), Vec F S1x128x256 .bf16 ← k0_part141 i arg2 harg2 arg3 harg3 arg4 harg4 arg5 harg5 arg6 harg6 arg7 harg7 arg8 harg8 arg9 harg9 arg10 harg10 arg11 harg11 arg12 harg12 v557_0 v557_1 v1137 v1153 v1163
  let ⟨v1205, v1221⟩ : Σ' (v1205 : FVec F S8x256 .f32), FVec F S8x256 .f32 ← k0_part142 i arg2 harg2 arg3 harg3 arg4 harg4 arg5 harg5 arg6 harg6 arg7 harg7 arg8 harg8 arg9 harg9 arg10 harg10 arg11 harg11 arg12 harg12 v557_0 v557_1 v1171 v1187 v1196
  let ⟨v1239, v1255⟩ : Σ' (v1239 : FVec F S8x256 .f32), FVec F S8x256 .f32 ← k0_part143 i arg2 harg2 arg3 harg3 arg4 harg4 arg5 harg5 arg6 harg6 arg7 harg7 arg8 harg8 arg9 harg9 arg10 harg10 arg11 harg11 arg12 harg12 v557_0 v557_1 v1205 v1221
  let ⟨v1273, v1289⟩ : Σ' (v1273 : FVec F S8x256 .f32), FVec F S8x256 .f32 ← k0_part144 i arg2 harg2 arg3 harg3 arg4 harg4 arg5 harg5 arg6 harg6 arg7 harg7 arg8 harg8 arg9 harg9 arg10 harg10 arg11 harg11 arg12 harg12 v557_0 v557_1 v1239 v1255
  let ⟨v1307, v1323⟩ : Σ' (v1307 : FVec F S8x256 .f32), FVec F S8x256 .f32 ← k0_part145 i arg2 harg2 arg3 harg3 arg4 harg4 arg5 harg5 arg6 harg6 arg7 harg7 arg8 harg8 arg9 harg9 arg10 harg10 arg11 harg11 arg12 harg12 v557_0 v557_1 v1273 v1289
  let ⟨v1341, v1357, v1365⟩ : Σ' (v1341 : FVec F S8x256 .f32) (v1357 : FVec F S8x256 .f32), FVec F S1x128x256 .f32 ← k0_part146 i arg2 harg2 arg3 harg3 arg4 harg4 arg5 harg5 arg6 harg6 arg7 harg7 arg8 harg8 arg9 harg9 arg10 harg10 arg11 harg11 arg12 harg12 v557_0 v557_1 v1307 v1323
  let ⟨v1375, v1391, v1396⟩ : Σ' (v1375 : FVec F S8x256 .f32) (v1391 : FVec F S8x256 .f32), FVec F S128x256 .f32 ← k0_part147 i arg2 harg2 arg3 harg3 arg4 harg4 arg5 harg5 arg6 harg6 arg7 harg7 arg8 harg8 arg9 harg9 arg10 harg10 arg11 harg11 arg12 harg12 v557_0 v557_1 v1341 v1357 v1365
  let ⟨v1409, v1425, v1430, v1431⟩ : Σ' (v1409 : FVec F S8x256 .f32) (v1425 : FVec F S8x256 .f32) (v1430 : FVec F S128x256 .f32), Vec F S1x128x256 .f32 ← k0_part148 i arg2 harg2 arg3 harg3 arg4 harg4 arg5 harg5 arg6 harg6 arg7 harg7 arg8 harg8 arg9 harg9 arg10 harg10 arg11 harg11 arg12 harg12 v557_0 v557_1 v1375 v1391 v1396
  let ⟨v1443, v1459, v1464⟩ : Σ' (v1443 : FVec F S8x256 .f32) (v1459 : FVec F S8x256 .f32), FVec F S128x256 .f32 ← k0_part149 i arg2 harg2 arg3 harg3 arg4 harg4 arg5 harg5 arg6 harg6 arg7 harg7 arg8 harg8 arg9 harg9 arg10 harg10 arg11 harg11 arg12 harg12 v557_0 v557_1 v1409 v1425 v1430 v1431
  let ⟨v1477, v1493, v1498⟩ : Σ' (v1477 : FVec F S8x256 .f32) (v1493 : FVec F S8x256 .f32), FVec F S128x256 .f32 ← k0_part150 i arg2 harg2 arg3 harg3 arg4 harg4 arg5 harg5 arg6 harg6 arg7 harg7 arg8 harg8 arg9 harg9 arg10 harg10 arg11 harg11 arg12 harg12 v557_0 v557_1 v1443 v1459 v1464
  let ⟨v1511, v1527, v1532⟩ : Σ' (v1511 : FVec F S8x256 .f32) (v1527 : FVec F S8x256 .f32), FVec F S128x256 .f32 ← k0_part151 i arg2 harg2 arg3 harg3 arg4 harg4 arg5 harg5 arg6 harg6 arg7 harg7 arg8 harg8 arg9 harg9 arg10 harg10 arg11 harg11 arg12 harg12 v557_0 v557_1 v1477 v1493 v1498
  let ⟨v1545, v1561, v1566⟩ : Σ' (v1545 : FVec F S8x256 .f32) (v1561 : FVec F S8x256 .f32), FVec F S128x256 .f32 ← k0_part152 i arg2 harg2 arg3 harg3 arg4 harg4 arg5 harg5 arg6 harg6 arg7 harg7 arg8 harg8 arg9 harg9 arg10 harg10 arg11 harg11 arg12 harg12 v557_0 v557_1 v1511 v1527 v1532
  let ⟨v1579, v1595, v1597, v1599⟩ : Σ' (v1579 : FVec F S8x256 .f32) (v1595 : FVec F S8x256 .f32) (v1597 : FVec F S128x256 .f32), FVec F S128x256 .f32 ← k0_part153 i arg2 harg2 arg3 harg3 arg4 harg4 arg5 harg5 arg6 harg6 arg7 harg7 arg8 harg8 arg9 harg9 arg10 harg10 arg11 harg11 arg12 harg12 v557_0 v557_1 v1545 v1561 v1566
  let ⟨v1613, v1629, v1631, v1632⟩ : Σ' (v1613 : FVec F S8x256 .f32) (v1629 : FVec F S8x256 .f32) (v1631 : FVec F S128x256 .f32), Vec F S1x128x256 .f32 ← k0_part154 i arg2 harg2 arg3 harg3 arg4 harg4 arg5 harg5 arg6 harg6 arg7 harg7 arg8 harg8 arg9 harg9 arg10 harg10 arg11 harg11 arg12 harg12 v557_0 v557_1 v1579 v1595 v1597 v1599
  let ⟨v1647, v1663, v1665⟩ : Σ' (v1647 : FVec F S8x256 .f32) (v1663 : FVec F S8x256 .f32), FVec F S128x256 .f32 ← k0_part155 i arg2 harg2 arg3 harg3 arg4 harg4 arg5 harg5 arg6 harg6 arg7 harg7 arg8 harg8 arg9 harg9 arg10 harg10 arg11 harg11 arg12 harg12 v557_0 v557_1 v1613 v1629 v1631 v1632
  let v1703 : FVec F S256x128 .bf16 ← k0_part156 i arg2 harg2 arg3 harg3 arg4 harg4 arg5 harg5 arg6 harg6 arg7 harg7 arg8 harg8 arg9 harg9 arg10 harg10 arg11 harg11 arg12 harg12 v18 v1647 v1663 v1665
  let v1706 : Vec F S1x256x128 .bf16 ← Prog.lift (.load arg9 (Rect.unit (s := S1x8192x128) ![0, 7936, 0] S1x256x128.size inb_S1x8192x128_S1x256x128_0_7936_0).toLoadRect (View.loadsAt_vmem h_S1x256x128))
  Prog.lift (.store arg9 (Rect.unit (s := S1x8192x128) ![0, 7936, 0] S1x256x128.size inb_S1x8192x128_S1x256x128_0_7936_0) (k0_pay1 v1703) Finset.univ (View.stores_vmem h_S1x256x128 (harg9.storeExact_slice rfl _ packedbf16_S1x8192x128_S1x256x128_0_7936_0) (fun _ => rfl)) (.inl rfl))
  pure ⟨⟩

/-- The printed body is what is before the loop, the loop, and what is after it. -/
theorem body_split (i : grid0.Coords) (arg2 : Memref sig .tc .vmem S4x64 .f32) (harg2 : arg2.IsWhole) (arg3 : Memref sig .tc .vmem S128x1 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .bf16) (harg6 : arg6.IsWhole) (arg7 : Memref sig .tc .vmem S1x256x128 .bf16) (harg7 : arg7.IsWhole) (arg8 : Memref sig .tc .vmem S1x128x256 .bf16) (harg8 : arg8.IsWhole) (arg9 : Memref sig .tc .vmem S1x8192x128 .bf16) (harg9 : arg9.IsWhole) (arg10 : Memref sig .tc .vmem S2x8448x256 .f32) (harg10 : arg10.IsWhole) (arg11 : Memref sig .tc .vmem S2x8448x256 .f32) (harg11 : arg11.IsWhole) (arg12 : Memref sig .tc .vmem S2x128x256 .f32) (harg12 : arg12.IsWhole) :
    cc0_diffattn (F := F) i arg2 harg2 arg3 harg3 arg4 harg4 arg5 harg5 arg6 harg6 arg7 harg7 arg8 harg8 arg9 harg9 arg10 harg10 arg11 harg11 arg12 harg12 = (do
      let x ← pre i arg2 harg2 arg3 harg3 arg4 harg4 arg5 harg5 arg6 harg6 arg7 harg7 arg8 harg8 arg9 harg9 arg10 harg10 arg11 harg11 arg12 harg12
      let m ← Scf.Loop.for k0_t1_loop k0_t1_ok x.2.2 (loopBody arg3 arg4 arg5 arg6 arg7 arg8 arg9 harg9 arg10 arg11 arg12 x.1 x.2.1)
      post i arg2 harg2 arg3 harg3 arg4 harg4 arg5 harg5 arg6 harg6 arg7 harg7 arg8 harg8 arg9 harg9 arg10 harg10 arg11 harg11 arg12 harg12 x.2.1 m.1 m.2) := by
  rw [cc0_diffattn_eq_skeleton]
  unfold cc0_diffattn_skel pre post
  simp only [k0_part122_eq_skeleton]
  unfold k0_part122_skel
  simp only [body_eq, bind_assoc, pure_bind]

/-- What is before the loop is the first tile's scores. -/
theorem pre_eq (i : grid0.Coords) (arg2 : Memref sig .tc .vmem S4x64 .f32) (harg2 : arg2.IsWhole) (arg3 : Memref sig .tc .vmem S128x1 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .bf16) (harg6 : arg6.IsWhole) (arg7 : Memref sig .tc .vmem S1x256x128 .bf16) (harg7 : arg7.IsWhole) (arg8 : Memref sig .tc .vmem S1x128x256 .bf16) (harg8 : arg8.IsWhole) (arg9 : Memref sig .tc .vmem S1x8192x128 .bf16) (harg9 : arg9.IsWhole) (arg10 : Memref sig .tc .vmem S2x8448x256 .f32) (harg10 : arg10.IsWhole) (arg11 : Memref sig .tc .vmem S2x8448x256 .f32) (harg11 : arg11.IsWhole) (arg12 : Memref sig .tc .vmem S2x128x256 .f32) (harg12 : arg12.IsWhole) :
    pre (F := F) i arg2 harg2 arg3 harg3 arg4 harg4 arg5 harg5 arg6 harg6 arg7 harg7 arg8 harg8 arg9 harg9 arg10 harg10 arg11 harg11 arg12 harg12 = (do
      let l : Vec F S4x64 .f32 ← Prog.lift (.load arg2 (Rect.unit (s := S4x64) ![0, 0] S4x64.size inb_S4x64_S4x64_0_0).toLoadRect (View.loadsAt_vmem h_S4x64))
      let q : Vec F S1x256x128 .bf16 ← Prog.lift (.load arg4 (Rect.unit (s := S1x8192x128) ![0, 0, 0] S1x256x128.size inb_S1x8192x128_S1x256x128_0_0_0).toLoadRect (View.loadsAt_vmem h_S1x256x128))
      let M ← scAll arg5 arg7 arg10 (qm0 k0_pay1006 q) (qm1 k0_pay1006 q)
      pure (k0_pay1006, k0_pay1007 l, (mxRow M.1, mxRow M.2))) := by
  apply eq_of_rebuilt
  sl_kernel_rfl

/-- What is after the loop is the last tile's probabilities and its end. -/
theorem post_eq (i : grid0.Coords) (arg2 : Memref sig .tc .vmem S4x64 .f32) (harg2 : arg2.IsWhole) (arg3 : Memref sig .tc .vmem S128x1 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .bf16) (harg6 : arg6.IsWhole) (arg7 : Memref sig .tc .vmem S1x256x128 .bf16) (harg7 : arg7.IsWhole) (arg8 : Memref sig .tc .vmem S1x128x256 .bf16) (harg8 : arg8.IsWhole) (arg9 : Memref sig .tc .vmem S1x8192x128 .bf16) (harg9 : arg9.IsWhole) (arg10 : Memref sig .tc .vmem S2x8448x256 .f32) (harg10 : arg10.IsWhole) (arg11 : Memref sig .tc .vmem S2x8448x256 .f32) (harg11 : arg11.IsWhole) (arg12 : Memref sig .tc .vmem S2x128x256 .f32) (harg12 : arg12.IsWhole) (v18 : FVec F S1x1 .f32) (m0 m1 : FVec F S1x256 .f32) :
    post i arg2 harg2 arg3 harg3 arg4 harg4 arg5 harg5 arg6 harg6 arg7 harg7 arg8 harg8 arg9 harg9 arg10 harg10 arg11 harg11 arg12 harg12 v18 m0 m1 = (do
      let L ← prAll arg6 arg8 arg11 arg12 (m0, m1)
      fin arg12 arg3 arg9 harg9 v18 L ![0, 7936, 0] inb_S1x8192x128_S1x256x128_0_7936_0 packedbf16_S1x8192x128_S1x256x128_0_7936_0) := by
  apply eq_of_rebuilt
  sl_kernel_rfl

end Cert.Proof.AttnIdeal

end
-- ==== Proof.AttnIdeal.Triples.lean ====
/- What the pieces of the attention kernel's body do to the memory, as functions of its contents: a program run on
   owned buffers returns a value and leaves the buffers at contents that are functions of those it found. -/
module

public import proofs.«01_k».proof.Proof.AttnIdeal.ProgEq
public import Idealize.ShloMosaic.Lib.Exec
public import Idealize.ShloMosaic.Lib.Pipeline.Kit
public import Idealize.ShloMosaic.Lib.VecWindow

@[expose] public section

set_option synthInstance.maxSize 4096
set_option maxRecDepth 65536

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The weakest precondition of a piece of the body on core `c`. -/
abbrev WP (c : Dev nD) (E : Set ℕ) {α : Type} (p : Pr F α) (Q : α → sProp 𝕄) : sProp 𝕄 :=
  wp frame (wpE (defs₀ (F := F)) Variants.none (c : Thread nD τ) none) E p Q

/-- A load of a box of an owned buffer returns that window of its contents. -/
theorem wp_ld (c : Dev nD) (E : Set ℕ) {s : Shape} {e : EltTy} (m : Memref sig .tc .vmem s e) (X : s.Idx → Elt F e)
    (off size : Fin s.rank → ℕ) (inb : ∀ a, off a + size a ≤ s.size a)
    (hl : m.view.LoadsAt (Rect.unit off size inb).toLoadRect) (Q : ((Rect.unit off size inb).shape.Idx → Elt F e) → sProp 𝕄) :
    iprop(owns (c : Thread nD τ) m fullShare X ∗ (owns (c : Thread nD τ) m fullShare X -∗ Q (VecWindow.window X off size inb)))
      ⊢ WP c E (Prog.lift (.load m (Rect.unit off size inb).toLoadRect hl)) Q := by
  unfold owns
  iintro ⟨⟨%f, %hf, H⟩, HK⟩
  subst hf
  iapply (wp_load (defs := defs₀ (F := F)) Variants.none (c : Thread nD τ) none E (m := m) (q := fullShare) (f := f) (Q := Q) (hl := hl) (k := .ret) (View.setOn_subset_set _ _)) $$ [H]
  · iexact H
  iintro H
  iapply (le_wp_ret _ _ _ _ _)
  rw [View.readAt_unit m.view f inb rfl inb]
  iapply HK
  iexists f
  isplitr
  · ipureintro; rfl
  iexact H

/-- A store of a box of an owned buffer puts the payload over that window of its contents. -/
theorem wp_st (c : Dev nD) (E : Set ℕ) {s : Shape} {e : EltTy} (m : Memref sig .tc .vmem s e) (X : s.Idx → Elt F e)
    (off size : Fin s.rank → ℕ) (inb : ∀ a, off a + size a ≤ s.size a) (w : (Rect.unit off size inb).shape.Idx → Elt F e)
    (hx : (m.access (Rect.unit off size inb)).Stores Finset.univ) (hm : Finset.univ = Finset.univ ∨ ∀ a, (Rect.unit off size inb).stride a = 1)
    (Q : PUnit → sProp 𝕄) :
    iprop(owns (c : Thread nD τ) m fullShare X ∗ (owns (c : Thread nD τ) m fullShare (VecWindow.put X off size w) -∗ Q ⟨⟩))
      ⊢ WP c E (Prog.lift (.store m (Rect.unit off size inb) w Finset.univ hx hm)) Q := by
  unfold owns
  iintro ⟨⟨%f, %hf, H⟩, HK⟩
  subst hf
  iapply (wp_store_writes₀ (defs := defs₀ (F := F)) Variants.none (c : Thread nD τ) none E (m := m) (f := f) (Q := Q) (w := w) (hx := hx) (hm := hm) (k := .ret) (View.set_slice_subset _ _)) $$ [H]
  · iexact H
  iintro H
  iapply (le_wp_ret _ _ _ _ _)
  iapply HK
  iexists _
  isplitr
  · ipureintro
    exact View.read_writes_cons_put m.view f inb w [] rfl
  iexact H

/-! ## Programs as functions of the memory's contents -/

/-- The contents of the buffers that the body writes: the scores being written, the scores being read, the accumulators and the
    output's tile. -/
structure St (F : FTy → Type) [FloatOps F] where
  /-- the scores being written -/
  w : Vec F S2x8448x256 .f32
  /-- the scores being read -/
  r : Vec F S2x8448x256 .f32
  /-- the accumulators -/
  a : Vec F S2x128x256 .f32
  /-- the output -/
  o : Vec F S1x8192x128 .bf16

/-- The contents of the buffers that the body only reads. -/
structure Inp (F : FTy → Type) [FloatOps F] where
  /-- the norm's weights -/
  g : Vec F S128x1 .f32
  /-- the queries -/
  q : Vec F S1x8192x128 .bf16
  /-- the keys -/
  k : Vec F S1x8192x128 .bf16
  /-- the values -/
  v : Vec F S1x128x8192 .bf16
  /-- the context's keys -/
  kc : Vec F S1x256x128 .bf16
  /-- the context's values -/
  vc : Vec F S1x128x256 .bf16

/-- The buffers that the body only reads, and its output. -/
structure Regs where
  /-- the norm's weights -/
  a3 : Memref sig .tc .vmem S128x1 .f32
  /-- the queries -/
  a4 : Memref sig .tc .vmem S1x8192x128 .bf16
  /-- the keys -/
  a5 : Memref sig .tc .vmem S1x8192x128 .bf16
  /-- the values -/
  a6 : Memref sig .tc .vmem S1x128x8192 .bf16
  /-- the context's keys -/
  a7 : Memref sig .tc .vmem S1x256x128 .bf16
  /-- the context's values -/
  a8 : Memref sig .tc .vmem S1x128x256 .bf16
  /-- the output -/
  a9 : Memref sig .tc .vmem S1x8192x128 .bf16

/-- All the buffers owned, the inputs at `I` and the rest at `σ`. -/
def Own (c : Dev nD) (R : Regs) (sw sr : Memref sig .tc .vmem S2x8448x256 .f32) (ac : Memref sig .tc .vmem S2x128x256 .f32) (I : Inp F) (σ : St F) : sProp 𝕄 :=
  iprop(owns (c : Thread nD τ) sw fullShare σ.w ∗ owns (c : Thread nD τ) sr fullShare σ.r ∗ owns (c : Thread nD τ) ac fullShare σ.a
    ∗ owns (c : Thread nD τ) R.a9 fullShare σ.o ∗ owns (c : Thread nD τ) R.a3 fullShare I.g ∗ owns (c : Thread nD τ) R.a4 fullShare I.q
    ∗ owns (c : Thread nD τ) R.a5 fullShare I.k ∗ owns (c : Thread nD τ) R.a6 fullShare I.v ∗ owns (c : Thread nD τ) R.a7 fullShare I.kc
    ∗ owns (c : Thread nD τ) R.a8 fullShare I.vc)

/-- What a program does: a value and the contents that it leaves. -/
abbrev SF (F : FTy → Type) [FloatOps F] (α : Type) := St F → α × St F

/-- One after the other. -/
def sbind {α β : Type} (f : SF F α) (g : α → SF F β) : SF F β := fun σ => g (f σ).1 (f σ).2

/-- A value that is known, returned. -/
def rd {α : Type} (a : α) : SF F α := fun σ => (a, σ)

/-- The program does what the function says. -/
def Tri (c : Dev nD) (E : Set ℕ) (X : St F → sProp 𝕄) {α : Type} (p : Pr F α) (f : SF F α) : Prop :=
  ∀ (σ : St F) (Q : α → sProp 𝕄), iprop(X σ ∗ (X (f σ).2 -∗ Q (f σ).1)) ⊢ WP c E p Q

theorem Tri.pure {c : Dev nD} {E : Set ℕ} {X : St F → sProp 𝕄} {α : Type} (a : α) : Tri c E X (Pure.pure a : Pr F α) (rd a) := by
  intro σ Q
  dsimp only [rd]
  iintro ⟨H, HK⟩
  iapply (le_wp_ret _ _ _ _ _)
  iapply HK
  iexact H

theorem Tri.bind {c : Dev nD} {E : Set ℕ} {X : St F → sProp 𝕄} {α β : Type} {p : Pr F α} {f : SF F α} {k : α → Pr F β} {g : α → SF F β}
    (hp : Tri c E X p f) (hk : ∀ a, Tri c E X (k a) (g a)) : Tri c E X (p >>= k) (sbind f g) := by
  intro σ Q
  unfold WP
  rw [wp_bind]
  refine BIBase.Entails.trans ?_ (hp σ _)
  iintro ⟨H, HK⟩
  isplitl [H]
  · iexact H
  iintro H
  iapply (hk _ _ Q)
  isplitl [H]
  · iexact H
  iexact HK

/-- The steps, as functions. -/
def stepsF {α : Type} (f : (j : ℕ) → j < 32 → α → SF F α) : (n j : ℕ) → j + n = 32 → α → SF F α
  | 0, _, _, c => rd c
  | n + 1, j, h, c => sbind (f j (by omega) c) (stepsF f n (j + 1) (by omega))

theorem Tri.steps {c : Dev nD} {E : Set ℕ} {X : St F → sProp 𝕄} {α : Type} {p : (j : ℕ) → j < 32 → α → Pr F α} {f : (j : ℕ) → j < 32 → α → SF F α}
    (h : ∀ j hj x, Tri c E X (p j hj x) (f j hj x)) : ∀ (n j : ℕ) (hj : j + n = 32) (x : α), Tri c E X (steps p n j hj x) (stepsF f n j hj x)
  | 0, _, _, x => Tri.pure x
  | n + 1, j, hj, x => (h j _ x).bind fun y => Tri.steps h n (j + 1) _ y

section
variable (c : Dev nD) (E : Set ℕ) (R : Regs) (sw sr : Memref sig .tc .vmem S2x8448x256 .f32) (ac : Memref sig .tc .vmem S2x128x256 .f32) (I : Inp F)

/-- A store of scores, as a function. -/
def putSF (mi off : ℕ) (s : FVec F S256x256 .f32) : SF F PUnit := fun σ =>
  (⟨⟩, { σ with w := VecWindow.put σ.w ![mi, off, 0] S1x256x256.size (scr3 s) })
/-- A load of scores, as a function. -/
def getSF (mi off : ℕ) (h0 : mi < 2) (h : off + 256 ≤ 8448) : SF F (Vec F S1x256x256 .f32) := fun σ =>
  (VecWindow.window σ.r ![mi, off, 0] S1x256x256.size (inbS mi off h0 h), σ)
/-- A load of an accumulator, as a function. -/
def getAF (mi : ℕ) (h0 : mi < 2) : SF F (Vec F S1x128x256 .f32) := fun σ =>
  (VecWindow.window σ.a ![mi, 0, 0] S1x128x256.size (inbA mi h0), σ)
/-- A store of an accumulator, as a function. -/
def putAF (mi : ℕ) (x : FVec F S1x128x256 .f32) : SF F PUnit := fun σ =>
  (⟨⟩, { σ with a := VecWindow.put σ.a ![mi, 0, 0] S1x128x256.size x })

theorem tri_putS (mi off : ℕ) (h0 : mi < 2) (h : off + 256 ≤ 8448) (s : FVec F S256x256 .f32) :
    Tri c E (Own c R sw sr ac I) (putS sw mi off h0 h s) (putSF mi off s) := by
  intro σ Q
  unfold putS WP Own
  rw [wp_bind]
  iintro ⟨⟨Hw, HR⟩, HK⟩
  iapply (wp_ld c E sw σ.w _ _ _ _ _)
  isplitl [Hw]
  · iexact Hw
  iintro Hw
  iapply (wp_st c E sw σ.w _ _ _ _ _ _ _)
  isplitl [Hw]
  · iexact Hw
  iintro Hw
  iapply HK
  isplitl [Hw]
  · iexact Hw
  iexact HR

theorem tri_getS (mi off : ℕ) (h0 : mi < 2) (h : off + 256 ≤ 8448) :
    Tri c E (Own c R sw sr ac I) (getS (F := F) sr mi off h0 h) (getSF mi off h0 h) := by
  intro σ Q
  unfold getS Own
  dsimp only [getSF]
  iintro ⟨⟨Hw, Hr, HR⟩, HK⟩
  iapply (wp_ld c E sr σ.r _ _ _ _ _)
  isplitl [Hr]
  · iexact Hr
  iintro Hr
  iapply HK
  isplitl [Hw]
  · iexact Hw
  isplitl [Hr]
  · iexact Hr
  iexact HR

theorem tri_getA (mi : ℕ) (h0 : mi < 2) :
    Tri c E (Own c R sw sr ac I) (getA (F := F) ac mi h0) (getAF mi h0) := by
  intro σ Q
  unfold getA Own
  dsimp only [getAF]
  iintro ⟨⟨Hw, Hr, Ha, HR⟩, HK⟩
  iapply (wp_ld c E ac σ.a _ _ _ _ _)
  isplitl [Ha]
  · iexact Ha
  iintro Ha
  iapply HK
  isplitl [Hw]
  · iexact Hw
  isplitl [Hr]
  · iexact Hr
  isplitl [Ha]
  · iexact Ha
  iexact HR

theorem tri_putA (mi : ℕ) (h0 : mi < 2) (x : FVec F S1x128x256 .f32) :
    Tri c E (Own c R sw sr ac I) (putA ac mi h0 x) (putAF mi x) := by
  intro σ Q
  unfold putA getA WP Own
  rw [wp_bind]
  iintro ⟨⟨Hw, Hr, Ha, HR⟩, HK⟩
  iapply (wp_ld c E ac σ.a _ _ _ _ _)
  isplitl [Ha]
  · iexact Ha
  iintro Ha
  iapply (wp_st c E ac σ.a _ _ _ _ _ _ _)
  isplitl [Ha]
  · iexact Ha
  iintro Ha
  iapply HK
  isplitl [Hw]
  · iexact Hw
  isplitl [Hr]
  · iexact Hr
  isplitl [Ha]
  · iexact Ha
  iexact HR

/-- The first block of keys. -/
def kB0 : Vec F S1x256x128 .bf16 := VecWindow.window I.kc ![0, 0, 0] S1x256x128.size inb_S1x256x128_S1x256x128_0_0_0
/-- The first block of values. -/
def vB0 : Vec F S1x128x256 .bf16 := VecWindow.window I.vc ![0, 0, 0] S1x128x256.size inb_S1x128x256_S1x128x256_0_0_0
/-- Block `j + 1` of the keys. -/
def kB (j : ℕ) (hj : j < 32) : Vec F S1x256x128 .bf16 := VecWindow.window I.k ![0, 256 * j, 0] S1x256x128.size (inbK (256 * j) (by omega))
/-- Block `j + 1` of the values. -/
def vB (j : ℕ) (hj : j < 32) : Vec F S1x128x256 .bf16 := VecWindow.window I.v ![0, 0, 256 * j] S1x128x256.size (inbV (256 * j) (by omega))

theorem tri_ldKC : Tri c E (Own c R sw sr ac I) (ldKC (F := F) R.a7)
    (rd (kB0 I)) := by
  intro σ Q
  unfold ldKC Own
  dsimp only [rd, kB0, vB0, kB, vB]
  iintro ⟨⟨Hw, Hr, Ha, Ho, Hg, Hq, Hk, Hv, Hkc, Hvc⟩, HK⟩
  iapply (wp_ld c E R.a7 I.kc _ _ _ _ _)
  isplitl [Hkc]
  · iexact Hkc
  iintro Hkc
  iapply HK
  iframe

theorem tri_ldVC : Tri c E (Own c R sw sr ac I) (ldVC (F := F) R.a8)
    (rd (vB0 I)) := by
  intro σ Q
  unfold ldVC Own
  dsimp only [rd, kB0, vB0, kB, vB]
  iintro ⟨⟨Hw, Hr, Ha, Ho, Hg, Hq, Hk, Hv, Hkc, Hvc⟩, HK⟩
  iapply (wp_ld c E R.a8 I.vc _ _ _ _ _)
  isplitl [Hvc]
  · iexact Hvc
  iintro Hvc
  iapply HK
  iframe

theorem tri_ldK (j : ℕ) (hj : j < 32) (h : 256 * j + 256 ≤ 8192) : Tri c E (Own c R sw sr ac I) (ldK (F := F) R.a5 (256 * j) h) (rd (kB I j hj)) := by
  intro σ Q
  unfold ldK Own
  dsimp only [rd, kB0, vB0, kB, vB]
  iintro ⟨⟨Hw, Hr, Ha, Ho, Hg, Hq, Hk, Hv, Hkc, Hvc⟩, HK⟩
  iapply (wp_ld c E R.a5 I.k _ _ _ _ _)
  isplitl [Hk]
  · iexact Hk
  iintro Hk
  iapply HK
  iframe

theorem tri_ldV (j : ℕ) (hj : j < 32) (h : 256 * j + 256 ≤ 8192) : Tri c E (Own c R sw sr ac I) (ldV (F := F) R.a6 (256 * j) h) (rd (vB I j hj)) := by
  intro σ Q
  unfold ldV Own
  dsimp only [rd, kB0, vB0, kB, vB]
  iintro ⟨⟨Hw, Hr, Ha, Ho, Hg, Hq, Hk, Hv, Hkc, Hvc⟩, HK⟩
  iapply (wp_ld c E R.a6 I.v _ _ _ _ _)
  isplitl [Hv]
  · iexact Hv
  iintro Hv
  iapply HK
  iframe

/-- The first block's scores, as a function. -/
def sc0F (q0 q1 : FVec F S256x128 .bf16) : SF F (Two F) :=
  sbind (rd (kB0 I)) fun k => sbind (putSF 0 0 (scr q0 k)) fun _ => sbind (putSF 1 0 (scr q1 k)) fun _ =>
    rd (mx8 (scr q0 k), mx8 (scr q1 k))

theorem tri_sc0 (q0 q1 : FVec F S256x128 .bf16) : Tri c E (Own c R sw sr ac I) (sc0 R.a7 sw q0 q1) (sc0F I q0 q1) :=
  (tri_ldKC c E R sw sr ac I).bind fun _ => (tri_putS c E R sw sr ac I _ _ _ _ _).bind fun _ =>
    (tri_putS c E R sw sr ac I _ _ _ _ _).bind fun _ => Tri.pure _

/-- A later block's scores, as a function. -/
def scSF (q0 q1 : FVec F S256x128 .bf16) (j : ℕ) (hj : j < 32) (M : Two F) : SF F (Two F) :=
  sbind (rd (kB I j hj)) fun k => sbind (putSF 0 (256 * (j + 1)) (scr q0 k)) fun _ => sbind (putSF 1 (256 * (j + 1)) (scr q1 k)) fun _ =>
    rd (maximumf M.1 (mx8 (scr q0 k)), maximumf M.2 (mx8 (scr q1 k)))

theorem tri_scS (q0 q1 : FVec F S256x128 .bf16) (j : ℕ) (hj : j < 32) (M : Two F) :
    Tri c E (Own c R sw sr ac I) (scS R.a5 sw q0 q1 j hj M) (scSF I q0 q1 j hj M) :=
  (tri_ldK c E R sw sr ac I j hj _).bind fun _ => (tri_putS c E R sw sr ac I _ _ _ _ _).bind fun _ =>
    (tri_putS c E R sw sr ac I _ _ _ _ _).bind fun _ => Tri.pure _

/-- The first block's probabilities, as a function. -/
def pr0F (m : FVec F S1x256 .f32 × FVec F S1x256 .f32) : SF F (Two F) :=
  sbind (rd (vB0 I)) fun v => sbind (getSF 0 0 (by decide) (by decide)) fun s0 => sbind (putAF 0 (acc0 (pvm v (prb m.1 s0)))) fun _ =>
    sbind (getSF 1 0 (by decide) (by decide)) fun s1 => sbind (putAF 1 (acc0 (pvm v (prb m.2 s1)))) fun _ =>
    rd (sm8 (prb m.1 s0), sm8 (prb m.2 s1))

theorem tri_pr0 (m : FVec F S1x256 .f32 × FVec F S1x256 .f32) : Tri c E (Own c R sw sr ac I) (pr0 R.a8 sr ac m) (pr0F I m) :=
  (tri_ldVC c E R sw sr ac I).bind fun _ => (tri_getS c E R sw sr ac I _ _ _ _).bind fun _ =>
    (tri_putA c E R sw sr ac I _ _ _).bind fun _ => (tri_getS c E R sw sr ac I _ _ _ _).bind fun _ =>
    (tri_putA c E R sw sr ac I _ _ _).bind fun _ => Tri.pure _

/-- A later block's probabilities, as a function. -/
def prSF (m : FVec F S1x256 .f32 × FVec F S1x256 .f32) (j : ℕ) (hj : j < 32) (L : Two F) : SF F (Two F) :=
  sbind (rd (vB I j hj)) fun v => sbind (getSF 0 (256 * (j + 1)) (by decide) (by omega)) fun s0 => sbind (getAF 0 (by decide)) fun b0 =>
    sbind (putAF 0 (accS b0 (pvm v (prb m.1 s0)))) fun _ =>
    sbind (getSF 1 (256 * (j + 1)) (by decide) (by omega)) fun s1 => sbind (getAF 1 (by decide)) fun b1 =>
    sbind (putAF 1 (accS b1 (pvm v (prb m.2 s1)))) fun _ =>
    rd (addf L.1 (sm8 (prb m.1 s0)), addf L.2 (sm8 (prb m.2 s1)))

theorem tri_prS (m : FVec F S1x256 .f32 × FVec F S1x256 .f32) (j : ℕ) (hj : j < 32) (L : Two F) :
    Tri c E (Own c R sw sr ac I) (prS R.a6 sr ac m j hj L) (prSF I m j hj L) :=
  (tri_ldV c E R sw sr ac I j hj _).bind fun _ => (tri_getS c E R sw sr ac I _ _ _ _).bind fun _ =>
    (tri_getA c E R sw sr ac I _ _).bind fun _ => (tri_putA c E R sw sr ac I _ _ _).bind fun _ =>
    (tri_getS c E R sw sr ac I _ _ _ _).bind fun _ => (tri_getA c E R sw sr ac I _ _).bind fun _ =>
    (tri_putA c E R sw sr ac I _ _ _).bind fun _ => Tri.pure _

/-- The prologue, as a function. -/
def scAllF (q0 q1 : FVec F S256x128 .bf16) : SF F (Two F) :=
  sbind (sc0F I q0 q1) (stepsF (fun j hj M => scSF I q0 q1 j hj M) 32 0 rfl)

theorem tri_scAll (q0 q1 : FVec F S256x128 .bf16) : Tri c E (Own c R sw sr ac I) (scAll R.a5 R.a7 sw q0 q1) (scAllF I q0 q1) :=
  (tri_sc0 c E R sw sr ac I q0 q1).bind (Tri.steps (fun j hj x => tri_scS c E R sw sr ac I q0 q1 j hj x) 32 0 rfl)

/-- The epilogue's probabilities, as a function. -/
def prAllF (m : FVec F S1x256 .f32 × FVec F S1x256 .f32) : SF F (Two F) :=
  sbind (pr0F I m) (stepsF (fun j hj L => prSF I m j hj L) 32 0 rfl)

theorem tri_prAll (m : FVec F S1x256 .f32 × FVec F S1x256 .f32) : Tri c E (Own c R sw sr ac I) (prAll R.a6 R.a8 sr ac m) (prAllF I m) :=
  (tri_pr0 c E R sw sr ac I m).bind (Tri.steps (fun j hj x => tri_prS c E R sw sr ac I m j hj x) 32 0 rfl)

/-- A step of a stage, as a function. -/
def stepF (q0 q1 : FVec F S256x128 .bf16) (m : FVec F S1x256 .f32 × FVec F S1x256 .f32) (j : ℕ) (hj : j < 32) (x : Two F × Two F) : SF F (Two F × Two F) :=
  sbind (scSF I q0 q1 j hj x.1) fun M => sbind (prSF I m j hj x.2) fun L => rd (M, L)

/-- A stage, as a function. -/
def stageF (q0 q1 : FVec F S256x128 .bf16) (m : FVec F S1x256 .f32 × FVec F S1x256 .f32) : SF F (Two F × Two F) :=
  sbind (sbind (sc0F I q0 q1) fun M => sbind (pr0F I m) fun L => rd (M, L)) (stepsF (stepF I q0 q1 m) 32 0 rfl)

theorem tri_stage (q0 q1 : FVec F S256x128 .bf16) (m : FVec F S1x256 .f32 × FVec F S1x256 .f32) :
    Tri c E (Own c R sw sr ac I) (stage R.a5 R.a6 R.a7 R.a8 sw sr ac q0 q1 m) (stageF I q0 q1 m) := by
  unfold stage stageF
  refine Tri.bind ?_ fun x => ?_
  · refine (tri_sc0 c E R sw sr ac I q0 q1).bind fun M => ?_
    refine (tri_pr0 c E R sw sr ac I m).bind fun L => ?_
    exact Tri.pure _
  · refine Tri.steps (f := stepF I q0 q1 m) (fun j hj y => ?_) 32 0 rfl x
    unfold stepF
    refine (tri_scS c E R sw sr ac I q0 q1 j hj y.1).bind fun M => ?_
    refine (tri_prS c E R sw sr ac I m j hj y.2).bind fun L => ?_
    exact Tri.pure _

/-- A tile's end, as a function. -/
def finF (lam : FVec F S1x1 .f32) (L : Two F) (off : Fin 3 → ℕ) : SF F PUnit :=
  sbind (getAF 0 (by decide)) fun b0 => sbind (getAF 1 (by decide)) fun b1 σ =>
    (⟨⟩, { σ with o := VecWindow.put σ.o off S1x256x128.size (outT (dif lam L.1 L.2 b0 b1) (VecWindow.window I.g ![0, 0] S128x1.size inb_S128x1_S128x1_0_0)) })

theorem tri_fin (h9 : R.a9.IsWhole) (lam : FVec F S1x1 .f32) (L : Two F) (off : Fin 3 → ℕ) (hi : ∀ a, off a + S1x256x128.size a ≤ S1x8192x128.size a)
    (hp : (Rect.unit (s := S1x8192x128) off S1x256x128.size hi).PackedRows (EltTy.packing .bf16)) :
    Tri c E (Own c R sw sr ac I) (fin ac R.a3 R.a9 h9 lam L off hi hp) (finF I lam L off) := by
  refine (tri_getA c E R sw sr ac I _ _).bind fun b0 => (tri_getA c E R sw sr ac I _ _).bind fun b1 => ?_
  intro σ Q
  unfold WP Own
  rw [wp_bind]
  iintro ⟨⟨Hw, Hr, Ha, Ho, Hg, HR⟩, HK⟩
  iapply (wp_ld c E R.a3 I.g _ _ _ _ _)
  isplitl [Hg]
  · iexact Hg
  iintro Hg
  rw [wp_bind]
  iapply (wp_ld c E R.a9 σ.o _ _ _ _ _)
  isplitl [Ho]
  · iexact Ho
  iintro Ho
  iapply (wp_st c E R.a9 σ.o _ _ _ _ _ _ _)
  isplitl [Ho]
  · iexact Ho
  iintro Ho
  iapply HK
  iframe

/-- A trip, as a function. -/
def tripF (v2 : IVec S256x128 1) (lam : FVec F S1x1 .f32) (m : FVec F S1x256 .f32 × FVec F S1x256 .f32)
    (offq : Fin 3 → ℕ) (hq : ∀ a, offq a + S1x256x128.size a ≤ S1x8192x128.size a) (off : Fin 3 → ℕ) : SF F (FVec F S1x256 .f32 × FVec F S1x256 .f32) :=
  sbind (rd (VecWindow.window I.q offq S1x256x128.size hq)) fun q => sbind (stageF I (qm0 v2 q) (qm1 v2 q) m) fun x =>
    sbind (finF I lam x.2 off) fun _ => rd (mxRow x.1.1, mxRow x.1.2)

theorem tri_trip (h9 : R.a9.IsWhole) (v2 : IVec S256x128 1) (lam : FVec F S1x1 .f32) (m : FVec F S1x256 .f32 × FVec F S1x256 .f32)
    (offq : Fin 3 → ℕ) (hq : ∀ a, offq a + S1x256x128.size a ≤ S1x8192x128.size a)
    (off : Fin 3 → ℕ) (hi : ∀ a, off a + S1x256x128.size a ≤ S1x8192x128.size a)
    (hp : (Rect.unit (s := S1x8192x128) off S1x256x128.size hi).PackedRows (EltTy.packing .bf16)) :
    Tri c E (Own c R sw sr ac I) (trip R.a3 R.a4 R.a5 R.a6 R.a7 R.a8 R.a9 h9 sw sr ac v2 lam m offq hq off hi hp) (tripF I v2 lam m offq hq off) := by
  refine Tri.bind (f := rd (VecWindow.window I.q offq S1x256x128.size hq)) ?_ fun q => ?_
  · intro σ Q
    unfold Own
    dsimp only [rd]
    iintro ⟨⟨Hw, Hr, Ha, Ho, Hg, Hq, HR⟩, HK⟩
    iapply (wp_ld c E R.a4 I.q _ _ _ _ _)
    isplitl [Hq]
    · iexact Hq
    iintro Hq
    iapply HK
    iframe
  · exact (tri_stage c E R sw sr ac I _ _ _).bind fun _ => (tri_fin c E R sw sr ac I h9 _ _ _ _ _).bind fun _ => Tri.pure _

end

end Cert.Proof.AttnIdeal

end
-- ==== Proof.AttnIdeal.Eval.lean ====
/- What the attention kernel's body computes, tile by tile: the maxima, the sums and the accumulators of a tile of queries
   as recursions over the 33 blocks of keys, and the tile that is stored. -/
module

public import proofs.«01_k».proof.Proof.AttnIdeal.Triples

@[expose] public section

set_option synthInstance.maxSize 4096
set_option maxRecDepth 65536

noncomputable section

namespace Cert.Proof.AttnIdeal

open Cert.AttnIdeal Cert.AttnIdeal.Gen
open Idealize.ShloMosaic Idealize.ShloMosaic.TcCoe Idealize.ShloMosaic.Tactic

variable {F : FTy → Type} [FloatOps F]

/-- An invariant of the steps. -/
theorem stepsF_inv {α : Type} {f : (j : ℕ) → j < 32 → α → SF F α} (P : ℕ → α → St F → Prop)
    (h : ∀ j hj x σ, P j x σ → P (j + 1) (f j hj x σ).1 (f j hj x σ).2) :
    ∀ (n j : ℕ) (hj : j + n = 32) (x : α) (σ : St F), P j x σ → P 32 (stepsF f n j hj x σ).1 (stepsF f n j hj x σ).2
  | 0, j, hj, x, σ, hp => by
    obtain rfl : j = 32 := by omega
    exact hp
  | n + 1, j, hj, x, σ, hp => stepsF_inv P h n (j + 1) (by omega) _ _ (h j (by omega) x σ hp)

theorem sbind_fst {α β : Type} (f : SF F α) (g : α → SF F β) (σ : St F) : sbind f g σ = g (f σ).1 (f σ).2 := rfl

attribute [local irreducible] stepsF

section
variable (I : Inp F)

/-- Block `j` of the keys, the context's block first. -/
def KB : ℕ → Vec F S1x256x128 .bf16
  | 0 => kB0 I
  | j + 1 => if h : j < 32 then kB I j h else kB0 I
/-- Block `j` of the values, the context's block first. -/
def VB : ℕ → Vec F S1x128x256 .bf16
  | 0 => vB0 I
  | j + 1 => if h : j < 32 then vB I j h else vB0 I

/-- The running maximum of the scores after block `n`. -/
def Mf (q : FVec F S256x128 .bf16) : ℕ → FVec F S8x256 .f32
  | 0 => mx8 (scr q (KB I 0))
  | n + 1 => maximumf (Mf q n) (mx8 (scr q (KB I (n + 1))))
/-- The row of maxima of a tile. -/
def mrow (q : FVec F S256x128 .bf16) : FVec F S1x256 .f32 := mxRow (Mf I q 32)
/-- The probabilities of block `i`, the row `m` subtracted from the scores. -/
def PB (q : FVec F S256x128 .bf16) (m : FVec F S1x256 .f32) (i : ℕ) : FVec F S256x256 .f32 := prb m (scr3 (scr q (KB I i)))
/-- The running sum of the probabilities after block `n`. -/
def Lf (q : FVec F S256x128 .bf16) (m : FVec F S1x256 .f32) : ℕ → FVec F S8x256 .f32
  | 0 => sm8 (PB I q m 0)
  | n + 1 => addf (Lf q m n) (sm8 (PB I q m (n + 1)))
/-- The running weighted sum of the values after block `n`. -/
def Af (q : FVec F S256x128 .bf16) (m : FVec F S1x256 .f32) : ℕ → FVec F S1x128x256 .f32
  | 0 => acc0 (pvm (VB I 0) (PB I q m 0))
  | n + 1 => accS (Af q m n) (pvm (VB I (n + 1)) (PB I q m (n + 1)))

/-- The tile that is stored, of a tile of queries. -/
def tileO (v2 : IVec S256x128 1) (lam : FVec F S1x1 .f32) (q : Vec F S1x256x128 .bf16) : FVec F S1x256x128 .bf16 :=
  outT (dif lam (Lf I (qm0 v2 q) (mrow I (qm0 v2 q)) 32) (Lf I (qm1 v2 q) (mrow I (qm1 v2 q)) 32)
      (Af I (qm0 v2 q) (mrow I (qm0 v2 q)) 32) (Af I (qm1 v2 q) (mrow I (qm1 v2 q)) 32))
    (VecWindow.window I.g ![0, 0] S128x1.size inb_S128x1_S128x1_0_0)

/-- The scores' buffer holds the scores of the first `n` blocks. -/
def SB (q0 q1 : FVec F S256x128 .bf16) (n : ℕ) (X : Vec F S2x8448x256 .f32) : Prop :=
  ∀ (i : ℕ) (h : 256 * i + 256 ≤ 8448), i < n →
    VecWindow.window X ![0, 256 * i, 0] S1x256x256.size (inbS 0 (256 * i) (by decide) h) = scr3 (scr q0 (KB I i))
    ∧ VecWindow.window X ![1, 256 * i, 0] S1x256x256.size (inbS 1 (256 * i) (by decide) h) = scr3 (scr q1 (KB I i))

theorem SB_put (q0 q1 : FVec F S256x128 .bf16) (n : ℕ) (hn : 256 * n + 256 ≤ 8448) (X : Vec F S2x8448x256 .f32) (hX : SB I q0 q1 n X) :
    SB I q0 q1 (n + 1) (VecWindow.put (VecWindow.put X ![0, 256 * n, 0] S1x256x256.size (scr3 (scr q0 (KB I n)))) ![1, 256 * n, 0] S1x256x256.size
      (scr3 (scr q1 (KB I n)))) := by
  intro i h hi
  rcases Nat.lt_succ_iff_lt_or_eq.mp hi with hlt | rfl
  · obtain ⟨h0, h1⟩ := hX i h hlt
    constructor
    · rw [VecWindow.window_put_of_disjoint _ _ _ _ _ _ _ (1 : Fin 3) (Or.inl (show 256 * i + 256 ≤ 256 * n by omega)),
        VecWindow.window_put_of_disjoint _ _ _ _ _ _ _ (1 : Fin 3) (Or.inl (show 256 * i + 256 ≤ 256 * n by omega))]
      exact h0
    · rw [VecWindow.window_put_of_disjoint _ _ _ _ _ _ _ (1 : Fin 3) (Or.inl (show 256 * i + 256 ≤ 256 * n by omega)),
        VecWindow.window_put_of_disjoint _ _ _ _ _ _ _ (1 : Fin 3) (Or.inl (show 256 * i + 256 ≤ 256 * n by omega))]
      exact h1
  · constructor
    · rw [VecWindow.window_put_of_disjoint _ _ _ _ _ _ _ (0 : Fin 3) (Or.inl (show 0 + 1 ≤ 1 by decide))]
      exact VecWindow.window_put_same _ _ _ _ _
    · exact VecWindow.window_put_same _ _ _ _ _

theorem KB_succ (j : ℕ) (hj : j < 32) : KB I (j + 1) = kB I j hj := dif_pos hj
theorem VB_succ (j : ℕ) (hj : j < 32) : VB I (j + 1) = vB I j hj := dif_pos hj

/-- The maxima are right and the scores are in place after block `j`. -/
def PW (q0 q1 : FVec F S256x128 .bf16) (j : ℕ) (M : Two F) (σ : St F) : Prop :=
  M = (Mf I q0 j, Mf I q1 j) ∧ SB I q0 q1 (j + 1) σ.w

/-- The sums and the accumulators are right after block `j`. -/
def PR (q0 q1 : FVec F S256x128 .bf16) (j : ℕ) (L : Two F) (σ : St F) : Prop :=
  L = (Lf I q0 (mrow I q0) j, Lf I q1 (mrow I q1) j)
  ∧ VecWindow.window σ.a ![0, 0, 0] S1x128x256.size (inbA 0 (by decide)) = Af I q0 (mrow I q0) j
  ∧ VecWindow.window σ.a ![1, 0, 0] S1x128x256.size (inbA 1 (by decide)) = Af I q1 (mrow I q1) j

theorem PW_congr {q0 q1 : FVec F S256x128 .bf16} {j : ℕ} {M : Two F} {σ σ' : St F} (h : PW I q0 q1 j M σ) (hw : σ'.w = σ.w) : PW I q0 q1 j M σ' :=
  ⟨h.1, hw ▸ h.2⟩
theorem PR_congr {q0 q1 : FVec F S256x128 .bf16} {j : ℕ} {M : Two F} {σ σ' : St F} (h : PR I q0 q1 j M σ) (hw : σ'.a = σ.a) : PR I q0 q1 j M σ' :=
  ⟨h.1, hw ▸ h.2⟩

theorem sc0_PW (q0 q1 : FVec F S256x128 .bf16) (σ : St F) : PW I q0 q1 0 (sc0F I q0 q1 σ).1 (sc0F I q0 q1 σ).2 :=
  ⟨rfl, SB_put I q0 q1 0 (by decide) σ.w (fun i _ h => absurd h (Nat.not_lt_zero i))⟩

theorem scS_PW (q0 q1 : FVec F S256x128 .bf16) (j : ℕ) (hj : j < 32) (M : Two F) (σ : St F) (h : PW I q0 q1 j M σ) :
    PW I q0 q1 (j + 1) (scSF I q0 q1 j hj M σ).1 (scSF I q0 q1 j hj M σ).2 := by
  obtain ⟨rfl, hs⟩ := h
  refine ⟨?_, ?_⟩
  · show (_, _) = (_, _)
    rw [Mf, Mf, KB_succ I j hj]
    rfl
  · have := SB_put I q0 q1 (j + 1) (by omega) σ.w hs
    rw [KB_succ I j hj] at this
    exact this

theorem scS_rest (q0 q1 : FVec F S256x128 .bf16) (j : ℕ) (hj : j < 32) (M : Two F) (σ : St F) :
    (scSF I q0 q1 j hj M σ).2.r = σ.r ∧ (scSF I q0 q1 j hj M σ).2.a = σ.a ∧ (scSF I q0 q1 j hj M σ).2.o = σ.o := ⟨rfl, rfl, rfl⟩

theorem acc_disjoint (X : Vec F S2x128x256 .f32) (x : FVec F S1x128x256 .f32) :
    VecWindow.window (VecWindow.put X ![1, 0, 0] S1x128x256.size x) ![0, 0, 0] S1x128x256.size (inbA 0 (by decide))
      = VecWindow.window X ![0, 0, 0] S1x128x256.size (inbA 0 (by decide)) :=
  VecWindow.window_put_of_disjoint _ _ _ _ _ _ _ (0 : Fin 3) (Or.inl (show 0 + 1 ≤ 1 by decide))
theorem acc_disjoint' (X : Vec F S2x128x256 .f32) (x : FVec F S1x128x256 .f32) :
    VecWindow.window (VecWindow.put X ![0, 0, 0] S1x128x256.size x) ![1, 0, 0] S1x128x256.size (inbA 1 (by decide))
      = VecWindow.window X ![1, 0, 0] S1x128x256.size (inbA 1 (by decide)) :=
  VecWindow.window_put_of_disjoint _ _ _ _ _ _ _ (0 : Fin 3) (Or.inr (show 0 + 1 ≤ 1 by decide))

theorem pr0_PR (q0 q1 : FVec F S256x128 .bf16) (σ : St F) (hr : SB I q0 q1 33 σ.r) :
    PR I q0 q1 0 (pr0F I (mrow I q0, mrow I q1) σ).1 (pr0F I (mrow I q0, mrow I q1) σ).2 := by
  obtain ⟨h0, h1⟩ := hr 0 (by decide) (by decide)
  simp only [pr0F, sbind, rd, getSF, putAF]
  refine ⟨?_, ?_, ?_⟩
  · exact congrArg₂ (fun a b => (sm8 (prb (mrow I q0) a), sm8 (prb (mrow I q1) b))) h0 h1
  · dsimp only
    rw [acc_disjoint]
    refine (VecWindow.window_put_same _ _ _ _ _).trans ?_
    exact congrArg (fun a => acc0 (pvm (vB0 I) (prb (mrow I q0) a))) h0
  · refine (VecWindow.window_put_same _ _ _ _ _).trans ?_
    exact congrArg (fun a => acc0 (pvm (vB0 I) (prb (mrow I q1) a))) h1

theorem prS_PR (q0 q1 : FVec F S256x128 .bf16) (j : ℕ) (hj : j < 32) (L : Two F) (σ : St F) (hr : SB I q0 q1 33 σ.r) (h : PR I q0 q1 j L σ) :
    PR I q0 q1 (j + 1) (prSF I (mrow I q0, mrow I q1) j hj L σ).1 (prSF I (mrow I q0, mrow I q1) j hj L σ).2 := by
  obtain ⟨h0, h1⟩ := hr (j + 1) (by omega) (by omega)
  obtain ⟨rfl, ha0, ha1⟩ := h
  simp only [prSF, sbind, rd, getSF, putAF, getAF]
  refine ⟨?_, ?_, ?_⟩
  · rw [h0, h1, Lf, Lf]
    rfl
  · dsimp only
    rw [acc_disjoint]
    refine (VecWindow.window_put_same _ _ _ _ _).trans ?_
    rw [h0, ha0, Af, VB_succ I j hj]
    rfl
  · refine (VecWindow.window_put_same _ _ _ _ _).trans ?_
    rw [acc_disjoint', h1, ha1, Af, VB_succ I j hj]
    rfl

/-- The prologue leaves the first tile's scores in place and returns its maxima. -/
theorem scAll_spec (q0 q1 : FVec F S256x128 .bf16) (σ : St F) :
    PW I q0 q1 32 (scAllF I q0 q1 σ).1 (scAllF I q0 q1 σ).2 := by
  have h := stepsF_inv (f := fun j hj M => scSF I q0 q1 j hj M) (fun j M σ' => PW I q0 q1 j M σ') (fun j hj M σ' h => scS_PW I q0 q1 j hj M σ' h) 32 0 rfl
    (sc0F I q0 q1 σ).1 (sc0F I q0 q1 σ).2 (sc0_PW I q0 q1 σ)
  unfold scAllF
  rw [sbind_fst]
  exact h

/-- The epilogue returns the last tile's sums and leaves its accumulators in place. -/
theorem prAll_spec (q0 q1 : FVec F S256x128 .bf16) (σ : St F) (hr : SB I q0 q1 33 σ.r) :
    PR I q0 q1 32 (prAllF I (mrow I q0, mrow I q1) σ).1 (prAllF I (mrow I q0, mrow I q1) σ).2
    ∧ (prAllF I (mrow I q0, mrow I q1) σ).2.o = σ.o := by
  have h := stepsF_inv (f := fun j hj L => prSF I (mrow I q0, mrow I q1) j hj L) (fun j L σ' => (PR I q0 q1 j L σ' ∧ σ'.o = σ.o) ∧ σ'.r = σ.r)
    (fun j hj L σ' h => ⟨⟨prS_PR I q0 q1 j hj L σ' (h.2 ▸ hr) h.1.1, h.1.2⟩, h.2⟩) 32 0 rfl
    (pr0F I (mrow I q0, mrow I q1) σ).1 (pr0F I (mrow I q0, mrow I q1) σ).2 ⟨⟨pr0_PR I q0 q1 σ hr, rfl⟩, rfl⟩
  unfold prAllF
  rw [sbind_fst]
  exact h.1

/-- A step of a stage keeps both. -/
theorem step_spec (q0 q1 p0 p1 : FVec F S256x128 .bf16) (σ₀ : St F) (hr : SB I p0 p1 33 σ₀.r) (j : ℕ) (hj : j < 32) (x : Two F × Two F) (σ : St F)
    (h : (PW I q0 q1 j x.1 σ ∧ PR I p0 p1 j x.2 σ ∧ σ.o = σ₀.o) ∧ σ.r = σ₀.r) :
    let y := stepF I q0 q1 (mrow I p0, mrow I p1) j hj x σ
    (PW I q0 q1 (j + 1) y.1.1 y.2 ∧ PR I p0 p1 (j + 1) y.1.2 y.2 ∧ y.2.o = σ₀.o) ∧ y.2.r = σ₀.r := by
  obtain ⟨⟨h1, h2, h3⟩, h4⟩ := h
  have a := scS_PW I q0 q1 j hj x.1 σ h1
  have b := prS_PR I p0 p1 j hj x.2 (scSF I q0 q1 j hj x.1 σ).2 (by rw [(scS_rest I q0 q1 j hj x.1 σ).1, h4]; exact hr)
    (PR_congr I h2 (scS_rest I q0 q1 j hj x.1 σ).2.1)
  exact ⟨⟨PW_congr I a rfl, b, h3⟩, h4⟩

/-- A stage does both, the scores of one tile and the probabilities of another. -/
theorem stage_spec (q0 q1 p0 p1 : FVec F S256x128 .bf16) (σ : St F) (hr : SB I p0 p1 33 σ.r) :
    let y := stageF I q0 q1 (mrow I p0, mrow I p1) σ
    PW I q0 q1 32 y.1.1 y.2 ∧ PR I p0 p1 32 y.1.2 y.2 ∧ y.2.o = σ.o := by
  have b := pr0_PR I p0 p1 (sc0F I q0 q1 σ).2 hr
  have h := stepsF_inv (f := stepF I q0 q1 (mrow I p0, mrow I p1))
    (fun j (x : Two F × Two F) σ' => (PW I q0 q1 j x.1 σ' ∧ PR I p0 p1 j x.2 σ' ∧ σ'.o = σ.o) ∧ σ'.r = σ.r)
    (fun j hj x σ' h => step_spec I q0 q1 p0 p1 σ hr j hj x σ' h) 32 0 rfl
    ((sc0F I q0 q1 σ).1, (pr0F I (mrow I p0, mrow I p1) (sc0F I q0 q1 σ).2).1) (pr0F I (mrow I p0, mrow I p1) (sc0F I q0 q1 σ).2).2
    ⟨⟨PW_congr I (sc0_PW I q0 q1 σ) rfl, b, rfl⟩, rfl⟩
  unfold stageF
  rw [sbind_fst]
  exact h.1

/-- A tile's end stores the tile. -/
theorem fin_spec (v2 : IVec S256x128 1) (lam : FVec F S1x1 .f32) (p : Vec F S1x256x128 .bf16) (L : Two F) (off : Fin 3 → ℕ) (σ : St F)
    (h : PR I (qm0 v2 p) (qm1 v2 p) 32 L σ) :
    (finF I lam L off σ).2 = { σ with o := VecWindow.put σ.o off S1x256x128.size (tileO I v2 lam p) } := by
  obtain ⟨rfl, h0, h1⟩ := h
  simp only [finF, sbind, getAF]
  rw [h0, h1]
  rfl

/-- The rows of maxima that a tile's scores give. -/
theorem PW_rows {q0 q1 : FVec F S256x128 .bf16} {M : Two F} {σ : St F} (h : PW I q0 q1 32 M σ) :
    (mxRow M.1, mxRow M.2) = (mrow I q0, mrow I q1) := by
  obtain ⟨rfl, _⟩ := h
  unfold mrow
  rfl

end

attribute [irreducible] Mf Lf Af

end Cert.Proof.AttnIdeal

end
-- ==== Proof.AttnIdeal.Body.lean ====
/- The attention kernel's body run: from its operands and any scratch it leaves in its output the tiles that `tileO` names. -/
module

public import proofs.«01_k».proof.Proof.AttnIdeal.Eval

@[expose] public section

set_option synthInstance.maxSize 4096
set_option maxRecDepth 65536

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] stepsF

/-! ## The loop's conditions and offsets -/

theorem trips_eq : k0_t1_loop.trips = 31 := by decide +kernel
theorem cond_iff : ∀ t : Fin k0_t1_loop.trips, (k0_cond1 t = 1#1 ↔ t.val % 2 = 0) := by decide +kernel
theorem off1_eq : ∀ t : Fin k0_t1_loop.trips, k0_off1 t = ![0, 256 * (t.val + 1), 0] := by decide +kernel
theorem off2_eq : ∀ t : Fin k0_t1_loop.trips, k0_off2 t = ![0, 256 * t.val, 0] := by decide +kernel
theorem off3_eq : ∀ t : Fin k0_t1_loop.trips, k0_off3 t = ![0, 256 * (t.val + 1), 0] := by decide +kernel
theorem off4_eq : ∀ t : Fin k0_t1_loop.trips, k0_off4 t = ![0, 256 * t.val, 0] := by decide +kernel

section
variable (I : Inp F) (lam : FVec F S1x1 .f32)

/-- Tile `t` of the queries. -/
def tq (t : ℕ) : Vec F S1x256x128 .bf16 :=
  if h : 256 * t + 256 ≤ 8192 then VecWindow.window I.q ![0, 256 * t, 0] S1x256x128.size (inbK (256 * t) h)
  else VecWindow.window I.q ![0, 0, 0] S1x256x128.size (inbK 0 (by decide))

/-- The first `n` tiles of the output are in place. -/
def OutOk (n : ℕ) (o : Vec F S1x8192x128 .bf16) : Prop :=
  ∀ (t : ℕ) (h : 256 * t + 256 ≤ 8192), t < n →
    VecWindow.window o ![0, 256 * t, 0] S1x256x128.size (inbK (256 * t) h) = tileO I k0_pay1006 lam (tq I t)

theorem OutOk_put (n : ℕ) (hn : 256 * n + 256 ≤ 8192) (o : Vec F S1x8192x128 .bf16) (ho : OutOk I lam n o) :
    OutOk I lam (n + 1) (VecWindow.put o ![0, 256 * n, 0] S1x256x128.size (tileO I k0_pay1006 lam (tq I n))) := by
  intro t h ht
  rcases Nat.lt_succ_iff_lt_or_eq.mp ht with hlt | rfl
  · rw [VecWindow.window_put_of_disjoint _ _ _ _ _ _ _ (1 : Fin 3) (Or.inl (show 256 * t + 256 ≤ 256 * n by omega))]
    exact ho t h hlt
  · exact VecWindow.window_put_same _ _ _ _ _

/-- What holds before trip `n`: tile `n`'s maxima are carried, its scores are in the buffer to be read and the tiles
    before it are stored. -/
def Good (n : ℕ) (m : FVec F S1x256 .f32 × FVec F S1x256 .f32) (σ : St F) : Prop :=
  m = (mrow I (qm0 k0_pay1006 (tq I n)), mrow I (qm1 k0_pay1006 (tq I n)))
  ∧ SB I (qm0 k0_pay1006 (tq I n)) (qm1 k0_pay1006 (tq I n)) 33 σ.r ∧ OutOk I lam n σ.o

/-- The two scores' buffers exchanged. -/
def St.swap (σ : St F) : St F := ⟨σ.r, σ.w, σ.a, σ.o⟩

theorem pre_good (σ : St F) :
    let y := scAllF I (qm0 k0_pay1006 (tq I 0)) (qm1 k0_pay1006 (tq I 0)) σ
    Good I lam 0 (mxRow y.1.1, mxRow y.1.2) y.2.swap := by
  have h := scAll_spec I (qm0 k0_pay1006 (tq I 0)) (qm1 k0_pay1006 (tq I 0)) σ
  exact ⟨PW_rows I h, h.2, fun t _ h => absurd h (Nat.not_lt_zero t)⟩

theorem trip_good (n : ℕ) (hn : n < 31) (m : FVec F S1x256 .f32 × FVec F S1x256 .f32) (σ : St F) (h : Good I lam n m σ)
    (offq : Fin 3 → ℕ) (hq : ∀ a, offq a + S1x256x128.size a ≤ S1x8192x128.size a) (eq : offq = ![0, 256 * (n + 1), 0])
    (off : Fin 3 → ℕ) (eo : off = ![0, 256 * n, 0]) :
    Good I lam (n + 1) (tripF I k0_pay1006 lam m offq hq off σ).1 (tripF I k0_pay1006 lam m offq hq off σ).2.swap := by
  subst eq; subst eo
  obtain ⟨rfl, hs, ho⟩ := h
  have hw : VecWindow.window I.q ![0, 256 * (n + 1), 0] S1x256x128.size hq = tq I (n + 1) := by
    unfold tq
    rw [dif_pos (by omega)]
  obtain ⟨hM, hP, hO⟩ := stage_spec I (qm0 k0_pay1006 (tq I (n + 1))) (qm1 k0_pay1006 (tq I (n + 1))) (qm0 k0_pay1006 (tq I n)) (qm1 k0_pay1006 (tq I n)) σ hs
  unfold tripF
  rw [sbind_fst]
  dsimp only [rd]
  rw [hw, sbind_fst, sbind_fst]
  dsimp only [rd]
  rw [fin_spec I k0_pay1006 lam (tq I n) _ _ _ hP]
  refine ⟨PW_rows I hM, hM.2, ?_⟩
  · show OutOk I lam (n + 1) (VecWindow.put _ _ _ _)
    rw [hO]
    exact OutOk_put I lam n (by omega) σ.o ho

end

section
variable (c : Dev nD) (E : Set ℕ) (R : Regs) (h9 : R.a9.IsWhole) (b0 b1 : Memref sig .tc .vmem S2x8448x256 .f32) (ac : Memref sig .tc .vmem S2x128x256 .f32)
  (I : Inp F) (lam : FVec F S1x1 .f32)

theorem Own_swap (sw sr : Memref sig .tc .vmem S2x8448x256 .f32) (σ : St F) : Own c R sw sr ac I σ ⊢ Own c R sr sw ac I σ.swap := by
  unfold Own St.swap
  iintro ⟨Hw, Hr, HR⟩
  isplitl [Hr]
  · iexact Hr
  isplitl [Hw]
  · iexact Hw
  iexact HR

/-- The loop's invariant: before an even trip the scores to be read are in the first buffer, before an odd one in the second. -/
def inv (n : ℕ) (m : FVec F S1x256 .f32 × FVec F S1x256 .f32) : sProp 𝕄 :=
  iprop(∃ σ : St F, ⌜Good I lam n m σ⌝ ∗ Own c R (if n % 2 = 0 then b1 else b0) (if n % 2 = 0 then b0 else b1) ac I σ)

include h9 in
theorem inv_step (t : Fin k0_t1_loop.trips) (m : FVec F S1x256 .f32 × FVec F S1x256 .f32) :
    inv c R b0 b1 ac I lam t.val m
      ⊢ WP c E (loopBody R.a3 R.a4 R.a5 R.a6 R.a7 R.a8 R.a9 h9 b0 b1 ac k0_pay1006 lam t m) (inv c R b0 b1 ac I lam (t.val + 1)) := by
  have ht : t.val < 31 := trips_eq ▸ t.isLt
  unfold inv
  iintro ⟨%σ, %hg, H⟩
  unfold loopBody
  by_cases h : k0_cond1 t = 1#1
  · have he := (cond_iff t).mp h
    rw [dif_pos h, if_pos he, if_pos he]
    iapply (tri_trip c E R b1 b0 ac I h9 k0_pay1006 lam m _ _ _ _ _ σ _)
    isplitl [H]
    · iexact H
    iintro H
    iexists _
    isplitr
    · ipureintro
      exact trip_good I lam t.val ht m σ hg _ (k0_off1_inb t h) (off1_eq t) _ (off2_eq t)
    rw [if_neg (by omega), if_neg (by omega)]
    iapply (Own_swap c R ac I b1 b0 _)
    iexact H
  · have he : ¬ t.val % 2 = 0 := fun h' => h ((cond_iff t).mpr h')
    rw [dif_neg h, if_neg he, if_neg he]
    iapply (tri_trip c E R b0 b1 ac I h9 k0_pay1006 lam m _ _ _ _ _ σ _)
    isplitl [H]
    · iexact H
    iintro H
    iexists _
    isplitr
    · ipureintro
      exact trip_good I lam t.val ht m σ hg _ (k0_off3_inb t h) (off3_eq t) _ (off4_eq t)
    rw [if_pos (by omega), if_pos (by omega)]
    iapply (Own_swap c R ac I b0 b1 _)
    iexact H

end

/-- THE BODY: on the operands, any contents of the output and any scratch, it ends with the operands as they were and all the
    tiles of the output in place. -/
theorem body_run (c : Dev nD) (E : Set ℕ) (i : grid0.Coords) (arg2 : Memref sig .tc .vmem S4x64 .f32) (harg2 : arg2.IsWhole) (arg3 : Memref sig .tc .vmem S128x1 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .bf16) (harg6 : arg6.IsWhole) (arg7 : Memref sig .tc .vmem S1x256x128 .bf16) (harg7 : arg7.IsWhole) (arg8 : Memref sig .tc .vmem S1x128x256 .bf16) (harg8 : arg8.IsWhole) (arg9 : Memref sig .tc .vmem S1x8192x128 .bf16) (harg9 : arg9.IsWhole) (arg10 : Memref sig .tc .vmem S2x8448x256 .f32) (harg10 : arg10.IsWhole) (arg11 : Memref sig .tc .vmem S2x8448x256 .f32) (harg11 : arg11.IsWhole) (arg12 : Memref sig .tc .vmem S2x128x256 .f32) (harg12 : arg12.IsWhole)
    (x2 : Vec F S4x64 .f32) (I : Inp F) (σ : St F) (K : PUnit → sProp 𝕄) :
    iprop(owns (c : Thread nD τ) arg2 fullShare x2 ∗ Own c ⟨arg3, arg4, arg5, arg6, arg7, arg8, arg9⟩ arg10 arg11 arg12 I σ
        ∗ (∀ σ' : St F, ⌜OutOk I (k0_pay1007 (VecWindow.window x2 ![0, 0] S4x64.size inb_S4x64_S4x64_0_0)) 32 σ'.o⌝
            -∗ owns (c : Thread nD τ) arg2 fullShare x2 -∗ Own c ⟨arg3, arg4, arg5, arg6, arg7, arg8, arg9⟩ arg10 arg11 arg12 I σ' -∗ K ⟨⟩))
      ⊢ WP c E (cc0_diffattn (F := F) i arg2 harg2 arg3 harg3 arg4 harg4 arg5 harg5 arg6 harg6 arg7 harg7 arg8 harg8 arg9 harg9 arg10 harg10 arg11 harg11 arg12 harg12) K := by
  rw [body_split, pre_eq]
  simp only [post_eq]
  unfold WP
  simp only [bind_assoc, pure_bind]
  rw [wp_bind]
  iintro ⟨H2, H, HK⟩
  iapply (wp_ld c E arg2 x2 _ _ _ _ _)
  isplitl [H2]
  · iexact H2
  iintro H2
  rw [wp_bind]
  have hq0 : VecWindow.window I.q ![0, 0, 0] S1x256x128.size inb_S1x8192x128_S1x256x128_0_0_0 = tq I 0 := rfl
  have tq0 : Tri c E (Own c ⟨arg3, arg4, arg5, arg6, arg7, arg8, arg9⟩ arg10 arg11 arg12 I)
      (Prog.lift (.load arg4 (Rect.unit (s := S1x8192x128) ![0, 0, 0] S1x256x128.size inb_S1x8192x128_S1x256x128_0_0_0).toLoadRect (View.loadsAt_vmem h_S1x256x128)))
      (rd (VecWindow.window I.q ![0, 0, 0] S1x256x128.size inb_S1x8192x128_S1x256x128_0_0_0)) := by
    intro σ Q
    unfold Own
    dsimp only [rd]
    iintro ⟨⟨Hw, Hr, Ha, Ho, Hg, Hq, HR⟩, HK⟩
    iapply (wp_ld c E arg4 I.q _ _ _ _ _)
    isplitl [Hq]
    · iexact Hq
    iintro Hq
    iapply HK
    iframe
  iapply (tq0 σ _)
  isplitl [H]
  · iexact H
  dsimp only [rd]
  iintro H
  rw [hq0, wp_bind]
  iapply (tri_scAll c E ⟨arg3, arg4, arg5, arg6, arg7, arg8, arg9⟩ arg10 arg11 arg12 I (qm0 k0_pay1006 (tq I 0)) (qm1 k0_pay1006 (tq I 0)) σ _)
  isplitl [H]
  · iexact H
  iintro H
  rw [wp_bind]
  iapply (Scf.wp_for _ _ _ _ _ _ _ _ _ (inv c ⟨arg3, arg4, arg5, arg6, arg7, arg8, arg9⟩ arg10 arg11 arg12 I (k0_pay1007 (VecWindow.window x2 ![0, 0] S4x64.size inb_S4x64_S4x64_0_0)))
    (fun t m => inv_step c E ⟨arg3, arg4, arg5, arg6, arg7, arg8, arg9⟩ harg9 arg10 arg11 arg12 I _ t m))
  isplitl [H]
  · unfold inv
    iexists (scAllF I (qm0 k0_pay1006 (tq I 0)) (qm1 k0_pay1006 (tq I 0)) σ).2.swap
    isplitr
    · ipureintro
      exact pre_good I _ σ
    iapply (Own_swap c _ arg12 I arg10 arg11 _)
    iexact H
  iintro %m H
  unfold inv
  icases H with ⟨%σ2, %hg, H⟩
  have htr : Scf.trips k0_t1_loop.lb k0_t1_loop.ub k0_t1_loop.st = 31 := trips_eq
  rw [htr] at hg ⊢
  obtain ⟨rfl, hs, ho⟩ := hg
  rw [if_neg (by decide), if_neg (by decide), wp_bind]
  obtain ⟨hp, hpo⟩ := prAll_spec I (qm0 k0_pay1006 (tq I 31)) (qm1 k0_pay1006 (tq I 31)) σ2 hs
  iapply (tri_prAll c E ⟨arg3, arg4, arg5, arg6, arg7, arg8, arg9⟩ arg10 arg11 arg12 I _ σ2 _)
  isplitl [H]
  · iexact H
  iintro H
  iapply (tri_fin c E ⟨arg3, arg4, arg5, arg6, arg7, arg8, arg9⟩ arg10 arg11 arg12 I harg9 _ _ _ _ _ _ _)
  isplitl [H]
  · iexact H
  iintro H
  rw [fin_spec I k0_pay1006 _ (tq I 31) _ _ _ hp]
  ispecialize HK $$ %({ (prAllF I (mrow I (qm0 k0_pay1006 (tq I 31)), mrow I (qm1 k0_pay1006 (tq I 31))) σ2).2 with
    o := VecWindow.put (prAllF I (mrow I (qm0 k0_pay1006 (tq I 31)), mrow I (qm1 k0_pay1006 (tq I 31))) σ2).2.o ![0, 7936, 0] S1x256x128.size (tileO I k0_pay1006 (k0_pay1007 (VecWindow.window x2 ![0, 0] S4x64.size inb_S4x64_S4x64_0_0)) (tq I 31)) })
  iapply HK $$ [] [H2] [H]
  · ipureintro
    have := OutOk_put I (k0_pay1007 (VecWindow.window x2 ![0, 0] S4x64.size inb_S4x64_S4x64_0_0)) 31 (by decide) σ2.o ho
    show OutOk I (k0_pay1007 (VecWindow.window x2 ![0, 0] S4x64.size inb_S4x64_S4x64_0_0)) 32 (VecWindow.put _ _ _ _)
    rw [hpo]
    exact this
  · iexact H2
  · iexact H

end Cert.Proof.AttnIdeal

end
-- ==== Proof.AttnIdeal.Run.lean ====
/- The attention call's run: at each point of the grid the body leaves the block of outputs that `outF` names, so the
   whole call runs, leaves its arguments as they were and its result at those blocks. -/
module

public import proofs.«01_k».proof.Proof.AttnIdeal.Body
public import proofs.«01_k».proof.Proof.Gen.AttnIdeal.Launch
public import proofs.«01_k».proof.Proof.Gen.AttnIdeal.Points
public import proofs.«01_k».proof.Proof.Gen.AttnIdeal.Frame
public import Idealize.ShloMosaic.Lib.Claim

@[expose] public section

set_option synthInstance.maxSize 4096
set_option maxRecDepth 65536

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A row and a channel of a tile. -/
def tIdx (r : ℕ) (hr : r < 256) (ch : Fin 128) : S1x256x128.Idx := fun a => match a with
  | ⟨0, _⟩ => ⟨0, Nat.one_pos⟩
  | ⟨1, _⟩ => ⟨r, hr⟩
  | ⟨2, _⟩ => ch

/-- The block of outputs, tile by tile. -/
def outF (I : Inp F) (lam : FVec F S1x1 .f32) : Vec F S1x8192x128 .bf16 := fun y =>
  tileO I k0_pay1006 lam (tq I ((y 1).val / 256)) (tIdx ((y 1).val % 256) (Nat.mod_lt _ (by decide)) (y 2))

/-- A block with every tile in place is that block. -/
theorem OutOk_eq (I : Inp F) (lam : FVec F S1x1 .f32) (o : Vec F S1x8192x128 .bf16) (h : OutOk I lam 32 o) : o = outF I lam := by
  funext y
  have hy : (y 1).val < 8192 := (y 1).isLt
  have ht := h ((y 1).val / 256) (by omega) (by omega)
  have := congrFun ht (tIdx ((y 1).val % 256) (Nat.mod_lt _ (by decide)) (y 2))
  refine Eq.trans ?_ this
  show o y = o _
  congr 1
  funext a
  apply Fin.ext
  match a with
  | ⟨0, _⟩ =>
    have : (y 0).val < 1 := (y 0).isLt
    show (y 0).val = 0 + 1 * 0
    omega
  | ⟨1, _⟩ =>
    show (y 1).val = 256 * ((y 1).val / 256) + 1 * ((y 1).val % 256)
    omega
  | ⟨2, _⟩ =>
    show (y 2).val = 0 + 1 * (y 2).val
    omega

section
variable (m : (ℓ : Loc nD τ sig) → Buf (Elt F) ℓ) (ρ : Dev nD → PrngReg)

/-- What the body reads at a point. -/
def inp (c : Dev nD) (t : Fin cfg0.N) : Inp F := ⟨iblk m c 1 t, iblk m c 2 t, iblk m c 3 t, iblk m c 4 t, iblk m c 5 t, iblk m c 6 t⟩

/-- The difference's weight at a point. -/
def lamAt (c : Dev nD) (t : Fin cfg0.N) : FVec F S1x1 .f32 :=
  k0_pay1007 (VecWindow.window (iblk m c 0 t : Vec F S4x64 .f32) ![0, 0] S4x64.size inb_S4x64_S4x64_0_0)

/-- The arrays as the region finds them; after the body each operand's buffer at its block and the result's at `outF`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outF (inp m c t) (lamAt m c t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outF (inp m c t) (lamAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body holds of the call besides its operands: the scratch, and the generator's register. -/
theorem PhiA0_eq (c : Dev nD) : (Pipeline.ΦA spec0 c : sProp 𝕄) = iprop(((∃ d, owns (c : Thread nD τ) (Memref.whole cc0_scratch0) fullShare d)
      ∗ (∃ d, owns (c : Thread nD τ) (Memref.whole cc0_scratch1) fullShare d) ∗ (∃ d, owns (c : Thread nD τ) (Memref.whole cc0_scratch2) fullShare d))
    ∗ (∃ r : PrngReg, prngReg c r)) := by
  unfold Pipeline.ΦA
  rw [scopedRest0_eq]
  simp only [owns_whole]
  try rfl

/-- Operand 0's staging buffer at a point. -/
abbrev ms0_0 (t : Fin cfg0.N) : Memref sig .tc .vmem S4x64 .f32 := win0_0.stage (cfg0.slots t 0)
/-- Operand 1's staging buffer at a point. -/
abbrev ms0_1 (t : Fin cfg0.N) : Memref sig .tc .vmem S128x1 .f32 := win0_1.stage (cfg0.slots t 1)
/-- Operand 2's staging buffer at a point. -/
abbrev ms0_2 (t : Fin cfg0.N) : Memref sig .tc .vmem S1x8192x128 .bf16 := win0_2.stage (cfg0.slots t 2)
/-- Operand 3's staging buffer at a point. -/
abbrev ms0_3 (t : Fin cfg0.N) : Memref sig .tc .vmem S1x8192x128 .bf16 := win0_3.stage (cfg0.slots t 3)
/-- Operand 4's staging buffer at a point. -/
abbrev ms0_4 (t : Fin cfg0.N) : Memref sig .tc .vmem S1x128x8192 .bf16 := win0_4.stage (cfg0.slots t 4)
/-- Operand 5's staging buffer at a point. -/
abbrev ms0_5 (t : Fin cfg0.N) : Memref sig .tc .vmem S1x256x128 .bf16 := win0_5.stage (cfg0.slots t 5)
/-- Operand 6's staging buffer at a point. -/
abbrev ms0_6 (t : Fin cfg0.N) : Memref sig .tc .vmem S1x128x256 .bf16 := win0_6.stage (cfg0.slots t 6)
/-- Operand 7's staging buffer at a point. -/
abbrev ms0_7 (t : Fin cfg0.N) : Memref sig .tc .vmem S1x8192x128 .bf16 := win0_7.stage (cfg0.slots t 7)

/-- The body at a point, on its staging buffers: it leaves each operand's block and the output's tiles. -/
theorem sound_body (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d)))
    ⊢ WP c Set.univ (bodyAt0 t) (fun _ => iprop((dats m 0 c).Φ t.succ ∗ (dats m 0 c).owesAt () t.succ
      ∗ owns (c : Thread nD τ) (ms0_0 t) fullShare ((dats m 0 c).after 0 t)
      ∗ owns (c : Thread nD τ) (ms0_1 t) fullShare ((dats m 0 c).after 1 t)
      ∗ owns (c : Thread nD τ) (ms0_2 t) fullShare ((dats m 0 c).after 2 t)
      ∗ owns (c : Thread nD τ) (ms0_3 t) fullShare ((dats m 0 c).after 3 t)
      ∗ owns (c : Thread nD τ) (ms0_4 t) fullShare ((dats m 0 c).after 4 t)
      ∗ owns (c : Thread nD τ) (ms0_5 t) fullShare ((dats m 0 c).after 5 t)
      ∗ owns (c : Thread nD τ) (ms0_6 t) fullShare ((dats m 0 c).after 6 t)
      ∗ owns (c : Thread nD τ) (ms0_7 t) fullShare ((dats m 0 c).after 7 t))) := by
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7,
    show (dats m 0 c).Φ t.castSucc = Pipeline.ΦA spec0 c from rfl, PhiA0_eq]
  iintro ⟨⟨⟨⟨%s0, S0⟩, ⟨%s1, S1⟩, ⟨%s2, S2⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c Set.univ _ _ _ _ _ _ _ _ _ _ _ _ _ _ _ _ _ _ _ _ _ _ _ (iblk m c 0 t) (inp m c t) ⟨s0, s1, s2, (dats m 0 c).before 7 t d7⟩ _)
  isplitl [H0]
  · iexact H0
  isplitl [S0 S1 S2 H1 H2 H3 H4 H5 H6 H7]
  · unfold Own inp
    iframe
  iintro %σ' %ho H0 H
  unfold Own
  icases H with ⟨S0, S1, S2, H7, H1, H2, H3, H4, H5, H6⟩
  rw [OutOk_eq _ _ _ ho]
  unfold inp lamAt
  isplitl [S0 S1 S2 Hp]
  · isplitl [S0 S1 S2]
    · isplitl [S0]
      · iexists _; iexact S0
      isplitl [S1]
      · iexists _; iexact S1
      iexists _; iexact S2
    iexact Hp
  iframe

theorem defs₀_row (t : Fin cfg0.N) : defs₀ (F := F) .tc cfg0.body (cfg0.bodyArgs t (cfg0.slots t)) = bodyAt0 t := by
  unfold defs₀
  rw [Defs.onTc_tc]

theorem body_obligation (c : Dev nD) : BodyObligation (dats (F := F) m 0 c) defs₀ Variants.none () Set.univ := fun t => by
  rw [bigSep_W0, bigSep_W0, defs₀_row]
  exact triple_restated (sound_body m c t) rfl .rfl fun _ => .rfl

set_option backward.isDefEq.respectTransparency.types false in
theorem run_main_quiescent :
    θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose)
    (hshare := fun c => (dats m 0 c).share_full fun _ => rfl)
    (howed := fun _ _ => rfl) (V := V m) (hmain := hmain m Variants.none) (hA := A_eq m) (hΦ := fun _ _ => rfl)

/-- The call's run: every buffer is as the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the call runs, its arguments are as they were and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent (F := F) m ρ))

end

end Cert.Proof.AttnIdeal

end
-- ==== Proof.AttnIdeal.Soft.lean ====
/- The two spellings of a weighted mean by exponentials: base 2 with one shift, and base e of the scores times ln 2 with another. -/
module

public import Idealize.ShloMosaic.PureOps.Ideal.Laws
public import Idealize.ShloMosaic.Lib.Pointwise

@[expose] public section

noncomputable section

namespace Cert.Proof.Soft

open Idealize.ShloMosaic

/-- A real value. -/
def IsR (x : EReal) : Prop := ∃ r : ℝ, x = (r : EReal)

theorem IsR.add {x y : EReal} : IsR x → IsR y → IsR (x + y) := by
  rintro ⟨a, rfl⟩ ⟨b, rfl⟩; exact ⟨a + b, (EReal.coe_add a b).symm⟩
theorem IsR.sub {x y : EReal} : IsR x → IsR y → IsR (x - y) := by
  rintro ⟨a, rfl⟩ ⟨b, rfl⟩; exact ⟨a - b, (EReal.coe_sub a b).symm⟩
theorem IsR.mul {x y : EReal} : IsR x → IsR y → IsR (x * y) := by
  rintro ⟨a, rfl⟩ ⟨b, rfl⟩; exact ⟨a * b, (EReal.coe_mul a b).symm⟩
theorem IsR.zero : IsR 0 := ⟨0, rfl⟩
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]
theorem IsR.sum {ι : Type} (s : Finset ι) (f : ι → EReal) (h : ∀ i, IsR (f i)) : IsR (∑ i ∈ s, f i) := by
  choose g hg using h
  exact ⟨∑ i ∈ s, g i, by rw [coe_sum]; exact Finset.sum_congr rfl fun i _ => hg i⟩
theorem IsR.max {x y : EReal} : IsR x → IsR y → IsR (max x y) := fun hx hy => by
  rcases max_choice x y with h | h <;> rw [h] <;> assumption
theorem IsR.exp {x : EReal} : IsR x → IsR (Ideal.exp x) := by
  rintro ⟨a, rfl⟩; exact ⟨Real.exp a, Ideal.exp_coe a⟩
theorem negInf : Ideal.ofBits .f32 0xFF800000#32 = (⊥ : EReal) := by
  simp [Ideal.ofBits, Ideal.ieee]

theorem IsR.fold {ι : Type} [DecidableEq ι] (s : Finset ι) (hs : s.Nonempty) (f : ι → EReal) (h : ∀ i, IsR (f i)) :
    IsR (s.fold Max.max (Ideal.ofBits .f32 0xFF800000#32) f) := by
  rw [negInf]
  induction hs using Finset.Nonempty.cons_induction with
  | singleton a => rw [Finset.fold_singleton, max_eq_left bot_le]; exact h a
  | cons a s ha hs ih => rw [Finset.fold_cons]; exact (h a).max ih

theorem lit_two : Ideal.log (Ideal.ofBits .f32 0x40000000#32) = ((Real.log 2 : ℝ) : EReal) := by
  have : Ideal.ofBits .f32 0x40000000#32 = ((2 : ℝ) : EReal) := by
    simp [Ideal.ofBits, Ideal.ieee, -EReal.coe_mul]; norm_num
  rw [this]
  exact if_neg (by norm_num)

/-- A weighted mean of reals, its weights of either spelling. -/
theorem mean {ι : Type} [Fintype ι] [Nonempty ι] (s v : ι → ℝ) (m M : ℝ) :
    ∃ a : ι → ℝ, (∀ k, Ideal.div (Ideal.exp ((s k : EReal) * ((Real.log 2 : ℝ) : EReal) - (M : EReal)))
          (∑ k', Ideal.exp ((s k' : EReal) * ((Real.log 2 : ℝ) : EReal) - (M : EReal))) = (a k : EReal))
      ∧ Ideal.div (∑ k, (v k : EReal) * Ideal.exp2 ((s k : EReal) - (m : EReal))) (∑ k, Ideal.exp2 ((s k : EReal) - (m : EReal)))
        = ((∑ k, a k * v k : ℝ) : EReal) := by
  have he : ∀ k, Ideal.exp ((s k : EReal) * ((Real.log 2 : ℝ) : EReal) - (M : EReal)) = ((Real.exp (s k * Real.log 2 - M) : ℝ) : EReal) := fun k => by
    rw [← EReal.coe_mul, ← EReal.coe_sub, Ideal.exp_coe]
  have h2 : ∀ k, Ideal.exp2 ((s k : EReal) - (m : EReal)) = ((Real.exp (M - m * Real.log 2) * Real.exp (s k * Real.log 2 - M) : ℝ) : EReal) := fun k => by
    rw [← EReal.coe_sub, Ideal.exp2_coe]
    congr 1
    show (2 : ℝ) ^ (s k - m) = _
    rw [Real.rpow_def_of_pos (by norm_num), ← Real.exp_add]
    congr 1
    ring
  have hS : 0 < ∑ k, Real.exp (s k * Real.log 2 - M) := Finset.sum_pos (fun k _ => Real.exp_pos _) Finset.univ_nonempty
  have hc : 0 < Real.exp (M - m * Real.log 2) := Real.exp_pos _
  simp only [he, h2]
  simp only [← EReal.coe_mul, ← coe_sum]
  refine ⟨fun k => Real.exp (s k * Real.log 2 - M) * (1 / ∑ k, Real.exp (s k * Real.log 2 - M)), fun k => ?_, ?_⟩
  · rw [Ideal.div_coe hS.ne', ← EReal.coe_mul]
  · rw [← Finset.mul_sum, Ideal.div_coe (mul_pos hc hS).ne', ← EReal.coe_mul]
    congr 1
    generalize Real.exp (M - m * Real.log 2) = c at hc
    generalize hT : ∑ k, Real.exp (s k * Real.log 2 - M) = T at hS
    rw [Finset.sum_mul]
    refine Finset.sum_congr rfl fun k _ => ?_
    field_simp

/-- The difference of two such means. -/
theorem diff {ι : Type} [Fintype ι] [Nonempty ι] (s0 s1 v : ι → ℝ) (m0 m1 M0 M1 l : ℝ) :
    Ideal.div (∑ k, (v k : EReal) * Ideal.exp2 ((s0 k : EReal) - (m0 : EReal))) (∑ k, Ideal.exp2 ((s0 k : EReal) - (m0 : EReal)))
      - (l : EReal) * Ideal.div (∑ k, (v k : EReal) * Ideal.exp2 ((s1 k : EReal) - (m1 : EReal))) (∑ k, Ideal.exp2 ((s1 k : EReal) - (m1 : EReal)))
    = ∑ k, (Ideal.div (Ideal.exp ((s0 k : EReal) * ((Real.log 2 : ℝ) : EReal) - (M0 : EReal)))
          (∑ k', Ideal.exp ((s0 k' : EReal) * ((Real.log 2 : ℝ) : EReal) - (M0 : EReal)))
        - (l : EReal) * Ideal.div (Ideal.exp ((s1 k : EReal) * ((Real.log 2 : ℝ) : EReal) - (M1 : EReal)))
          (∑ k', Ideal.exp ((s1 k' : EReal) * ((Real.log 2 : ℝ) : EReal) - (M1 : EReal)))) * (v k : EReal) := by
  obtain ⟨a0, ha0, e0⟩ := mean s0 v m0 M0
  obtain ⟨a1, ha1, e1⟩ := mean s1 v m1 M1
  rw [e0, e1]
  simp only [ha0, ha1]
  simp only [← EReal.coe_mul, ← EReal.coe_sub, ← coe_sum]
  congr 1
  rw [Finset.mul_sum, ← Finset.sum_sub_distrib]
  exact Finset.sum_congr rfl fun k _ => by ring

/-- The same of values that are real. -/
theorem diff' {ι : Type} [Fintype ι] [Nonempty ι] (s0 s1 v : ι → EReal) (m0 m1 M0 M1 l : EReal) (hs0 : ∀ k, IsR (s0 k)) (hs1 : ∀ k, IsR (s1 k))
    (hv : ∀ k, IsR (v k)) (hm0 : IsR m0) (hm1 : IsR m1) (hM0 : IsR M0) (hM1 : IsR M1) (hl : IsR l) :
    Ideal.div (∑ k, v k * Ideal.exp2 (s0 k - m0)) (∑ k, Ideal.exp2 (s0 k - m0))
      - l * Ideal.div (∑ k, v k * Ideal.exp2 (s1 k - m1)) (∑ k, Ideal.exp2 (s1 k - m1))
    = ∑ k, (Ideal.div (Ideal.exp (s0 k * Ideal.log (Ideal.ofBits .f32 0x40000000#32) - M0))
          (∑ k', Ideal.exp (s0 k' * Ideal.log (Ideal.ofBits .f32 0x40000000#32) - M0))
        - l * Ideal.div (Ideal.exp (s1 k * Ideal.log (Ideal.ofBits .f32 0x40000000#32) - M1))
          (∑ k', Ideal.exp (s1 k' * Ideal.log (Ideal.ofBits .f32 0x40000000#32) - M1))) * v k := by
  choose s0' h0 using hs0
  choose s1' h1 using hs1
  choose v' h2 using hv
  obtain ⟨m0', rfl⟩ := hm0
  obtain ⟨m1', rfl⟩ := hm1
  obtain ⟨M0', rfl⟩ := hM0
  obtain ⟨M1', rfl⟩ := hM1
  obtain ⟨l', rfl⟩ := hl
  simp only [h0, h1, h2, lit_two]
  exact diff s0' s1' v' m0' m1' M0' M1' l'

end Cert.Proof.Soft

end
-- ==== Proof.AttnIdeal.Value.lean ====
/- What the attention kernel's tile is, at an index, over the reals: the scores, the maxima, the sums and the weighted sums
   over all the keys, and the normalised difference. -/
module

public import proofs.«01_k».proof.Proof.AttnIdeal.Eval
public import proofs.«01_k».proof.Proof.AttnIdeal.Soft
public import Idealize.ShloMosaic.Lib.Pointwise

@[expose] public section

set_option maxRecDepth 16384

noncomputable section

namespace Cert.Proof.AttnIdeal

open Cert.AttnIdeal Cert.AttnIdeal.Gen Cert.Proof.Soft
open Idealize.ShloMosaic

/-! ## The operations at an index -/

theorem scr_apply (q : FVec Ideal S256x128 .bf16) (k : Vec Ideal S1x256x128 .bf16) (r c : Fin 256) :
    scr (F := Ideal) q k (ix2 r c) = ∑ d : Fin 128, k (ix3 0 r d) * q (ix2 c d) := by
  pointwise [scr]

theorem mx8_apply (s : FVec Ideal S256x256 .f32) (u : Fin 8) (c : Fin 256) :
    mx8 (F := Ideal) s (ix2 u c)
      = Finset.univ.fold max (Ideal.ofBits .f32 0xFF800000#32) fun x : Fin 32 => s (ix2 ⟨x.val * 8 + u.val, by omega⟩ c) := by
  pointwise [mx8]

theorem mxRow_apply (s : FVec Ideal S8x256 .f32) (c : Fin 256) :
    mxRow (F := Ideal) s (ix2 0 c) = Finset.univ.fold max (Ideal.ofBits .f32 0xFF800000#32) fun x : Fin 8 => s (ix2 x c) := by
  pointwise [mxRow]

theorem prb_apply (m : FVec Ideal S1x256 .f32) (s : FVec Ideal S256x256 .f32) (r c : Fin 256) :
    prb (F := Ideal) m (scr3 (F := Ideal) s) (ix2 r c) = Ideal.exp2 (s (ix2 r c) - m (ix2 0 c)) := by
  pointwise [prb, scr3]
  rfl

theorem sm8_apply (s : FVec Ideal S256x256 .f32) (u : Fin 8) (c : Fin 256) :
    sm8 (F := Ideal) s (ix2 u c) = ∑ x : Fin 32, s (ix2 ⟨x.val * 8 + u.val, by omega⟩ c) := by
  pointwise [sm8]

theorem pvm_apply (v : Vec Ideal S1x128x256 .bf16) (p : FVec Ideal S256x256 .f32) (e : Fin 128) (c : Fin 256) :
    pvm (F := Ideal) v p (ix2 e c) = ∑ r : Fin 256, v (ix3 0 e r) * p (ix2 r c) := by
  pointwise [pvm]

theorem acc0_apply (x : FVec Ideal S128x256 .f32) (e : Fin 128) (c : Fin 256) : acc0 (F := Ideal) x (ix3 0 e c) = x (ix2 e c) := by
  pointwise [acc0]

theorem accS_apply (a : Vec Ideal S1x128x256 .f32) (x : FVec Ideal S128x256 .f32) (e : Fin 128) (c : Fin 256) :
    accS (F := Ideal) a x (ix3 0 e c) = a (ix3 0 e c) + x (ix2 e c) := by
  pointwise [accS]

theorem quo_apply (l : FVec Ideal S8x256 .f32) (a : Vec Ideal S1x128x256 .f32) (e : Fin 128) (c : Fin 256) :
    quo (F := Ideal) l a (ix2 e c) = Ideal.div (a (ix3 0 e c)) (∑ u : Fin 8, l (ix2 u c)) := by
  pointwise [quo]

theorem dif_apply (lam : FVec Ideal S1x1 .f32) (l0 l1 : FVec Ideal S8x256 .f32) (a0 a1 : Vec Ideal S1x128x256 .f32) (e : Fin 128) (c : Fin 256) :
    dif (F := Ideal) lam l0 l1 a0 a1 (ix2 e c) = quo (F := Ideal) l0 a0 (ix2 e c) - lam (ix2 0 0) * quo (F := Ideal) l1 a1 (ix2 e c) := by
  pointwise [dif]

theorem rms_apply (o : FVec Ideal S128x256 .f32) (e : Fin 128) (c : Fin 256) :
    rms (F := Ideal) o (ix2 e c)
      = Ideal.rsqrt (Ideal.div (∑ e' : Fin 128, o (ix2 e' c) * o (ix2 e' c)) (Ideal.ofBits .f32 0x43000000#32) + Ideal.ofBits .f32 0x358637BD#32) := by
  pointwise [rms]

theorem outT_apply (o : FVec Ideal S128x256 .f32) (g : Vec Ideal S128x1 .f32) (e : Fin 128) (c : Fin 256) :
    outT (F := Ideal) o g (ix3 0 c e)
      = o (ix2 e c) * rms (F := Ideal) o (ix2 e c) * g (ix2 e 0) * Ideal.ofBits .f32 0x3F4CCCCD#32 := by
  pointwise [outT]

theorem lane (e : Fin 128) : IntOp.cmpi .slt (BitVec.ofNat 32 e.val) 64#32 = if e.val < 64 then 1#1 else 0#1 := by
  revert e; decide +kernel

theorem qm0_apply (q : Vec Ideal S1x256x128 .bf16) (e : Fin 128) (c : Fin 256) :
    qm0 (F := Ideal) k0_pay1006 q (ix2 c e) = if e.val < 64 then q (ix3 0 c e) else 0 := by
  pointwise [qm0, k0_pay1006]
  rw [lane]
  by_cases h : e.val < 64 <;> simp [h, Scalar.select]

theorem qm1_apply (q : Vec Ideal S1x256x128 .bf16) (e : Fin 128) (c : Fin 256) :
    qm1 (F := Ideal) k0_pay1006 q (ix2 c e) = if e.val < 64 then 0 else q (ix3 0 c e) := by
  pointwise [qm1, k0_pay1006]
  rw [lane]
  by_cases h : e.val < 64 <;> simp [h, Scalar.select]

theorem lam_apply (l : Vec Ideal S4x64 .f32)  :
    k0_pay1007 (F := Ideal) l (ix2 0 0) = Ideal.exp (∑ x : Fin 64, l (ix2 0 x) * l (ix2 1 x))
      - Ideal.exp (∑ x : Fin 64, l (ix2 2 x) * l (ix2 3 x)) + Ideal.ofBits .f32 0x3E4CCCCD#32 := by
  pointwise [k0_pay1007]

/-! ## The sums over the blocks -/

theorem sum_rows (f : Fin 256 → EReal) : ∑ u : Fin 8, ∑ x : Fin 32, f ⟨x.val * 8 + u.val, by omega⟩ = ∑ r : Fin 256, f r := by
  rw [Finset.sum_comm, ← Fintype.sum_prod_type']
  refine (Fintype.sum_equiv (finProdFinEquiv (m := 32) (n := 8)) _ f fun p => congrArg f (Fin.ext ?_))
  show p.1.val * 8 + p.2.val = p.2.val + 8 * p.1.val
  omega

theorem sum_blocks (f : Fin 8448 → EReal) : ∑ i : Fin 33, ∑ r : Fin 256, f ⟨256 * i.val + r.val, by omega⟩ = ∑ k : Fin 8448, f k := by
  rw [← Fintype.sum_prod_type']
  refine (Fintype.sum_equiv (finProdFinEquiv (m := 33) (n := 256)) _ f fun p => congrArg f (Fin.ext ?_))
  show 256 * p.1.val + p.2.val = p.2.val + 256 * p.1.val
  omega

section
variable (I : Inp Ideal) (q : FVec Ideal S256x128 .bf16) (m : FVec Ideal S1x256 .f32)

theorem Lf_apply (n : ℕ) (u : Fin 8) (c : Fin 256) :
    Lf I q m n (ix2 u c) = ∑ i ∈ Finset.range (n + 1), ∑ x : Fin 32, PB I q m i (ix2 ⟨x.val * 8 + u.val, by omega⟩ c) := by
  induction n with
  | zero => rw [Lf, sm8_apply, Finset.sum_range_one]
  | succ n ih =>
    rw [Finset.sum_range_succ, ← ih, Lf, ← sm8_apply]
    rfl

theorem Lsum (c : Fin 256) : ∑ u : Fin 8, Lf I q m 32 (ix2 u c) = ∑ i : Fin 33, ∑ r : Fin 256, PB I q m i (ix2 r c) := by
  simp only [Lf_apply]
  rw [Finset.sum_comm, Finset.sum_range]
  exact Finset.sum_congr rfl fun i _ => sum_rows fun r => PB I q m i (ix2 r c)

theorem Af_apply (n : ℕ) (e : Fin 128) (c : Fin 256) :
    Af I q m n (ix3 0 e c) = ∑ i ∈ Finset.range (n + 1), ∑ r : Fin 256, VB I i (ix3 0 e r) * PB I q m i (ix2 r c) := by
  induction n with
  | zero => rw [Af, acc0_apply, pvm_apply, Finset.sum_range_one]
  | succ n ih => rw [Finset.sum_range_succ, ← ih, Af, accS_apply, pvm_apply]

theorem Asum (e : Fin 128) (c : Fin 256) :
    Af I q m 32 (ix3 0 e c) = ∑ i : Fin 33, ∑ r : Fin 256, VB I i (ix3 0 e r) * PB I q m i (ix2 r c) := by
  rw [Af_apply, Finset.sum_range]

theorem Mf_real (h : ∀ i r c, IsR (scr (F := Ideal) q (KB I i) (ix2 r c))) (n : ℕ) (u : Fin 8) (c : Fin 256) : IsR (Mf I q n (ix2 u c)) := by
  induction n with
  | zero => rw [Mf, mx8_apply]; exact IsR.fold _ Finset.univ_nonempty _ fun x => h _ _ _
  | succ n ih =>
    rw [Mf]
    refine IsR.max ih ?_
    rw [mx8_apply]; exact IsR.fold _ Finset.univ_nonempty _ fun x => h _ _ _

theorem mrow_real (h : ∀ i r c, IsR (scr (F := Ideal) q (KB I i) (ix2 r c))) (c : Fin 256) : IsR (mrow I q (ix2 0 c)) := by
  rw [mrow, mxRow_apply]
  exact IsR.fold _ Finset.univ_nonempty _ fun u => Mf_real I q h 32 u c

end

/-! ## The keys and the values by their row -/

section
variable (I : Inp Ideal)

/-- A key's channel, the context's keys first. -/
def keyK (k : Fin 8448) (d : Fin 128) : EReal :=
  if hk : k.val < 256 then I.kc (ix3 0 ⟨k.val, hk⟩ d) else I.k (ix3 0 ⟨k.val - 256, by omega⟩ d)
/-- A value's channel. -/
def valK (k : Fin 8448) (e : Fin 128) : EReal :=
  if hk : k.val < 256 then I.vc (ix3 0 e ⟨k.val, hk⟩) else I.v (ix3 0 e ⟨k.val - 256, by omega⟩)

theorem KB_apply (i : Fin 33) (r : Fin 256) (d : Fin 128) : KB I i.val (ix3 0 r d) = keyK I ⟨256 * i.val + r.val, by omega⟩ d := by
  obtain ⟨i, hi⟩ := i
  unfold keyK
  cases i with
  | zero =>
    rw [dif_pos (by show 256 * 0 + r.val < 256; omega)]
    refine congrArg I.kc (funext fun a => Fin.ext ?_)
    match a with
    | ⟨0, _⟩ => rfl
    | ⟨1, _⟩ => show 0 + 1 * r.val = 256 * 0 + r.val; omega
    | ⟨2, _⟩ => show 0 + 1 * d.val = d.val; omega
  | succ j =>
    rw [dif_neg (by show ¬ 256 * (j + 1) + r.val < 256; omega)]
    refine (congrFun (KB_succ I j (by omega)) _).trans ?_
    refine congrArg I.k (funext fun a => Fin.ext ?_)
    match a with
    | ⟨0, _⟩ => rfl
    | ⟨1, _⟩ => show 256 * j + 1 * r.val = 256 * (j + 1) + r.val - 256; omega
    | ⟨2, _⟩ => show 0 + 1 * d.val = d.val; omega

theorem VB_apply (i : Fin 33) (e : Fin 128) (r : Fin 256) : VB I i.val (ix3 0 e r) = valK I ⟨256 * i.val + r.val, by omega⟩ e := by
  obtain ⟨i, hi⟩ := i
  unfold valK
  cases i with
  | zero =>
    rw [dif_pos (by show 256 * 0 + r.val < 256; omega)]
    refine congrArg I.vc (funext fun a => Fin.ext ?_)
    match a with
    | ⟨0, _⟩ => rfl
    | ⟨1, _⟩ => show 0 + 1 * e.val = e.val; omega
    | ⟨2, _⟩ => show 0 + 1 * r.val = 256 * 0 + r.val; omega
  | succ j =>
    rw [dif_neg (by show ¬ 256 * (j + 1) + r.val < 256; omega)]
    refine (congrFun (VB_succ I j (by omega)) _).trans ?_
    refine congrArg I.v (funext fun a => Fin.ext ?_)
    match a with
    | ⟨0, _⟩ => rfl
    | ⟨1, _⟩ => show 0 + 1 * e.val = e.val; omega
    | ⟨2, _⟩ => show 256 * j + 1 * r.val = 256 * (j + 1) + r.val - 256; omega

/-- A sub-head's score of a key. -/
def scoreK (q : FVec Ideal S256x128 .bf16) (c : Fin 256) (k : Fin 8448) : EReal := ∑ d : Fin 128, keyK I k d * q (ix2 c d)

theorem scr_KB (q : FVec Ideal S256x128 .bf16) (i : Fin 33) (r c : Fin 256) :
    scr (F := Ideal) q (KB I i.val) (ix2 r c) = scoreK I q c ⟨256 * i.val + r.val, by omega⟩ := by
  rw [scr_apply]
  unfold scoreK
  exact Finset.sum_congr rfl fun d _ => congrArg (· * _) (KB_apply I i r d)

theorem PB_apply (q : FVec Ideal S256x128 .bf16) (m : FVec Ideal S1x256 .f32) (i : Fin 33) (r c : Fin 256) :
    PB I q m i.val (ix2 r c) = Ideal.exp2 (scoreK I q c ⟨256 * i.val + r.val, by omega⟩ - m (ix2 0 c)) := by
  unfold PB
  rw [prb_apply, scr_KB]

theorem Lsum' (q : FVec Ideal S256x128 .bf16) (m : FVec Ideal S1x256 .f32) (c : Fin 256) :
    ∑ u : Fin 8, Lf I q m 32 (ix2 u c) = ∑ k : Fin 8448, Ideal.exp2 (scoreK I q c k - m (ix2 0 c)) := by
  rw [Lsum, ← sum_blocks]
  exact Finset.sum_congr rfl fun i _ => Finset.sum_congr rfl fun r _ => PB_apply I q m i r c

theorem Asum' (q : FVec Ideal S256x128 .bf16) (m : FVec Ideal S1x256 .f32) (e : Fin 128) (c : Fin 256) :
    Af I q m 32 (ix3 0 e c) = ∑ k : Fin 8448, valK I k e * Ideal.exp2 (scoreK I q c k - m (ix2 0 c)) := by
  rw [Asum, ← sum_blocks]
  exact Finset.sum_congr rfl fun i _ => Finset.sum_congr rfl fun r _ => by rw [VB_apply, PB_apply]

/-- The values that the proof takes to be real. -/
structure Real : Prop where
  q : ∀ i, IsR (I.q i)
  k : ∀ i, IsR (I.k i)
  v : ∀ i, IsR (I.v i)
  kc : ∀ i, IsR (I.kc i)
  vc : ∀ i, IsR (I.vc i)

variable (hI : Real I)
include hI

theorem keyK_real (k : Fin 8448) (d : Fin 128) : IsR (keyK I k d) := by
  unfold keyK; split
  · exact hI.kc _
  · exact hI.k _
theorem valK_real (k : Fin 8448) (d : Fin 128) : IsR (valK I k d) := by
  unfold valK; split
  · exact hI.vc _
  · exact hI.v _
theorem KB_real (i : ℕ) (x : S1x256x128.Idx) : IsR (KB I i x) := by
  unfold KB
  cases i with
  | zero => exact hI.kc _
  | succ j =>
    dsimp only
    split
    · exact hI.k _
    · exact hI.kc _

theorem scr_real (q : FVec Ideal S256x128 .bf16) (hq : ∀ i, IsR (q i)) (i : ℕ) (r c : Fin 256) : IsR (scr (F := Ideal) q (KB I i) (ix2 r c)) := by
  rw [scr_apply]
  exact IsR.sum _ _ fun d => (KB_real I hI _ _).mul (hq _)

theorem scoreK_real (q : FVec Ideal S256x128 .bf16) (hq : ∀ i, IsR (q i)) (c : Fin 256) (k : Fin 8448) : IsR (scoreK I q c k) :=
  IsR.sum _ _ fun d => (keyK_real I hI _ _).mul (hq _)

/-- The difference of the two attentions, its weights base e, at any two real shifts. -/
theorem dif_eq (lam : FVec Ideal S1x1 .f32) (q0 q1 : FVec Ideal S256x128 .bf16) (h0 : ∀ i, IsR (q0 i)) (h1 : ∀ i, IsR (q1 i))
    (hl : IsR (lam (ix2 0 0))) (M0 M1 : EReal) (hM0 : IsR M0) (hM1 : IsR M1) (e : Fin 128) (c : Fin 256) :
    dif (F := Ideal) lam (Lf I q0 (mrow I q0) 32) (Lf I q1 (mrow I q1) 32) (Af I q0 (mrow I q0) 32) (Af I q1 (mrow I q1) 32) (ix2 e c)
    = ∑ k : Fin 8448, (Ideal.div (Ideal.exp (scoreK I q0 c k * Ideal.log (Ideal.ofBits .f32 0x40000000#32) - M0))
          (∑ k', Ideal.exp (scoreK I q0 c k' * Ideal.log (Ideal.ofBits .f32 0x40000000#32) - M0))
        - lam (ix2 0 0) * Ideal.div (Ideal.exp (scoreK I q1 c k * Ideal.log (Ideal.ofBits .f32 0x40000000#32) - M1))
          (∑ k', Ideal.exp (scoreK I q1 c k' * Ideal.log (Ideal.ofBits .f32 0x40000000#32) - M1))) * valK I k e := by
  rw [dif_apply, quo_apply, quo_apply, Lsum', Lsum', Asum', Asum']
  haveI : Nonempty (Fin 8448) := ⟨0⟩
  exact diff' (ι := Fin 8448) (fun k => scoreK I q0 c k) (fun k => scoreK I q1 c k) (fun k => valK I k e) _ _ M0 M1 _
    (scoreK_real I hI q0 h0 c) (scoreK_real I hI q1 h1 c) (fun k => valK_real I hI k e)
    (mrow_real I q0 (scr_real I hI q0 h0) c) (mrow_real I q1 (scr_real I hI q1 h1) c) hM0 hM1 hl

end

end Cert.Proof.AttnIdeal

end
-- ==== Proof.AttnIdeal.Ref.lean ====
/- The reference's attention read at an index: the scores, the weights of each sub-head, their difference against the values, and the
   normalised result, each as a formula over the arguments. -/
module

public import proofs.«01_k».proof.Proof.Gen.AttnRefIdeal.Read
public import Idealize.ShloMosaic.Lib.Pointwise

@[expose] public section

set_option maxRecDepth 16384

noncomputable section

namespace Cert.Proof.AttnIdeal.Ref

open Cert.AttnRefIdeal Cert.AttnRefIdeal.Gen Cert.AttnRefIdeal.Read
open Idealize.ShloMosaic

variable (x0 : FVec Ideal S4x64 .f32) (x1 : FVec Ideal S128x1 .f32) (x2 x3 : FVec Ideal S4x8192x512 .bf16) (x4 : FVec Ideal S4x512x8192 .bf16)
  (x5 : FVec Ideal S4x256x512 .bf16) (x6 : FVec Ideal S4x512x256 .bf16)

theorem v15_eq (i : S_.Idx) : val_main_v15 (F := Ideal) x0 i = Ideal.exp (∑ x : Fin 64, x0 (ix2 0 x) * x0 (ix2 1 x))
    - Ideal.exp (∑ x : Fin 64, x0 (ix2 2 x) * x0 (ix2 3 x)) + Ideal.ofBits .f32 0x3E4CCCCD#32 := by
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]

theorem chan_lt (h : Fin 4) (u : Fin 2) (d : Fin 64) : h.val * 128 + u.val * 64 + d.val < 512 := by omega
theorem vchan_lt (h : Fin 4) (e : Fin 128) : h.val * 128 + e.val < 512 := by omega

theorem v22_eq (b h : Fin 4) (u : Fin 2) (r : Fin 8192) (d : Fin 64) :
    val_main_v22 (F := Ideal) x2 (ix5 b h u r d) = x2 (ix3 b r ⟨h.val * 128 + u.val * 64 + d.val, chan_lt h u d⟩) := by
  pointwise [val_main_v22, val_main_v21, val_main_v16]

/-- The keys, the context's first, and the values likewise. -/
def keyAt (b : Fin 4) (k : Fin 8448) (ch : Fin 512) : EReal :=
  if hk : k.val < 256 then x5 (ix3 b ⟨k.val, hk⟩ ch) else x3 (ix3 b ⟨k.val - 256, by omega⟩ ch)
def valAt (b : Fin 4) (k : Fin 8448) (ch : Fin 512) : EReal :=
  if hk : k.val < 256 then x6 (ix3 b ch ⟨k.val, hk⟩) else x4 (ix3 b ch ⟨k.val - 256, by omega⟩)

theorem v27_eq (b h : Fin 4) (u : Fin 2) (k : Fin 8448) (d : Fin 64) :
    val_main_v27 (F := Ideal) x3 x5 (ix5 b h u k d) = keyAt x3 x5 b k ⟨h.val * 128 + u.val * 64 + d.val, chan_lt h u d⟩ := by
  unfold keyAt
  pointwise [val_main_v27, val_main_v26, val_main_v25, val_main_v24, val_main_v23, val_main_v17, val_main_v18, val_main_v19]

theorem v34_eq (b h : Fin 4) (k : Fin 8448) (e : Fin 128) :
    val_main_v34 (F := Ideal) x4 x6 (ix4 b h k e) = valAt x4 x6 b k ⟨h.val * 128 + e.val, vchan_lt h e⟩ := by
  unfold valAt
  pointwise [val_main_v34, val_main_v33, val_main_v32, val_main_v31, val_main_v30, val_main_v29, val_main_v28, val_main_v20, val_main_v19, val_main_v18]

/-- A sub-head's score of a key. -/
def score (b h : Fin 4) (u : Fin 2) (r : Fin 8192) (k : Fin 8448) : EReal :=
  ∑ d : Fin 64, x2 (ix3 b r ⟨h.val * 128 + u.val * 64 + d.val, chan_lt h u d⟩) * keyAt x3 x5 b k ⟨h.val * 128 + u.val * 64 + d.val, chan_lt h u d⟩

theorem v38_eq (b h : Fin 4) (u : Fin 2) (r : Fin 8192) (k : Fin 8448) :
    val_main_v38 (F := Ideal) x2 x3 x5 (ix5 b h u r k) = score x2 x3 x5 b h u r k * Ideal.log (Ideal.ofBits .f32 0x40000000#32) := by
  unfold score
  pointwise [val_main_v38, val_main_v37, val_main_v36, val_main_v35, val_main_cst_2]
  simp only [v22_eq, v27_eq]

/-- A score's logarithm base e. -/
abbrev lsc (b h : Fin 4) (u : Fin 2) (r : Fin 8192) (k : Fin 8448) : EReal := score x2 x3 x5 b h u r k * Ideal.log (Ideal.ofBits .f32 0x40000000#32)

/-- The greatest of a row of scores. -/
def rowMax (b h : Fin 4) (u : Fin 2) (r : Fin 8192) : EReal :=
  max (Ideal.ofBits .f32 0xFF800000#32) (Finset.univ.fold max (Ideal.ofBits .f32 0xFF800000#32) fun k : Fin 8448 => lsc x2 x3 x5 b h u r k)

theorem v39_eq (b h : Fin 4) (u : Fin 2) (r : Fin 8192) :
    val_main_v39 (F := Ideal) x2 x3 x5 (ix4 b h u r)
      = Finset.univ.fold max (Ideal.ofBits .f32 0xFF800000#32) fun k : Fin 8448 => lsc x2 x3 x5 b h u r k := by
  have hy : ∀ k, val_main_v38 (F := Ideal) x2 x3 x5 (ix5 b h u r k) = lsc x2 x3 x5 b h u r k := v38_eq x2 x3 x5 b h u r
  unfold val_main_v39
  generalize val_main_v38 (F := Ideal) x2 x3 x5 = y at hy ⊢
  refine (Host.reduce_eq_fold_single (max : EReal → EReal → EReal) y _ reducesTo_S4x4x2x8192x8448_S4x4x2x8192_d4 (by decide) h_S_ _).trans ?_
  refine Finset.fold_congr fun k _ => ?_
  refine Eq.trans ?_ (hy k)
  exact congrArg y (funext fun a => Fin.ext (by match a with | ⟨0, _⟩ => rfl | ⟨1, _⟩ => rfl | ⟨2, _⟩ => rfl | ⟨3, _⟩ => rfl | ⟨4, _⟩ => rfl))

theorem v43_eq (b h : Fin 4) (u : Fin 2) (r : Fin 8192) (k : Fin 8448) :
    val_main_v43 (F := Ideal) x2 x3 x5 (ix5 b h u r k) = rowMax x2 x3 x5 b h u r := by
  unfold rowMax
  rw [← v39_eq, val_main_v43_apply, val_main_v42_apply, val_main_v41_apply, val_main_v40_apply]
  exact congrArg (fun i => max (Ideal.ofBits .f32 0xFF800000#32) (val_main_v39 (F := Ideal) x2 x3 x5 i)) (eq_ix4 _)

/-- A key's unnormalised weight. -/
def wgt (b h : Fin 4) (u : Fin 2) (r : Fin 8192) (k : Fin 8448) : EReal := Ideal.exp (lsc x2 x3 x5 b h u r k - rowMax x2 x3 x5 b h u r)

theorem v45_eq (b h : Fin 4) (u : Fin 2) (r : Fin 8192) (k : Fin 8448) :
    val_main_v45 (F := Ideal) x2 x3 x5 (ix5 b h u r k) = wgt x2 x3 x5 b h u r k := by
  rw [val_main_v45_apply, val_main_v44_apply, v38_eq, v43_eq]
  rfl

theorem v48_eq (b h : Fin 4) (u : Fin 2) (r : Fin 8192) (k : Fin 8448) :
    val_main_v48 (F := Ideal) x2 x3 x5 (ix5 b h u r k) = ∑ k' : Fin 8448, wgt x2 x3 x5 b h u r k' := by
  rw [val_main_v48_apply, val_main_v47_apply, val_main_v46_apply]
  rw [show val_main_cst_5 (F := Ideal) (Shape.Idx.first h_S_) = (0 : EReal) from Ideal.ofBits_zero_f32, zero_add]
  refine Finset.sum_congr rfl fun k' _ => ?_
  rw [← v45_eq]
  exact congrArg (val_main_v45 (F := Ideal) x2 x3 x5) (eq_ix5 _)

/-- A key's weight. -/
def prob (b h : Fin 4) (u : Fin 2) (r : Fin 8192) (k : Fin 8448) : EReal :=
  Ideal.div (wgt x2 x3 x5 b h u r k) (∑ k' : Fin 8448, wgt x2 x3 x5 b h u r k')

theorem v49_eq (b h : Fin 4) (u : Fin 2) (r : Fin 8192) (k : Fin 8448) :
    val_main_v49 (F := Ideal) x2 x3 x5 (ix5 b h u r k) = prob x2 x3 x5 b h u r k := by
  unfold prob
  rw [val_main_v49_apply, v45_eq, v48_eq]
  rfl

theorem v51_eq (b h : Fin 4) (r : Fin 8192) (k : Fin 8448) :
    val_main_v51 (F := Ideal) x2 x3 x5 (ix4 b h r k) = prob x2 x3 x5 b h 0 r k := by
  rw [val_main_v51_apply, val_main_v50_apply, ← v49_eq]
  refine congrArg (val_main_v49 (F := Ideal) x2 x3 x5) ?_
  funext a
  apply Fin.ext
  match a with
  | ⟨0, _⟩ => show (((b.val * 4 + h.val) * 8192 + r.val) * 8448 + k.val) / 276824064 = b.val; omega
  | ⟨1, _⟩ => show (((b.val * 4 + h.val) * 8192 + r.val) * 8448 + k.val) / 69206016 % 4 = h.val; omega
  | ⟨2, _⟩ => rfl
  | ⟨3, _⟩ => show (((b.val * 4 + h.val) * 8192 + r.val) * 8448 + k.val) / 8448 % 8192 = r.val; omega
  | ⟨4, _⟩ => show (((b.val * 4 + h.val) * 8192 + r.val) * 8448 + k.val) % 8448 = k.val; omega

theorem v53_eq (b h : Fin 4) (r : Fin 8192) (k : Fin 8448) :
    val_main_v53 (F := Ideal) x2 x3 x5 (ix4 b h r k) = prob x2 x3 x5 b h 1 r k := by
  rw [val_main_v53_apply, val_main_v52_apply, ← v49_eq]
  refine congrArg (val_main_v49 (F := Ideal) x2 x3 x5) ?_
  funext a
  apply Fin.ext
  match a with
  | ⟨0, _⟩ => show (((b.val * 4 + h.val) * 8192 + r.val) * 8448 + k.val) / 276824064 = b.val; omega
  | ⟨1, _⟩ => show (((b.val * 4 + h.val) * 8192 + r.val) * 8448 + k.val) / 69206016 % 4 = h.val; omega
  | ⟨2, _⟩ => rfl
  | ⟨3, _⟩ => show (((b.val * 4 + h.val) * 8192 + r.val) * 8448 + k.val) / 8448 % 8192 = r.val; omega
  | ⟨4, _⟩ => show (((b.val * 4 + h.val) * 8192 + r.val) * 8448 + k.val) % 8448 = k.val; omega

/-- The difference's weight. -/
def lam : EReal := Ideal.exp (∑ x : Fin 64, x0 (ix2 0 x) * x0 (ix2 1 x))
    - Ideal.exp (∑ x : Fin 64, x0 (ix2 2 x) * x0 (ix2 3 x)) + Ideal.ofBits .f32 0x3E4CCCCD#32

/-- A row's attention, one channel of it. -/
def att (b h : Fin 4) (r : Fin 8192) (e : Fin 128) : EReal :=
  ∑ k : Fin 8448, (prob x2 x3 x5 b h 0 r k - lam x0 * prob x2 x3 x5 b h 1 r k) * valAt x4 x6 b k ⟨h.val * 128 + e.val, vchan_lt h e⟩

theorem v56_eq (b h : Fin 4) (r : Fin 8192) (k : Fin 8448) :
    val_main_v56 (F := Ideal) x0 x2 x3 x5 (ix4 b h r k) = prob x2 x3 x5 b h 0 r k - lam x0 * prob x2 x3 x5 b h 1 r k := by
  unfold lam
  rw [val_main_v56_apply, val_main_v55_apply, v51_eq, v53_eq, val_main_v54_apply, v15_eq]
  rfl

theorem v57_eq (b h : Fin 4) (r : Fin 8192) (e : Fin 128) :
    val_main_v57 (F := Ideal) x0 x2 x3 x4 x5 x6 (ix4 b h r e) = att x0 x2 x3 x4 x5 x6 b h r e := by
  rw [val_main_v57_apply]
  unfold att
  refine Finset.sum_congr rfl fun k _ => ?_
  rw [← v56_eq, ← v34_eq]
  exact congrArg₂ (· * ·) (congrArg (val_main_v56 (F := Ideal) x0 x2 x3 x5) (eq_ix4 _)) (congrArg (val_main_v34 (F := Ideal) x4 x6) (eq_ix4 _))

end Cert.Proof.AttnIdeal.Ref

end
-- ==== Proof.AttnIdeal.RefOut.lean ====
/- The reference's result read at an index: the attention normalised and scaled. -/
module

public import proofs.«01_k».proof.Proof.AttnIdeal.Ref
public import Idealize.ShloMosaic.Lib.Pointwise

@[expose] public section

set_option maxRecDepth 16384

noncomputable section

namespace Cert.Proof.AttnIdeal.Ref

open Cert.AttnRefIdeal Cert.AttnRefIdeal.Gen Cert.AttnRefIdeal.Read
open Idealize.ShloMosaic

variable (x0 : FVec Ideal S4x64 .f32) (x1 : FVec Ideal S128x1 .f32) (x2 x3 : FVec Ideal S4x8192x512 .bf16) (x4 : FVec Ideal S4x512x8192 .bf16)
  (x5 : FVec Ideal S4x256x512 .bf16) (x6 : FVec Ideal S4x512x256 .bf16)

/-- The attention normalised and scaled. -/
def out (b h : Fin 4) (r : Fin 8192) (e : Fin 128) : EReal :=
  att x0 x2 x3 x4 x5 x6 b h r e
    * Ideal.rsqrt (Ideal.div (∑ e' : Fin 128, att x0 x2 x3 x4 x5 x6 b h r e' * att x0 x2 x3 x4 x5 x6 b h r e') (Ideal.ofBits .f32 0x43000000#32)
        + Ideal.ofBits .f32 0x358637BD#32)
    * x1 (ix2 e 0) * Ideal.ofBits .f32 0x3F4CCCCD#32

theorem v60_eq (b h : Fin 4) (r : Fin 8192) :
    val_main_v60 (F := Ideal) x0 x2 x3 x4 x5 x6 (ix3 b h r)
      = ∑ e' : Fin 128, att x0 x2 x3 x4 x5 x6 b h r e' * att x0 x2 x3 x4 x5 x6 b h r e' := by
  rw [val_main_v60_apply, show val_main_cst_6 (F := Ideal) (Shape.Idx.first h_S_) = (0 : EReal) from Ideal.ofBits_zero_f32, zero_add]
  refine Finset.sum_congr rfl fun e' _ => ?_
  have hi : idx_main_v60 (ix3 b h r) e' = ix4 b h r e' := eq_ix4 _
  rw [val_main_v59_apply, hi, v57_eq]
  rfl

theorem v67_eq (b h : Fin 4) (r : Fin 8192) (e : Fin 128) :
    val_main_v67 (F := Ideal) x0 x2 x3 x4 x5 x6 (ix4 b h r e)
      = Ideal.rsqrt (Ideal.div (∑ e' : Fin 128, att x0 x2 x3 x4 x5 x6 b h r e' * att x0 x2 x3 x4 x5 x6 b h r e') (Ideal.ofBits .f32 0x43000000#32)
        + Ideal.ofBits .f32 0x358637BD#32) := by
  have hi : idx_main_v61 (idx_main_v67 (ix4 b h r e)) = ix3 b h r := eq_ix3 _
  rw [val_main_v67_apply, val_main_v66_apply, val_main_v65_apply, val_main_v63_apply, val_main_v61_apply, val_main_v62_apply, val_main_v64_apply,
    val_main_cst_7_apply, val_main_cst_8_apply, hi, v60_eq]
  rfl

theorem v70_eq (b h : Fin 4) (r : Fin 8192) (e : Fin 128) : val_main_v70 (F := Ideal) x1 (ix4 b h r e) = x1 (ix2 e 0) := by
  rw [val_main_v70_apply, val_main_v69_apply, val_main_v58_apply]
  exact congrArg x1 (funext fun a => Fin.ext (by
      match a with
      | ⟨0, _⟩ => show e.val / 1 = e.val; omega
      | ⟨1, _⟩ => rfl))

theorem v73_eq (b h : Fin 4) (r : Fin 8192) (e : Fin 128) :
    val_main_v73 (F := Ideal) x0 x1 x2 x3 x4 x5 x6 (ix4 b h r e) = out x0 x1 x2 x3 x4 x5 x6 b h r e := by
  rw [val_main_v73_apply, val_main_v72_apply, val_main_v71_apply, val_main_v68_apply, v70_eq, v57_eq, v67_eq, val_main_cst_9_apply]
  rfl

theorem v76_eq (b : Fin 4) (r : Fin 8192) (c : Fin 512) :
    val_main_v76 (F := Ideal) x0 x1 x2 x3 x4 x5 x6 (ix3 b r c) = out x0 x1 x2 x3 x4 x5 x6 b ⟨c.val / 128, by omega⟩ r ⟨c.val % 128, by omega⟩ := by
  rw [val_main_v76_apply, val_main_v75_apply, val_main_v74_apply, ← v73_eq]
  refine congrArg (val_main_v73 (F := Ideal) x0 x1 x2 x3 x4 x5 x6) ?_
  funext a
  apply Fin.ext
  match a with
  | ⟨0, _⟩ => show ((b.val * 8192 + r.val) * 512 + c.val) / 4194304 = b.val; omega
  | ⟨1, _⟩ => show ((b.val * 8192 + r.val) * 512 + c.val) / 128 % 4 = c.val / 128; omega
  | ⟨2, _⟩ => show ((b.val * 8192 + r.val) * 512 + c.val) / 512 % 8192 = r.val; omega
  | ⟨3, _⟩ => show ((b.val * 8192 + r.val) * 512 + c.val) % 128 = c.val % 128; omega

end Cert.Proof.AttnIdeal.Ref

end
-- ==== Proof.AttnIdeal.Tile.lean ====
/- The attention kernel's tile against the reference: where the blocks are those of batch `b` and head `h`, each element of a tile is the
   reference's result at that row and channel. -/
module

public import proofs.«01_k».proof.Proof.AttnIdeal.Run
public import proofs.«01_k».proof.Proof.AttnIdeal.Value
public import proofs.«01_k».proof.Proof.AttnIdeal.RefOut

@[expose] public section

set_option maxRecDepth 16384

noncomputable section

namespace Cert.Proof.AttnIdeal

open Cert.AttnIdeal Cert.AttnIdeal.Gen Cert.Proof.Soft
open Idealize.ShloMosaic

theorem idx_one {A B : ℕ} (i : (⟨3, ![1, A, B]⟩ : Shape).Idx) : ∃ (x : Fin A) (y : Fin B), i = ix3 0 x y :=
  ⟨i 1, i 2, (eq_ix3 i).trans (congrArg (fun z : Fin 1 => ix3 z _ _) (Subsingleton.elim (α := Fin 1) (i 0) 0))⟩
theorem idx_two {A B : ℕ} (i : (⟨2, ![A, B]⟩ : Shape).Idx) : ∃ (x : Fin A) (y : Fin B), i = ix2 x y := ⟨i 0, i 1, eq_ix2 i⟩

theorem ch_lt (h : Fin 4) (d : Fin 128) : h.val * 128 + d.val < 512 := by omega

/-- The blocks of batch `b` and head `h`. -/
structure Blocks (x1 : FVec Ideal S128x1 .f32) (x2 x3 : FVec Ideal S4x8192x512 .bf16) (x4 : FVec Ideal S4x512x8192 .bf16)
    (x5 : FVec Ideal S4x256x512 .bf16) (x6 : FVec Ideal S4x512x256 .bf16) (b h : Fin 4) (I : Inp Ideal) : Prop where
  g : ∀ e : Fin 128, I.g (ix2 e 0) = x1 (ix2 e 0)
  q : ∀ (r : Fin 8192) (d : Fin 128), I.q (ix3 0 r d) = x2 (ix3 b r ⟨h.val * 128 + d.val, ch_lt h d⟩)
  k : ∀ (r : Fin 8192) (d : Fin 128), I.k (ix3 0 r d) = x3 (ix3 b r ⟨h.val * 128 + d.val, ch_lt h d⟩)
  v : ∀ (d : Fin 128) (r : Fin 8192), I.v (ix3 0 d r) = x4 (ix3 b ⟨h.val * 128 + d.val, ch_lt h d⟩ r)
  kc : ∀ (r : Fin 256) (d : Fin 128), I.kc (ix3 0 r d) = x5 (ix3 b r ⟨h.val * 128 + d.val, ch_lt h d⟩)
  vc : ∀ (d : Fin 128) (r : Fin 256), I.vc (ix3 0 d r) = x6 (ix3 b ⟨h.val * 128 + d.val, ch_lt h d⟩ r)

section
variable (x0 : FVec Ideal S4x64 .f32) (x1 : FVec Ideal S128x1 .f32) (x2 x3 : FVec Ideal S4x8192x512 .bf16) (x4 : FVec Ideal S4x512x8192 .bf16)
  (x5 : FVec Ideal S4x256x512 .bf16) (x6 : FVec Ideal S4x512x256 .bf16) (b h : Fin 4) (I : Inp Ideal) (hB : Blocks x1 x2 x3 x4 x5 x6 b h I)
include hB

theorem keyK_eq (k : Fin 8448) (d : Fin 128) : keyK I k d = Ref.keyAt x3 x5 b k ⟨h.val * 128 + d.val, ch_lt h d⟩ := by
  unfold keyK Ref.keyAt
  split
  · exact hB.kc _ _
  · exact hB.k _ _

theorem valK_eq (k : Fin 8448) (d : Fin 128) : valK I k d = Ref.valAt x4 x6 b k ⟨h.val * 128 + d.val, ch_lt h d⟩ := by
  unfold valK Ref.valAt
  split
  · exact hB.vc _ _
  · exact hB.v _ _

theorem tq_eq (t : Fin 32) (c : Fin 256) (d : Fin 128) :
    tq I t.val (ix3 0 c d) = x2 (ix3 b ⟨256 * t.val + c.val, by omega⟩ ⟨h.val * 128 + d.val, ch_lt h d⟩) := by
  unfold tq
  rw [dif_pos (by omega), ← hB.q]
  refine congrArg I.q (funext fun a => Fin.ext ?_)
  match a with
  | ⟨0, _⟩ => rfl
  | ⟨1, _⟩ => show 256 * t.val + 1 * c.val = 256 * t.val + c.val; omega
  | ⟨2, _⟩ => show 0 + 1 * d.val = d.val; omega

theorem score0_eq (t : Fin 32) (c : Fin 256) (k : Fin 8448) :
    scoreK I (qm0 (F := Ideal) k0_pay1006 (tq I t.val)) c k = Ref.score x2 x3 x5 b h 0 ⟨256 * t.val + c.val, by omega⟩ k := by
  unfold scoreK Ref.score
  rw [Fin.sum_univ_two_halves 64 64 rfl]
  have hz : ∑ d : Fin 64, keyK I k ⟨64 + d.val, by omega⟩ * qm0 (F := Ideal) k0_pay1006 (tq I t.val) (ix2 c ⟨64 + d.val, by omega⟩) = 0 := by
    refine Finset.sum_eq_zero fun d _ => ?_
    rw [qm0_apply, if_neg (by simp), mul_zero]
  rw [hz, add_zero]
  refine Finset.sum_congr rfl fun d _ => ?_
  rw [qm0_apply, if_pos (by simp), keyK_eq x1 x2 x3 x4 x5 x6 b h I hB, tq_eq x1 x2 x3 x4 x5 x6 b h I hB, mul_comm]
  refine congrArg₂ (fun i j => x2 (ix3 b _ i) * Ref.keyAt x3 x5 b k j) ?_ ?_ <;> exact Fin.ext (by show _ = h.val * 128 + 0 * 64 + d.val; simp)

theorem score1_eq (t : Fin 32) (c : Fin 256) (k : Fin 8448) :
    scoreK I (qm1 (F := Ideal) k0_pay1006 (tq I t.val)) c k = Ref.score x2 x3 x5 b h 1 ⟨256 * t.val + c.val, by omega⟩ k := by
  unfold scoreK Ref.score
  rw [Fin.sum_univ_two_halves 64 64 rfl]
  have hz : ∑ d : Fin 64, keyK I k ⟨d.val, by omega⟩ * qm1 (F := Ideal) k0_pay1006 (tq I t.val) (ix2 c ⟨d.val, by omega⟩) = 0 := by
    refine Finset.sum_eq_zero fun d _ => ?_
    rw [qm1_apply, if_pos (by simp), mul_zero]
  rw [hz, zero_add]
  refine Finset.sum_congr rfl fun d _ => ?_
  rw [qm1_apply, if_neg (by simp), keyK_eq x1 x2 x3 x4 x5 x6 b h I hB, tq_eq x1 x2 x3 x4 x5 x6 b h I hB, mul_comm]
  refine congrArg₂ (fun i j => x2 (ix3 b _ i) * Ref.keyAt x3 x5 b k j) ?_ ?_ <;> exact Fin.ext (by show _ = h.val * 128 + 1 * 64 + d.val; simp; omega)

variable (h0 : ∀ i, IsR (x0 i)) (h2 : ∀ i, IsR (x2 i)) (h3 : ∀ i, IsR (x3 i)) (h4 : ∀ i, IsR (x4 i)) (h5 : ∀ i, IsR (x5 i)) (h6 : ∀ i, IsR (x6 i))

include h2 h3 h4 h5 h6 in
theorem real_of : Real I where
  q i := by obtain ⟨x, y, rfl⟩ := idx_one i; rw [hB.q]; exact h2 _
  k i := by obtain ⟨x, y, rfl⟩ := idx_one i; rw [hB.k]; exact h3 _
  v i := by obtain ⟨x, y, rfl⟩ := idx_one i; rw [hB.v]; exact h4 _
  kc i := by obtain ⟨x, y, rfl⟩ := idx_one i; rw [hB.kc]; exact h5 _
  vc i := by obtain ⟨x, y, rfl⟩ := idx_one i; rw [hB.vc]; exact h6 _

omit hB in
include h2 h3 h5 in
theorem rowMax_real (u : Fin 2) (r : Fin 8192) : IsR (Ref.rowMax x2 x3 x5 b h u r) := by
  unfold Ref.rowMax
  have hk : ∀ k ch, IsR (Ref.keyAt x3 x5 b k ch) := fun k ch => by unfold Ref.keyAt; split; exacts [h5 _, h3 _]
  have hl : IsR (Finset.univ.fold max (Ideal.ofBits .f32 0xFF800000#32) fun k : Fin 8448 => Ref.lsc x2 x3 x5 b h u r k) :=
    IsR.fold _ ⟨0, Finset.mem_univ _⟩ _ fun k => by
      refine IsR.mul (IsR.sum _ _ fun d => (h2 _).mul (hk _ _)) ?_
      rw [lit_two]; exact ⟨_, rfl⟩
  rw [negInf, max_eq_right bot_le, ← negInf]
  exact hl

omit hB in
include h0 in
theorem lam_real : IsR (Ref.lam x0) := by
  unfold Ref.lam
  refine IsR.add (IsR.sub ?_ ?_) ⟨_, rfl⟩ <;> exact IsR.exp (IsR.sum _ _ fun d => (h0 _).mul (h0 _))

include h0 h2 h3 h4 h5 h6 in
/-- An element of the tile's difference. -/
theorem dif_att (lam : FVec Ideal S1x1 .f32) (hlam : lam (ix2 0 0) = Ref.lam x0) (t : Fin 32) (e : Fin 128) (c : Fin 256) :
    dif (F := Ideal) lam (Lf I (qm0 k0_pay1006 (tq I t.val)) (mrow I (qm0 k0_pay1006 (tq I t.val))) 32)
      (Lf I (qm1 k0_pay1006 (tq I t.val)) (mrow I (qm1 k0_pay1006 (tq I t.val))) 32)
      (Af I (qm0 k0_pay1006 (tq I t.val)) (mrow I (qm0 k0_pay1006 (tq I t.val))) 32)
      (Af I (qm1 k0_pay1006 (tq I t.val)) (mrow I (qm1 k0_pay1006 (tq I t.val))) 32) (ix2 e c)
    = Ref.att x0 x2 x3 x4 x5 x6 b h ⟨256 * t.val + c.val, by omega⟩ e := by
  have hI := real_of x1 x2 x3 x4 x5 x6 b h I hB h2 h3 h4 h5 h6
  have hq : ∀ i, IsR (tq I t.val i) := fun i => by
    unfold tq; split <;> exact hI.q _
  have hq0 : ∀ i, IsR (qm0 (F := Ideal) k0_pay1006 (tq I t.val) i) := fun i => by
    obtain ⟨x, y, rfl⟩ := idx_two i; rw [qm0_apply]; split; exacts [hq _, IsR.zero]
  have hq1 : ∀ i, IsR (qm1 (F := Ideal) k0_pay1006 (tq I t.val) i) := fun i => by
    obtain ⟨x, y, rfl⟩ := idx_two i; rw [qm1_apply]; split; exacts [IsR.zero, hq _]
  rw [dif_eq I hI lam _ _ hq0 hq1 (by rw [hlam]; exact lam_real x0 h0)
    (Ref.rowMax x2 x3 x5 b h 0 ⟨256 * t.val + c.val, by omega⟩) (Ref.rowMax x2 x3 x5 b h 1 ⟨256 * t.val + c.val, by omega⟩)
    (rowMax_real x2 x3 x5 b h h2 h3 h5 _ _) (rowMax_real x2 x3 x5 b h h2 h3 h5 _ _) e c]
  simp only [score0_eq x1 x2 x3 x4 x5 x6 b h I hB, score1_eq x1 x2 x3 x4 x5 x6 b h I hB, valK_eq x1 x2 x3 x4 x5 x6 b h I hB, hlam]
  rfl

include h0 h2 h3 h4 h5 h6 in
/-- An element of the tile. -/
theorem tile_out (lam : FVec Ideal S1x1 .f32) (hlam : lam (ix2 0 0) = Ref.lam x0) (t : Fin 32) (e : Fin 128) (c : Fin 256) :
    tileO I k0_pay1006 lam (tq I t.val) (ix3 0 c e) = Ref.out x0 x1 x2 x3 x4 x5 x6 b h ⟨256 * t.val + c.val, by omega⟩ e := by
  unfold tileO
  have hg : VecWindow.window I.g ![0, 0] S128x1.size inb_S128x1_S128x1_0_0 (ix2 e 0) = x1 (ix2 e 0) := by
    rw [← hB.g]
    refine congrArg I.g (funext fun a => Fin.ext ?_)
    match a with
    | ⟨0, _⟩ => show 0 + 1 * e.val = e.val; omega
    | ⟨1, _⟩ => rfl
  have hd := fun e => dif_att x0 x1 x2 x3 x4 x5 x6 b h I hB h0 h2 h3 h4 h5 h6 lam hlam t e c
  rw [outT_apply, rms_apply, hg]
  simp only [hd]
  rfl

end

end Cert.Proof.AttnIdeal

end
-- ==== Proof.AttnIdeal.Pre.lean ====
/- The precondition read: every argument it bounds is real at every index. -/
module

public import proofs.«01_k».proof.Proof.AttnIdeal.Soft
public import proofs.«01_k».proof.Proof.Gen.Pre_all_finite

@[expose] public section

noncomputable section

namespace Cert.Proof.AttnIdeal

open Idealize.ShloMosaic Cert.Proof.Soft Cert.Pre_all_finite

theorem posInf : Ideal.ofBits .f32 0x7F800000#32 = (⊤ : EReal) := rfl

/-- A value whose absolute value compares below infinity is real. -/
theorem real_of_lt (x : EReal) (h : Ideal.cmp .olt (max x (-x)) (Ideal.ofBits .f32 0x7F800000#32) = 1#1) : IsR x := by
  rw [posInf] at h
  have hlt : max x (-x) < ⊤ := by
    by_contra hn
    simp [Ideal.cmp, hn] at h
  induction x with
  | bot => simp at hlt
  | top => simp at hlt
  | coe r => exact ⟨r, rfl⟩

theorem real_of_cmp {s : Shape} {φ : FTy} (x : FVec Ideal s φ) (y : IVec s 1) (h : y = fun _ => 1#1)
    (hy : ∀ i, y i = Ideal.cmp .olt (max (x i) (-(x i))) (Ideal.ofBits .f32 0x7F800000#32)) (i : s.Idx) : IsR (x i) :=
  real_of_lt (x i) ((hy i).symm.trans (congrFun h i))

variable (x0 : FVec Ideal S4x64 .f32) (x1 : FVec Ideal S128x1 .f32) (x2 x3 : FVec Ideal S4x8192x512 .bf16) (x4 : FVec Ideal S4x512x8192 .bf16)
  (x5 : FVec Ideal S4x256x512 .bf16) (x6 : FVec Ideal S4x512x256 .bf16)

theorem pre0 (h : (fn (F := Ideal) x0 x1 x2 x3 x4 x5 x6).1 = fun _ => 1#1) : ∀ i, IsR (x0 i) := real_of_cmp x0 _ h fun _ => rfl
theorem pre2 (h : (fn (F := Ideal) x0 x1 x2 x3 x4 x5 x6).2.1 = fun _ => 1#1) : ∀ i, IsR (x2 i) := real_of_cmp x2 _ h fun _ => rfl
theorem pre3 (h : (fn (F := Ideal) x0 x1 x2 x3 x4 x5 x6).2.2.1 = fun _ => 1#1) : ∀ i, IsR (x3 i) := real_of_cmp x3 _ h fun _ => rfl
theorem pre4 (h : (fn (F := Ideal) x0 x1 x2 x3 x4 x5 x6).2.2.2.1 = fun _ => 1#1) : ∀ i, IsR (x4 i) := real_of_cmp x4 _ h fun _ => rfl
theorem pre5 (h : (fn (F := Ideal) x0 x1 x2 x3 x4 x5 x6).2.2.2.2.1 = fun _ => 1#1) : ∀ i, IsR (x5 i) := real_of_cmp x5 _ h fun _ => rfl
theorem pre6 (h : (fn (F := Ideal) x0 x1 x2 x3 x4 x5 x6).2.2.2.2.2 = fun _ => 1#1) : ∀ i, IsR (x6 i) := real_of_cmp x6 _ h fun _ => rfl

end Cert.Proof.AttnIdeal

end
-- ==== Proof.AttnIdeal.Final.lean ====
/- The attention's result array: each block is written back at its place, so the array ends at the reference's result of the arguments. -/
module

public import proofs.«01_k».proof.Proof.AttnIdeal.Tile
public import proofs.«01_k».proof.Proof.AttnIdeal.Pre

@[expose] public section

set_option maxRecDepth 16384

noncomputable section

namespace Cert.Proof.AttnIdeal

open Cert.AttnIdeal Cert.AttnIdeal.Gen Cert.Proof.Soft
open Idealize.ShloMosaic Idealize.ShloMosaic.TcCoe Idealize.SL.Sem

variable (m : (ℓ : Loc nD τ sig) → Buf (Elt Ideal) ℓ) (ρ : Dev nD → PrngReg)

/-- The arguments of device `c`. -/
abbrev a0 (c : Dev nD) : FVec Ideal S4x64 .f32 := m ((c : Thread nD τ).loc main_arg0)
abbrev a1 (c : Dev nD) : FVec Ideal S128x1 .f32 := m ((c : Thread nD τ).loc main_arg1)
abbrev a2 (c : Dev nD) : FVec Ideal S4x8192x512 .bf16 := m ((c : Thread nD τ).loc main_arg2)
abbrev a3 (c : Dev nD) : FVec Ideal S4x8192x512 .bf16 := m ((c : Thread nD τ).loc main_arg3)
abbrev a4 (c : Dev nD) : FVec Ideal S4x512x8192 .bf16 := m ((c : Thread nD τ).loc main_arg4)
abbrev a5 (c : Dev nD) : FVec Ideal S4x256x512 .bf16 := m ((c : Thread nD τ).loc main_arg5)
abbrev a6 (c : Dev nD) : FVec Ideal S4x512x256 .bf16 := m ((c : Thread nD τ).loc main_arg6)

/-- The result array of device `c`. -/
def G (c : Dev nD) : Buf (Elt Ideal) ((c : Thread nD τ).loc main_v0) := fun i : S4x8192x512.Idx =>
  Ref.out (a0 m c) (a1 m c) (a2 m c) (a3 m c) (a4 m c) (a5 m c) (a6 m c) (i 0) ⟨(i 2).val / 128, Nat.div_lt_of_lt_mul (i 2).isLt⟩ (i 1)
    ⟨(i 2).val % 128, Nat.mod_lt _ (by decide)⟩

/-- A point's batch and head. -/
def pb (t : Fin cfg0.N) : Fin 4 := ⟨t.val / 4, Nat.div_lt_of_lt_mul t.isLt⟩
def ph (t : Fin cfg0.N) : Fin 4 := ⟨t.val % 4, Nat.mod_lt _ (by decide)⟩

theorem idx2 : ∀ t : Fin 16, win0_2.index t 0 = t.val / 4 ∧ win0_2.index t 1 = 0 ∧ win0_2.index t 2 = t.val % 4 := by decide +kernel
theorem idx3 : ∀ t : Fin 16, win0_3.index t 0 = t.val / 4 ∧ win0_3.index t 1 = 0 ∧ win0_3.index t 2 = t.val % 4 := by decide +kernel
theorem idx4 : ∀ t : Fin 16, win0_4.index t 0 = t.val / 4 ∧ win0_4.index t 1 = t.val % 4 ∧ win0_4.index t 2 = 0 := by decide +kernel
theorem idx5 : ∀ t : Fin 16, win0_5.index t 0 = t.val / 4 ∧ win0_5.index t 1 = 0 ∧ win0_5.index t 2 = t.val % 4 := by decide +kernel
theorem idx6 : ∀ t : Fin 16, win0_6.index t 0 = t.val / 4 ∧ win0_6.index t 1 = t.val % 4 ∧ win0_6.index t 2 = 0 := by decide +kernel
theorem idx7 : ∀ t : Fin 16, win0_7.index t 0 = t.val / 4 ∧ win0_7.index t 1 = 0 ∧ win0_7.index t 2 = t.val % 4 := by decide +kernel
theorem idx0 : ∀ t : Fin 16, win0_0.index t 0 = 0 ∧ win0_0.index t 1 = 0 := by decide +kernel
theorem idx1 : ∀ t : Fin 16, win0_1.index t 0 = 0 ∧ win0_1.index t 1 = 0 := by decide +kernel

theorem iblk0 (c : Dev nD) (t : Fin cfg0.N) (x : Fin 4) (y : Fin 64) : (iblk m c 0 t : Vec Ideal S4x64 .f32) (ix2 x y) = a0 m c (ix2 x y) := by
  unfold iblk
  refine congrArg (a0 m c) (funext fun a => Fin.ext ?_)
  obtain ⟨e0, e1⟩ := idx0 t
  match a with
  | ⟨0, _⟩ => show win0_0.index t 0 * 4 + 1 * x.val = x.val; rw [e0]; omega
  | ⟨1, _⟩ => show win0_0.index t 1 * 64 + 1 * y.val = y.val; rw [e1]; omega

theorem iblk1 (c : Dev nD) (t : Fin cfg0.N) (x : Fin 128) (y : Fin 1) : (iblk m c 1 t : Vec Ideal S128x1 .f32) (ix2 x y) = a1 m c (ix2 x y) := by
  unfold iblk
  refine congrArg (a1 m c) (funext fun a => Fin.ext ?_)
  obtain ⟨e0, e1⟩ := idx1 t
  match a with
  | ⟨0, _⟩ => show win0_1.index t 0 * 128 + 1 * x.val = x.val; rw [e0]; omega
  | ⟨1, _⟩ => show win0_1.index t 1 * 1 + 1 * y.val = y.val; rw [e1]; omega

theorem iblk2 (c : Dev nD) (t : Fin cfg0.N) (r : Fin 8192) (d : Fin 128) :
    (iblk m c 2 t : Vec Ideal S1x8192x128 .bf16) (ix3 0 r d) = a2 m c (ix3 (pb t) r ⟨(ph t).val * 128 + d.val, ch_lt (ph t) d⟩) := by
  unfold iblk
  refine congrArg (a2 m c) (funext fun a => Fin.ext ?_)
  obtain ⟨e0, e1, e2⟩ := idx2 t
  match a with
  | ⟨0, _⟩ => show win0_2.index t 0 * 1 + 1 * 0 = t.val / 4; rw [e0]; omega
  | ⟨1, _⟩ => show win0_2.index t 1 * 8192 + 1 * r.val = r.val; rw [e1]; omega
  | ⟨2, _⟩ => show win0_2.index t 2 * 128 + 1 * d.val = t.val % 4 * 128 + d.val; rw [e2]; omega

theorem iblk3 (c : Dev nD) (t : Fin cfg0.N) (r : Fin 8192) (d : Fin 128) :
    (iblk m c 3 t : Vec Ideal S1x8192x128 .bf16) (ix3 0 r d) = a3 m c (ix3 (pb t) r ⟨(ph t).val * 128 + d.val, ch_lt (ph t) d⟩) := by
  unfold iblk
  refine congrArg (a3 m c) (funext fun a => Fin.ext ?_)
  obtain ⟨e0, e1, e2⟩ := idx3 t
  match a with
  | ⟨0, _⟩ => show win0_3.index t 0 * 1 + 1 * 0 = t.val / 4; rw [e0]; omega
  | ⟨1, _⟩ => show win0_3.index t 1 * 8192 + 1 * r.val = r.val; rw [e1]; omega
  | ⟨2, _⟩ => show win0_3.index t 2 * 128 + 1 * d.val = t.val % 4 * 128 + d.val; rw [e2]; omega

theorem iblk5 (c : Dev nD) (t : Fin cfg0.N) (r : Fin 256) (d : Fin 128) :
    (iblk m c 5 t : Vec Ideal S1x256x128 .bf16) (ix3 0 r d) = a5 m c (ix3 (pb t) r ⟨(ph t).val * 128 + d.val, ch_lt (ph t) d⟩) := by
  unfold iblk
  refine congrArg (a5 m c) (funext fun a => Fin.ext ?_)
  obtain ⟨e0, e1, e2⟩ := idx5 t
  match a with
  | ⟨0, _⟩ => show win0_5.index t 0 * 1 + 1 * 0 = t.val / 4; rw [e0]; omega
  | ⟨1, _⟩ => show win0_5.index t 1 * 256 + 1 * r.val = r.val; rw [e1]; omega
  | ⟨2, _⟩ => show win0_5.index t 2 * 128 + 1 * d.val = t.val % 4 * 128 + d.val; rw [e2]; omega

theorem iblk4 (c : Dev nD) (t : Fin cfg0.N) (d : Fin 128) (r : Fin 8192) :
    (iblk m c 4 t : Vec Ideal S1x128x8192 .bf16) (ix3 0 d r) = a4 m c (ix3 (pb t) ⟨(ph t).val * 128 + d.val, ch_lt (ph t) d⟩ r) := by
  unfold iblk
  refine congrArg (a4 m c) (funext fun a => Fin.ext ?_)
  obtain ⟨e0, e1, e2⟩ := idx4 t
  match a with
  | ⟨0, _⟩ => show win0_4.index t 0 * 1 + 1 * 0 = t.val / 4; rw [e0]; omega
  | ⟨1, _⟩ => show win0_4.index t 1 * 128 + 1 * d.val = t.val % 4 * 128 + d.val; rw [e1]; omega
  | ⟨2, _⟩ => show win0_4.index t 2 * 8192 + 1 * r.val = r.val; rw [e2]; omega

theorem iblk6 (c : Dev nD) (t : Fin cfg0.N) (d : Fin 128) (r : Fin 256) :
    (iblk m c 6 t : Vec Ideal S1x128x256 .bf16) (ix3 0 d r) = a6 m c (ix3 (pb t) ⟨(ph t).val * 128 + d.val, ch_lt (ph t) d⟩ r) := by
  unfold iblk
  refine congrArg (a6 m c) (funext fun a => Fin.ext ?_)
  obtain ⟨e0, e1, e2⟩ := idx6 t
  match a with
  | ⟨0, _⟩ => show win0_6.index t 0 * 1 + 1 * 0 = t.val / 4; rw [e0]; omega
  | ⟨1, _⟩ => show win0_6.index t 1 * 128 + 1 * d.val = t.val % 4 * 128 + d.val; rw [e1]; omega
  | ⟨2, _⟩ => show win0_6.index t 2 * 256 + 1 * r.val = r.val; rw [e2]; omega

theorem blocks (c : Dev nD) (t : Fin cfg0.N) : Blocks (a1 m c) (a2 m c) (a3 m c) (a4 m c) (a5 m c) (a6 m c) (pb t) (ph t) (inp m c t) where
  g e := iblk1 m c t e 0
  q := iblk2 m c t
  k := iblk3 m c t
  v := iblk4 m c t
  kc := iblk5 m c t
  vc := iblk6 m c t

theorem lamAt_eq (c : Dev nD) (t : Fin cfg0.N) : lamAt m c t (ix2 0 0) = Ref.lam (a0 m c) := by
  have h (x : Fin 4) (y : Fin 64) :
      VecWindow.window (iblk m c 0 t : Vec Ideal S4x64 .f32) ![0, 0] S4x64.size inb_S4x64_S4x64_0_0 (ix2 x y) = a0 m c (ix2 x y) := by
    rw [← iblk0 m c t x y]
    refine congrArg (iblk m c 0 t : Vec Ideal S4x64 .f32) (funext fun a => Fin.ext ?_)
    match a with
    | ⟨0, _⟩ => show 0 + 1 * x.val = x.val; omega
    | ⟨1, _⟩ => show 0 + 1 * y.val = y.val; omega
  unfold lamAt Ref.lam
  rw [lam_apply]
  simp only [h]

/-- The arguments that are taken to be real. -/
structure Args (c : Dev nD) : Prop where
  h0 : ∀ i, IsR (a0 m c i)
  h2 : ∀ i, IsR (a2 m c i)
  h3 : ∀ i, IsR (a3 m c i)
  h4 : ∀ i, IsR (a4 m c i)
  h5 : ∀ i, IsR (a5 m c i)
  h6 : ∀ i, IsR (a6 m c i)

variable (hm : ∀ c, Args m c)
include hm

/-- What a point writes back is its block of the result. -/
theorem flushed_eq (c : Dev nD) (t : Fin cfg0.N) : (dats m 0 c).flushed 7 t = (win0_7.blk t).view.read (Elt Ideal) (G m c) := by
  show (cfg0.win 7).cut (grid0.coords t) ((dats m 0 c).after 7 t) = _
  rw [after0_7]
  funext (y : S1x8192x128.Idx)
  obtain ⟨r, e, rfl⟩ := idx_one y
  obtain ⟨e0, e1, e2⟩ := idx7 t
  refine Eq.trans (b := Ref.out (a0 m c) (a1 m c) (a2 m c) (a3 m c) (a4 m c) (a5 m c) (a6 m c) (pb t) (ph t) r e) ?_ ?_
  · have h := tile_out (a0 m c) (a1 m c) (a2 m c) (a3 m c) (a4 m c) (a5 m c) (a6 m c) (pb t) (ph t) (inp m c t) (blocks m c t)
      (hm c).h0 (hm c).h2 (hm c).h3 (hm c).h4 (hm c).h5 (hm c).h6 (lamAt m c t) (lamAt_eq m c t) ⟨r.val / 256, by omega⟩ e
      ⟨r.val % 256, Nat.mod_lt _ (by decide)⟩
    refine Eq.trans ?_ (h.trans ?_)
    · show outF (inp m c t) (lamAt m c t) (ix3 0 r e) = _
      unfold outF
      exact congrArg (tileO (inp m c t) k0_pay1006 (lamAt m c t) (tq (inp m c t) (r.val / 256))) (eq_ix3 _)
    · refine congrArg (fun r' => Ref.out (a0 m c) (a1 m c) (a2 m c) (a3 m c) (a4 m c) (a5 m c) (a6 m c) (pb t) (ph t) r' e) (Fin.ext ?_)
      show 256 * (r.val / 256) + r.val % 256 = r.val
      omega
  · have hv : ((win0_7.blk t).view.emb (ix3 0 r e) : S4x8192x512.Idx) = ix3 (pb t) r ⟨(ph t).val * 128 + e.val, ch_lt (ph t) e⟩ := by
      funext a
      apply Fin.ext
      match a with
      | ⟨0, _⟩ => show win0_7.index t 0 * 1 + 1 * 0 = t.val / 4; rw [e0]; omega
      | ⟨1, _⟩ => show win0_7.index t 1 * 8192 + 1 * r.val = r.val; rw [e1]; omega
      | ⟨2, _⟩ => show win0_7.index t 2 * 128 + 1 * e.val = t.val % 4 * 128 + e.val; rw [e2]; omega
    show _ = G m c ((win0_7.blk t).view.emb (ix3 0 r e))
    rw [hv]
    refine congrArg₂ (fun h' e' => Ref.out (a0 m c) (a1 m c) (a2 m c) (a3 m c) (a4 m c) (a5 m c) (a6 m c) (pb t) h' r e') (Fin.ext ?_) (Fin.ext ?_)
    · show (ph t).val = ((ph t).val * 128 + e.val) / 128; omega
    · show e.val = ((ph t).val * 128 + e.val) % 128; omega

omit hm in
theorem mem_blk (t : Fin cfg0.N) (i : S4x8192x512.Idx) :
    i ∈ ((cfg0.win 7).blk t).view.set ↔ t.val / 4 = (i 0 : Nat) ∧ t.val % 4 = (i 2 : Nat) / 128 := by
  show i ∈ ((View.whole main_v0).slice (win0_7.rect t)).set ↔ _
  rw [View.set_slice_whole, Rect.mem_set_unit]
  obtain ⟨e0, e1, e2⟩ := idx7 t
  have h1 : (i 1 : Nat) < 8192 := (i 1).isLt
  refine ⟨fun h => ?_, fun h a => ?_⟩
  · have p0 : win0_7.index t 0 * 1 ≤ (i 0 : Nat) ∧ (i 0 : Nat) < win0_7.index t 0 * 1 + 1 := h 0
    have p2 : win0_7.index t 2 * 128 ≤ (i 2 : Nat) ∧ (i 2 : Nat) < win0_7.index t 2 * 128 + 128 := h 2
    rw [e0] at p0; rw [e2] at p2
    omega
  · match a with
    | ⟨0, _⟩ => show win0_7.index t 0 * 1 ≤ (i 0 : Nat) ∧ (i 0 : Nat) < win0_7.index t 0 * 1 + 1; rw [e0]; omega
    | ⟨1, _⟩ => show win0_7.index t 1 * 8192 ≤ (i 1 : Nat) ∧ (i 1 : Nat) < win0_7.index t 1 * 8192 + 8192; rw [e1]; omega
    | ⟨2, _⟩ => show win0_7.index t 2 * 128 ≤ (i 2 : Nat) ∧ (i 2 : Nat) < win0_7.index t 2 * 128 + 128; rw [e2]; omega

omit hm in
/-- The blocks cover the result. -/
theorem cover (i : S4x8192x512.Idx) : ∃ t : Fin cfg0.N, (cfg0.win 7).flush t = true ∧ i ∈ ((cfg0.win 7).blk t).view.set := by
  have h0 : (i 0 : Nat) < 4 := (i 0).isLt
  have h2 : (i 2 : Nat) < 512 := (i 2).isLt
  have ht : (i 0 : Nat) * 4 + (i 2 : Nat) / 128 < cfg0.N := by show _ < 16; omega
  refine ⟨⟨_, ht⟩, flush0_7 _, ?_⟩
  rw [mem_blk]
  dsimp only
  omega

theorem final_o (c : Dev nD) : (dats m 0 c).arrAt 7 cfg0.N = G m c :=
  (dats m 0 c).arrAt_eq_of_cover 7 (G m c) (fun t _ => flushed_eq m hm c t) cover

/-- The run: the result at the reference's formula, the arguments unchanged. -/
theorem run : θ_run (defs (F := Ideal)) (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h c).1 7).trans (final_o m hm c),
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _),
      ((h c).1 4).trans ((dats m 0 c).arrAt_in 4 rfl _), ((h c).1 5).trans ((dats m 0 c).arrAt_in 5 rfl _),
      ((h c).1 6).trans ((dats m 0 c).arrAt_in 6 rfl _)⟩)
    (run_main m ρ)

end Cert.Proof.AttnIdeal

end
-- ==== Proof.LastIdeal.Math.lean ====
/- The feed-forward's formulas over the extended reals: the modulated RMS norm of a row, the three-row convolution, the
SiLU the kernel takes through the hyperbolic tangent, the gated product. -/
module

public import proofs.«01_k».proof.Proof.AttnIdeal.Soft

@[expose] public section

noncomputable section

namespace Cert.Proof.FfnMath

open Idealize.ShloMosaic Cert.Proof.Soft

/-- One over the root of the mean square of a row. -/
def inv (x : Fin 1024 → EReal) : EReal :=
  Ideal.rsqrt (Ideal.div (∑ e : Fin 1024, x e * x e) (Ideal.ofBits .f32 0x44800000#32) + Ideal.ofBits .f32 0x358637BD#32)

/-- The modulated norm of a row. -/
def nrm (x g sh sc : Fin 1024 → EReal) (d : Fin 1024) : EReal :=
  x d * inv x * g d * (1 + sc d) + sh d

/-- A row's product with a column. -/
def up (h w : Fin 1024 → EReal) : EReal := ∑ d : Fin 1024, h d * w d

/-- The convolution over three rows. -/
def cv (w : Fin 3 → EReal) (b p c n : EReal) : EReal := w 0 * p + w 1 * c + w 2 * n + b

/-- The kernel's SiLU. -/
def silu (x : EReal) : EReal :=
  Ideal.ofBits .f32 0x3F000000#32 * x + Ideal.ofBits .f32 0x3F000000#32 * x * Ideal.tanh (Ideal.ofBits .f32 0x3F000000#32 * x)

end Cert.Proof.FfnMath

end
-- ==== Proof.LastIdeal.Spec.lean ====
/- The feed-forward as one formula of its arguments: a sequence's rows normalised, the row before the first and the row
after the last taken as zero, the convolved product, the gate's SiLU, the closing product with the residual. The two
spellings of SiLU agree at a real, and the convolved product is real where the arguments it reads are. -/
module

public import proofs.«01_k».proof.Proof.LastIdeal.Math

@[expose] public section

noncomputable section

namespace Cert.Proof.FfnMath

open Idealize.ShloMosaic Cert.Proof.Soft

/-- The arguments at their indices. -/
structure Ar where
  x : Fin 32768 → Fin 1024 → EReal
  g : Fin 1024 → EReal
  sh : Fin 4 → Fin 1024 → EReal
  sc : Fin 4 → Fin 1024 → EReal
  g2 : Fin 4 → Fin 1024 → EReal
  w : Fin 1024 → Fin 5632 → EReal
  cw : Fin 3 → Fin 5632 → EReal
  cb : Fin 5632 → EReal
  dn : Fin 2816 → Fin 1024 → EReal
  fg : Fin 1024 → EReal

/-- Row `s` of sequence `b`. -/
def row (b : Fin 4) (s : Fin 8192) : Fin 32768 := ⟨b.val * 8192 + s.val, by omega⟩

/-- A row's sequence and its place in it. -/
def bat (r : Fin 32768) : Fin 4 := ⟨r.val / 8192, by omega⟩
def pos (r : Fin 32768) : Fin 8192 := ⟨r.val % 8192, by omega⟩

/-- A column of the gate half, and of the other half. -/
def lc (n : Fin 2816) : Fin 5632 := ⟨n.val, by omega⟩
def rc (n : Fin 2816) : Fin 5632 := ⟨2816 + n.val, by omega⟩

/-- The argument arrays read so. -/
def ar (x0 : FVec Ideal ⟨2, ![32768, 1024]⟩ .f32) (x1 : FVec Ideal ⟨2, ![1, 1024]⟩ .f32) (x2 x3 x4 : FVec Ideal ⟨3, ![4, 1, 1024]⟩ .f32)
    (x5 : FVec Ideal ⟨2, ![1024, 5632]⟩ .bf16) (x6 : FVec Ideal ⟨2, ![3, 5632]⟩ .f32) (x7 : FVec Ideal ⟨2, ![1, 5632]⟩ .f32)
    (x8 : FVec Ideal ⟨2, ![2816, 1024]⟩ .bf16) (x9 : FVec Ideal ⟨2, ![1, 1024]⟩ .f32) : Ar where
  x r d := x0 (ix2 r d)
  g d := x1 (ix2 0 d)
  sh b d := x2 (ix3 b 0 d)
  sc b d := x3 (ix3 b 0 d)
  g2 b d := x4 (ix3 b 0 d)
  w d n := x5 (ix2 d n)
  cw a n := x6 (ix2 a n)
  cb n := x7 (ix2 0 n)
  dn k d := x8 (ix2 k d)
  fg d := x9 (ix2 0 d)

variable (A : Ar)

/-- A normalised row. -/
def nr (b : Fin 4) (s : Fin 8192) : Fin 1024 → EReal := nrm (A.x (row b s)) A.g (A.sh b) (A.sc b)

/-- The row before, zero at the first. -/
def pv (b : Fin 4) (s : Fin 8192) : Fin 1024 → EReal :=
  if s.val = 0 then fun _ => 0 else nr A b ⟨s.val - 1, by omega⟩

/-- The row after, zero at the last. -/
def nx (b : Fin 4) (s : Fin 8192) : Fin 1024 → EReal :=
  if h : s.val = 8191 then fun _ => 0 else nr A b ⟨s.val + 1, by omega⟩

/-- The convolved product. -/
def cvv (b : Fin 4) (s : Fin 8192) (n : Fin 5632) : EReal :=
  cv (fun a => A.cw a n) (A.cb n) (up (pv A b s) fun d => A.w d n) (up (nr A b s) fun d => A.w d n) (up (nx A b s) fun d => A.w d n)

/-- The residual row, the gate's function given. -/
def zz (σ : EReal → EReal) (b : Fin 4) (s : Fin 8192) (d : Fin 1024) : EReal :=
  A.x (row b s) d + A.g2 b d * ∑ k : Fin 2816, σ (cvv A b s (lc k)) * cvv A b s (rc k) * A.dn k d

/-- The residual row normalised. -/
def fin (σ : EReal → EReal) (b : Fin 4) (s : Fin 8192) (d : Fin 1024) : EReal :=
  zz A σ b s d * inv (zz A σ b s) * A.fg d

/-- The reference's SiLU. -/
def sil (x : EReal) : EReal := x * Ideal.div 1 (1 + Ideal.exp (-x))

theorem lit_one : Ideal.ofBits .f32 0x3F800000#32 = (1 : EReal) := by
  rw [show Ideal.ofBits .f32 0x3F800000#32 = ((1 : ℝ) : EReal) from by simp [Ideal.ofBits, Ideal.ieee, -EReal.coe_mul]; norm_num, EReal.coe_one]

theorem lit_half : Ideal.ofBits .f32 0x3F000000#32 = ((1 / 2 : ℝ) : EReal) := by
  simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

theorem lit_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- The two spellings agree at a real. -/
theorem silu_eq {x : EReal} (h : IsR x) : silu x = sil x := by
  obtain ⟨r, rfl⟩ := h
  have hp : (1 : ℝ) + Real.exp (-r) ≠ 0 := by positivity
  unfold silu sil
  rw [lit_half, ← EReal.coe_neg, Ideal.exp_coe, ← EReal.coe_one, ← EReal.coe_add, Ideal.div_coe hp, ← EReal.coe_mul,
    Ideal.tanh_coe, ← EReal.coe_mul, ← EReal.coe_add, ← EReal.coe_mul, ← EReal.coe_mul]
  congr 1
  rw [Real.tanh_eq_sinh_div_cosh, Real.sinh_eq, Real.cosh_eq]
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  rw [e1]
  generalize hb : Real.exp (-(1 / 2 * r)) = b at *
  have ha : Real.exp (1 / 2 * r) = b⁻¹ := eq_inv_of_mul_eq_one_left e2
  have hb0 : 0 < b := hb ▸ Real.exp_pos _
  rw [ha]
  field_simp
  ring

theorem inv_real (x : Fin 1024 → EReal) (h : ∀ d, IsR (x d)) : IsR (inv x) := by
  choose y hy using h
  obtain ⟨e, he, hl⟩ := lit_eps
  have hs : (∑ d : Fin 1024, x d * x d) = ((∑ d : Fin 1024, y d * y d : ℝ) : EReal) := by
    rw [coe_sum]
    exact Finset.sum_congr rfl fun d _ => by rw [hy, EReal.coe_mul]
  have h0 : 0 ≤ ∑ d : Fin 1024, y d * y d := Finset.sum_nonneg fun d _ => mul_self_nonneg _
  unfold inv
  rw [hs, lit_1024, hl, Ideal.div_coe (by norm_num), ← EReal.coe_mul, ← EReal.coe_add, Ideal.rsqrt_coe]
  have hp : 0 < (∑ d : Fin 1024, y d * y d) * (1 / 1024) + e := by positivity
  rw [if_neg (not_lt.mpr hp.le), if_neg hp.ne']
  exact ⟨_, rfl⟩

theorem sq_nonneg (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- An infinite entry takes the whole row to zero. -/
theorem inv_zero (x : Fin 1024 → EReal) (d : Fin 1024) (h : ¬ IsR (x d)) : inv x = 0 := by
  have hd : x d * x d = ⊤ := by
    generalize x d = y at h
    induction y with
    | bot => exact EReal.bot_mul_bot
    | top => exact EReal.top_mul_top
    | coe r => exact absurd ⟨r, rfl⟩ h
  have hs : ∑ e : Fin 1024, x e * x e = ⊤ :=
    top_le_iff.mp (hd ▸ Finset.single_le_sum (f := fun e => x e * x e) (fun e _ => sq_nonneg (x e)) (Finset.mem_univ d))
  obtain ⟨e, he, hl⟩ := lit_eps
  unfold inv
  rw [hs, lit_1024, hl, Ideal.div_coe (by norm_num), EReal.top_mul_coe_of_pos (by norm_num), EReal.top_add_coe, Ideal.rsqrt_top]

theorem mul_inv_real (x : Fin 1024 → EReal) (d : Fin 1024) : IsR (x d * inv x) := by
  by_cases h : ∀ e, IsR (x e)
  · exact (h d).mul (inv_real x h)
  · obtain ⟨e, he⟩ := not_forall.mp h
    rw [inv_zero x e he, mul_zero]
    exact IsR.zero

theorem nrm_real (x g sh sc : Fin 1024 → EReal) (hg : ∀ d, IsR (g d)) (hs : ∀ d, IsR (sh d)) (hc : ∀ d, IsR (sc d))
    (d : Fin 1024) : IsR (nrm x g sh sc d) :=
  (((mul_inv_real x d).mul (hg d)).mul (IsR.add ⟨1, rfl⟩ (hc d))).add (hs d)

theorem up_real (h w : Fin 1024 → EReal) (hh : ∀ d, IsR (h d)) (hw : ∀ d, IsR (w d)) : IsR (up h w) :=
  IsR.sum _ _ fun d => (hh d).mul (hw d)

/-- The arguments that are taken to be real. -/
structure Fine : Prop where
  g : ∀ d, IsR (A.g d)
  sh : ∀ b d, IsR (A.sh b d)
  sc : ∀ b d, IsR (A.sc b d)
  w : ∀ d n, IsR (A.w d n)
  cw : ∀ a n, IsR (A.cw a n)
  cb : ∀ n, IsR (A.cb n)

variable {A}

theorem Fine.nr (h : Fine A) (b : Fin 4) (s : Fin 8192) (d : Fin 1024) : IsR (nr A b s d) :=
  nrm_real _ _ _ _ h.g (h.sh b) (h.sc b) d

theorem Fine.pv (h : Fine A) (b : Fin 4) (s : Fin 8192) (d : Fin 1024) : IsR (pv A b s d) := by
  unfold FfnMath.pv
  split
  · exact IsR.zero
  · exact h.nr _ _ _

theorem Fine.nx (h : Fine A) (b : Fin 4) (s : Fin 8192) (d : Fin 1024) : IsR (nx A b s d) := by
  unfold FfnMath.nx
  split
  · exact IsR.zero
  · exact h.nr _ _ _

theorem Fine.cvv (h : Fine A) (b : Fin 4) (s : Fin 8192) (n : Fin 5632) : IsR (cvv A b s n) :=
  ((((h.cw 0 n).mul (up_real _ _ (h.pv b s) fun d => h.w d n)).add ((h.cw 1 n).mul (up_real _ _ (h.nr b s) fun d => h.w d n))).add
    ((h.cw 2 n).mul (up_real _ _ (h.nx b s) fun d => h.w d n))).add (h.cb n)

theorem Fine.zz (h : Fine A) (b : Fin 4) (s : Fin 8192) (d : Fin 1024) : zz A silu b s d = zz A sil b s d := by
  unfold FfnMath.zz
  simp only [silu_eq (h.cvv b s _)]

theorem Fine.fin (h : Fine A) (b : Fin 4) (s : Fin 8192) (d : Fin 1024) : fin A silu b s d = fin A sil b s d := by
  unfold FfnMath.fin
  rw [show FfnMath.zz A silu b s = FfnMath.zz A sil b s from funext (h.zz b s)]

/-- A zero row's product is zero. -/
theorem up_zero (w : Fin 1024 → EReal) : up (fun _ => 0) w = 0 := by
  unfold up
  simp

theorem up_pv (b : Fin 4) (s : Fin 8192) (w : Fin 1024 → EReal) :
    up (pv A b s) w = if s.val = 0 then 0 else up (nr A b ⟨s.val - 1, by omega⟩) w := by
  unfold FfnMath.pv
  split
  · exact up_zero w
  · rfl

theorem up_nx (b : Fin 4) (s : Fin 8192) (w : Fin 1024 → EReal) :
    up (nx A b s) w = if h : s.val = 8191 then 0 else up (nr A b ⟨s.val + 1, by omega⟩) w := by
  unfold FfnMath.nx
  split
  · exact up_zero w
  · rfl

end Cert.Proof.FfnMath

end
-- ==== Proof.LastIdeal.Pre.lean ====
/- The feed-forward's precondition read: the arguments it bounds are real at every index. -/
module

public import proofs.«01_k».proof.Proof.AttnIdeal.Pre
public import proofs.«01_k».proof.Proof.Gen.Pre_ffn_finite
public import proofs.«01_k».proof.Proof.LastIdeal.Spec

@[expose] public section

noncomputable section

namespace Cert.Proof.FfnPre

open Idealize.ShloMosaic Cert.Proof.Soft Cert.Proof.AttnIdeal Cert.Proof.FfnMath Cert.Pre_ffn_finite

variable (x0 : FVec Ideal S32768x1024 .f32) (x1 : FVec Ideal S1x1024 .f32) (x2 x3 x4 : FVec Ideal S4x1x1024 .f32)
  (x5 : FVec Ideal S1024x5632 .bf16) (x6 : FVec Ideal S3x5632 .f32) (x7 : FVec Ideal S1x5632 .f32) (x8 : FVec Ideal S2816x1024 .bf16)
  (x9 : FVec Ideal S1x1024 .f32)

theorem pre1 (h : (fn (F := Ideal) x0 x1 x2 x3 x4 x5 x6 x7 x8 x9).1 = fun _ => 1#1) : ∀ i, IsR (x1 i) := real_of_cmp x1 _ h fun _ => rfl
theorem pre2 (h : (fn (F := Ideal) x0 x1 x2 x3 x4 x5 x6 x7 x8 x9).2.1 = fun _ => 1#1) : ∀ i, IsR (x2 i) := real_of_cmp x2 _ h fun _ => rfl
theorem pre3 (h : (fn (F := Ideal) x0 x1 x2 x3 x4 x5 x6 x7 x8 x9).2.2.1 = fun _ => 1#1) : ∀ i, IsR (x3 i) := real_of_cmp x3 _ h fun _ => rfl
theorem pre5 (h : (fn (F := Ideal) x0 x1 x2 x3 x4 x5 x6 x7 x8 x9).2.2.2.1 = fun _ => 1#1) : ∀ i, IsR (x5 i) := real_of_cmp x5 _ h fun _ => rfl
theorem pre6 (h : (fn (F := Ideal) x0 x1 x2 x3 x4 x5 x6 x7 x8 x9).2.2.2.2.1 = fun _ => 1#1) : ∀ i, IsR (x6 i) := real_of_cmp x6 _ h fun _ => rfl
theorem pre7 (h : (fn (F := Ideal) x0 x1 x2 x3 x4 x5 x6 x7 x8 x9).2.2.2.2.2 = fun _ => 1#1) : ∀ i, IsR (x7 i) := real_of_cmp x7 _ h fun _ => rfl

theorem fine (h1 : ∀ i, IsR (x1 i)) (h2 : ∀ i, IsR (x2 i)) (h3 : ∀ i, IsR (x3 i)) (h5 : ∀ i, IsR (x5 i))
    (h6 : ∀ i, IsR (x6 i)) (h7 : ∀ i, IsR (x7 i)) : Fine (ar x0 x1 x2 x3 x4 x5 x6 x7 x8 x9) where
  g _ := h1 _
  sh _ _ := h2 _
  sc _ _ := h3 _
  w _ _ := h5 _
  cw _ _ := h6 _
  cb _ := h7 _

end Cert.Proof.FfnPre

end
-- ==== Proof.LastIdeal.Ref.lean ====
/- The reference's stages at an index: each is the formula of the arguments that `fin` collects. -/
module

public import proofs.«01_k».proof.Proof.Gen.LastRefIdeal.Read
public import proofs.«01_k».proof.Proof.LastIdeal.Spec
public import Idealize.ShloMosaic.Lib.KernelVsHost

@[expose] public section

set_option maxRecDepth 16384

noncomputable section

namespace Cert.Proof.LastRef

open Cert.LastRefIdeal Cert.LastRefIdeal.Gen Cert.LastRefIdeal.Read Cert.Proof.FfnMath
open Idealize.ShloMosaic

variable (x0 : FVec Ideal S32768x1024 .f32) (x1 : FVec Ideal S1x1024 .f32) (x2 x3 x4 : FVec Ideal S4x1x1024 .f32)
  (x5 : FVec Ideal S1024x5632 .bf16) (x6 : FVec Ideal S3x5632 .f32) (x7 : FVec Ideal S1x5632 .f32)
  (x8 : FVec Ideal S2816x1024 .bf16) (x9 : FVec Ideal S1x1024 .f32)

theorem v0_eq (b : Fin 4) (s : Fin 8192) (d : Fin 1024) : val_main_v0 (F := Ideal) x0 (ix3 b s d) = x0 (ix2 (row b s) d) := by
  rw [val_main_v0_apply]
  exact congrArg x0 (funext fun a => Fin.ext (by
    match a with
    | ⟨0, _⟩ => show ((b.val * 8192 + s.val) * 1024 + d.val) / 1024 = b.val * 8192 + s.val; omega
    | ⟨1, _⟩ => show ((b.val * 8192 + s.val) * 1024 + d.val) % 1024 = d.val; omega))

theorem v3_eq (b : Fin 4) (s : Fin 8192) :
    val_main_v3 (F := Ideal) x0 (ix2 b s) = ∑ e : Fin 1024, x0 (ix2 (row b s) e) * x0 (ix2 (row b s) e) := by
  rw [val_main_v3_apply, show val_main_cst (F := Ideal) (Shape.Idx.first h_S_) = (0 : EReal) from Ideal.ofBits_zero_f32, zero_add]
  refine Finset.sum_congr rfl fun e _ => ?_
  have hi : idx_main_v3 (ix2 b s) e = ix3 b s e := eq_ix3 _
  rw [val_main_v2_apply, hi, v0_eq]
  rfl

theorem v10_eq (b : Fin 4) (s : Fin 8192) (d : Fin 1024) :
    val_main_v10 (F := Ideal) x0 (ix3 b s d) = inv fun e => x0 (ix2 (row b s) e) := by
  have hi : idx_main_v4 (idx_main_v10 (ix3 b s d)) = ix2 b s := eq_ix2 _
  rw [val_main_v10_apply, val_main_v9_apply, val_main_v8_apply, val_main_v6_apply, val_main_v4_apply, val_main_v5_apply, val_main_v7_apply,
    val_main_cst_0_apply, val_main_cst_1_apply, hi, v3_eq]
  rfl

theorem v13_eq (b : Fin 4) (s : Fin 8192) (d : Fin 1024) : val_main_v13 (F := Ideal) x1 (ix3 b s d) = x1 (ix2 0 d) := by
  rw [val_main_v13_apply, val_main_v12_apply, val_main_v1_apply]
  exact congrArg x1 (funext fun a => Fin.ext (by
    match a with
    | ⟨0, _⟩ => rfl
    | ⟨1, _⟩ => show d.val % 1024 = d.val; omega))

theorem v17_eq (b : Fin 4) (s : Fin 8192) (d : Fin 1024) : val_main_v17 (F := Ideal) x3 (ix3 b s d) = 1 + x3 (ix3 b 0 d) := by
  have hi : idx_main_v17 (ix3 b s d) = ix3 b 0 d := eq_ix3 _
  rw [val_main_v17_apply, val_main_v16_apply, val_main_v15_apply, val_main_cst_2_apply, hi]
  exact congrArg (· + x3 (ix3 b 0 d)) lit_one

theorem v20_eq (b : Fin 4) (s : Fin 8192) (d : Fin 1024) :
    val_main_v20 (F := Ideal) x0 x1 x2 x3 (ix3 b s d) = nr (ar x0 x1 x2 x3 x4 x5 x6 x7 x8 x9) b s d := by
  have hi : idx_main_v19 (ix3 b s d) = ix3 b 0 d := eq_ix3 _
  rw [val_main_v20_apply, val_main_v18_apply, val_main_v14_apply, val_main_v11_apply, val_main_v19_apply, v0_eq, v10_eq, v13_eq, v17_eq, hi]
  rfl

theorem v24_eq (b : Fin 4) (s : Fin 8192) (n : Fin 5632) :
    val_main_v24 (F := Ideal) x0 x1 x2 x3 x5 (ix3 b s n) = up (nr (ar x0 x1 x2 x3 x4 x5 x6 x7 x8 x9) b s) fun d => x5 (ix2 d n) := by
  rw [val_main_v24_apply]
  refine Finset.sum_congr rfl fun d _ => ?_
  have hl : lidx_main_v24 (ix3 b s n) d = ix3 b s d := eq_ix3 _
  have hr : ridx_main_v24 (ix3 b s n) d = ix2 d n := eq_ix2 _
  rw [hl, hr, v20_eq x0 x1 x2 x3 x4 x5 x6 x7 x8 x9, val_main_v21_apply]
  rfl

theorem pad_val : val_main_call0_v0 (F := Ideal) (Shape.Idx.first h_S_) = (0 : EReal) := by
  show (((0 : Int) : ℝ) : EReal) = 0
  simp

theorem v25_in (b : Fin 4) (ρ : Fin 8194) (s : Fin 8192) (n : Fin 5632) (e : ρ.val = s.val + 1) :
    val_main_v25 (F := Ideal) x0 x1 x2 x3 x5 (ix3 b ρ n) = up (nr (ar x0 x1 x2 x3 x4 x5 x6 x7 x8 x9) b s) fun d => x5 (ix2 d n) := by
  rw [← v24_eq]
  unfold val_main_v25
  generalize val_main_v24 (F := Ideal) x0 x1 x2 x3 x5 = y
  refine pad_apply_of_inside _ _ _ y _ _ _ _ (ix3 b s n) fun a => ?_
  match a with
  | ⟨0, _⟩ => show b.val = 0 + b.val * (0 + 1); omega
  | ⟨1, _⟩ => show ρ.val = 1 + s.val * (0 + 1); omega
  | ⟨2, _⟩ => show n.val = 0 + n.val * (0 + 1); omega

theorem v25_out (b : Fin 4) (ρ : Fin 8194) (n : Fin 5632) (e : ρ.val = 0 ∨ ρ.val = 8193) :
    val_main_v25 (F := Ideal) x0 x1 x2 x3 x5 (ix3 b ρ n) = 0 := by
  unfold val_main_v25
  generalize val_main_v24 (F := Ideal) x0 x1 x2 x3 x5 = y
  refine (pad_apply_of_not_inside _ _ _ y _ _ _ _ (1 : Fin 3) ?_).trans pad_val
  rintro ⟨p1, -, p3⟩
  have q1 : 1 ≤ ρ.val := p1
  have q3 : (ρ.val - 1) / (0 + 1) < 8192 := p3
  omega

theorem v26_eq (b : Fin 4) (s : Fin 8192) (n : Fin 5632) :
    val_main_v26 (F := Ideal) x0 x1 x2 x3 x5 (ix3 b s n) = up (pv (ar x0 x1 x2 x3 x4 x5 x6 x7 x8 x9) b s) fun d => x5 (ix2 d n) := by
  have hi : idx_main_v26 (ix3 b s n) = ix3 b ⟨s.val, by omega⟩ n := eq_ix3 _
  rw [val_main_v26_apply, hi, up_pv]
  split
  · next h => exact v25_out x0 x1 x2 x3 x5 b _ n (Or.inl h)
  · next h => exact v25_in x0 x1 x2 x3 x4 x5 x6 x7 x8 x9 b _ _ n (by show s.val = s.val - 1 + 1; omega)

theorem v32_eq (b : Fin 4) (s : Fin 8192) (n : Fin 5632) :
    val_main_v32 (F := Ideal) x0 x1 x2 x3 x5 (ix3 b s n) = up (nr (ar x0 x1 x2 x3 x4 x5 x6 x7 x8 x9) b s) fun d => x5 (ix2 d n) := by
  have hi : idx_main_v32 (ix3 b s n) = ix3 b ⟨1 + s.val, by omega⟩ n := eq_ix3 _
  rw [val_main_v32_apply, hi]
  exact v25_in x0 x1 x2 x3 x4 x5 x6 x7 x8 x9 b _ _ n (Nat.add_comm _ _)

theorem v39_eq (b : Fin 4) (s : Fin 8192) (n : Fin 5632) :
    val_main_v39 (F := Ideal) x0 x1 x2 x3 x5 (ix3 b s n) = up (nx (ar x0 x1 x2 x3 x4 x5 x6 x7 x8 x9) b s) fun d => x5 (ix2 d n) := by
  have hi : idx_main_v39 (ix3 b s n) = ix3 b ⟨2 + s.val, by omega⟩ n := eq_ix3 _
  rw [val_main_v39_apply, hi, up_nx]
  split
  · next h => exact v25_out x0 x1 x2 x3 x5 b _ n (Or.inr (by show 2 + s.val = 8193; omega))
  · next h => exact v25_in x0 x1 x2 x3 x4 x5 x6 x7 x8 x9 b _ _ n (by show 2 + s.val = s.val + 1 + 1; omega)

theorem v30_eq (b : Fin 4) (s : Fin 8192) (n : Fin 5632) : val_main_v30 (F := Ideal) x6 (ix3 b s n) = x6 (ix2 0 n) := by
  rw [val_main_v30_apply, val_main_v29_apply, val_main_v28_apply, val_main_v27_apply]
  exact congrArg x6 (funext fun a => Fin.ext (by
    match a with
    | ⟨0, _⟩ => rfl
    | ⟨1, _⟩ => show n.val % 5632 = n.val; omega))

theorem v36_eq (b : Fin 4) (s : Fin 8192) (n : Fin 5632) : val_main_v36 (F := Ideal) x6 (ix3 b s n) = x6 (ix2 1 n) := by
  rw [val_main_v36_apply, val_main_v35_apply, val_main_v34_apply, val_main_v33_apply]
  exact congrArg x6 (funext fun a => Fin.ext (by
    match a with
    | ⟨0, _⟩ => rfl
    | ⟨1, _⟩ => show n.val % 5632 = n.val; omega))

theorem v43_eq (b : Fin 4) (s : Fin 8192) (n : Fin 5632) : val_main_v43 (F := Ideal) x6 (ix3 b s n) = x6 (ix2 2 n) := by
  rw [val_main_v43_apply, val_main_v42_apply, val_main_v41_apply, val_main_v40_apply]
  exact congrArg x6 (funext fun a => Fin.ext (by
    match a with
    | ⟨0, _⟩ => rfl
    | ⟨1, _⟩ => show n.val % 5632 = n.val; omega))

theorem v47_eq (b : Fin 4) (s : Fin 8192) (n : Fin 5632) : val_main_v47 (F := Ideal) x7 (ix3 b s n) = x7 (ix2 0 n) := by
  rw [val_main_v47_apply, val_main_v46_apply, val_main_v22_apply]
  exact congrArg x7 (funext fun a => Fin.ext (by
    match a with
    | ⟨0, _⟩ => rfl
    | ⟨1, _⟩ => show n.val % 5632 = n.val; omega))

theorem v48_eq (b : Fin 4) (s : Fin 8192) (n : Fin 5632) :
    val_main_v48 (F := Ideal) x0 x1 x2 x3 x5 x6 x7 (ix3 b s n) = cvv (ar x0 x1 x2 x3 x4 x5 x6 x7 x8 x9) b s n := by
  rw [val_main_v48_apply, val_main_v45_apply, val_main_v38_apply, val_main_v31_apply, val_main_v37_apply, val_main_v44_apply,
    v26_eq x0 x1 x2 x3 x4 x5 x6 x7 x8 x9, v32_eq x0 x1 x2 x3 x4 x5 x6 x7 x8 x9, v39_eq x0 x1 x2 x3 x4 x5 x6 x7 x8 x9, v30_eq, v36_eq,
    v43_eq, v47_eq]
  unfold cvv cv
  refine congrArg (· + x7 (ix2 0 n)) ?_
  exact congrArg₂ (· + ·) (congrArg₂ (· + ·) (mul_comm _ _) (mul_comm _ _)) (mul_comm _ _)

theorem v49_eq (b : Fin 4) (s : Fin 8192) (k : Fin 2816) :
    val_main_v49 (F := Ideal) x0 x1 x2 x3 x5 x6 x7 (ix3 b s k) = cvv (ar x0 x1 x2 x3 x4 x5 x6 x7 x8 x9) b s (lc k) := by
  have hi : idx_main_v49 (ix3 b s k) = ix3 b s (lc k) := eq_ix3 _
  rw [val_main_v49_apply, hi, v48_eq x0 x1 x2 x3 x4 x5 x6 x7 x8 x9]

theorem v50_eq (b : Fin 4) (s : Fin 8192) (k : Fin 2816) :
    val_main_v50 (F := Ideal) x0 x1 x2 x3 x5 x6 x7 (ix3 b s k) = cvv (ar x0 x1 x2 x3 x4 x5 x6 x7 x8 x9) b s (rc k) := by
  have hi : idx_main_v50 (ix3 b s k) = ix3 b s (rc k) := eq_ix3 _
  rw [val_main_v50_apply, hi, v48_eq x0 x1 x2 x3 x4 x5 x6 x7 x8 x9]

theorem v52_eq (b : Fin 4) (s : Fin 8192) (k : Fin 2816) :
    val_main_v52 (F := Ideal) x0 x1 x2 x3 x5 x6 x7 (ix3 b s k) = sil (cvv (ar x0 x1 x2 x3 x4 x5 x6 x7 x8 x9) b s (lc k)) * cvv (ar x0 x1 x2 x3 x4 x5 x6 x7 x8 x9) b s (rc k) := by
  rw [val_main_v52_apply, val_main_v51_apply, val_main_call1_v5_apply, val_main_call1_v4_apply, val_main_call1_v3_apply, val_main_call1_v2_apply,
    val_main_call1_v1_apply, val_main_call1_v0_apply, val_main_call1_cst_apply, val_main_call1_cst_0_apply,
    v49_eq x0 x1 x2 x3 x4 x5 x6 x7 x8 x9, v50_eq x0 x1 x2 x3 x4 x5 x6 x7 x8 x9]
  generalize cvv (ar x0 x1 x2 x3 x4 x5 x6 x7 x8 x9) b s (lc k) = p
  generalize cvv (ar x0 x1 x2 x3 x4 x5 x6 x7 x8 x9) b s (rc k) = q
  show p * Ideal.div (Ideal.ofBits .f32 0x3F800000#32) (Ideal.ofBits .f32 0x3F800000#32 + Ideal.exp (-p)) * q = sil p * q
  rw [lit_one]
  rfl

theorem v53_eq (b : Fin 4) (s : Fin 8192) (d : Fin 1024) :
    val_main_v53 (F := Ideal) x0 x1 x2 x3 x5 x6 x7 x8 (ix3 b s d)
      = ∑ k : Fin 2816, sil (cvv (ar x0 x1 x2 x3 x4 x5 x6 x7 x8 x9) b s (lc k)) * cvv (ar x0 x1 x2 x3 x4 x5 x6 x7 x8 x9) b s (rc k) * x8 (ix2 k d) := by
  rw [val_main_v53_apply]
  refine Finset.sum_congr rfl fun k _ => ?_
  have hl : lidx_main_v53 (ix3 b s d) k = ix3 b s k := eq_ix3 _
  have hr : ridx_main_v53 (ix3 b s d) k = ix2 k d := eq_ix2 _
  rw [hl, hr, v52_eq x0 x1 x2 x3 x4 x5 x6 x7 x8 x9, val_main_v23_apply]
  rfl

theorem v56_eq (b : Fin 4) (s : Fin 8192) (d : Fin 1024) :
    val_main_v56 (F := Ideal) x0 x1 x2 x3 x4 x5 x6 x7 x8 (ix3 b s d) = zz (ar x0 x1 x2 x3 x4 x5 x6 x7 x8 x9) sil b s d := by
  have hi : idx_main_v54 (ix3 b s d) = ix3 b 0 d := eq_ix3 _
  rw [val_main_v56_apply, val_main_v55_apply, val_main_v54_apply, v0_eq, v53_eq x0 x1 x2 x3 x4 x5 x6 x7 x8 x9, hi]
  rfl

theorem v59_eq (b : Fin 4) (s : Fin 8192) :
    val_main_v59 (F := Ideal) x0 x1 x2 x3 x4 x5 x6 x7 x8 (ix2 b s) = ∑ e : Fin 1024, zz (ar x0 x1 x2 x3 x4 x5 x6 x7 x8 x9) sil b s e * zz (ar x0 x1 x2 x3 x4 x5 x6 x7 x8 x9) sil b s e := by
  rw [val_main_v59_apply, show val_main_cst_3 (F := Ideal) (Shape.Idx.first h_S_) = (0 : EReal) from Ideal.ofBits_zero_f32, zero_add]
  refine Finset.sum_congr rfl fun e _ => ?_
  have hi : idx_main_v59 (ix2 b s) e = ix3 b s e := eq_ix3 _
  rw [val_main_v58_apply, hi, v56_eq x0 x1 x2 x3 x4 x5 x6 x7 x8 x9]
  rfl

theorem v66_eq (b : Fin 4) (s : Fin 8192) (d : Fin 1024) :
    val_main_v66 (F := Ideal) x0 x1 x2 x3 x4 x5 x6 x7 x8 (ix3 b s d) = inv (zz (ar x0 x1 x2 x3 x4 x5 x6 x7 x8 x9) sil b s) := by
  have hi : idx_main_v60 (idx_main_v66 (ix3 b s d)) = ix2 b s := eq_ix2 _
  rw [val_main_v66_apply, val_main_v65_apply, val_main_v64_apply, val_main_v62_apply, val_main_v60_apply, val_main_v61_apply,
    val_main_v63_apply, val_main_cst_4_apply, val_main_cst_5_apply, hi, v59_eq x0 x1 x2 x3 x4 x5 x6 x7 x8 x9]
  rfl

theorem v69_eq (b : Fin 4) (s : Fin 8192) (d : Fin 1024) : val_main_v69 (F := Ideal) x9 (ix3 b s d) = x9 (ix2 0 d) := by
  rw [val_main_v69_apply, val_main_v68_apply, val_main_v57_apply]
  exact congrArg x9 (funext fun a => Fin.ext (by
    match a with
    | ⟨0, _⟩ => rfl
    | ⟨1, _⟩ => show d.val % 1024 = d.val; omega))

theorem v70_eq (b : Fin 4) (s : Fin 8192) (d : Fin 1024) :
    val_main_v70 (F := Ideal) x0 x1 x2 x3 x4 x5 x6 x7 x8 x9 (ix3 b s d) = fin (ar x0 x1 x2 x3 x4 x5 x6 x7 x8 x9) sil b s d := by
  rw [val_main_v70_apply, val_main_v67_apply, v56_eq x0 x1 x2 x3 x4 x5 x6 x7 x8 x9, v66_eq x0 x1 x2 x3 x4 x5 x6 x7 x8 x9, v69_eq]
  rfl

/-- The reference's result at an index. -/
theorem v71_eq (r : Fin 32768) (d : Fin 1024) :
    val_main_v71 (F := Ideal) x0 x1 x2 x3 x4 x5 x6 x7 x8 x9 (ix2 r d) = fin (ar x0 x1 x2 x3 x4 x5 x6 x7 x8 x9) sil (bat r) (pos r) d := by
  have hi : idx_main_v71 (ix2 r d) = ix3 (bat r) (pos r) d := by
    funext a
    apply Fin.ext
    match a with
    | ⟨0, _⟩ => show (r.val * 1024 + d.val) / 8388608 = r.val / 8192; omega
    | ⟨1, _⟩ => show (r.val * 1024 + d.val) / 1024 % 8192 = r.val % 8192; omega
    | ⟨2, _⟩ => show (r.val * 1024 + d.val) % 1024 = d.val; omega
  rw [val_main_v71_apply, hi, v70_eq x0 x1 x2 x3 x4 x5 x6 x7 x8 x9]

end Cert.Proof.LastRef

end
-- ==== Proof.LastIdeal.Read.lean ====
/- What the kernel's body leaves in its output block, as one expression over its input blocks: the normalised rows with
their two halos, the eleven column blocks of the gated activation, and the closing product with its residual. -/
module

public import proofs.«01_k».proof.Proof.Gen.LastIdeal.Value
public import Idealize.ShloMosaic.Lib.Pipeline.ValueKit

@[expose] public section

noncomputable section

namespace Cert.Proof.LastOut

open Cert.LastIdeal Cert.LastIdeal.Gen Idealize.ShloMosaic Idealize.ShloMosaic.TcCoe
open Idealize.SL Idealize.SL.Sem

variable {F : FTy → Type} [FloatOps F]

/-- One block of 256 columns of the activation: the gate's and the value's convolved products, the gate's SiLU, their product. -/
def chunk (hn : Vec F S1056x1024 .bf16) (wa wb : Vec F S1024x256 .bf16) (ca cb : Vec F S3x256 .f32)
    (ba bb : Vec F S1x256 .f32) : FVec F S1024x256 .bf16 :=
  k0_pay14 (k0_pay9 hn wb) ca (k0_pay10 hn wa) (k0_pay11 hn wa ca) (k0_pay12 hn wa) (k0_pay13 ca) ba cb bb

theorem inW (o : Nat) (h : o + 256 ≤ 5632) : ∀ a : Fin 2, (![0, o] : Fin 2 → Nat) a + S1024x256.size a ≤ S1024x5632.size a
  | ⟨0, _⟩ => Nat.le_refl 1024
  | ⟨1, _⟩ => h

theorem inC (o : Nat) (h : o + 256 ≤ 5632) : ∀ a : Fin 2, (![0, o] : Fin 2 → Nat) a + S3x256.size a ≤ S3x5632.size a
  | ⟨0, _⟩ => Nat.le_refl 3
  | ⟨1, _⟩ => h

theorem inB (o : Nat) (h : o + 256 ≤ 5632) : ∀ a : Fin 2, (![0, o] : Fin 2 → Nat) a + S1x256.size a ≤ S1x5632.size a
  | ⟨0, _⟩ => Nat.le_refl 1
  | ⟨1, _⟩ => h

/-- The block at columns `o`, its weights read from the whole arrays. -/
def chunkAt (hn : Vec F S1056x1024 .bf16) (x7 : Vec F S1024x5632 .bf16) (x8 : Vec F S3x5632 .f32) (x9 : Vec F S1x5632 .f32)
    (o p : Nat) (h : o + 256 ≤ 5632) (h' : p + 256 ≤ 5632) : FVec F S1024x256 .bf16 :=
  chunk hn (View.ld x7 (Rect.unit ![0, o] S1024x256.size (inW o h))) (View.ld x7 (Rect.unit ![0, p] S1024x256.size (inW p h')))
    (View.ld x8 (Rect.unit ![0, o] S3x256.size (inC o h))) (View.ld x8 (Rect.unit ![0, p] S3x256.size (inC p h')))
    (View.ld x9 (Rect.unit ![0, o] S1x256.size (inB o h))) (View.ld x9 (Rect.unit ![0, p] S1x256.size (inB p h')))

theorem inA (o : Nat) (h : o + 256 ≤ 2816) : ∀ a : Fin 2, (![0, o] : Fin 2 → Nat) a + S1024x256.size a ≤ S1024x2816.size a
  | ⟨0, _⟩ => Nat.le_refl 1024
  | ⟨1, _⟩ => h

/-- The stores of the activation, the last one first. -/
def actL (hn : Vec F S1056x1024 .bf16) (x7 : Vec F S1024x5632 .bf16) (x8 : Vec F S3x5632 .f32) (x9 : Vec F S1x5632 .f32) :
    List (View.Piece (Elt F) S1024x2816 .bf16) :=
  [
    ⟨Rect.unit ![0, 2560] S1024x256.size (inA 2560 (by omega)), chunkAt hn x7 x8 x9 2560 5376 (by omega) (by omega)⟩,
    ⟨Rect.unit ![0, 2304] S1024x256.size (inA 2304 (by omega)), chunkAt hn x7 x8 x9 2304 5120 (by omega) (by omega)⟩,
    ⟨Rect.unit ![0, 2048] S1024x256.size (inA 2048 (by omega)), chunkAt hn x7 x8 x9 2048 4864 (by omega) (by omega)⟩,
    ⟨Rect.unit ![0, 1792] S1024x256.size (inA 1792 (by omega)), chunkAt hn x7 x8 x9 1792 4608 (by omega) (by omega)⟩,
    ⟨Rect.unit ![0, 1536] S1024x256.size (inA 1536 (by omega)), chunkAt hn x7 x8 x9 1536 4352 (by omega) (by omega)⟩,
    ⟨Rect.unit ![0, 1280] S1024x256.size (inA 1280 (by omega)), chunkAt hn x7 x8 x9 1280 4096 (by omega) (by omega)⟩,
    ⟨Rect.unit ![0, 1024] S1024x256.size (inA 1024 (by omega)), chunkAt hn x7 x8 x9 1024 3840 (by omega) (by omega)⟩,
    ⟨Rect.unit ![0, 768] S1024x256.size (inA 768 (by omega)), chunkAt hn x7 x8 x9 768 3584 (by omega) (by omega)⟩,
    ⟨Rect.unit ![0, 512] S1024x256.size (inA 512 (by omega)), chunkAt hn x7 x8 x9 512 3328 (by omega) (by omega)⟩,
    ⟨Rect.unit ![0, 256] S1024x256.size (inA 256 (by omega)), chunkAt hn x7 x8 x9 256 3072 (by omega) (by omega)⟩,
    ⟨Rect.unit ![0, 0] S1024x256.size (inA 0 (by omega)), chunkAt hn x7 x8 x9 0 2816 (by omega) (by omega)⟩
  ]

theorem inH0 : ∀ a : Fin 2, (![0, 0] : Fin 2 → Nat) a + S16x1024.size a ≤ S1056x1024.size a := by decide
theorem inH1 : ∀ a : Fin 2, (![16, 0] : Fin 2 → Nat) a + S1024x1024.size a ≤ S1056x1024.size a := by decide
theorem inH2 : ∀ a : Fin 2, (![1040, 0] : Fin 2 → Nat) a + S16x1024.size a ≤ S1056x1024.size a := by decide

/-- The grid point begins a sequence. -/
def atFirst (i : grid0.Coords) : BitVec 1 := kernelRun0_A.sl.v10 i
/-- The grid point ends a sequence. -/
def atLast (i : grid0.Coords) : BitVec 1 := kernelRun0_A.sl.v21 i

/-- The stores of the normalised rows, the last one first. -/
def hnL (i : grid0.Coords) (x0 : Vec F S16x1024 .f32) (x1 : Vec F S1024x1024 .f32) (x2 : Vec F S16x1024 .f32)
    (x3 : Vec F S1x1024 .f32) (x4 x5 : Vec F S1x1x1024 .f32) : List (View.Piece (Elt F) S1056x1024 .bf16) :=
  [⟨Rect.unit ![1040, 0] S16x1024.size inH2, k0_pay7 (atLast i) x3 (k0_pay2 x4) (k0_pay3 x5) x2⟩,
   ⟨Rect.unit ![16, 0] S1024x1024.size inH1, k0_pay6 x3 (k0_pay2 x4) (k0_pay3 x5) x1⟩,
   ⟨Rect.unit ![0, 0] S16x1024.size inH0, k0_pay5 (atFirst i) x3 (k0_pay2 x4) (k0_pay3 x5) x0 (k0_pay4 x0)⟩]

/-- The block the body leaves. -/
def blockV (i : grid0.Coords) (x0 : Vec F S16x1024 .f32) (x1 : Vec F S1024x1024 .f32) (x2 : Vec F S16x1024 .f32)
    (x3 : Vec F S1x1024 .f32) (x4 x5 x6 : Vec F S1x1x1024 .f32) (x7 : Vec F S1024x5632 .bf16) (x8 : Vec F S3x5632 .f32)
    (x9 : Vec F S1x5632 .f32) (x10 : Vec F S2816x1024 .bf16) (x11 : Vec F S1x1024 .f32) : Vec F S1024x1024 .f32 :=
  k0_pay1 (k0_pay57 x1 x6 (View.canon (actL (View.canon (hnL i x0 x1 x2 x3 x4 x5)) x7 x8 x9)) x10) x11

theorem z2 : (![0, 0] : Fin 2 → Nat) = fun _ => 0 := by decide
theorem z3 : (![0, 0, 0] : Fin 3 → Nat) = fun _ => 0 := by decide

variable (c : Dev nD) (i : grid0.Coords)
    (a1 : Memref sig .tc .vmem S16x1024 .f32) (h1 : a1.IsWhole)
    (a2 : Memref sig .tc .vmem S1024x1024 .f32) (h2 : a2.IsWhole)
    (a3 : Memref sig .tc .vmem S16x1024 .f32) (h3 : a3.IsWhole)
    (a4 : Memref sig .tc .vmem S1x1024 .f32) (h4 : a4.IsWhole)
    (a5 : Memref sig .tc .vmem S1x1x1024 .f32) (h5 : a5.IsWhole)
    (a6 : Memref sig .tc .vmem S1x1x1024 .f32) (h6 : a6.IsWhole)
    (a7 : Memref sig .tc .vmem S1x1x1024 .f32) (h7 : a7.IsWhole)
    (a8 : Memref sig .tc .vmem S1024x5632 .bf16) (h8 : a8.IsWhole)
    (a9 : Memref sig .tc .vmem S3x5632 .f32) (h9 : a9.IsWhole)
    (a10 : Memref sig .tc .vmem S1x5632 .f32) (h10 : a10.IsWhole)
    (a11 : Memref sig .tc .vmem S2816x1024 .bf16) (h11 : a11.IsWhole)
    (a12 : Memref sig .tc .vmem S1x1024 .f32) (h12 : a12.IsWhole)
    (a13 : Memref sig .tc .vmem S1024x1024 .f32) (h13 : a13.IsWhole)
    (a14 : Memref sig .tc .vmem S1056x1024 .bf16) (h14 : a14.IsWhole)
    (a15 : Memref sig .tc .vmem S1024x2816 .bf16) (h15 : a15.IsWhole)
    (x0 : Vec F S16x1024 .f32)
    (x1 : Vec F S1024x1024 .f32)
    (x2 : Vec F S16x1024 .f32)
    (x3 : Vec F S1x1024 .f32)
    (x4 : Vec F S1x1x1024 .f32)
    (x5 : Vec F S1x1x1024 .f32)
    (x6 : Vec F S1x1x1024 .f32)
    (x7 : Vec F S1024x5632 .bf16)
    (x8 : Vec F S3x5632 .f32)
    (x9 : Vec F S1x5632 .f32)
    (x10 : Vec F S2816x1024 .bf16)
    (x11 : Vec F S1x1024 .f32)

theorem hn_eq : kernelRun0_A.sl.v100 c i a1 h1 a2 h2 a3 h3 a4 h4 a5 h5 a6 h6 a14 x0 x1 x2 x3 x4 x5
    = View.canon (hnL i x0 x1 x2 x3 x4 x5) := by
  unfold kernelRun0_A.sl.v100 kernelRun0_A.sl.HS0_3
  rw [View.readCov_eq_canon']
  unfold kernelRun0_A.sl.r kernelRun0_A.sl.r_1 kernelRun0_A.sl.r_2 kernelRun0_A.sl.r_3 kernelRun0_A.sl.r_4 kernelRun0_A.sl.r_5 kernelRun0_A.sl.r_6
  simp (disch := decide) only [View.readAt_eq_ld, Memref.IsWhole.read_unread, View.ld_unit_lit']
  exact View.ld_unit_zero z2 _ _

theorem act_eq : kernelRun0_A.sl.v697 c i a1 h1 a2 h2 a3 h3 a4 h4 a5 h5 a6 h6 a8 h8 a9 h9 a10 h10 a14 a15 x0 x1 x2 x3 x4 x5 x7 x8 x9
    = View.canon (actL (View.canon (hnL i x0 x1 x2 x3 x4 x5)) x7 x8 x9) := by
  unfold kernelRun0_A.sl.v697 kernelRun0_A.sl.HS1_11
  rw [View.readCov_eq_canon']
  simp only [kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.cst_64, kernelRun0_A.sl.cst_109, hn_eq, View.readAt_eq_ld, Memref.IsWhole.read_unread]
  exact View.ld_unit_zero z2 _ _

theorem out_eq : out0_A_12 c i a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11
    = blockV i x0 x1 x2 x3 x4 x5 x6 x7 x8 x9 x10 x11 := by
  unfold out0_A_12
  rw [View.read_writes_junk_eq_canon]
  unfold kernelRun0_A
  dsimp only
  rw [View.canon_unit_zero z2]
  unfold kernelRun0_A.sl.r_50 kernelRun0_A.sl.r_3
  simp (disch := decide) only [act_eq, View.readAt_eq_ld, Memref.IsWhole.read_unread, View.ld_unit_lit']
  rfl

end Cert.Proof.LastOut
end
-- ==== Proof.LastIdeal.Value.lean ====
/- The kernel's named payloads at an index, over the reals. -/
module

public import proofs.«01_k».proof.Proof.LastIdeal.Read
public import proofs.«01_k».proof.Proof.LastIdeal.Math
public import Idealize.ShloMosaic.Lib.Pointwise

@[expose] public section

set_option maxRecDepth 16384

noncomputable section

namespace Cert.Proof.LastOut

open Cert.LastIdeal Cert.LastIdeal.Gen Cert.Proof.FfnMath
open Idealize.ShloMosaic

theorem pay6_apply (g : Vec Ideal S1x1024 .f32) (sh sc : Vec Ideal S1x1x1024 .f32) (x : Vec Ideal S1024x1024 .f32) (r d : Fin 1024) :
    k0_pay6 (F := Ideal) g (k0_pay2 sh) (k0_pay3 sc) x (ix2 r d)
      = nrm (fun e => x (ix2 r e)) (fun e => g (ix2 0 e)) (fun e => sh (ix3 0 0 e)) (fun e => sc (ix3 0 0 e)) d := by
  pointwise [k0_pay6, k0_pay2, k0_pay3]
  rfl

theorem pay5_apply (b : BitVec 1) (g : Vec Ideal S1x1024 .f32) (sh sc : Vec Ideal S1x1x1024 .f32) (x : Vec Ideal S16x1024 .f32) (r : Fin 16) (d : Fin 1024) :
    k0_pay5 (F := Ideal) b g (k0_pay2 sh) (k0_pay3 sc) x (k0_pay4 x) (ix2 r d)
      = Scalar.select b 0 (nrm (fun e => x (ix2 r e)) (fun e => g (ix2 0 e)) (fun e => sh (ix3 0 0 e)) (fun e => sc (ix3 0 0 e)) d) := by
  pointwise [k0_pay5, k0_pay2, k0_pay3, k0_pay4]
  rfl

theorem pay7_apply (b : BitVec 1) (g : Vec Ideal S1x1024 .f32) (sh sc : Vec Ideal S1x1x1024 .f32) (x : Vec Ideal S16x1024 .f32) (r : Fin 16) (d : Fin 1024) :
    k0_pay7 (F := Ideal) b g (k0_pay2 sh) (k0_pay3 sc) x (ix2 r d)
      = Scalar.select b 0 (nrm (fun e => x (ix2 r e)) (fun e => g (ix2 0 e)) (fun e => sh (ix3 0 0 e)) (fun e => sc (ix3 0 0 e)) d) := by
  pointwise [k0_pay7, k0_pay2, k0_pay3]
  rfl

theorem chunk_apply (hn : Vec Ideal S1056x1024 .bf16) (wa wb : Vec Ideal S1024x256 .bf16) (ca cb : Vec Ideal S3x256 .f32)
    (ba bb : Vec Ideal S1x256 .f32) (r : Fin 1024) (j : Fin 256) :
    chunk (F := Ideal) hn wa wb ca cb ba bb (ix2 r j)
      = silu (cv (fun a => ca (ix2 a j)) (ba (ix2 0 j))
          (up (fun d => hn (ix2 ⟨r.val + 15, by omega⟩ d)) fun d => wa (ix2 d j))
          (up (fun d => hn (ix2 ⟨r.val + 16, by omega⟩ d)) fun d => wa (ix2 d j))
          (up (fun d => hn (ix2 ⟨r.val + 17, by omega⟩ d)) fun d => wa (ix2 d j)))
        * cv (fun a => cb (ix2 a j)) (bb (ix2 0 j))
          (up (fun d => hn (ix2 ⟨r.val + 15, by omega⟩ d)) fun d => wb (ix2 d j))
          (up (fun d => hn (ix2 ⟨r.val + 16, by omega⟩ d)) fun d => wb (ix2 d j))
          (up (fun d => hn (ix2 ⟨r.val + 17, by omega⟩ d)) fun d => wb (ix2 d j)) := by
  pointwise [chunk, k0_pay14, k0_pay9, k0_pay10, k0_pay11, k0_pay12, k0_pay13, k0_pay8]
  have e1 : (16 + r.val + 1056 - 1) % 1056 = r.val + 15 := by omega
  have e2 : (16 + r.val + 1056 - 1055) % 1056 = r.val + 17 := by omega
  have e3 : 16 + r.val = r.val + 16 := by omega
  simp only [e1, e2]
  simp only [e3]
  rfl

theorem pay57_apply (x : Vec Ideal S1024x1024 .f32) (g2 : Vec Ideal S1x1x1024 .f32) (a : Vec Ideal S1024x2816 .bf16)
    (w : Vec Ideal S2816x1024 .bf16) (fg : Vec Ideal S1x1024 .f32) (r d : Fin 1024) :
    k0_pay1 (F := Ideal) (k0_pay57 x g2 a w) fg (ix2 r d)
      = (x (ix2 r d) + g2 (ix3 0 0 d) * ∑ k : Fin 2816, a (ix2 r k) * w (ix2 k d))
        * inv (fun e => x (ix2 r e) + g2 (ix3 0 0 e) * ∑ k : Fin 2816, a (ix2 r k) * w (ix2 k e)) * fg (ix2 0 d) := by
  pointwise [k0_pay1, k0_pay57]
  rfl

end Cert.Proof.LastOut
end
-- ==== Proof.LastIdeal.Block.lean ====
/- The block the body leaves, at an index: the normalised rows with the halo rows around them, the gated activation at a
row and a column, and the closing product. -/
module

public import proofs.«01_k».proof.Proof.LastIdeal.Value

@[expose] public section

set_option maxRecDepth 16384

noncomputable section

namespace Cert.Proof.LastOut

open Cert.LastIdeal Cert.LastIdeal.Gen Cert.Proof.FfnMath
open Idealize.ShloMosaic

/-- Column `n` of the weights. -/
def wcol (x7 : Vec Ideal S1024x5632 .bf16) (n : Fin 5632) : Fin 1024 → EReal := fun d => x7 (ix2 d n)
/-- The taps of column `n`. -/
def ccol (x8 : Vec Ideal S3x5632 .f32) (n : Fin 5632) : Fin 3 → EReal := fun a => x8 (ix2 a n)

/-- The convolved product at a row and a column, the row's two neighbours given. -/
def conv (hp hc hx : Fin 1024 → EReal) (x7 : Vec Ideal S1024x5632 .bf16) (x8 : Vec Ideal S3x5632 .f32) (x9 : Vec Ideal S1x5632 .f32)
    (n : Fin 5632) : EReal :=
  cv (ccol x8 n) (x9 (ix2 0 n)) (up hp (wcol x7 n)) (up hc (wcol x7 n)) (up hx (wcol x7 n))

/-- The activation at a row and a column. -/
def actF (hp hc hx : Fin 1024 → EReal) (x7 : Vec Ideal S1024x5632 .bf16) (x8 : Vec Ideal S3x5632 .f32) (x9 : Vec Ideal S1x5632 .f32)
    (n : Fin 2816) : EReal :=
  silu (conv hp hc hx x7 x8 x9 ⟨n.val, by omega⟩) * conv hp hc hx x7 x8 x9 ⟨2816 + n.val, by omega⟩

section
variable (hn : Vec Ideal S1056x1024 .bf16) (x7 : Vec Ideal S1024x5632 .bf16) (x8 : Vec Ideal S3x5632 .f32) (x9 : Vec Ideal S1x5632 .f32)

theorem ld7 (o : Nat) (h : o + 256 ≤ 5632) (d : Fin 1024) (b : Fin 256) (n : Fin 5632) (e : n.val = o + b.val) :
    View.ld x7 (Rect.unit ![0, o] S1024x256.size (inW o h)) (ix2 d b) = x7 (ix2 d n) :=
  View.ld_unit_apply_of x7 _ _ _ _ _ fun a => match a with
    | ⟨0, _⟩ => (Nat.zero_add d.val).symm
    | ⟨1, _⟩ => e

theorem ld8 (o : Nat) (h : o + 256 ≤ 5632) (d : Fin 3) (b : Fin 256) (n : Fin 5632) (e : n.val = o + b.val) :
    View.ld x8 (Rect.unit ![0, o] S3x256.size (inC o h)) (ix2 d b) = x8 (ix2 d n) :=
  View.ld_unit_apply_of x8 _ _ _ _ _ fun a => match a with
    | ⟨0, _⟩ => (Nat.zero_add d.val).symm
    | ⟨1, _⟩ => e

theorem ld9 (o : Nat) (h : o + 256 ≤ 5632) (d : Fin 1) (b : Fin 256) (n : Fin 5632) (e : n.val = o + b.val) :
    View.ld x9 (Rect.unit ![0, o] S1x256.size (inB o h)) (ix2 d b) = x9 (ix2 d n) :=
  View.ld_unit_apply_of x9 _ _ _ _ _ fun a => match a with
    | ⟨0, _⟩ => (Nat.zero_add d.val).symm
    | ⟨1, _⟩ => e

theorem chunkAt_tile (o p : Nat) (h : o + 256 ≤ 5632) (h' : p + 256 ≤ 5632) (hp : p = 2816 + o) (r : Fin 1024) (n : Fin 2816) :
    View.TileAt (Val := Elt Ideal) (S := S1024x2816) (e := .bf16) (ix2 r n) ![0, o] S1024x256.size (chunkAt (F := Ideal) hn x7 x8 x9 o p h h')
      (actF (fun d => hn (ix2 ⟨r.val + 15, by omega⟩ d)) (fun d => hn (ix2 ⟨r.val + 16, by omega⟩ d))
        (fun d => hn (ix2 ⟨r.val + 17, by omega⟩ d)) x7 x8 x9 n) := by
  intro x hx
  obtain ⟨a, b, rfl⟩ : ∃ (a : Fin 1024) (b : Fin 256), x = ix2 a b := ⟨_, _, eq_ix2 x⟩
  have h0 : r.val = 0 + a.val := hx 0
  have h1 : n.val = o + b.val := hx 1
  obtain rfl : a = r := Fin.ext (by omega)
  have k7 := fun d => ld7 x7 o h d b ⟨n.val, by omega⟩ h1
  have k8 := fun d => ld8 x8 o h d b ⟨n.val, by omega⟩ h1
  have k9 := fun d => ld9 x9 o h d b ⟨n.val, by omega⟩ h1
  have l7 := fun d => ld7 x7 p h' d b ⟨2816 + n.val, by omega⟩ (by show 2816 + n.val = p + b.val; omega)
  have l8 := fun d => ld8 x8 p h' d b ⟨2816 + n.val, by omega⟩ (by show 2816 + n.val = p + b.val; omega)
  have l9 := fun d => ld9 x9 p h' d b ⟨2816 + n.val, by omega⟩ (by show 2816 + n.val = p + b.val; omega)
  unfold chunkAt
  rw [chunk_apply]
  simp only [k7, k8, k9, l7, l8, l9]
  rfl

theorem act_apply (r : Fin 1024) (n : Fin 2816) :
    View.canon (actL (F := Ideal) hn x7 x8 x9) (ix2 r n)
      = actF (fun d => hn (ix2 ⟨r.val + 15, by omega⟩ d)) (fun d => hn (ix2 ⟨r.val + 16, by omega⟩ d))
        (fun d => hn (ix2 ⟨r.val + 17, by omega⟩ d)) x7 x8 x9 n := by
  refine View.canon_eq_of_allAt _ _ _ (View.cover_of_tiled (actL (F := Ideal) hn x7 x8 x9) S1024x256.size (by rfl) _) ?_
  unfold actL
  iterate 11 refine View.allAt_cons_unit _ _ _ _ _ (chunkAt_tile hn x7 x8 x9 _ _ _ _ rfl r n) ?_
  exact View.allAt_nil _ _

end

section
variable (i : grid0.Coords) (x0 : Vec Ideal S16x1024 .f32) (x1 : Vec Ideal S1024x1024 .f32) (x2 : Vec Ideal S16x1024 .f32)
  (x3 : Vec Ideal S1x1024 .f32) (x4 x5 : Vec Ideal S1x1x1024 .f32)

/-- The norm of a row of a block. -/
def nrow (x : Fin 1024 → EReal) : Fin 1024 → EReal :=
  nrm x (fun e => x3 (ix2 0 e)) (fun e => x4 (ix3 0 0 e)) (fun e => x5 (ix3 0 0 e))

/-- The normalised rows. -/
def hnV : Vec Ideal S1056x1024 .bf16 := View.canon (hnL (F := Ideal) i x0 x1 x2 x3 x4 x5)

theorem hn_mid (r : Fin 1024) (ρ : Fin 1056) (e : ρ.val = r.val + 16) (d : Fin 1024) :
    hnV i x0 x1 x2 x3 x4 x5 (ix2 ρ d) = nrow x3 x4 x5 (fun e => x1 (ix2 r e)) d := by
  refine View.canon_eq_of_allAt _ _ _ ⟨_, List.mem_cons_of_mem _ List.mem_cons_self, (Rect.mem_set_unit (inb := inH1)).mpr fun a => ?_⟩ ?_
  · match a with
    | ⟨0, _⟩ => show 16 ≤ ρ.val ∧ ρ.val < 16 + 1024; omega
    | ⟨1, _⟩ => show 0 ≤ d.val ∧ d.val < 0 + 1024; omega
  unfold hnL
  refine View.allAt_cons_unit _ _ _ _ _ ?_ (View.allAt_cons_unit _ _ _ _ _ ?_ (View.allAt_cons_unit _ _ _ _ _ ?_ (View.allAt_nil _ _)))
  · intro x hx
    have h0 : ρ.val = 1040 + (x 0).val := hx 0
    omega
  · intro x hx
    obtain ⟨a, b, rfl⟩ : ∃ (a b : Fin 1024), x = ix2 a b := ⟨_, _, eq_ix2 x⟩
    have h0 : ρ.val = 16 + a.val := hx 0
    have h1 : d.val = 0 + b.val := hx 1
    obtain rfl : a = r := Fin.ext (by omega)
    obtain rfl : b = d := Fin.ext (by omega)
    exact pay6_apply x3 x4 x5 x1 a b
  · intro x hx
    have h0 : ρ.val = 0 + (x 0).val := hx 0
    have : (x 0).val < 16 := (x 0).isLt
    omega

theorem hn_lo (ρ : Fin 1056) (e : ρ.val = 15) (d : Fin 1024) :
    hnV i x0 x1 x2 x3 x4 x5 (ix2 ρ d) = Scalar.select (atFirst i) 0 (nrow x3 x4 x5 (fun e => x0 (ix2 15 e)) d) := by
  refine View.canon_eq_of_allAt _ _ _ ⟨_, List.mem_cons_of_mem _ (List.mem_cons_of_mem _ List.mem_cons_self), (Rect.mem_set_unit (inb := inH0)).mpr fun a => ?_⟩ ?_
  · match a with
    | ⟨0, _⟩ => show 0 ≤ ρ.val ∧ ρ.val < 0 + 16; omega
    | ⟨1, _⟩ => show 0 ≤ d.val ∧ d.val < 0 + 1024; omega
  unfold hnL
  refine View.allAt_cons_unit _ _ _ _ _ ?_ (View.allAt_cons_unit _ _ _ _ _ ?_ (View.allAt_cons_unit _ _ _ _ _ ?_ (View.allAt_nil _ _)))
  · intro x hx
    have h0 : ρ.val = 1040 + (x 0).val := hx 0
    omega
  · intro x hx
    have h0 : ρ.val = 16 + (x 0).val := hx 0
    omega
  · intro x hx
    obtain ⟨a, b, rfl⟩ : ∃ (a : Fin 16) (b : Fin 1024), x = ix2 a b := ⟨_, _, eq_ix2 x⟩
    have h0 : ρ.val = 0 + a.val := hx 0
    have h1 : d.val = 0 + b.val := hx 1
    obtain rfl : a = 15 := Fin.ext (by show a.val = 15; omega)
    obtain rfl : b = d := Fin.ext (by omega)
    exact pay5_apply (atFirst i) x3 x4 x5 x0 15 b

theorem hn_hi (ρ : Fin 1056) (e : ρ.val = 1040) (d : Fin 1024) :
    hnV i x0 x1 x2 x3 x4 x5 (ix2 ρ d) = Scalar.select (atLast i) 0 (nrow x3 x4 x5 (fun e => x2 (ix2 0 e)) d) := by
  refine View.canon_eq_of_allAt _ _ _ ⟨_, List.mem_cons_self, (Rect.mem_set_unit (inb := inH2)).mpr fun a => ?_⟩ ?_
  · match a with
    | ⟨0, _⟩ => show 1040 ≤ ρ.val ∧ ρ.val < 1040 + 16; omega
    | ⟨1, _⟩ => show 0 ≤ d.val ∧ d.val < 0 + 1024; omega
  unfold hnL
  refine View.allAt_cons_unit _ _ _ _ _ ?_ (View.allAt_cons_unit _ _ _ _ _ ?_ (View.allAt_cons_unit _ _ _ _ _ ?_ (View.allAt_nil _ _)))
  · intro x hx
    obtain ⟨a, b, rfl⟩ : ∃ (a : Fin 16) (b : Fin 1024), x = ix2 a b := ⟨_, _, eq_ix2 x⟩
    have h0 : ρ.val = 1040 + a.val := hx 0
    have h1 : d.val = 0 + b.val := hx 1
    obtain rfl : a = 0 := Fin.ext (by show a.val = 0; omega)
    obtain rfl : b = d := Fin.ext (by omega)
    exact pay7_apply (atLast i) x3 x4 x5 x2 0 b
  · intro x hx
    have h0 : ρ.val = 16 + (x 0).val := hx 0
    have : (x 0).val < 1024 := (x 0).isLt
    omega
  · intro x hx
    have h0 : ρ.val = 0 + (x 0).val := hx 0
    have : (x 0).val < 16 := (x 0).isLt
    omega

end

end Cert.Proof.LastOut
end
-- ==== Proof.LastIdeal.Final.lean ====
/- The result array: each block of rows is written back at its place, so the array ends at the formula of the arguments. -/
module

public import proofs.«01_k».proof.Proof.LastIdeal.Block
public import proofs.«01_k».proof.Proof.LastIdeal.Spec

@[expose] public section

set_option maxRecDepth 16384

noncomputable section

namespace Cert.Proof.LastOut

open Cert.LastIdeal Cert.LastIdeal.Gen Cert.Proof.FfnMath
open Idealize.ShloMosaic Idealize.ShloMosaic.TcCoe Idealize.SL.Sem

variable (m : (ℓ : Loc nD τ sig) → Buf (Elt Ideal) ℓ) (ρ : Dev nD → PrngReg)

/-- The arguments of device `c`. -/
abbrev a0 (c : Dev nD) : FVec Ideal S32768x1024 .f32 := m ((c : Thread nD τ).loc main_arg0)
abbrev a1 (c : Dev nD) : FVec Ideal S1x1024 .f32 := m ((c : Thread nD τ).loc main_arg1)
abbrev a2 (c : Dev nD) : FVec Ideal S4x1x1024 .f32 := m ((c : Thread nD τ).loc main_arg2)
abbrev a3 (c : Dev nD) : FVec Ideal S4x1x1024 .f32 := m ((c : Thread nD τ).loc main_arg3)
abbrev a4 (c : Dev nD) : FVec Ideal S4x1x1024 .f32 := m ((c : Thread nD τ).loc main_arg4)
abbrev a5 (c : Dev nD) : FVec Ideal S1024x5632 .bf16 := m ((c : Thread nD τ).loc main_arg5)
abbrev a6 (c : Dev nD) : FVec Ideal S3x5632 .f32 := m ((c : Thread nD τ).loc main_arg6)
abbrev a7 (c : Dev nD) : FVec Ideal S1x5632 .f32 := m ((c : Thread nD τ).loc main_arg7)
abbrev a8 (c : Dev nD) : FVec Ideal S2816x1024 .bf16 := m ((c : Thread nD τ).loc main_arg8)
abbrev a9 (c : Dev nD) : FVec Ideal S1x1024 .f32 := m ((c : Thread nD τ).loc main_arg9)

/-- The arguments at their indices. -/
abbrev AA (c : Dev nD) : Ar := ar (a0 m c) (a1 m c) (a2 m c) (a3 m c) (a4 m c) (a5 m c) (a6 m c) (a7 m c) (a8 m c) (a9 m c)

/-- The result array of device `c`. -/
def G (c : Dev nD) : Buf (Elt Ideal) ((c : Thread nD τ).loc main_v0) := fun i : S32768x1024.Idx =>
  fin (AA m c) silu (bat (i 0)) (pos (i 0)) (i 1)

/-- A point's sequence, and the place in it of a row of its block. -/
def tb (t : Fin cfg0.N) : Fin 4 := ⟨t.val / 8, Nat.div_lt_of_lt_mul t.isLt⟩
def sp (t : Fin cfg0.N) (r : Fin 1024) : Fin 8192 := ⟨t.val % 8 * 1024 + r.val, by omega⟩

theorem t_lt (t : Fin cfg0.N) : t.val < 32 := t.isLt

theorem first_eq : ∀ t : Fin 32, atFirst (grid0.coords t) = if t.val % 8 = 0 then 1#1 else 0#1 := by decide +kernel
theorem last_eq : ∀ t : Fin 32, atLast (grid0.coords t) = if t.val % 8 = 7 then 1#1 else 0#1 := by decide +kernel

theorem idx0 : ∀ t : Fin 32, win0_0.index t 0 = t.val * 64 - 1 ∧ win0_0.index t 1 = 0 := by decide +kernel
theorem idx1 : ∀ t : Fin 32, win0_1.index t 0 = t.val ∧ win0_1.index t 1 = 0 := by decide +kernel
theorem idx2 : ∀ t : Fin 32, win0_2.index t 0 = min ((t.val + 1) * 64) 2047 ∧ win0_2.index t 1 = 0 := by decide +kernel
theorem idx12 : ∀ t : Fin 32, win0_12.index t 0 = t.val ∧ win0_12.index t 1 = 0 := by decide +kernel
theorem idx3 : ∀ t : Fin 32, win0_3.index t 0 = 0 ∧ win0_3.index t 1 = 0 := by decide +kernel
theorem idx7 : ∀ t : Fin 32, win0_7.index t 0 = 0 ∧ win0_7.index t 1 = 0 := by decide +kernel
theorem idx8 : ∀ t : Fin 32, win0_8.index t 0 = 0 ∧ win0_8.index t 1 = 0 := by decide +kernel
theorem idx9 : ∀ t : Fin 32, win0_9.index t 0 = 0 ∧ win0_9.index t 1 = 0 := by decide +kernel
theorem idx10 : ∀ t : Fin 32, win0_10.index t 0 = 0 ∧ win0_10.index t 1 = 0 := by decide +kernel
theorem idx11 : ∀ t : Fin 32, win0_11.index t 0 = 0 ∧ win0_11.index t 1 = 0 := by decide +kernel
theorem idx4 : ∀ t : Fin 32, win0_4.index t 0 = t.val / 8 ∧ win0_4.index t 1 = 0 ∧ win0_4.index t 2 = 0 := by decide +kernel
theorem idx5 : ∀ t : Fin 32, win0_5.index t 0 = t.val / 8 ∧ win0_5.index t 1 = 0 ∧ win0_5.index t 2 = 0 := by decide +kernel
theorem idx6 : ∀ t : Fin 32, win0_6.index t 0 = t.val / 8 ∧ win0_6.index t 1 = 0 ∧ win0_6.index t 2 = 0 := by decide +kernel

theorem iblk0 (c : Dev nD) (t : Fin cfg0.N) (R : Fin 32768) (e : R.val = t.val * 1024 - 1) (ht : t.val ≠ 0) (y : Fin 1024) :
    (iblk m c 0 t : Vec Ideal S16x1024 .f32) (ix2 15 y) = a0 m c (ix2 R y) := by
  unfold iblk
  refine congrArg (a0 m c) (funext fun a => Fin.ext ?_)
  obtain ⟨e0, e1⟩ := idx0 t
  match a with
  | ⟨0, _⟩ => show win0_0.index t 0 * 16 + 1 * 15 = R.val; rw [e0]; omega
  | ⟨1, _⟩ => show win0_0.index t 1 * 1024 + 1 * y.val = y.val; rw [e1]; omega

theorem iblk1 (c : Dev nD) (t : Fin cfg0.N) (R : Fin 32768) (x : Fin 1024) (e : R.val = t.val * 1024 + x.val) (y : Fin 1024) :
    (iblk m c 1 t : Vec Ideal S1024x1024 .f32) (ix2 x y) = a0 m c (ix2 R y) := by
  unfold iblk
  refine congrArg (a0 m c) (funext fun a => Fin.ext ?_)
  obtain ⟨e0, e1⟩ := idx1 t
  match a with
  | ⟨0, _⟩ => show win0_1.index t 0 * 1024 + 1 * x.val = R.val; rw [e0]; omega
  | ⟨1, _⟩ => show win0_1.index t 1 * 1024 + 1 * y.val = y.val; rw [e1]; omega

theorem iblk2 (c : Dev nD) (t : Fin cfg0.N) (R : Fin 32768) (e : R.val = (t.val + 1) * 1024) (y : Fin 1024) :
    (iblk m c 2 t : Vec Ideal S16x1024 .f32) (ix2 0 y) = a0 m c (ix2 R y) := by
  unfold iblk
  refine congrArg (a0 m c) (funext fun a => Fin.ext ?_)
  obtain ⟨e0, e1⟩ := idx2 t
  have hR : R.val < 32768 := R.isLt
  match a with
  | ⟨0, _⟩ => show win0_2.index t 0 * 16 + 1 * 0 = R.val; rw [e0]; omega
  | ⟨1, _⟩ => show win0_2.index t 1 * 1024 + 1 * y.val = y.val; rw [e1]; omega

theorem iblk3 (c : Dev nD) (t : Fin cfg0.N) (x : Fin 1) (y : Fin 1024) : (iblk m c 3 t : Vec Ideal S1x1024 .f32) (ix2 x y) = a1 m c (ix2 x y) := by
  unfold iblk
  refine congrArg (a1 m c) (funext fun a => Fin.ext ?_)
  obtain ⟨e0, e1⟩ := idx3 t
  match a with
  | ⟨0, _⟩ => show win0_3.index t 0 * 1 + 1 * x.val = x.val; rw [e0]; omega
  | ⟨1, _⟩ => show win0_3.index t 1 * 1024 + 1 * y.val = y.val; rw [e1]; omega

theorem iblk7 (c : Dev nD) (t : Fin cfg0.N) (x : Fin 1024) (y : Fin 5632) : (iblk m c 7 t : Vec Ideal S1024x5632 .bf16) (ix2 x y) = a5 m c (ix2 x y) := by
  unfold iblk
  refine congrArg (a5 m c) (funext fun a => Fin.ext ?_)
  obtain ⟨e0, e1⟩ := idx7 t
  match a with
  | ⟨0, _⟩ => show win0_7.index t 0 * 1024 + 1 * x.val = x.val; rw [e0]; omega
  | ⟨1, _⟩ => show win0_7.index t 1 * 5632 + 1 * y.val = y.val; rw [e1]; omega

theorem iblk8 (c : Dev nD) (t : Fin cfg0.N) (x : Fin 3) (y : Fin 5632) : (iblk m c 8 t : Vec Ideal S3x5632 .f32) (ix2 x y) = a6 m c (ix2 x y) := by
  unfold iblk
  refine congrArg (a6 m c) (funext fun a => Fin.ext ?_)
  obtain ⟨e0, e1⟩ := idx8 t
  match a with
  | ⟨0, _⟩ => show win0_8.index t 0 * 3 + 1 * x.val = x.val; rw [e0]; omega
  | ⟨1, _⟩ => show win0_8.index t 1 * 5632 + 1 * y.val = y.val; rw [e1]; omega

theorem iblk9 (c : Dev nD) (t : Fin cfg0.N) (x : Fin 1) (y : Fin 5632) : (iblk m c 9 t : Vec Ideal S1x5632 .f32) (ix2 x y) = a7 m c (ix2 x y) := by
  unfold iblk
  refine congrArg (a7 m c) (funext fun a => Fin.ext ?_)
  obtain ⟨e0, e1⟩ := idx9 t
  match a with
  | ⟨0, _⟩ => show win0_9.index t 0 * 1 + 1 * x.val = x.val; rw [e0]; omega
  | ⟨1, _⟩ => show win0_9.index t 1 * 5632 + 1 * y.val = y.val; rw [e1]; omega

theorem iblk10 (c : Dev nD) (t : Fin cfg0.N) (x : Fin 2816) (y : Fin 1024) : (iblk m c 10 t : Vec Ideal S2816x1024 .bf16) (ix2 x y) = a8 m c (ix2 x y) := by
  unfold iblk
  refine congrArg (a8 m c) (funext fun a => Fin.ext ?_)
  obtain ⟨e0, e1⟩ := idx10 t
  match a with
  | ⟨0, _⟩ => show win0_10.index t 0 * 2816 + 1 * x.val = x.val; rw [e0]; omega
  | ⟨1, _⟩ => show win0_10.index t 1 * 1024 + 1 * y.val = y.val; rw [e1]; omega

theorem iblk11 (c : Dev nD) (t : Fin cfg0.N) (x : Fin 1) (y : Fin 1024) : (iblk m c 11 t : Vec Ideal S1x1024 .f32) (ix2 x y) = a9 m c (ix2 x y) := by
  unfold iblk
  refine congrArg (a9 m c) (funext fun a => Fin.ext ?_)
  obtain ⟨e0, e1⟩ := idx11 t
  match a with
  | ⟨0, _⟩ => show win0_11.index t 0 * 1 + 1 * x.val = x.val; rw [e0]; omega
  | ⟨1, _⟩ => show win0_11.index t 1 * 1024 + 1 * y.val = y.val; rw [e1]; omega

theorem iblk4 (c : Dev nD) (t : Fin cfg0.N) (y : Fin 1024) : (iblk m c 4 t : Vec Ideal S1x1x1024 .f32) (ix3 0 0 y) = a2 m c (ix3 (tb t) 0 y) := by
  unfold iblk
  refine congrArg (a2 m c) (funext fun a => Fin.ext ?_)
  obtain ⟨e0, e1, e2⟩ := idx4 t
  match a with
  | ⟨0, _⟩ => show win0_4.index t 0 * 1 + 1 * 0 = t.val / 8; rw [e0]; omega
  | ⟨1, _⟩ => show win0_4.index t 1 * 1 + 1 * 0 = 0; rw [e1]
  | ⟨2, _⟩ => show win0_4.index t 2 * 1024 + 1 * y.val = y.val; rw [e2]; omega

theorem iblk5 (c : Dev nD) (t : Fin cfg0.N) (y : Fin 1024) : (iblk m c 5 t : Vec Ideal S1x1x1024 .f32) (ix3 0 0 y) = a3 m c (ix3 (tb t) 0 y) := by
  unfold iblk
  refine congrArg (a3 m c) (funext fun a => Fin.ext ?_)
  obtain ⟨e0, e1, e2⟩ := idx5 t
  match a with
  | ⟨0, _⟩ => show win0_5.index t 0 * 1 + 1 * 0 = t.val / 8; rw [e0]; omega
  | ⟨1, _⟩ => show win0_5.index t 1 * 1 + 1 * 0 = 0; rw [e1]
  | ⟨2, _⟩ => show win0_5.index t 2 * 1024 + 1 * y.val = y.val; rw [e2]; omega

theorem iblk6 (c : Dev nD) (t : Fin cfg0.N) (y : Fin 1024) : (iblk m c 6 t : Vec Ideal S1x1x1024 .f32) (ix3 0 0 y) = a4 m c (ix3 (tb t) 0 y) := by
  unfold iblk
  refine congrArg (a4 m c) (funext fun a => Fin.ext ?_)
  obtain ⟨e0, e1, e2⟩ := idx6 t
  match a with
  | ⟨0, _⟩ => show win0_6.index t 0 * 1 + 1 * 0 = t.val / 8; rw [e0]; omega
  | ⟨1, _⟩ => show win0_6.index t 1 * 1 + 1 * 0 = 0; rw [e1]
  | ⟨2, _⟩ => show win0_6.index t 2 * 1024 + 1 * y.val = y.val; rw [e2]; omega

/-- The normalised rows of a point. -/
def hnT (c : Dev nD) (t : Fin cfg0.N) : Vec Ideal S1056x1024 .bf16 :=
  hnV (grid0.coords t) (iblk m c 0 t) (iblk m c 1 t) (iblk m c 2 t) (iblk m c 3 t) (iblk m c 4 t) (iblk m c 5 t)

theorem row_val (t : Fin cfg0.N) (r : Fin 1024) : (row (tb t) (sp t r)).val = t.val * 1024 + r.val := by
  show t.val / 8 * 8192 + (t.val % 8 * 1024 + r.val) = _
  omega

theorem nrow_eq (c : Dev nD) (t : Fin cfg0.N) (x : Fin 1024 → EReal) (s : Fin 8192) (hx : ∀ e, x e = a0 m c (ix2 (row (tb t) s) e)) :
    nrow (iblk m c 3 t) (iblk m c 4 t) (iblk m c 5 t) x = nr (AA m c) (tb t) s := by
  obtain rfl : x = fun e => a0 m c (ix2 (row (tb t) s) e) := funext hx
  unfold nrow
  simp only [iblk3, iblk4, iblk5]
  rfl

theorem hn_c (c : Dev nD) (t : Fin cfg0.N) (r : Fin 1024) (ϱ : Fin 1056) (e : ϱ.val = r.val + 16) :
    (fun d => hnT m c t (ix2 ϱ d)) = nr (AA m c) (tb t) (sp t r) := by
  funext d
  unfold hnT
  rw [hn_mid _ _ _ _ _ _ _ r ϱ e d, nrow_eq m c t _ (sp t r) fun y => iblk1 m c t _ r (row_val t r) y]

theorem hn_p (c : Dev nD) (t : Fin cfg0.N) (r : Fin 1024) (ϱ : Fin 1056) (e : ϱ.val = r.val + 15) :
    (fun d => hnT m c t (ix2 ϱ d)) = pv (AA m c) (tb t) (sp t r) := by
  have ht := t_lt t
  unfold pv
  by_cases hr : r.val = 0
  · by_cases h8 : t.val % 8 = 0
    · have hb : atFirst (grid0.coords t) = 1#1 := (first_eq t).trans (if_pos h8)
      have hs : t.val % 8 * 1024 + r.val = 0 := by omega
      rw [if_pos (show (sp t r).val = 0 from hs)]
      funext d
      unfold hnT
      rw [hn_lo _ _ _ _ _ _ _ ϱ (by omega) d, hb]
      rfl
    · have hb : atFirst (grid0.coords t) = 0#1 := (first_eq t).trans (if_neg h8)
      have hs : ¬ t.val % 8 * 1024 + r.val = 0 := by omega
      rw [if_neg (show ¬ (sp t r).val = 0 from hs)]
      funext d
      unfold hnT
      rw [hn_lo _ _ _ _ _ _ _ ϱ (by omega) d, hb]
      have hlt : t.val % 8 * 1024 + r.val - 1 < 8192 := by omega
      have hR : t.val / 8 * 8192 + (t.val % 8 * 1024 + r.val - 1) = t.val * 1024 - 1 := by omega
      exact congrFun (nrow_eq m c t _ ⟨(sp t r).val - 1, hlt⟩ fun y => iblk0 m c t _ hR (by omega) y) d
  · have hs : ¬ t.val % 8 * 1024 + r.val = 0 := by omega
    rw [if_neg (show ¬ (sp t r).val = 0 from hs), hn_c m c t ⟨r.val - 1, by omega⟩ ϱ (by show ϱ.val = r.val - 1 + 16; omega)]
    refine congrArg (nr (AA m c) (tb t)) (Fin.ext ?_)
    show t.val % 8 * 1024 + (r.val - 1) = t.val % 8 * 1024 + r.val - 1
    omega

theorem hn_n (c : Dev nD) (t : Fin cfg0.N) (r : Fin 1024) (ϱ : Fin 1056) (e : ϱ.val = r.val + 17) :
    (fun d => hnT m c t (ix2 ϱ d)) = nx (AA m c) (tb t) (sp t r) := by
  have ht := t_lt t
  unfold nx
  by_cases hr : r.val = 1023
  · by_cases h8 : t.val % 8 = 7
    · have hb : atLast (grid0.coords t) = 1#1 := (last_eq t).trans (if_pos h8)
      have hs : t.val % 8 * 1024 + r.val = 8191 := by omega
      rw [dif_pos (show (sp t r).val = 8191 from hs)]
      funext d
      unfold hnT
      rw [hn_hi _ _ _ _ _ _ _ ϱ (by omega) d, hb]
      rfl
    · have hb : atLast (grid0.coords t) = 0#1 := (last_eq t).trans (if_neg h8)
      have hs : ¬ t.val % 8 * 1024 + r.val = 8191 := by omega
      rw [dif_neg (show ¬ (sp t r).val = 8191 from hs)]
      funext d
      unfold hnT
      rw [hn_hi _ _ _ _ _ _ _ ϱ (by omega) d, hb]
      have hlt : t.val % 8 * 1024 + r.val + 1 < 8192 := by omega
      have hR : t.val / 8 * 8192 + (t.val % 8 * 1024 + r.val + 1) = (t.val + 1) * 1024 := by omega
      exact congrFun (nrow_eq m c t _ ⟨(sp t r).val + 1, hlt⟩ fun y => iblk2 m c t _ hR y) d
  · have hs : ¬ t.val % 8 * 1024 + r.val = 8191 := by omega
    rw [dif_neg (show ¬ (sp t r).val = 8191 from hs), hn_c m c t ⟨r.val + 1, by omega⟩ ϱ (by show ϱ.val = r.val + 1 + 16; omega)]
    rfl

/-- The activation of a point at a row and a column. -/
theorem act_at (c : Dev nD) (t : Fin cfg0.N) (r : Fin 1024) (k : Fin 2816) :
    View.canon (actL (F := Ideal) (hnT m c t) (iblk m c 7 t) (iblk m c 8 t) (iblk m c 9 t)) (ix2 r k)
      = silu (cvv (AA m c) (tb t) (sp t r) (lc k)) * cvv (AA m c) (tb t) (sp t r) (rc k) := by
  have hw : ∀ n : Fin 5632, wcol (iblk m c 7 t) n = fun d => a5 m c (ix2 d n) := fun n => funext fun d => iblk7 m c t d n
  have hcc : ∀ n : Fin 5632, ccol (iblk m c 8 t) n = fun a => a6 m c (ix2 a n) := fun n => funext fun a => iblk8 m c t a n
  rw [act_apply, hn_p m c t r _ rfl, hn_c m c t r _ rfl, hn_n m c t r _ rfl]
  unfold actF conv
  simp only [hw, hcc, iblk9]
  rfl

/-- The residual row from the blocks. -/
def resG (x : Vec Ideal S1024x1024 .f32) (g2 : Vec Ideal S1x1x1024 .f32) (a : Vec Ideal S1024x2816 .bf16) (w : Vec Ideal S2816x1024 .bf16)
    (r d : Fin 1024) : EReal :=
  x (ix2 r d) + g2 (ix3 0 0 d) * ∑ k : Fin 2816, a (ix2 r k) * w (ix2 k d)

theorem res_at (c : Dev nD) (t : Fin cfg0.N) (r e : Fin 1024) :
    resG (iblk m c 1 t) (iblk m c 6 t) (View.canon (actL (F := Ideal) (hnT m c t) (iblk m c 7 t) (iblk m c 8 t) (iblk m c 9 t))) (iblk m c 10 t) r e
      = zz (AA m c) silu (tb t) (sp t r) e := by
  unfold resG
  rw [iblk1 m c t (row (tb t) (sp t r)) r (row_val t r) e, iblk6]
  simp only [act_at m c t r, iblk10]
  rfl

/-- The block of a point at an index. -/
theorem block_eq (c : Dev nD) (t : Fin cfg0.N) (r d : Fin 1024) :
    blockV (F := Ideal) (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 r d) = fin (AA m c) silu (tb t) (sp t r) d := by
  refine (pay57_apply (iblk m c 1 t) (iblk m c 6 t) (View.canon (actL (F := Ideal) (hnT m c t) (iblk m c 7 t) (iblk m c 8 t) (iblk m c 9 t)))
    (iblk m c 10 t) (iblk m c 11 t) r d).trans ?_
  have hz := fun e => res_at m c t r e
  unfold fin
  rw [show zz (AA m c) silu (tb t) (sp t r) = _ from (funext hz).symm, iblk11]
  rfl

/-- What a point writes back is its block of the result. -/
theorem flushed_eq (c : Dev nD) (t : Fin cfg0.N) : (dats m 0 c).flushed 12 t = (win0_12.blk t).view.read (Elt Ideal) (G m c) := by
  have ht := t_lt t
  rw [Value.flushed12_A, out_eq]
  funext (y : S1024x1024.Idx)
  obtain ⟨r, d, rfl⟩ : ∃ (r d : Fin 1024), y = ix2 r d := ⟨_, _, eq_ix2 y⟩
  obtain ⟨e0, e1⟩ := idx12 t
  refine (block_eq m c t r d).trans ?_
  have hv : ((win0_12.blk t).view.emb (ix2 r d) : S32768x1024.Idx) = ix2 (row (tb t) (sp t r)) d := by
    funext a
    apply Fin.ext
    match a with
    | ⟨0, _⟩ => show win0_12.index t 0 * 1024 + 1 * r.val = (row (tb t) (sp t r)).val; rw [e0, row_val]; omega
    | ⟨1, _⟩ => show win0_12.index t 1 * 1024 + 1 * d.val = d.val; rw [e1]; omega
  show _ = G m c ((win0_12.blk t).view.emb (ix2 r d))
  rw [hv]
  refine congrArg₂ (fun b s => fin (AA m c) silu b s d) (Fin.ext ?_) (Fin.ext ?_)
  · show t.val / 8 = (row (tb t) (sp t r)).val / 8192; rw [row_val]; omega
  · show t.val % 8 * 1024 + r.val = (row (tb t) (sp t r)).val % 8192; rw [row_val]; omega

theorem mem_blk (t : Fin cfg0.N) (i : S32768x1024.Idx) : i ∈ ((cfg0.win 12).blk t).view.set ↔ t.val = (i 0 : Nat) / 1024 := by
  show i ∈ ((View.whole main_v0).slice (win0_12.rect t)).set ↔ _
  rw [View.set_slice_whole, Rect.mem_set_unit]
  obtain ⟨e0, e1⟩ := idx12 t
  have h1 : (i 1 : Nat) < 1024 := (i 1).isLt
  refine ⟨fun h => ?_, fun h a => ?_⟩
  · have p0 : win0_12.index t 0 * 1024 ≤ (i 0 : Nat) ∧ (i 0 : Nat) < win0_12.index t 0 * 1024 + 1024 := h 0
    rw [e0] at p0
    omega
  · match a with
    | ⟨0, _⟩ => show win0_12.index t 0 * 1024 ≤ (i 0 : Nat) ∧ (i 0 : Nat) < win0_12.index t 0 * 1024 + 1024; rw [e0]; omega
    | ⟨1, _⟩ => show win0_12.index t 1 * 1024 ≤ (i 1 : Nat) ∧ (i 1 : Nat) < win0_12.index t 1 * 1024 + 1024; rw [e1]; omega

/-- The blocks cover the result. -/
theorem cover (i : S32768x1024.Idx) : ∃ t : Fin cfg0.N, (cfg0.win 12).flush t = true ∧ i ∈ ((cfg0.win 12).blk t).view.set := by
  have h0 : (i 0 : Nat) < 32768 := (i 0).isLt
  have ht : (i 0 : Nat) / 1024 < cfg0.N := by show _ < 32; omega
  exact ⟨⟨_, ht⟩, flush0_12 _, (mem_blk _ _).mpr rfl⟩

theorem final_o (c : Dev nD) : (dats m 0 c).arrAt 12 cfg0.N = G m c :=
  (dats m 0 c).arrAt_eq_of_cover 12 (G m c) (fun t _ => flushed_eq m c t) cover

/-- The run: the result at the formula, the arguments unchanged. -/
theorem run : θ_run (defs (F := Ideal)) (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (final_o m c), (h c).2⟩) (Value.run_blocks m ρ)

end Cert.Proof.LastOut

end
-- ==== Proof.FfnIdeal.Ref.lean ====
/- The reference's stages at an index: each is the formula of the arguments that `zz` collects. -/
module

public import proofs.«01_k».proof.Proof.Gen.FfnRefIdeal.Read
public import proofs.«01_k».proof.Proof.LastIdeal.Spec
public import Idealize.ShloMosaic.Lib.KernelVsHost

@[expose] public section

set_option maxRecDepth 16384

noncomputable section

namespace Cert.Proof.FfnRef

open Cert.FfnRefIdeal Cert.FfnRefIdeal.Gen Cert.FfnRefIdeal.Read Cert.Proof.FfnMath
open Idealize.ShloMosaic

variable (x0 : FVec Ideal S32768x1024 .f32) (x1 : FVec Ideal S1x1024 .f32) (x2 x3 x4 : FVec Ideal S4x1x1024 .f32)
  (x5 : FVec Ideal S1024x5632 .bf16) (x6 : FVec Ideal S3x5632 .f32) (x7 : FVec Ideal S1x5632 .f32)
  (x8 : FVec Ideal S2816x1024 .bf16) (x9 : FVec Ideal S1x1024 .f32)

theorem v0_eq (b : Fin 4) (s : Fin 8192) (d : Fin 1024) : val_main_v0 (F := Ideal) x0 (ix3 b s d) = x0 (ix2 (row b s) d) := by
  rw [val_main_v0_apply]
  exact congrArg x0 (funext fun a => Fin.ext (by
    match a with
    | ⟨0, _⟩ => show ((b.val * 8192 + s.val) * 1024 + d.val) / 1024 = b.val * 8192 + s.val; omega
    | ⟨1, _⟩ => show ((b.val * 8192 + s.val) * 1024 + d.val) % 1024 = d.val; omega))

theorem v3_eq (b : Fin 4) (s : Fin 8192) :
    val_main_v3 (F := Ideal) x0 (ix2 b s) = ∑ e : Fin 1024, x0 (ix2 (row b s) e) * x0 (ix2 (row b s) e) := by
  rw [val_main_v3_apply, show val_main_cst (F := Ideal) (Shape.Idx.first h_S_) = (0 : EReal) from Ideal.ofBits_zero_f32, zero_add]
  refine Finset.sum_congr rfl fun e _ => ?_
  have hi : idx_main_v3 (ix2 b s) e = ix3 b s e := eq_ix3 _
  rw [val_main_v2_apply, hi, v0_eq]
  rfl

theorem v10_eq (b : Fin 4) (s : Fin 8192) (d : Fin 1024) :
    val_main_v10 (F := Ideal) x0 (ix3 b s d) = inv fun e => x0 (ix2 (row b s) e) := by
  have hi : idx_main_v4 (idx_main_v10 (ix3 b s d)) = ix2 b s := eq_ix2 _
  rw [val_main_v10_apply, val_main_v9_apply, val_main_v8_apply, val_main_v6_apply, val_main_v4_apply, val_main_v5_apply, val_main_v7_apply,
    val_main_cst_0_apply, val_main_cst_1_apply, hi, v3_eq]
  rfl

theorem v13_eq (b : Fin 4) (s : Fin 8192) (d : Fin 1024) : val_main_v13 (F := Ideal) x1 (ix3 b s d) = x1 (ix2 0 d) := by
  rw [val_main_v13_apply, val_main_v12_apply, val_main_v1_apply]
  exact congrArg x1 (funext fun a => Fin.ext (by
    match a with
    | ⟨0, _⟩ => rfl
    | ⟨1, _⟩ => show d.val % 1024 = d.val; omega))

theorem v17_eq (b : Fin 4) (s : Fin 8192) (d : Fin 1024) : val_main_v17 (F := Ideal) x3 (ix3 b s d) = 1 + x3 (ix3 b 0 d) := by
  have hi : idx_main_v17 (ix3 b s d) = ix3 b 0 d := eq_ix3 _
  rw [val_main_v17_apply, val_main_v16_apply, val_main_v15_apply, val_main_cst_2_apply, hi]
  exact congrArg (· + x3 (ix3 b 0 d)) lit_one

theorem v20_eq (b : Fin 4) (s : Fin 8192) (d : Fin 1024) :
    val_main_v20 (F := Ideal) x0 x1 x2 x3 (ix3 b s d) = nr (ar x0 x1 x2 x3 x4 x5 x6 x7 x8 x9) b s d := by
  have hi : idx_main_v19 (ix3 b s d) = ix3 b 0 d := eq_ix3 _
  rw [val_main_v20_apply, val_main_v18_apply, val_main_v14_apply, val_main_v11_apply, val_main_v19_apply, v0_eq, v10_eq, v13_eq, v17_eq, hi]
  rfl

theorem v24_eq (b : Fin 4) (s : Fin 8192) (n : Fin 5632) :
    val_main_v24 (F := Ideal) x0 x1 x2 x3 x5 (ix3 b s n) = up (nr (ar x0 x1 x2 x3 x4 x5 x6 x7 x8 x9) b s) fun d => x5 (ix2 d n) := by
  rw [val_main_v24_apply]
  refine Finset.sum_congr rfl fun d _ => ?_
  have hl : lidx_main_v24 (ix3 b s n) d = ix3 b s d := eq_ix3 _
  have hr : ridx_main_v24 (ix3 b s n) d = ix2 d n := eq_ix2 _
  rw [hl, hr, v20_eq x0 x1 x2 x3 x4 x5 x6 x7 x8 x9, val_main_v21_apply]
  rfl

theorem pad_val : val_main_call0_v0 (F := Ideal) (Shape.Idx.first h_S_) = (0 : EReal) := by
  show (((0 : Int) : ℝ) : EReal) = 0
  simp

theorem v25_in (b : Fin 4) (ρ : Fin 8194) (s : Fin 8192) (n : Fin 5632) (e : ρ.val = s.val + 1) :
    val_main_v25 (F := Ideal) x0 x1 x2 x3 x5 (ix3 b ρ n) = up (nr (ar x0 x1 x2 x3 x4 x5 x6 x7 x8 x9) b s) fun d => x5 (ix2 d n) := by
  rw [← v24_eq]
  unfold val_main_v25
  generalize val_main_v24 (F := Ideal) x0 x1 x2 x3 x5 = y
  refine pad_apply_of_inside _ _ _ y _ _ _ _ (ix3 b s n) fun a => ?_
  match a with
  | ⟨0, _⟩ => show b.val = 0 + b.val * (0 + 1); omega
  | ⟨1, _⟩ => show ρ.val = 1 + s.val * (0 + 1); omega
  | ⟨2, _⟩ => show n.val = 0 + n.val * (0 + 1); omega

theorem v25_out (b : Fin 4) (ρ : Fin 8194) (n : Fin 5632) (e : ρ.val = 0 ∨ ρ.val = 8193) :
    val_main_v25 (F := Ideal) x0 x1 x2 x3 x5 (ix3 b ρ n) = 0 := by
  unfold val_main_v25
  generalize val_main_v24 (F := Ideal) x0 x1 x2 x3 x5 = y
  refine (pad_apply_of_not_inside _ _ _ y _ _ _ _ (1 : Fin 3) ?_).trans pad_val
  rintro ⟨p1, -, p3⟩
  have q1 : 1 ≤ ρ.val := p1
  have q3 : (ρ.val - 1) / (0 + 1) < 8192 := p3
  omega

theorem v26_eq (b : Fin 4) (s : Fin 8192) (n : Fin 5632) :
    val_main_v26 (F := Ideal) x0 x1 x2 x3 x5 (ix3 b s n) = up (pv (ar x0 x1 x2 x3 x4 x5 x6 x7 x8 x9) b s) fun d => x5 (ix2 d n) := by
  have hi : idx_main_v26 (ix3 b s n) = ix3 b ⟨s.val, by omega⟩ n := eq_ix3 _
  rw [val_main_v26_apply, hi, up_pv]
  split
  · next h => exact v25_out x0 x1 x2 x3 x5 b _ n (Or.inl h)
  · next h => exact v25_in x0 x1 x2 x3 x4 x5 x6 x7 x8 x9 b _ _ n (by show s.val = s.val - 1 + 1; omega)

theorem v32_eq (b : Fin 4) (s : Fin 8192) (n : Fin 5632) :
    val_main_v32 (F := Ideal) x0 x1 x2 x3 x5 (ix3 b s n) = up (nr (ar x0 x1 x2 x3 x4 x5 x6 x7 x8 x9) b s) fun d => x5 (ix2 d n) := by
  have hi : idx_main_v32 (ix3 b s n) = ix3 b ⟨1 + s.val, by omega⟩ n := eq_ix3 _
  rw [val_main_v32_apply, hi]
  exact v25_in x0 x1 x2 x3 x4 x5 x6 x7 x8 x9 b _ _ n (Nat.add_comm _ _)

theorem v39_eq (b : Fin 4) (s : Fin 8192) (n : Fin 5632) :
    val_main_v39 (F := Ideal) x0 x1 x2 x3 x5 (ix3 b s n) = up (nx (ar x0 x1 x2 x3 x4 x5 x6 x7 x8 x9) b s) fun d => x5 (ix2 d n) := by
  have hi : idx_main_v39 (ix3 b s n) = ix3 b ⟨2 + s.val, by omega⟩ n := eq_ix3 _
  rw [val_main_v39_apply, hi, up_nx]
  split
  · next h => exact v25_out x0 x1 x2 x3 x5 b _ n (Or.inr (by show 2 + s.val = 8193; omega))
  · next h => exact v25_in x0 x1 x2 x3 x4 x5 x6 x7 x8 x9 b _ _ n (by show 2 + s.val = s.val + 1 + 1; omega)

theorem v30_eq (b : Fin 4) (s : Fin 8192) (n : Fin 5632) : val_main_v30 (F := Ideal) x6 (ix3 b s n) = x6 (ix2 0 n) := by
  rw [val_main_v30_apply, val_main_v29_apply, val_main_v28_apply, val_main_v27_apply]
  exact congrArg x6 (funext fun a => Fin.ext (by
    match a with
    | ⟨0, _⟩ => rfl
    | ⟨1, _⟩ => show n.val % 5632 = n.val; omega))

theorem v36_eq (b : Fin 4) (s : Fin 8192) (n : Fin 5632) : val_main_v36 (F := Ideal) x6 (ix3 b s n) = x6 (ix2 1 n) := by
  rw [val_main_v36_apply, val_main_v35_apply, val_main_v34_apply, val_main_v33_apply]
  exact congrArg x6 (funext fun a => Fin.ext (by
    match a with
    | ⟨0, _⟩ => rfl
    | ⟨1, _⟩ => show n.val % 5632 = n.val; omega))

theorem v43_eq (b : Fin 4) (s : Fin 8192) (n : Fin 5632) : val_main_v43 (F := Ideal) x6 (ix3 b s n) = x6 (ix2 2 n) := by
  rw [val_main_v43_apply, val_main_v42_apply, val_main_v41_apply, val_main_v40_apply]
  exact congrArg x6 (funext fun a => Fin.ext (by
    match a with
    | ⟨0, _⟩ => rfl
    | ⟨1, _⟩ => show n.val % 5632 = n.val; omega))

theorem v47_eq (b : Fin 4) (s : Fin 8192) (n : Fin 5632) : val_main_v47 (F := Ideal) x7 (ix3 b s n) = x7 (ix2 0 n) := by
  rw [val_main_v47_apply, val_main_v46_apply, val_main_v22_apply]
  exact congrArg x7 (funext fun a => Fin.ext (by
    match a with
    | ⟨0, _⟩ => rfl
    | ⟨1, _⟩ => show n.val % 5632 = n.val; omega))

theorem v48_eq (b : Fin 4) (s : Fin 8192) (n : Fin 5632) :
    val_main_v48 (F := Ideal) x0 x1 x2 x3 x5 x6 x7 (ix3 b s n) = cvv (ar x0 x1 x2 x3 x4 x5 x6 x7 x8 x9) b s n := by
  rw [val_main_v48_apply, val_main_v45_apply, val_main_v38_apply, val_main_v31_apply, val_main_v37_apply, val_main_v44_apply,
    v26_eq x0 x1 x2 x3 x4 x5 x6 x7 x8 x9, v32_eq x0 x1 x2 x3 x4 x5 x6 x7 x8 x9, v39_eq x0 x1 x2 x3 x4 x5 x6 x7 x8 x9, v30_eq, v36_eq,
    v43_eq, v47_eq]
  unfold cvv cv
  refine congrArg (· + x7 (ix2 0 n)) ?_
  exact congrArg₂ (· + ·) (congrArg₂ (· + ·) (mul_comm _ _) (mul_comm _ _)) (mul_comm _ _)

theorem v49_eq (b : Fin 4) (s : Fin 8192) (k : Fin 2816) :
    val_main_v49 (F := Ideal) x0 x1 x2 x3 x5 x6 x7 (ix3 b s k) = cvv (ar x0 x1 x2 x3 x4 x5 x6 x7 x8 x9) b s (lc k) := by
  have hi : idx_main_v49 (ix3 b s k) = ix3 b s (lc k) := eq_ix3 _
  rw [val_main_v49_apply, hi, v48_eq x0 x1 x2 x3 x4 x5 x6 x7 x8 x9]

theorem v50_eq (b : Fin 4) (s : Fin 8192) (k : Fin 2816) :
    val_main_v50 (F := Ideal) x0 x1 x2 x3 x5 x6 x7 (ix3 b s k) = cvv (ar x0 x1 x2 x3 x4 x5 x6 x7 x8 x9) b s (rc k) := by
  have hi : idx_main_v50 (ix3 b s k) = ix3 b s (rc k) := eq_ix3 _
  rw [val_main_v50_apply, hi, v48_eq x0 x1 x2 x3 x4 x5 x6 x7 x8 x9]

theorem v52_eq (b : Fin 4) (s : Fin 8192) (k : Fin 2816) :
    val_main_v52 (F := Ideal) x0 x1 x2 x3 x5 x6 x7 (ix3 b s k) = sil (cvv (ar x0 x1 x2 x3 x4 x5 x6 x7 x8 x9) b s (lc k)) * cvv (ar x0 x1 x2 x3 x4 x5 x6 x7 x8 x9) b s (rc k) := by
  rw [val_main_v52_apply, val_main_v51_apply, val_main_call1_v5_apply, val_main_call1_v4_apply, val_main_call1_v3_apply, val_main_call1_v2_apply,
    val_main_call1_v1_apply, val_main_call1_v0_apply, val_main_call1_cst_apply, val_main_call1_cst_0_apply,
    v49_eq x0 x1 x2 x3 x4 x5 x6 x7 x8 x9, v50_eq x0 x1 x2 x3 x4 x5 x6 x7 x8 x9]
  generalize cvv (ar x0 x1 x2 x3 x4 x5 x6 x7 x8 x9) b s (lc k) = p
  generalize cvv (ar x0 x1 x2 x3 x4 x5 x6 x7 x8 x9) b s (rc k) = q
  show p * Ideal.div (Ideal.ofBits .f32 0x3F800000#32) (Ideal.ofBits .f32 0x3F800000#32 + Ideal.exp (-p)) * q = sil p * q
  rw [lit_one]
  rfl

theorem v53_eq (b : Fin 4) (s : Fin 8192) (d : Fin 1024) :
    val_main_v53 (F := Ideal) x0 x1 x2 x3 x5 x6 x7 x8 (ix3 b s d)
      = ∑ k : Fin 2816, sil (cvv (ar x0 x1 x2 x3 x4 x5 x6 x7 x8 x9) b s (lc k)) * cvv (ar x0 x1 x2 x3 x4 x5 x6 x7 x8 x9) b s (rc k) * x8 (ix2 k d) := by
  rw [val_main_v53_apply]
  refine Finset.sum_congr rfl fun k _ => ?_
  have hl : lidx_main_v53 (ix3 b s d) k = ix3 b s k := eq_ix3 _
  have hr : ridx_main_v53 (ix3 b s d) k = ix2 k d := eq_ix2 _
  rw [hl, hr, v52_eq x0 x1 x2 x3 x4 x5 x6 x7 x8 x9, val_main_v23_apply]
  rfl

theorem v56_eq (b : Fin 4) (s : Fin 8192) (d : Fin 1024) :
    val_main_v56 (F := Ideal) x0 x1 x2 x3 x4 x5 x6 x7 x8 (ix3 b s d) = zz (ar x0 x1 x2 x3 x4 x5 x6 x7 x8 x9) sil b s d := by
  have hi : idx_main_v54 (ix3 b s d) = ix3 b 0 d := eq_ix3 _
  rw [val_main_v56_apply, val_main_v55_apply, val_main_v54_apply, v0_eq, v53_eq x0 x1 x2 x3 x4 x5 x6 x7 x8 x9, hi]
  rfl

/-- The reference's result at an index. -/
theorem v57_eq (r : Fin 32768) (d : Fin 1024) :
    val_main_v57 (F := Ideal) x0 x1 x2 x3 x4 x5 x6 x7 x8 (ix2 r d) = zz (ar x0 x1 x2 x3 x4 x5 x6 x7 x8 x9) sil (bat r) (pos r) d := by
  have hi : idx_main_v57 (ix2 r d) = ix3 (bat r) (pos r) d := by
    funext a
    apply Fin.ext
    match a with
    | ⟨0, _⟩ => show (r.val * 1024 + d.val) / 8388608 = r.val / 8192; omega
    | ⟨1, _⟩ => show (r.val * 1024 + d.val) / 1024 % 8192 = r.val % 8192; omega
    | ⟨2, _⟩ => show (r.val * 1024 + d.val) % 1024 = d.val; omega
  rw [val_main_v57_apply, hi, v56_eq x0 x1 x2 x3 x4 x5 x6 x7 x8 x9]

end Cert.Proof.FfnRef

end
-- ==== Proof.FfnIdeal.Read.lean ====
/- What the kernel's body leaves in its output block, as one expression over its input blocks: the normalised rows with
their two halos, the eleven column blocks of the gated activation, and the closing product with its residual. -/
module

public import proofs.«01_k».proof.Proof.Gen.FfnIdeal.Value
public import Idealize.ShloMosaic.Lib.Pipeline.ValueKit

@[expose] public section

noncomputable section

namespace Cert.Proof.FfnOut

open Cert.FfnIdeal Cert.FfnIdeal.Gen Idealize.ShloMosaic Idealize.ShloMosaic.TcCoe
open Idealize.SL Idealize.SL.Sem

variable {F : FTy → Type} [FloatOps F]

/-- One block of 256 columns of the activation: the gate's and the value's convolved products, the gate's SiLU, their product. -/
def chunk (hn : Vec F S1056x1024 .bf16) (wa wb : Vec F S1024x256 .bf16) (ca cb : Vec F S3x256 .f32)
    (ba bb : Vec F S1x256 .f32) : FVec F S1024x256 .bf16 :=
  k0_pay14 (k0_pay9 hn wb) ca (k0_pay10 hn wa) (k0_pay11 hn wa ca) (k0_pay12 hn wa) (k0_pay13 ca) ba cb bb

theorem inW (o : Nat) (h : o + 256 ≤ 5632) : ∀ a : Fin 2, (![0, o] : Fin 2 → Nat) a + S1024x256.size a ≤ S1024x5632.size a
  | ⟨0, _⟩ => Nat.le_refl 1024
  | ⟨1, _⟩ => h

theorem inC (o : Nat) (h : o + 256 ≤ 5632) : ∀ a : Fin 2, (![0, o] : Fin 2 → Nat) a + S3x256.size a ≤ S3x5632.size a
  | ⟨0, _⟩ => Nat.le_refl 3
  | ⟨1, _⟩ => h

theorem inB (o : Nat) (h : o + 256 ≤ 5632) : ∀ a : Fin 2, (![0, o] : Fin 2 → Nat) a + S1x256.size a ≤ S1x5632.size a
  | ⟨0, _⟩ => Nat.le_refl 1
  | ⟨1, _⟩ => h

/-- The block at columns `o`, its weights read from the whole arrays. -/
def chunkAt (hn : Vec F S1056x1024 .bf16) (x7 : Vec F S1024x5632 .bf16) (x8 : Vec F S3x5632 .f32) (x9 : Vec F S1x5632 .f32)
    (o p : Nat) (h : o + 256 ≤ 5632) (h' : p + 256 ≤ 5632) : FVec F S1024x256 .bf16 :=
  chunk hn (View.ld x7 (Rect.unit ![0, o] S1024x256.size (inW o h))) (View.ld x7 (Rect.unit ![0, p] S1024x256.size (inW p h')))
    (View.ld x8 (Rect.unit ![0, o] S3x256.size (inC o h))) (View.ld x8 (Rect.unit ![0, p] S3x256.size (inC p h')))
    (View.ld x9 (Rect.unit ![0, o] S1x256.size (inB o h))) (View.ld x9 (Rect.unit ![0, p] S1x256.size (inB p h')))

theorem inA (o : Nat) (h : o + 256 ≤ 2816) : ∀ a : Fin 2, (![0, o] : Fin 2 → Nat) a + S1024x256.size a ≤ S1024x2816.size a
  | ⟨0, _⟩ => Nat.le_refl 1024
  | ⟨1, _⟩ => h

/-- The stores of the activation, the last one first. -/
def actL (hn : Vec F S1056x1024 .bf16) (x7 : Vec F S1024x5632 .bf16) (x8 : Vec F S3x5632 .f32) (x9 : Vec F S1x5632 .f32) :
    List (View.Piece (Elt F) S1024x2816 .bf16) :=
  [
    ⟨Rect.unit ![0, 2560] S1024x256.size (inA 2560 (by omega)), chunkAt hn x7 x8 x9 2560 5376 (by omega) (by omega)⟩,
    ⟨Rect.unit ![0, 2304] S1024x256.size (inA 2304 (by omega)), chunkAt hn x7 x8 x9 2304 5120 (by omega) (by omega)⟩,
    ⟨Rect.unit ![0, 2048] S1024x256.size (inA 2048 (by omega)), chunkAt hn x7 x8 x9 2048 4864 (by omega) (by omega)⟩,
    ⟨Rect.unit ![0, 1792] S1024x256.size (inA 1792 (by omega)), chunkAt hn x7 x8 x9 1792 4608 (by omega) (by omega)⟩,
    ⟨Rect.unit ![0, 1536] S1024x256.size (inA 1536 (by omega)), chunkAt hn x7 x8 x9 1536 4352 (by omega) (by omega)⟩,
    ⟨Rect.unit ![0, 1280] S1024x256.size (inA 1280 (by omega)), chunkAt hn x7 x8 x9 1280 4096 (by omega) (by omega)⟩,
    ⟨Rect.unit ![0, 1024] S1024x256.size (inA 1024 (by omega)), chunkAt hn x7 x8 x9 1024 3840 (by omega) (by omega)⟩,
    ⟨Rect.unit ![0, 768] S1024x256.size (inA 768 (by omega)), chunkAt hn x7 x8 x9 768 3584 (by omega) (by omega)⟩,
    ⟨Rect.unit ![0, 512] S1024x256.size (inA 512 (by omega)), chunkAt hn x7 x8 x9 512 3328 (by omega) (by omega)⟩,
    ⟨Rect.unit ![0, 256] S1024x256.size (inA 256 (by omega)), chunkAt hn x7 x8 x9 256 3072 (by omega) (by omega)⟩,
    ⟨Rect.unit ![0, 0] S1024x256.size (inA 0 (by omega)), chunkAt hn x7 x8 x9 0 2816 (by omega) (by omega)⟩
  ]

theorem inH0 : ∀ a : Fin 2, (![0, 0] : Fin 2 → Nat) a + S16x1024.size a ≤ S1056x1024.size a := by decide
theorem inH1 : ∀ a : Fin 2, (![16, 0] : Fin 2 → Nat) a + S1024x1024.size a ≤ S1056x1024.size a := by decide
theorem inH2 : ∀ a : Fin 2, (![1040, 0] : Fin 2 → Nat) a + S16x1024.size a ≤ S1056x1024.size a := by decide

/-- The grid point begins a sequence. -/
def atFirst (i : grid0.Coords) : BitVec 1 := kernelRun0_A.sl.v10 i
/-- The grid point ends a sequence. -/
def atLast (i : grid0.Coords) : BitVec 1 := kernelRun0_A.sl.v21 i

/-- The stores of the normalised rows, the last one first. -/
def hnL (i : grid0.Coords) (x0 : Vec F S16x1024 .f32) (x1 : Vec F S1024x1024 .f32) (x2 : Vec F S16x1024 .f32)
    (x3 : Vec F S1x1024 .f32) (x4 x5 : Vec F S1x1x1024 .f32) : List (View.Piece (Elt F) S1056x1024 .bf16) :=
  [⟨Rect.unit ![1040, 0] S16x1024.size inH2, k0_pay7 (atLast i) x3 (k0_pay2 x4) (k0_pay3 x5) x2⟩,
   ⟨Rect.unit ![16, 0] S1024x1024.size inH1, k0_pay6 x3 (k0_pay2 x4) (k0_pay3 x5) x1⟩,
   ⟨Rect.unit ![0, 0] S16x1024.size inH0, k0_pay5 (atFirst i) x3 (k0_pay2 x4) (k0_pay3 x5) x0 (k0_pay4 x0)⟩]

/-- The block the body leaves. -/
def blockV (i : grid0.Coords) (x0 : Vec F S16x1024 .f32) (x1 : Vec F S1024x1024 .f32) (x2 : Vec F S16x1024 .f32)
    (x3 : Vec F S1x1024 .f32) (x4 x5 x6 : Vec F S1x1x1024 .f32) (x7 : Vec F S1024x5632 .bf16) (x8 : Vec F S3x5632 .f32)
    (x9 : Vec F S1x5632 .f32) (x10 : Vec F S2816x1024 .bf16) : Vec F S1024x1024 .f32 :=
  k0_pay1 x1 (k0_pay57 x6) (k0_pay58 (View.canon (actL (View.canon (hnL i x0 x1 x2 x3 x4 x5)) x7 x8 x9)) x10)

theorem z2 : (![0, 0] : Fin 2 → Nat) = fun _ => 0 := by decide
theorem z3 : (![0, 0, 0] : Fin 3 → Nat) = fun _ => 0 := by decide

variable (c : Dev nD) (i : grid0.Coords)
    (a1 : Memref sig .tc .vmem S16x1024 .f32) (h1 : a1.IsWhole)
    (a2 : Memref sig .tc .vmem S1024x1024 .f32) (h2 : a2.IsWhole)
    (a3 : Memref sig .tc .vmem S16x1024 .f32) (h3 : a3.IsWhole)
    (a4 : Memref sig .tc .vmem S1x1024 .f32) (h4 : a4.IsWhole)
    (a5 : Memref sig .tc .vmem S1x1x1024 .f32) (h5 : a5.IsWhole)
    (a6 : Memref sig .tc .vmem S1x1x1024 .f32) (h6 : a6.IsWhole)
    (a7 : Memref sig .tc .vmem S1x1x1024 .f32) (h7 : a7.IsWhole)
    (a8 : Memref sig .tc .vmem S1024x5632 .bf16) (h8 : a8.IsWhole)
    (a9 : Memref sig .tc .vmem S3x5632 .f32) (h9 : a9.IsWhole)
    (a10 : Memref sig .tc .vmem S1x5632 .f32) (h10 : a10.IsWhole)
    (a11 : Memref sig .tc .vmem S2816x1024 .bf16) (h11 : a11.IsWhole)
    (a12 : Memref sig .tc .vmem S1x1024 .f32) (h12 : a12.IsWhole)
    (a13 : Memref sig .tc .vmem S1024x1024 .f32) (h13 : a13.IsWhole)
    (a14 : Memref sig .tc .vmem S1056x1024 .bf16) (h14 : a14.IsWhole)
    (a15 : Memref sig .tc .vmem S1024x2816 .bf16) (h15 : a15.IsWhole)
    (x0 : Vec F S16x1024 .f32)
    (x1 : Vec F S1024x1024 .f32)
    (x2 : Vec F S16x1024 .f32)
    (x3 : Vec F S1x1024 .f32)
    (x4 : Vec F S1x1x1024 .f32)
    (x5 : Vec F S1x1x1024 .f32)
    (x6 : Vec F S1x1x1024 .f32)
    (x7 : Vec F S1024x5632 .bf16)
    (x8 : Vec F S3x5632 .f32)
    (x9 : Vec F S1x5632 .f32)
    (x10 : Vec F S2816x1024 .bf16)
    (x11 : Vec F S1x1024 .f32)

theorem hn_eq : kernelRun0_A.sl.v100 c i a1 h1 a2 h2 a3 h3 a4 h4 a5 h5 a6 h6 a14 x0 x1 x2 x3 x4 x5
    = View.canon (hnL i x0 x1 x2 x3 x4 x5) := by
  unfold kernelRun0_A.sl.v100 kernelRun0_A.sl.HS0_3
  rw [View.readCov_eq_canon']
  unfold kernelRun0_A.sl.r kernelRun0_A.sl.r_1 kernelRun0_A.sl.r_2 kernelRun0_A.sl.r_3 kernelRun0_A.sl.r_4 kernelRun0_A.sl.r_5 kernelRun0_A.sl.r_6
  simp (disch := decide) only [View.readAt_eq_ld, Memref.IsWhole.read_unread, View.ld_unit_lit']
  exact View.ld_unit_zero z2 _ _

theorem act_eq : kernelRun0_A.sl.v697 c i a1 h1 a2 h2 a3 h3 a4 h4 a5 h5 a6 h6 a8 h8 a9 h9 a10 h10 a14 a15 x0 x1 x2 x3 x4 x5 x7 x8 x9
    = View.canon (actL (View.canon (hnL i x0 x1 x2 x3 x4 x5)) x7 x8 x9) := by
  unfold kernelRun0_A.sl.v697 kernelRun0_A.sl.HS1_11
  rw [View.readCov_eq_canon']
  simp only [kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.cst_64, kernelRun0_A.sl.cst_109, hn_eq, View.readAt_eq_ld, Memref.IsWhole.read_unread]
  exact View.ld_unit_zero z2 _ _

theorem out_eq : out0_A_12 c i a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11
    = blockV i x0 x1 x2 x3 x4 x5 x6 x7 x8 x9 x10 := by
  unfold out0_A_12
  rw [View.read_writes_junk_eq_canon]
  unfold kernelRun0_A
  dsimp only
  rw [View.canon_unit_zero z2]
  unfold kernelRun0_A.sl.r_50 kernelRun0_A.sl.r_51 kernelRun0_A.sl.r_3
  simp (disch := decide) only [act_eq, View.readAt_eq_ld, Memref.IsWhole.read_unread, View.ld_unit_lit']
  rfl

end Cert.Proof.FfnOut
end
-- ==== Proof.FfnIdeal.Value.lean ====
/- The kernel's named payloads at an index, over the reals. -/
module

public import proofs.«01_k».proof.Proof.FfnIdeal.Read
public import proofs.«01_k».proof.Proof.LastIdeal.Math
public import Idealize.ShloMosaic.Lib.Pointwise

@[expose] public section

set_option maxRecDepth 16384

noncomputable section

namespace Cert.Proof.FfnOut

open Cert.FfnIdeal Cert.FfnIdeal.Gen Cert.Proof.FfnMath
open Idealize.ShloMosaic

theorem pay6_apply (g : Vec Ideal S1x1024 .f32) (sh sc : Vec Ideal S1x1x1024 .f32) (x : Vec Ideal S1024x1024 .f32) (r d : Fin 1024) :
    k0_pay6 (F := Ideal) g (k0_pay2 sh) (k0_pay3 sc) x (ix2 r d)
      = nrm (fun e => x (ix2 r e)) (fun e => g (ix2 0 e)) (fun e => sh (ix3 0 0 e)) (fun e => sc (ix3 0 0 e)) d := by
  pointwise [k0_pay6, k0_pay2, k0_pay3]
  rfl

theorem pay5_apply (b : BitVec 1) (g : Vec Ideal S1x1024 .f32) (sh sc : Vec Ideal S1x1x1024 .f32) (x : Vec Ideal S16x1024 .f32) (r : Fin 16) (d : Fin 1024) :
    k0_pay5 (F := Ideal) b g (k0_pay2 sh) (k0_pay3 sc) x (k0_pay4 x) (ix2 r d)
      = Scalar.select b 0 (nrm (fun e => x (ix2 r e)) (fun e => g (ix2 0 e)) (fun e => sh (ix3 0 0 e)) (fun e => sc (ix3 0 0 e)) d) := by
  pointwise [k0_pay5, k0_pay2, k0_pay3, k0_pay4]
  rfl

theorem pay7_apply (b : BitVec 1) (g : Vec Ideal S1x1024 .f32) (sh sc : Vec Ideal S1x1x1024 .f32) (x : Vec Ideal S16x1024 .f32) (r : Fin 16) (d : Fin 1024) :
    k0_pay7 (F := Ideal) b g (k0_pay2 sh) (k0_pay3 sc) x (ix2 r d)
      = Scalar.select b 0 (nrm (fun e => x (ix2 r e)) (fun e => g (ix2 0 e)) (fun e => sh (ix3 0 0 e)) (fun e => sc (ix3 0 0 e)) d) := by
  pointwise [k0_pay7, k0_pay2, k0_pay3]
  rfl

theorem chunk_apply (hn : Vec Ideal S1056x1024 .bf16) (wa wb : Vec Ideal S1024x256 .bf16) (ca cb : Vec Ideal S3x256 .f32)
    (ba bb : Vec Ideal S1x256 .f32) (r : Fin 1024) (j : Fin 256) :
    chunk (F := Ideal) hn wa wb ca cb ba bb (ix2 r j)
      = silu (cv (fun a => ca (ix2 a j)) (ba (ix2 0 j))
          (up (fun d => hn (ix2 ⟨r.val + 15, by omega⟩ d)) fun d => wa (ix2 d j))
          (up (fun d => hn (ix2 ⟨r.val + 16, by omega⟩ d)) fun d => wa (ix2 d j))
          (up (fun d => hn (ix2 ⟨r.val + 17, by omega⟩ d)) fun d => wa (ix2 d j)))
        * cv (fun a => cb (ix2 a j)) (bb (ix2 0 j))
          (up (fun d => hn (ix2 ⟨r.val + 15, by omega⟩ d)) fun d => wb (ix2 d j))
          (up (fun d => hn (ix2 ⟨r.val + 16, by omega⟩ d)) fun d => wb (ix2 d j))
          (up (fun d => hn (ix2 ⟨r.val + 17, by omega⟩ d)) fun d => wb (ix2 d j)) := by
  pointwise [chunk, k0_pay14, k0_pay9, k0_pay10, k0_pay11, k0_pay12, k0_pay13, k0_pay8]
  have e1 : (16 + r.val + 1056 - 1) % 1056 = r.val + 15 := by omega
  have e2 : (16 + r.val + 1056 - 1055) % 1056 = r.val + 17 := by omega
  have e3 : 16 + r.val = r.val + 16 := by omega
  simp only [e1, e2]
  simp only [e3]
  rfl

theorem payOut_apply (x : Vec Ideal S1024x1024 .f32) (g2 : Vec Ideal S1x1x1024 .f32) (a : Vec Ideal S1024x2816 .bf16)
    (w : Vec Ideal S2816x1024 .bf16) (r d : Fin 1024) :
    k0_pay1 (F := Ideal) x (k0_pay57 g2) (k0_pay58 a w) (ix2 r d)
      = x (ix2 r d) + g2 (ix3 0 0 d) * ∑ k, a (ix2 r k) * w (ix2 k d) := by
  pointwise [k0_pay1, k0_pay57, k0_pay58]

end Cert.Proof.FfnOut
-- ==== Proof.FfnIdeal.Block.lean ====
/- The block the body leaves, at an index: the normalised rows with the halo rows around them, the gated activation at a
row and a column, and the closing product. -/
module

public import proofs.«01_k».proof.Proof.FfnIdeal.Value

@[expose] public section

set_option maxRecDepth 16384

noncomputable section

namespace Cert.Proof.FfnOut

open Cert.FfnIdeal Cert.FfnIdeal.Gen Cert.Proof.FfnMath
open Idealize.ShloMosaic

/-- Column `n` of the weights. -/
def wcol (x7 : Vec Ideal S1024x5632 .bf16) (n : Fin 5632) : Fin 1024 → EReal := fun d => x7 (ix2 d n)
/-- The taps of column `n`. -/
def ccol (x8 : Vec Ideal S3x5632 .f32) (n : Fin 5632) : Fin 3 → EReal := fun a => x8 (ix2 a n)

/-- The convolved product at a row and a column, the row's two neighbours given. -/
def conv (hp hc hx : Fin 1024 → EReal) (x7 : Vec Ideal S1024x5632 .bf16) (x8 : Vec Ideal S3x5632 .f32) (x9 : Vec Ideal S1x5632 .f32)
    (n : Fin 5632) : EReal :=
  cv (ccol x8 n) (x9 (ix2 0 n)) (up hp (wcol x7 n)) (up hc (wcol x7 n)) (up hx (wcol x7 n))

/-- The activation at a row and a column. -/
def actF (hp hc hx : Fin 1024 → EReal) (x7 : Vec Ideal S1024x5632 .bf16) (x8 : Vec Ideal S3x5632 .f32) (x9 : Vec Ideal S1x5632 .f32)
    (n : Fin 2816) : EReal :=
  silu (conv hp hc hx x7 x8 x9 ⟨n.val, by omega⟩) * conv hp hc hx x7 x8 x9 ⟨2816 + n.val, by omega⟩

section
variable (hn : Vec Ideal S1056x1024 .bf16) (x7 : Vec Ideal S1024x5632 .bf16) (x8 : Vec Ideal S3x5632 .f32) (x9 : Vec Ideal S1x5632 .f32)

theorem ld7 (o : Nat) (h : o + 256 ≤ 5632) (d : Fin 1024) (b : Fin 256) (n : Fin 5632) (e : n.val = o + b.val) :
    View.ld x7 (Rect.unit ![0, o] S1024x256.size (inW o h)) (ix2 d b) = x7 (ix2 d n) :=
  View.ld_unit_apply_of x7 _ _ _ _ _ fun a => match a with
    | ⟨0, _⟩ => (Nat.zero_add d.val).symm
    | ⟨1, _⟩ => e

theorem ld8 (o : Nat) (h : o + 256 ≤ 5632) (d : Fin 3) (b : Fin 256) (n : Fin 5632) (e : n.val = o + b.val) :
    View.ld x8 (Rect.unit ![0, o] S3x256.size (inC o h)) (ix2 d b) = x8 (ix2 d n) :=
  View.ld_unit_apply_of x8 _ _ _ _ _ fun a => match a with
    | ⟨0, _⟩ => (Nat.zero_add d.val).symm
    | ⟨1, _⟩ => e

theorem ld9 (o : Nat) (h : o + 256 ≤ 5632) (d : Fin 1) (b : Fin 256) (n : Fin 5632) (e : n.val = o + b.val) :
    View.ld x9 (Rect.unit ![0, o] S1x256.size (inB o h)) (ix2 d b) = x9 (ix2 d n) :=
  View.ld_unit_apply_of x9 _ _ _ _ _ fun a => match a with
    | ⟨0, _⟩ => (Nat.zero_add d.val).symm
    | ⟨1, _⟩ => e

theorem chunkAt_tile (o p : Nat) (h : o + 256 ≤ 5632) (h' : p + 256 ≤ 5632) (hp : p = 2816 + o) (r : Fin 1024) (n : Fin 2816) :
    View.TileAt (Val := Elt Ideal) (S := S1024x2816) (e := .bf16) (ix2 r n) ![0, o] S1024x256.size (chunkAt (F := Ideal) hn x7 x8 x9 o p h h')
      (actF (fun d => hn (ix2 ⟨r.val + 15, by omega⟩ d)) (fun d => hn (ix2 ⟨r.val + 16, by omega⟩ d))
        (fun d => hn (ix2 ⟨r.val + 17, by omega⟩ d)) x7 x8 x9 n) := by
  intro x hx
  obtain ⟨a, b, rfl⟩ : ∃ (a : Fin 1024) (b : Fin 256), x = ix2 a b := ⟨_, _, eq_ix2 x⟩
  have h0 : r.val = 0 + a.val := hx 0
  have h1 : n.val = o + b.val := hx 1
  obtain rfl : a = r := Fin.ext (by omega)
  have k7 := fun d => ld7 x7 o h d b ⟨n.val, by omega⟩ h1
  have k8 := fun d => ld8 x8 o h d b ⟨n.val, by omega⟩ h1
  have k9 := fun d => ld9 x9 o h d b ⟨n.val, by omega⟩ h1
  have l7 := fun d => ld7 x7 p h' d b ⟨2816 + n.val, by omega⟩ (by show 2816 + n.val = p + b.val; omega)
  have l8 := fun d => ld8 x8 p h' d b ⟨2816 + n.val, by omega⟩ (by show 2816 + n.val = p + b.val; omega)
  have l9 := fun d => ld9 x9 p h' d b ⟨2816 + n.val, by omega⟩ (by show 2816 + n.val = p + b.val; omega)
  unfold chunkAt
  rw [chunk_apply]
  simp only [k7, k8, k9, l7, l8, l9]
  rfl

theorem act_apply (r : Fin 1024) (n : Fin 2816) :
    View.canon (actL (F := Ideal) hn x7 x8 x9) (ix2 r n)
      = actF (fun d => hn (ix2 ⟨r.val + 15, by omega⟩ d)) (fun d => hn (ix2 ⟨r.val + 16, by omega⟩ d))
        (fun d => hn (ix2 ⟨r.val + 17, by omega⟩ d)) x7 x8 x9 n := by
  refine View.canon_eq_of_allAt _ _ _ (View.cover_of_tiled (actL (F := Ideal) hn x7 x8 x9) S1024x256.size (by rfl) _) ?_
  unfold actL
  iterate 11 refine View.allAt_cons_unit _ _ _ _ _ (chunkAt_tile hn x7 x8 x9 _ _ _ _ rfl r n) ?_
  exact View.allAt_nil _ _

end

section
variable (i : grid0.Coords) (x0 : Vec Ideal S16x1024 .f32) (x1 : Vec Ideal S1024x1024 .f32) (x2 : Vec Ideal S16x1024 .f32)
  (x3 : Vec Ideal S1x1024 .f32) (x4 x5 : Vec Ideal S1x1x1024 .f32)

/-- The norm of a row of a block. -/
def nrow (x : Fin 1024 → EReal) : Fin 1024 → EReal :=
  nrm x (fun e => x3 (ix2 0 e)) (fun e => x4 (ix3 0 0 e)) (fun e => x5 (ix3 0 0 e))

/-- The normalised rows. -/
def hnV : Vec Ideal S1056x1024 .bf16 := View.canon (hnL (F := Ideal) i x0 x1 x2 x3 x4 x5)

theorem hn_mid (r : Fin 1024) (ρ : Fin 1056) (e : ρ.val = r.val + 16) (d : Fin 1024) :
    hnV i x0 x1 x2 x3 x4 x5 (ix2 ρ d) = nrow x3 x4 x5 (fun e => x1 (ix2 r e)) d := by
  refine View.canon_eq_of_allAt _ _ _ ⟨_, List.mem_cons_of_mem _ List.mem_cons_self, (Rect.mem_set_unit (inb := inH1)).mpr fun a => ?_⟩ ?_
  · match a with
    | ⟨0, _⟩ => show 16 ≤ ρ.val ∧ ρ.val < 16 + 1024; omega
    | ⟨1, _⟩ => show 0 ≤ d.val ∧ d.val < 0 + 1024; omega
  unfold hnL
  refine View.allAt_cons_unit _ _ _ _ _ ?_ (View.allAt_cons_unit _ _ _ _ _ ?_ (View.allAt_cons_unit _ _ _ _ _ ?_ (View.allAt_nil _ _)))
  · intro x hx
    have h0 : ρ.val = 1040 + (x 0).val := hx 0
    omega
  · intro x hx
    obtain ⟨a, b, rfl⟩ : ∃ (a b : Fin 1024), x = ix2 a b := ⟨_, _, eq_ix2 x⟩
    have h0 : ρ.val = 16 + a.val := hx 0
    have h1 : d.val = 0 + b.val := hx 1
    obtain rfl : a = r := Fin.ext (by omega)
    obtain rfl : b = d := Fin.ext (by omega)
    exact pay6_apply x3 x4 x5 x1 a b
  · intro x hx
    have h0 : ρ.val = 0 + (x 0).val := hx 0
    have : (x 0).val < 16 := (x 0).isLt
    omega

theorem hn_lo (ρ : Fin 1056) (e : ρ.val = 15) (d : Fin 1024) :
    hnV i x0 x1 x2 x3 x4 x5 (ix2 ρ d) = Scalar.select (atFirst i) 0 (nrow x3 x4 x5 (fun e => x0 (ix2 15 e)) d) := by
  refine View.canon_eq_of_allAt _ _ _ ⟨_, List.mem_cons_of_mem _ (List.mem_cons_of_mem _ List.mem_cons_self), (Rect.mem_set_unit (inb := inH0)).mpr fun a => ?_⟩ ?_
  · match a with
    | ⟨0, _⟩ => show 0 ≤ ρ.val ∧ ρ.val < 0 + 16; omega
    | ⟨1, _⟩ => show 0 ≤ d.val ∧ d.val < 0 + 1024; omega
  unfold hnL
  refine View.allAt_cons_unit _ _ _ _ _ ?_ (View.allAt_cons_unit _ _ _ _ _ ?_ (View.allAt_cons_unit _ _ _ _ _ ?_ (View.allAt_nil _ _)))
  · intro x hx
    have h0 : ρ.val = 1040 + (x 0).val := hx 0
    omega
  · intro x hx
    have h0 : ρ.val = 16 + (x 0).val := hx 0
    omega
  · intro x hx
    obtain ⟨a, b, rfl⟩ : ∃ (a : Fin 16) (b : Fin 1024), x = ix2 a b := ⟨_, _, eq_ix2 x⟩
    have h0 : ρ.val = 0 + a.val := hx 0
    have h1 : d.val = 0 + b.val := hx 1
    obtain rfl : a = 15 := Fin.ext (by show a.val = 15; omega)
    obtain rfl : b = d := Fin.ext (by omega)
    exact pay5_apply (atFirst i) x3 x4 x5 x0 15 b

theorem hn_hi (ρ : Fin 1056) (e : ρ.val = 1040) (d : Fin 1024) :
    hnV i x0 x1 x2 x3 x4 x5 (ix2 ρ d) = Scalar.select (atLast i) 0 (nrow x3 x4 x5 (fun e => x2 (ix2 0 e)) d) := by
  refine View.canon_eq_of_allAt _ _ _ ⟨_, List.mem_cons_self, (Rect.mem_set_unit (inb := inH2)).mpr fun a => ?_⟩ ?_
  · match a with
    | ⟨0, _⟩ => show 1040 ≤ ρ.val ∧ ρ.val < 1040 + 16; omega
    | ⟨1, _⟩ => show 0 ≤ d.val ∧ d.val < 0 + 1024; omega
  unfold hnL
  refine View.allAt_cons_unit _ _ _ _ _ ?_ (View.allAt_cons_unit _ _ _ _ _ ?_ (View.allAt_cons_unit _ _ _ _ _ ?_ (View.allAt_nil _ _)))
  · intro x hx
    obtain ⟨a, b, rfl⟩ : ∃ (a : Fin 16) (b : Fin 1024), x = ix2 a b := ⟨_, _, eq_ix2 x⟩
    have h0 : ρ.val = 1040 + a.val := hx 0
    have h1 : d.val = 0 + b.val := hx 1
    obtain rfl : a = 0 := Fin.ext (by show a.val = 0; omega)
    obtain rfl : b = d := Fin.ext (by omega)
    exact pay7_apply (atLast i) x3 x4 x5 x2 0 b
  · intro x hx
    have h0 : ρ.val = 16 + (x 0).val := hx 0
    have : (x 0).val < 1024 := (x 0).isLt
    omega
  · intro x hx
    have h0 : ρ.val = 0 + (x 0).val := hx 0
    have : (x 0).val < 16 := (x 0).isLt
    omega

end

end Cert.Proof.FfnOut
end
-- ==== Proof.FfnIdeal.Final.lean ====
/- The result array: each block of rows is written back at its place, so the array ends at the formula of the arguments. -/
module

public import proofs.«01_k».proof.Proof.FfnIdeal.Block
public import proofs.«01_k».proof.Proof.LastIdeal.Spec

@[expose] public section

set_option maxRecDepth 16384

noncomputable section

namespace Cert.Proof.FfnOut

open Cert.FfnIdeal Cert.FfnIdeal.Gen Cert.Proof.FfnMath
open Idealize.ShloMosaic Idealize.ShloMosaic.TcCoe Idealize.SL.Sem

variable (m : (ℓ : Loc nD τ sig) → Buf (Elt Ideal) ℓ) (ρ : Dev nD → PrngReg)

/-- The arguments of device `c`. -/
abbrev a0 (c : Dev nD) : FVec Ideal S32768x1024 .f32 := m ((c : Thread nD τ).loc main_arg0)
abbrev a1 (c : Dev nD) : FVec Ideal S1x1024 .f32 := m ((c : Thread nD τ).loc main_arg1)
abbrev a2 (c : Dev nD) : FVec Ideal S4x1x1024 .f32 := m ((c : Thread nD τ).loc main_arg2)
abbrev a3 (c : Dev nD) : FVec Ideal S4x1x1024 .f32 := m ((c : Thread nD τ).loc main_arg3)
abbrev a4 (c : Dev nD) : FVec Ideal S4x1x1024 .f32 := m ((c : Thread nD τ).loc main_arg4)
abbrev a5 (c : Dev nD) : FVec Ideal S1024x5632 .bf16 := m ((c : Thread nD τ).loc main_arg5)
abbrev a6 (c : Dev nD) : FVec Ideal S3x5632 .f32 := m ((c : Thread nD τ).loc main_arg6)
abbrev a7 (c : Dev nD) : FVec Ideal S1x5632 .f32 := m ((c : Thread nD τ).loc main_arg7)
abbrev a8 (c : Dev nD) : FVec Ideal S2816x1024 .bf16 := m ((c : Thread nD τ).loc main_arg8)
abbrev a9 (c : Dev nD) : FVec Ideal S1x1024 .f32 := m ((c : Thread nD τ).loc main_arg9)

/-- The arguments at their indices. -/
abbrev AA (c : Dev nD) : Ar := ar (a0 m c) (a1 m c) (a2 m c) (a3 m c) (a4 m c) (a5 m c) (a6 m c) (a7 m c) (a8 m c) (a9 m c)

/-- The result array of device `c`. -/
def G (c : Dev nD) : Buf (Elt Ideal) ((c : Thread nD τ).loc main_v0) := fun i : S32768x1024.Idx =>
  zz (AA m c) silu (bat (i 0)) (pos (i 0)) (i 1)

/-- A point's sequence, and the place in it of a row of its block. -/
def tb (t : Fin cfg0.N) : Fin 4 := ⟨t.val / 8, Nat.div_lt_of_lt_mul t.isLt⟩
def sp (t : Fin cfg0.N) (r : Fin 1024) : Fin 8192 := ⟨t.val % 8 * 1024 + r.val, by omega⟩

theorem t_lt (t : Fin cfg0.N) : t.val < 32 := t.isLt

theorem first_eq : ∀ t : Fin 32, atFirst (grid0.coords t) = if t.val % 8 = 0 then 1#1 else 0#1 := by decide +kernel
theorem last_eq : ∀ t : Fin 32, atLast (grid0.coords t) = if t.val % 8 = 7 then 1#1 else 0#1 := by decide +kernel

theorem idx0 : ∀ t : Fin 32, win0_0.index t 0 = t.val * 64 - 1 ∧ win0_0.index t 1 = 0 := by decide +kernel
theorem idx1 : ∀ t : Fin 32, win0_1.index t 0 = t.val ∧ win0_1.index t 1 = 0 := by decide +kernel
theorem idx2 : ∀ t : Fin 32, win0_2.index t 0 = min ((t.val + 1) * 64) 2047 ∧ win0_2.index t 1 = 0 := by decide +kernel
theorem idx12 : ∀ t : Fin 32, win0_12.index t 0 = t.val ∧ win0_12.index t 1 = 0 := by decide +kernel
theorem idx3 : ∀ t : Fin 32, win0_3.index t 0 = 0 ∧ win0_3.index t 1 = 0 := by decide +kernel
theorem idx7 : ∀ t : Fin 32, win0_7.index t 0 = 0 ∧ win0_7.index t 1 = 0 := by decide +kernel
theorem idx8 : ∀ t : Fin 32, win0_8.index t 0 = 0 ∧ win0_8.index t 1 = 0 := by decide +kernel
theorem idx9 : ∀ t : Fin 32, win0_9.index t 0 = 0 ∧ win0_9.index t 1 = 0 := by decide +kernel
theorem idx10 : ∀ t : Fin 32, win0_10.index t 0 = 0 ∧ win0_10.index t 1 = 0 := by decide +kernel
theorem idx4 : ∀ t : Fin 32, win0_4.index t 0 = t.val / 8 ∧ win0_4.index t 1 = 0 ∧ win0_4.index t 2 = 0 := by decide +kernel
theorem idx5 : ∀ t : Fin 32, win0_5.index t 0 = t.val / 8 ∧ win0_5.index t 1 = 0 ∧ win0_5.index t 2 = 0 := by decide +kernel
theorem idx6 : ∀ t : Fin 32, win0_6.index t 0 = t.val / 8 ∧ win0_6.index t 1 = 0 ∧ win0_6.index t 2 = 0 := by decide +kernel

theorem iblk0 (c : Dev nD) (t : Fin cfg0.N) (R : Fin 32768) (e : R.val = t.val * 1024 - 1) (ht : t.val ≠ 0) (y : Fin 1024) :
    (iblk m c 0 t : Vec Ideal S16x1024 .f32) (ix2 15 y) = a0 m c (ix2 R y) := by
  unfold iblk
  refine congrArg (a0 m c) (funext fun a => Fin.ext ?_)
  obtain ⟨e0, e1⟩ := idx0 t
  match a with
  | ⟨0, _⟩ => show win0_0.index t 0 * 16 + 1 * 15 = R.val; rw [e0]; omega
  | ⟨1, _⟩ => show win0_0.index t 1 * 1024 + 1 * y.val = y.val; rw [e1]; omega

theorem iblk1 (c : Dev nD) (t : Fin cfg0.N) (R : Fin 32768) (x : Fin 1024) (e : R.val = t.val * 1024 + x.val) (y : Fin 1024) :
    (iblk m c 1 t : Vec Ideal S1024x1024 .f32) (ix2 x y) = a0 m c (ix2 R y) := by
  unfold iblk
  refine congrArg (a0 m c) (funext fun a => Fin.ext ?_)
  obtain ⟨e0, e1⟩ := idx1 t
  match a with
  | ⟨0, _⟩ => show win0_1.index t 0 * 1024 + 1 * x.val = R.val; rw [e0]; omega
  | ⟨1, _⟩ => show win0_1.index t 1 * 1024 + 1 * y.val = y.val; rw [e1]; omega

theorem iblk2 (c : Dev nD) (t : Fin cfg0.N) (R : Fin 32768) (e : R.val = (t.val + 1) * 1024) (y : Fin 1024) :
    (iblk m c 2 t : Vec Ideal S16x1024 .f32) (ix2 0 y) = a0 m c (ix2 R y) := by
  unfold iblk
  refine congrArg (a0 m c) (funext fun a => Fin.ext ?_)
  obtain ⟨e0, e1⟩ := idx2 t
  have hR : R.val < 32768 := R.isLt
  match a with
  | ⟨0, _⟩ => show win0_2.index t 0 * 16 + 1 * 0 = R.val; rw [e0]; omega
  | ⟨1, _⟩ => show win0_2.index t 1 * 1024 + 1 * y.val = y.val; rw [e1]; omega

theorem iblk3 (c : Dev nD) (t : Fin cfg0.N) (x : Fin 1) (y : Fin 1024) : (iblk m c 3 t : Vec Ideal S1x1024 .f32) (ix2 x y) = a1 m c (ix2 x y) := by
  unfold iblk
  refine congrArg (a1 m c) (funext fun a => Fin.ext ?_)
  obtain ⟨e0, e1⟩ := idx3 t
  match a with
  | ⟨0, _⟩ => show win0_3.index t 0 * 1 + 1 * x.val = x.val; rw [e0]; omega
  | ⟨1, _⟩ => show win0_3.index t 1 * 1024 + 1 * y.val = y.val; rw [e1]; omega

theorem iblk7 (c : Dev nD) (t : Fin cfg0.N) (x : Fin 1024) (y : Fin 5632) : (iblk m c 7 t : Vec Ideal S1024x5632 .bf16) (ix2 x y) = a5 m c (ix2 x y) := by
  unfold iblk
  refine congrArg (a5 m c) (funext fun a => Fin.ext ?_)
  obtain ⟨e0, e1⟩ := idx7 t
  match a with
  | ⟨0, _⟩ => show win0_7.index t 0 * 1024 + 1 * x.val = x.val; rw [e0]; omega
  | ⟨1, _⟩ => show win0_7.index t 1 * 5632 + 1 * y.val = y.val; rw [e1]; omega

theorem iblk8 (c : Dev nD) (t : Fin cfg0.N) (x : Fin 3) (y : Fin 5632) : (iblk m c 8 t : Vec Ideal S3x5632 .f32) (ix2 x y) = a6 m c (ix2 x y) := by
  unfold iblk
  refine congrArg (a6 m c) (funext fun a => Fin.ext ?_)
  obtain ⟨e0, e1⟩ := idx8 t
  match a with
  | ⟨0, _⟩ => show win0_8.index t 0 * 3 + 1 * x.val = x.val; rw [e0]; omega
  | ⟨1, _⟩ => show win0_8.index t 1 * 5632 + 1 * y.val = y.val; rw [e1]; omega

theorem iblk9 (c : Dev nD) (t : Fin cfg0.N) (x : Fin 1) (y : Fin 5632) : (iblk m c 9 t : Vec Ideal S1x5632 .f32) (ix2 x y) = a7 m c (ix2 x y) := by
  unfold iblk
  refine congrArg (a7 m c) (funext fun a => Fin.ext ?_)
  obtain ⟨e0, e1⟩ := idx9 t
  match a with
  | ⟨0, _⟩ => show win0_9.index t 0 * 1 + 1 * x.val = x.val; rw [e0]; omega
  | ⟨1, _⟩ => show win0_9.index t 1 * 5632 + 1 * y.val = y.val; rw [e1]; omega

theorem iblk10 (c : Dev nD) (t : Fin cfg0.N) (x : Fin 2816) (y : Fin 1024) : (iblk m c 10 t : Vec Ideal S2816x1024 .bf16) (ix2 x y) = a8 m c (ix2 x y) := by
  unfold iblk
  refine congrArg (a8 m c) (funext fun a => Fin.ext ?_)
  obtain ⟨e0, e1⟩ := idx10 t
  match a with
  | ⟨0, _⟩ => show win0_10.index t 0 * 2816 + 1 * x.val = x.val; rw [e0]; omega
  | ⟨1, _⟩ => show win0_10.index t 1 * 1024 + 1 * y.val = y.val; rw [e1]; omega

theorem iblk4 (c : Dev nD) (t : Fin cfg0.N) (y : Fin 1024) : (iblk m c 4 t : Vec Ideal S1x1x1024 .f32) (ix3 0 0 y) = a2 m c (ix3 (tb t) 0 y) := by
  unfold iblk
  refine congrArg (a2 m c) (funext fun a => Fin.ext ?_)
  obtain ⟨e0, e1, e2⟩ := idx4 t
  match a with
  | ⟨0, _⟩ => show win0_4.index t 0 * 1 + 1 * 0 = t.val / 8; rw [e0]; omega
  | ⟨1, _⟩ => show win0_4.index t 1 * 1 + 1 * 0 = 0; rw [e1]
  | ⟨2, _⟩ => show win0_4.index t 2 * 1024 + 1 * y.val = y.val; rw [e2]; omega

theorem iblk5 (c : Dev nD) (t : Fin cfg0.N) (y : Fin 1024) : (iblk m c 5 t : Vec Ideal S1x1x1024 .f32) (ix3 0 0 y) = a3 m c (ix3 (tb t) 0 y) := by
  unfold iblk
  refine congrArg (a3 m c) (funext fun a => Fin.ext ?_)
  obtain ⟨e0, e1, e2⟩ := idx5 t
  match a with
  | ⟨0, _⟩ => show win0_5.index t 0 * 1 + 1 * 0 = t.val / 8; rw [e0]; omega
  | ⟨1, _⟩ => show win0_5.index t 1 * 1 + 1 * 0 = 0; rw [e1]
  | ⟨2, _⟩ => show win0_5.index t 2 * 1024 + 1 * y.val = y.val; rw [e2]; omega

theorem iblk6 (c : Dev nD) (t : Fin cfg0.N) (y : Fin 1024) : (iblk m c 6 t : Vec Ideal S1x1x1024 .f32) (ix3 0 0 y) = a4 m c (ix3 (tb t) 0 y) := by
  unfold iblk
  refine congrArg (a4 m c) (funext fun a => Fin.ext ?_)
  obtain ⟨e0, e1, e2⟩ := idx6 t
  match a with
  | ⟨0, _⟩ => show win0_6.index t 0 * 1 + 1 * 0 = t.val / 8; rw [e0]; omega
  | ⟨1, _⟩ => show win0_6.index t 1 * 1 + 1 * 0 = 0; rw [e1]
  | ⟨2, _⟩ => show win0_6.index t 2 * 1024 + 1 * y.val = y.val; rw [e2]; omega

/-- The normalised rows of a point. -/
def hnT (c : Dev nD) (t : Fin cfg0.N) : Vec Ideal S1056x1024 .bf16 :=
  hnV (grid0.coords t) (iblk m c 0 t) (iblk m c 1 t) (iblk m c 2 t) (iblk m c 3 t) (iblk m c 4 t) (iblk m c 5 t)

theorem row_val (t : Fin cfg0.N) (r : Fin 1024) : (row (tb t) (sp t r)).val = t.val * 1024 + r.val := by
  show t.val / 8 * 8192 + (t.val % 8 * 1024 + r.val) = _
  omega

theorem nrow_eq (c : Dev nD) (t : Fin cfg0.N) (x : Fin 1024 → EReal) (s : Fin 8192) (hx : ∀ e, x e = a0 m c (ix2 (row (tb t) s) e)) :
    nrow (iblk m c 3 t) (iblk m c 4 t) (iblk m c 5 t) x = nr (AA m c) (tb t) s := by
  obtain rfl : x = fun e => a0 m c (ix2 (row (tb t) s) e) := funext hx
  unfold nrow
  simp only [iblk3, iblk4, iblk5]
  rfl

theorem hn_c (c : Dev nD) (t : Fin cfg0.N) (r : Fin 1024) (ϱ : Fin 1056) (e : ϱ.val = r.val + 16) :
    (fun d => hnT m c t (ix2 ϱ d)) = nr (AA m c) (tb t) (sp t r) := by
  funext d
  unfold hnT
  rw [hn_mid _ _ _ _ _ _ _ r ϱ e d, nrow_eq m c t _ (sp t r) fun y => iblk1 m c t _ r (row_val t r) y]

theorem hn_p (c : Dev nD) (t : Fin cfg0.N) (r : Fin 1024) (ϱ : Fin 1056) (e : ϱ.val = r.val + 15) :
    (fun d => hnT m c t (ix2 ϱ d)) = pv (AA m c) (tb t) (sp t r) := by
  have ht := t_lt t
  unfold pv
  by_cases hr : r.val = 0
  · by_cases h8 : t.val % 8 = 0
    · have hb : atFirst (grid0.coords t) = 1#1 := (first_eq t).trans (if_pos h8)
      have hs : t.val % 8 * 1024 + r.val = 0 := by omega
      rw [if_pos (show (sp t r).val = 0 from hs)]
      funext d
      unfold hnT
      rw [hn_lo _ _ _ _ _ _ _ ϱ (by omega) d, hb]
      rfl
    · have hb : atFirst (grid0.coords t) = 0#1 := (first_eq t).trans (if_neg h8)
      have hs : ¬ t.val % 8 * 1024 + r.val = 0 := by omega
      rw [if_neg (show ¬ (sp t r).val = 0 from hs)]
      funext d
      unfold hnT
      rw [hn_lo _ _ _ _ _ _ _ ϱ (by omega) d, hb]
      have hlt : t.val % 8 * 1024 + r.val - 1 < 8192 := by omega
      have hR : t.val / 8 * 8192 + (t.val % 8 * 1024 + r.val - 1) = t.val * 1024 - 1 := by omega
      exact congrFun (nrow_eq m c t _ ⟨(sp t r).val - 1, hlt⟩ fun y => iblk0 m c t _ hR (by omega) y) d
  · have hs : ¬ t.val % 8 * 1024 + r.val = 0 := by omega
    rw [if_neg (show ¬ (sp t r).val = 0 from hs), hn_c m c t ⟨r.val - 1, by omega⟩ ϱ (by show ϱ.val = r.val - 1 + 16; omega)]
    refine congrArg (nr (AA m c) (tb t)) (Fin.ext ?_)
    show t.val % 8 * 1024 + (r.val - 1) = t.val % 8 * 1024 + r.val - 1
    omega

theorem hn_n (c : Dev nD) (t : Fin cfg0.N) (r : Fin 1024) (ϱ : Fin 1056) (e : ϱ.val = r.val + 17) :
    (fun d => hnT m c t (ix2 ϱ d)) = nx (AA m c) (tb t) (sp t r) := by
  have ht := t_lt t
  unfold nx
  by_cases hr : r.val = 1023
  · by_cases h8 : t.val % 8 = 7
    · have hb : atLast (grid0.coords t) = 1#1 := (last_eq t).trans (if_pos h8)
      have hs : t.val % 8 * 1024 + r.val = 8191 := by omega
      rw [dif_pos (show (sp t r).val = 8191 from hs)]
      funext d
      unfold hnT
      rw [hn_hi _ _ _ _ _ _ _ ϱ (by omega) d, hb]
      rfl
    · have hb : atLast (grid0.coords t) = 0#1 := (last_eq t).trans (if_neg h8)
      have hs : ¬ t.val % 8 * 1024 + r.val = 8191 := by omega
      rw [dif_neg (show ¬ (sp t r).val = 8191 from hs)]
      funext d
      unfold hnT
      rw [hn_hi _ _ _ _ _ _ _ ϱ (by omega) d, hb]
      have hlt : t.val % 8 * 1024 + r.val + 1 < 8192 := by omega
      have hR : t.val / 8 * 8192 + (t.val % 8 * 1024 + r.val + 1) = (t.val + 1) * 1024 := by omega
      exact congrFun (nrow_eq m c t _ ⟨(sp t r).val + 1, hlt⟩ fun y => iblk2 m c t _ hR y) d
  · have hs : ¬ t.val % 8 * 1024 + r.val = 8191 := by omega
    rw [dif_neg (show ¬ (sp t r).val = 8191 from hs), hn_c m c t ⟨r.val + 1, by omega⟩ ϱ (by show ϱ.val = r.val + 1 + 16; omega)]
    rfl

/-- The activation of a point at a row and a column. -/
theorem act_at (c : Dev nD) (t : Fin cfg0.N) (r : Fin 1024) (k : Fin 2816) :
    View.canon (actL (F := Ideal) (hnT m c t) (iblk m c 7 t) (iblk m c 8 t) (iblk m c 9 t)) (ix2 r k)
      = silu (cvv (AA m c) (tb t) (sp t r) (lc k)) * cvv (AA m c) (tb t) (sp t r) (rc k) := by
  have hw : ∀ n : Fin 5632, wcol (iblk m c 7 t) n = fun d => a5 m c (ix2 d n) := fun n => funext fun d => iblk7 m c t d n
  have hcc : ∀ n : Fin 5632, ccol (iblk m c 8 t) n = fun a => a6 m c (ix2 a n) := fun n => funext fun a => iblk8 m c t a n
  rw [act_apply, hn_p m c t r _ rfl, hn_c m c t r _ rfl, hn_n m c t r _ rfl]
  unfold actF conv
  simp only [hw, hcc, iblk9]
  rfl

/-- The residual row from the blocks. -/
def resG (x : Vec Ideal S1024x1024 .f32) (g2 : Vec Ideal S1x1x1024 .f32) (a : Vec Ideal S1024x2816 .bf16) (w : Vec Ideal S2816x1024 .bf16)
    (r d : Fin 1024) : EReal :=
  x (ix2 r d) + g2 (ix3 0 0 d) * ∑ k : Fin 2816, a (ix2 r k) * w (ix2 k d)

theorem res_at (c : Dev nD) (t : Fin cfg0.N) (r e : Fin 1024) :
    resG (iblk m c 1 t) (iblk m c 6 t) (View.canon (actL (F := Ideal) (hnT m c t) (iblk m c 7 t) (iblk m c 8 t) (iblk m c 9 t))) (iblk m c 10 t) r e
      = zz (AA m c) silu (tb t) (sp t r) e := by
  unfold resG
  rw [iblk1 m c t (row (tb t) (sp t r)) r (row_val t r) e, iblk6]
  simp only [act_at m c t r, iblk10]
  rfl

/-- The block of a point at an index. -/
theorem block_eq (c : Dev nD) (t : Fin cfg0.N) (r d : Fin 1024) :
    blockV (F := Ideal) (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 r d) = zz (AA m c) silu (tb t) (sp t r) d := by
  exact (payOut_apply (iblk m c 1 t) (iblk m c 6 t) (View.canon (actL (F := Ideal) (hnT m c t) (iblk m c 7 t) (iblk m c 8 t) (iblk m c 9 t)))
    (iblk m c 10 t) r d).trans (res_at m c t r d)

/-- What a point writes back is its block of the result. -/
theorem flushed_eq (c : Dev nD) (t : Fin cfg0.N) : (dats m 0 c).flushed 12 t = (win0_12.blk t).view.read (Elt Ideal) (G m c) := by
  have ht := t_lt t
  rw [Value.flushed12_A, out_eq]
  funext (y : S1024x1024.Idx)
  obtain ⟨r, d, rfl⟩ : ∃ (r d : Fin 1024), y = ix2 r d := ⟨_, _, eq_ix2 y⟩
  obtain ⟨e0, e1⟩ := idx12 t
  refine (block_eq m c t r d).trans ?_
  have hv : ((win0_12.blk t).view.emb (ix2 r d) : S32768x1024.Idx) = ix2 (row (tb t) (sp t r)) d := by
    funext a
    apply Fin.ext
    match a with
    | ⟨0, _⟩ => show win0_12.index t 0 * 1024 + 1 * r.val = (row (tb t) (sp t r)).val; rw [e0, row_val]; omega
    | ⟨1, _⟩ => show win0_12.index t 1 * 1024 + 1 * d.val = d.val; rw [e1]; omega
  show _ = G m c ((win0_12.blk t).view.emb (ix2 r d))
  rw [hv]
  refine congrArg₂ (fun b s => zz (AA m c) silu b s d) (Fin.ext ?_) (Fin.ext ?_)
  · show t.val / 8 = (row (tb t) (sp t r)).val / 8192; rw [row_val]; omega
  · show t.val % 8 * 1024 + r.val = (row (tb t) (sp t r)).val % 8192; rw [row_val]; omega

theorem mem_blk (t : Fin cfg0.N) (i : S32768x1024.Idx) : i ∈ ((cfg0.win 12).blk t).view.set ↔ t.val = (i 0 : Nat) / 1024 := by
  show i ∈ ((View.whole main_v0).slice (win0_12.rect t)).set ↔ _
  rw [View.set_slice_whole, Rect.mem_set_unit]
  obtain ⟨e0, e1⟩ := idx12 t
  have h1 : (i 1 : Nat) < 1024 := (i 1).isLt
  refine ⟨fun h => ?_, fun h a => ?_⟩
  · have p0 : win0_12.index t 0 * 1024 ≤ (i 0 : Nat) ∧ (i 0 : Nat) < win0_12.index t 0 * 1024 + 1024 := h 0
    rw [e0] at p0
    omega
  · match a with
    | ⟨0, _⟩ => show win0_12.index t 0 * 1024 ≤ (i 0 : Nat) ∧ (i 0 : Nat) < win0_12.index t 0 * 1024 + 1024; rw [e0]; omega
    | ⟨1, _⟩ => show win0_12.index t 1 * 1024 ≤ (i 1 : Nat) ∧ (i 1 : Nat) < win0_12.index t 1 * 1024 + 1024; rw [e1]; omega

/-- The blocks cover the result. -/
theorem cover (i : S32768x1024.Idx) : ∃ t : Fin cfg0.N, (cfg0.win 12).flush t = true ∧ i ∈ ((cfg0.win 12).blk t).view.set := by
  have h0 : (i 0 : Nat) < 32768 := (i 0).isLt
  have ht : (i 0 : Nat) / 1024 < cfg0.N := by show _ < 32; omega
  exact ⟨⟨_, ht⟩, flush0_12 _, (mem_blk _ _).mpr rfl⟩

theorem final_o (c : Dev nD) : (dats m 0 c).arrAt 12 cfg0.N = G m c :=
  (dats m 0 c).arrAt_eq_of_cover 12 (G m c) (fun t _ => flushed_eq m c t) cover

/-- The run: the result at the formula, the arguments unchanged. -/
theorem run : θ_run (defs (F := Ideal)) (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (final_o m c), (h c).2⟩) (Value.run_blocks m ρ)

end Cert.Proof.FfnOut

end
-- ==== Proof.SguIdeal.Math.lean ====
/- The gating unit's formulas over the extended reals: the GELU, the value's layer norm, the mixing along a chunk's rows,
the closing product. -/
module

public import proofs.«01_k».proof.Proof.LastIdeal.Spec

@[expose] public section

noncomputable section

namespace Cert.Proof.SguMath

open Idealize.ShloMosaic Cert.Proof.Soft Cert.Proof.FfnMath

/-- The GELU, through the error function. -/
def gl (x : EReal) : EReal :=
  Ideal.ofBits .f32 0x3F000000#32 * x * (1 + Ideal.erf (x * Ideal.ofBits .f32 0x3F3504F3#32))

/-- The mean of a row. -/
def mu (v : Fin 1024 → EReal) : EReal := Ideal.div (∑ e : Fin 1024, v e) (Ideal.ofBits .f32 0x44800000#32)

/-- The layer norm of a row. -/
def lnr (v lg lb : Fin 1024 → EReal) (d : Fin 1024) : EReal :=
  (v d - mu v) * inv (fun e => v e - mu v) * lg d + lb d

/-- A column of the gate half, and of the value half. -/
def lo (n : Fin 1024) : Fin 2048 := ⟨n.val, by omega⟩
def hi (n : Fin 1024) : Fin 2048 := ⟨1024 + n.val, by omega⟩

/-- The group of a column. -/
def grp (d : Fin 1024) : Fin 8 := ⟨d.val / 128, by omega⟩

/-- What one row of a sequence reads beside its chunk's rows. -/
structure Pr where
  g : Fin 1024 → EReal
  sh : Fin 1024 → EReal
  sc : Fin 1024 → EReal
  g1 : Fin 1024 → EReal
  w : Fin 1024 → Fin 2048 → EReal
  bi : Fin 2048 → EReal
  lg : Fin 1024 → EReal
  lb : Fin 1024 → EReal
  ws : Fin 8 → Fin 128 → Fin 128 → EReal
  bs : Fin 128 → Fin 1024 → EReal
  wo : Fin 1024 → Fin 1024 → EReal

variable (P : Pr)

/-- The activation of a row at a column. -/
def ac (x : Fin 1024 → EReal) (n : Fin 2048) : EReal :=
  gl (up (nrm x P.g P.sh P.sc) (fun d => P.w d n) + P.bi n)

/-- The value of a row, normalised. -/
def vn (x : Fin 1024 → EReal) (d : Fin 1024) : EReal := lnr (fun e => ac P x (hi e)) P.lg P.lb d

/-- The mixed value at row `t` of a chunk. -/
def mx (xs : Fin 128 → Fin 1024 → EReal) (t : Fin 128) (d : Fin 1024) : EReal :=
  (∑ q : Fin 128, P.ws (grp d) t q * vn P (xs q) d) + P.bs t d

/-- The result at row `t` of a chunk. -/
def fo (xs : Fin 128 → Fin 1024 → EReal) (t : Fin 128) (d : Fin 1024) : EReal :=
  xs t d + P.g1 d * ∑ k : Fin 1024, ac P (xs t) (lo k) * mx P xs t k * P.wo k d

/-- What the argument arrays give a row of sequence `b`. -/
def prA (x1 : FVec Ideal ⟨2, ![1, 1024]⟩ .f32) (x2 x3 x4 : FVec Ideal ⟨3, ![4, 1, 1024]⟩ .f32)
    (x5 : FVec Ideal ⟨2, ![1024, 2048]⟩ .bf16) (x6 : FVec Ideal ⟨2, ![1, 2048]⟩ .f32) (x7 x8 : FVec Ideal ⟨2, ![1, 1024]⟩ .f32)
    (x9 : FVec Ideal ⟨3, ![8, 128, 128]⟩ .bf16) (x10 : FVec Ideal ⟨2, ![128, 1024]⟩ .f32) (x11 : FVec Ideal ⟨2, ![1024, 1024]⟩ .bf16)
    (b : Fin 4) : Pr where
  g e := x1 (ix2 0 e)
  sh e := x2 (ix3 b 0 e)
  sc e := x3 (ix3 b 0 e)
  g1 e := x4 (ix3 b 0 e)
  w d n := x5 (ix2 d n)
  bi n := x6 (ix2 0 n)
  lg e := x7 (ix2 0 e)
  lb e := x8 (ix2 0 e)
  ws g t q := x9 (ix3 g t q)
  bs t n := x10 (ix2 t n)
  wo k d := x11 (ix2 k d)

/-- Row `q` of the chunk that holds row `s`. -/
def ckr (s : Fin 8192) (q : Fin 128) : Fin 8192 := ⟨s.val / 128 * 128 + q.val, by omega⟩

/-- A row's place in its chunk. -/
def ckp (s : Fin 8192) : Fin 128 := ⟨s.val % 128, by omega⟩

theorem ckr_ckp (s : Fin 8192) : ckr s (ckp s) = s := Fin.ext (by show s.val / 128 * 128 + s.val % 128 = s.val; omega)

/-- The rows of the chunk of row `s` of sequence `b`. -/
def ck (x0 : FVec Ideal ⟨2, ![32768, 1024]⟩ .f32) (b : Fin 4) (s : Fin 8192) (q : Fin 128) (e : Fin 1024) : EReal :=
  x0 (ix2 (row b (ckr s q)) e)

/-- The reference's GELU, through the complementary error function. -/
theorem gl_erfc (x : EReal) :
    Ideal.ofBits .f32 0x3F000000#32 * x * Ideal.erfc (-x * Ideal.ofBits .f32 0x3F3504F3#32) = gl x := by
  unfold gl
  rw [EReal.neg_mul, Ideal.erfc_neg]

end Cert.Proof.SguMath

end
-- ==== Proof.SguIdeal.Ref.lean ====
/- The reference's stages at an index: each is the formula of the arguments that `fo` collects. -/
module

public import proofs.«01_k».proof.Proof.Gen.SguRefIdeal.Read
public import proofs.«01_k».proof.Proof.SguIdeal.Math
public import Idealize.ShloMosaic.Lib.KernelVsHost

@[expose] public section

set_option maxRecDepth 16384

noncomputable section

namespace Cert.Proof.SguRef

open Cert.SguRefIdeal Cert.SguRefIdeal.Gen Cert.SguRefIdeal.Read Cert.Proof.FfnMath Cert.Proof.SguMath
open Idealize.ShloMosaic

variable (x0 : FVec Ideal S32768x1024 .f32) (x1 : FVec Ideal S1x1024 .f32) (x2 x3 x4 : FVec Ideal S4x1x1024 .f32)
  (x5 : FVec Ideal S1024x2048 .bf16) (x6 : FVec Ideal S1x2048 .f32) (x7 x8 : FVec Ideal S1x1024 .f32)
  (x9 : FVec Ideal S8x128x128 .bf16) (x10 : FVec Ideal S128x1024 .f32) (x11 : FVec Ideal S1024x1024 .bf16)

/-- A row of a sequence. -/
def xrow (b : Fin 4) (s : Fin 8192) (e : Fin 1024) : EReal := x0 (ix2 (row b s) e)

theorem v0_eq (b : Fin 4) (s : Fin 8192) (d : Fin 1024) : val_main_v0 (F := Ideal) x0 (ix3 b s d) = x0 (ix2 (row b s) d) := by
  rw [val_main_v0_apply]
  exact congrArg x0 (funext fun a => Fin.ext (by
    match a with
    | ⟨0, _⟩ => show ((b.val * 8192 + s.val) * 1024 + d.val) / 1024 = b.val * 8192 + s.val; omega
    | ⟨1, _⟩ => show ((b.val * 8192 + s.val) * 1024 + d.val) % 1024 = d.val; omega))

theorem v3_eq (b : Fin 4) (s : Fin 8192) :
    val_main_v3 (F := Ideal) x0 (ix2 b s) = ∑ e : Fin 1024, x0 (ix2 (row b s) e) * x0 (ix2 (row b s) e) := by
  rw [val_main_v3_apply, show val_main_cst (F := Ideal) (Shape.Idx.first h_S_) = (0 : EReal) from Ideal.ofBits_zero_f32, zero_add]
  refine Finset.sum_congr rfl fun e _ => ?_
  have hi : idx_main_v3 (ix2 b s) e = ix3 b s e := eq_ix3 _
  rw [val_main_v2_apply, hi, v0_eq]
  rfl

theorem v10_eq (b : Fin 4) (s : Fin 8192) (d : Fin 1024) :
    val_main_v10 (F := Ideal) x0 (ix3 b s d) = inv fun e => x0 (ix2 (row b s) e) := by
  have hi : idx_main_v4 (idx_main_v10 (ix3 b s d)) = ix2 b s := eq_ix2 _
  rw [val_main_v10_apply, val_main_v9_apply, val_main_v8_apply, val_main_v6_apply, val_main_v4_apply, val_main_v5_apply, val_main_v7_apply,
    val_main_cst_0_apply, val_main_cst_1_apply, hi, v3_eq]
  rfl

theorem v13_eq (b : Fin 4) (s : Fin 8192) (d : Fin 1024) : val_main_v13 (F := Ideal) x1 (ix3 b s d) = x1 (ix2 0 d) := by
  rw [val_main_v13_apply, val_main_v12_apply, val_main_v1_apply]
  exact congrArg x1 (funext fun a => Fin.ext (by
    match a with
    | ⟨0, _⟩ => rfl
    | ⟨1, _⟩ => show d.val % 1024 = d.val; omega))

theorem v17_eq (b : Fin 4) (s : Fin 8192) (d : Fin 1024) : val_main_v17 (F := Ideal) x3 (ix3 b s d) = 1 + x3 (ix3 b 0 d) := by
  have hi : idx_main_v17 (ix3 b s d) = ix3 b 0 d := eq_ix3 _
  rw [val_main_v17_apply, val_main_v16_apply, val_main_v15_apply, val_main_cst_2_apply, hi]
  exact congrArg (· + x3 (ix3 b 0 d)) lit_one

/-- What the arguments give a row of a sequence. -/
abbrev PP (b : Fin 4) : Pr := prA x1 x2 x3 x4 x5 x6 x7 x8 x9 x10 x11 b

/-- A normalised row. -/
def nr (b : Fin 4) (s : Fin 8192) : Fin 1024 → EReal :=
  nrm (xrow x0 b s) (fun e => x1 (ix2 0 e)) (fun e => x2 (ix3 b 0 e)) fun e => x3 (ix3 b 0 e)

theorem v20_eq (b : Fin 4) (s : Fin 8192) (d : Fin 1024) :
    val_main_v20 (F := Ideal) x0 x1 x2 x3 (ix3 b s d) = nr x0 x1 x2 x3 b s d := by
  have hi : idx_main_v19 (ix3 b s d) = ix3 b 0 d := eq_ix3 _
  rw [val_main_v20_apply, val_main_v18_apply, val_main_v14_apply, val_main_v11_apply, val_main_v19_apply, v0_eq, v10_eq, v13_eq, v17_eq, hi]
  rfl

theorem v29_eq (b : Fin 4) (s : Fin 8192) (n : Fin 2048) : val_main_v29 (F := Ideal) x6 (ix3 b s n) = x6 (ix2 0 n) := by
  rw [val_main_v29_apply, val_main_v28_apply, val_main_v22_apply]
  exact congrArg x6 (funext fun a => Fin.ext (by
    match a with
    | ⟨0, _⟩ => rfl
    | ⟨1, _⟩ => show n.val % 2048 = n.val; omega))

/-- The product before the activation. -/
def pre (b : Fin 4) (s : Fin 8192) (n : Fin 2048) : EReal := up (nr x0 x1 x2 x3 b s) (fun d => x5 (ix2 d n)) + x6 (ix2 0 n)

theorem v30_eq (b : Fin 4) (s : Fin 8192) (n : Fin 2048) :
    val_main_v30 (F := Ideal) x0 x1 x2 x3 x5 x6 (ix3 b s n) = pre x0 x1 x2 x3 x5 x6 b s n := by
  rw [val_main_v30_apply, v29_eq, val_main_v27_apply]
  refine congrArg (· + x6 (ix2 0 n)) (Finset.sum_congr rfl fun d _ => ?_)
  have hl : lidx_main_v27 (ix3 b s n) d = ix3 b s d := eq_ix3 _
  have hr : ridx_main_v27 (ix3 b s n) d = ix2 d n := eq_ix2 _
  rw [hl, hr, v20_eq, val_main_v21_apply]
  rfl

theorem v37_eq (b : Fin 4) (s : Fin 8192) (n : Fin 2048) :
    val_main_v37 (F := Ideal) x0 x1 x2 x3 x5 x6 (ix3 b s n) = gl (pre x0 x1 x2 x3 x5 x6 b s n) := by
  rw [val_main_v37_apply, val_main_v32_apply, val_main_v36_apply, val_main_v35_apply, val_main_v33_apply, val_main_v31_apply,
    val_main_v34_apply, val_main_cst_3_apply, val_main_cst_4_apply, v30_eq]
  exact gl_erfc _

/-- The activation of a row. -/
def act (b : Fin 4) (s : Fin 8192) (n : Fin 2048) : EReal := gl (pre x0 x1 x2 x3 x5 x6 b s n)

theorem act_eq (b : Fin 4) (s : Fin 8192) (n : Fin 2048) :
    act x0 x1 x2 x3 x5 x6 b s n = ac (PP x1 x2 x3 x4 x5 x6 x7 x8 x9 x10 x11 b) (xrow x0 b s) n := rfl

theorem v38_eq (b : Fin 4) (s : Fin 8192) (d : Fin 1024) :
    val_main_v38 (F := Ideal) x0 x1 x2 x3 x5 x6 (ix3 b s d) = act x0 x1 x2 x3 x5 x6 b s (lo d) := by
  have hi : idx_main_v38 (ix3 b s d) = ix3 b s (lo d) := eq_ix3 _
  rw [val_main_v38_apply, hi, v37_eq]
  rfl

theorem v39_eq (b : Fin 4) (s : Fin 8192) (d : Fin 1024) :
    val_main_v39 (F := Ideal) x0 x1 x2 x3 x5 x6 (ix3 b s d) = act x0 x1 x2 x3 x5 x6 b s (hi d) := by
  have hj : idx_main_v39 (ix3 b s d) = ix3 b s (hi d) := eq_ix3 _
  rw [val_main_v39_apply, hj, v37_eq]
  rfl

/-- The value before its norm. -/
def vv (b : Fin 4) (s : Fin 8192) (d : Fin 1024) : EReal := act x0 x1 x2 x3 x5 x6 b s (hi d)

theorem v44_eq (b : Fin 4) (s : Fin 8192) (d : Fin 1024) :
    val_main_v44 (F := Ideal) x0 x1 x2 x3 x5 x6 (ix3 b s d) = mu (vv x0 x1 x2 x3 x5 x6 b s) := by
  have hj : idx_main_v41 (idx_main_v44 (ix3 b s d)) = ix2 b s := eq_ix2 _
  have hs : ∀ e, idx_main_v40 (ix2 b s) e = ix3 b s e := fun e => eq_ix3 _
  rw [val_main_v44_apply, val_main_v43_apply, val_main_v41_apply, val_main_v42_apply, val_main_cst_6_apply, hj, val_main_v40_apply,
    show val_main_cst_5 (F := Ideal) (Shape.Idx.first h_S_) = (0 : EReal) from Ideal.ofBits_zero_f32, zero_add]
  simp only [hs, v39_eq]
  rfl

theorem v45_eq (b : Fin 4) (s : Fin 8192) (d : Fin 1024) :
    val_main_v45 (F := Ideal) x0 x1 x2 x3 x5 x6 (ix3 b s d) = vv x0 x1 x2 x3 x5 x6 b s d - mu (vv x0 x1 x2 x3 x5 x6 b s) := by
  rw [val_main_v45_apply, v39_eq, v44_eq]
  rfl

theorem v54_eq (b : Fin 4) (s : Fin 8192) (d : Fin 1024) :
    val_main_v54 (F := Ideal) x0 x1 x2 x3 x5 x6 (ix3 b s d)
      = inv fun e => vv x0 x1 x2 x3 x5 x6 b s e - mu (vv x0 x1 x2 x3 x5 x6 b s) := by
  have hj : idx_main_v48 (idx_main_v54 (ix3 b s d)) = ix2 b s := eq_ix2 _
  have hs : ∀ e, idx_main_v47 (ix2 b s) e = ix3 b s e := fun e => eq_ix3 _
  rw [val_main_v54_apply, val_main_v53_apply, val_main_v52_apply, val_main_v50_apply, val_main_v48_apply, val_main_v49_apply,
    val_main_v51_apply, val_main_cst_8_apply, val_main_cst_9_apply, hj, val_main_v47_apply,
    show val_main_cst_7 (F := Ideal) (Shape.Idx.first h_S_) = (0 : EReal) from Ideal.ofBits_zero_f32, zero_add]
  simp only [hs, val_main_v46_apply, v45_eq]
  rfl

theorem v57_eq (b : Fin 4) (s : Fin 8192) (d : Fin 1024) : val_main_v57 (F := Ideal) x7 (ix3 b s d) = x7 (ix2 0 d) := by
  rw [val_main_v57_apply, val_main_v56_apply, val_main_v23_apply]
  exact congrArg x7 (funext fun a => Fin.ext (by
    match a with
    | ⟨0, _⟩ => rfl
    | ⟨1, _⟩ => show d.val % 1024 = d.val; omega))

theorem v60_eq (b : Fin 4) (s : Fin 8192) (d : Fin 1024) : val_main_v60 (F := Ideal) x8 (ix3 b s d) = x8 (ix2 0 d) := by
  rw [val_main_v60_apply, val_main_v59_apply, val_main_v24_apply]
  exact congrArg x8 (funext fun a => Fin.ext (by
    match a with
    | ⟨0, _⟩ => rfl
    | ⟨1, _⟩ => show d.val % 1024 = d.val; omega))

theorem v61_eq (b : Fin 4) (s : Fin 8192) (d : Fin 1024) :
    val_main_v61 (F := Ideal) x0 x1 x2 x3 x5 x6 x7 x8 (ix3 b s d) = vn (PP x1 x2 x3 x4 x5 x6 x7 x8 x9 x10 x11 b) (xrow x0 b s) d := by
  rw [val_main_v61_apply, val_main_v58_apply, val_main_v55_apply, v45_eq, v54_eq, v57_eq, v60_eq]
  rfl

/-- The mixed product of a chunk at a row, in a group. -/
theorem v63_eq (g : Fin 8) (b : Fin 4) (k : Fin 64) (u t : Fin 128) (s : Fin 8192) (hs : s.val = k.val * 128 + t.val) (d : Fin 1024)
    (hd : d.val = g.val * 128 + u.val) :
    val_main_v63 (F := Ideal) x0 x1 x2 x3 x5 x6 x7 x8 x9 (ix5 g b k u t)
      = ∑ q : Fin 128, x9 (ix3 (grp d) (ckp s) q) * vn (PP x1 x2 x3 x4 x5 x6 x7 x8 x9 x10 x11 b) (ck x0 b s q) d := by
  rw [val_main_v63_apply]
  refine Finset.sum_congr rfl fun q _ => (mul_comm _ _).trans ?_
  have hr : ridx_main_v63 (ix5 g b k u t) q = ix3 (grp d) (ckp s) q := by
    funext a
    apply Fin.ext
    match a with
    | ⟨0, _⟩ => show g.val = d.val / 128; omega
    | ⟨1, _⟩ => show t.val = s.val % 128; omega
    | ⟨2, _⟩ => rfl
  have hl : idx_main_v62 (lidx_main_v63 (ix5 g b k u t) q) = ix3 b (ckr s q) d := by
    funext a
    apply Fin.ext
    match a with
    | ⟨0, _⟩ => show ((((b.val * 64 + k.val) * 128 + q.val) * 8 + g.val) * 128 + u.val) / 8388608 = b.val; omega
    | ⟨1, _⟩ =>
      show ((((b.val * 64 + k.val) * 128 + q.val) * 8 + g.val) * 128 + u.val) / 1024 % 8192 = s.val / 128 * 128 + q.val
      omega
    | ⟨2, _⟩ => show ((((b.val * 64 + k.val) * 128 + q.val) * 8 + g.val) * 128 + u.val) % 1024 = d.val; omega
  rw [val_main_v62_apply, hl, hr, v61_eq x0 x1 x2 x3 x4 x5 x6 x7 x8 x9 x10 x11, val_main_v25_apply]
  rfl

theorem v69_eq (b : Fin 4) (s : Fin 8192) (d : Fin 1024) :
    val_main_v69 (F := Ideal) x0 x1 x2 x3 x5 x6 x7 x8 x9 x10 (ix3 b s d)
      = mx (PP x1 x2 x3 x4 x5 x6 x7 x8 x9 x10 x11 b) (ck x0 b s) (ckp s) d := by
  have hk : s.val / 128 < 64 := by omega
  have hj : idx_main_v69 (ix3 b s d) = ix4 b ⟨s.val / 128, hk⟩ (ckp s) d := by
    funext a
    apply Fin.ext
    match a with
    | ⟨0, _⟩ => show ((b.val * 8192 + s.val) * 1024 + d.val) / 8388608 = b.val; omega
    | ⟨1, _⟩ => show ((b.val * 8192 + s.val) * 1024 + d.val) / 131072 % 64 = s.val / 128; omega
    | ⟨2, _⟩ => show ((b.val * 8192 + s.val) * 1024 + d.val) / 1024 % 128 = s.val % 128; omega
    | ⟨3, _⟩ => show ((b.val * 8192 + s.val) * 1024 + d.val) % 1024 = d.val; omega
  have hu : d.val % 128 < 128 := by omega
  have hm : idx_main_v64 (idx_main_v65 (ix4 b ⟨s.val / 128, hk⟩ (ckp s) d)) = ix5 (grp d) b ⟨s.val / 128, hk⟩ ⟨d.val % 128, hu⟩ (ckp s) := by
    funext a
    apply Fin.ext
    match a with
    | ⟨0, _⟩ => show (((b.val * 64 + s.val / 128) * 128 + s.val % 128) * 1024 + d.val) / 128 % 8 = d.val / 128; omega
    | ⟨1, _⟩ => show (((b.val * 64 + s.val / 128) * 128 + s.val % 128) * 1024 + d.val) / 8388608 = b.val; omega
    | ⟨2, _⟩ => show (((b.val * 64 + s.val / 128) * 128 + s.val % 128) * 1024 + d.val) / 131072 % 64 = s.val / 128; omega
    | ⟨3, _⟩ => show (((b.val * 64 + s.val / 128) * 128 + s.val % 128) * 1024 + d.val) % 128 = d.val % 128; omega
    | ⟨4, _⟩ => show (((b.val * 64 + s.val / 128) * 128 + s.val % 128) * 1024 + d.val) / 1024 % 128 = s.val % 128; omega
  have hb : idx_main_v66 (idx_main_v67 (ix4 b ⟨s.val / 128, hk⟩ (ckp s) d)) = ix2 (ckp s) d := eq_ix2 _
  rw [val_main_v69_apply, hj, val_main_v68_apply, val_main_v65_apply, val_main_v64_apply, hm, val_main_v67_apply, val_main_v66_apply, hb,
    v63_eq x0 x1 x2 x3 x4 x5 x6 x7 x8 x9 x10 x11 (grp d) b ⟨s.val / 128, hk⟩ ⟨d.val % 128, hu⟩ (ckp s) s
      (by show s.val = s.val / 128 * 128 + s.val % 128; omega) d (by show d.val = d.val / 128 * 128 + d.val % 128; omega)]
  rfl

theorem ck_ckp (b : Fin 4) (s : Fin 8192) : ck x0 b s (ckp s) = xrow x0 b s := by
  unfold ck xrow
  rw [ckr_ckp]

theorem v74_eq (b : Fin 4) (s : Fin 8192) (d : Fin 1024) :
    val_main_v74 (F := Ideal) x0 x1 x2 x3 x4 x5 x6 x7 x8 x9 x10 x11 (ix3 b s d)
      = fo (PP x1 x2 x3 x4 x5 x6 x7 x8 x9 x10 x11 b) (ck x0 b s) (ckp s) d := by
  have hj : idx_main_v72 (ix3 b s d) = ix3 b 0 d := eq_ix3 _
  have hl : ∀ k, lidx_main_v71 (ix3 b s d) k = ix3 b s k := fun k => eq_ix3 _
  have hr : ∀ k, ridx_main_v71 (ix3 b s d) k = ix2 k d := fun k => eq_ix2 _
  rw [val_main_v74_apply, val_main_v73_apply, val_main_v72_apply, hj, val_main_v71_apply, v0_eq]
  simp only [hl, hr, val_main_v70_apply, val_main_v26_apply, v38_eq, v69_eq x0 x1 x2 x3 x4 x5 x6 x7 x8 x9 x10 x11,
    act_eq x0 x1 x2 x3 x4 x5 x6 x7 x8 x9 x10 x11]
  unfold fo
  rw [ck_ckp]
  rfl

/-- The reference's result at an index. -/
theorem v75_eq (r : Fin 32768) (d : Fin 1024) :
    val_main_v75 (F := Ideal) x0 x1 x2 x3 x4 x5 x6 x7 x8 x9 x10 x11 (ix2 r d)
      = fo (PP x1 x2 x3 x4 x5 x6 x7 x8 x9 x10 x11 (bat r)) (ck x0 (bat r) (pos r)) (ckp (pos r)) d := by
  have hi : idx_main_v75 (ix2 r d) = ix3 (bat r) (pos r) d := by
    funext a
    apply Fin.ext
    match a with
    | ⟨0, _⟩ => show (r.val * 1024 + d.val) / 8388608 = r.val / 8192; omega
    | ⟨1, _⟩ => show (r.val * 1024 + d.val) / 1024 % 8192 = r.val % 8192; omega
    | ⟨2, _⟩ => show (r.val * 1024 + d.val) % 1024 = d.val; omega
  rw [val_main_v75_apply, hi, v74_eq x0 x1 x2 x3 x4 x5 x6 x7 x8 x9 x10 x11]

end Cert.Proof.SguRef

end
-- ==== Proof.SguIdeal.Read.lean ====
/- What the kernel's body leaves in its output block, as one expression over its input blocks: each half's gate and value,
the mixed value's tiles, and the closing product with its residual. -/
module

public import proofs.«01_k».proof.Proof.Gen.SguIdeal.Value
public import Idealize.ShloMosaic.Lib.Pipeline.ValueKit

@[expose] public section

noncomputable section

namespace Cert.Proof.SguOut

open Cert.SguIdeal Cert.SguIdeal.Gen Idealize.ShloMosaic Idealize.ShloMosaic.TcCoe
open Idealize.SL Idealize.SL.Sem

variable {F : FTy → Type} [FloatOps F]

section
variable (X : Vec F S512x1024 .f32) (x1 : Vec F S1x1024 .f32) (x2 x3 : Vec F S1x1x1024 .f32) (x5 : Vec F S1024x2048 .bf16)
  (x6 : Vec F S1x2048 .f32) (x7 x8 : Vec F S1x1024 .f32)

/-- The first half's gate. -/
def uA : FVec F S512x1024 .f32 := k0_pay6 (k0_pay3 X x1 x2 x3 x5 x6) (k0_pay4 X x1 x2 x3 x5 x6)
/-- The first half's value, normalised. -/
def vA : FVec F S512x1024 .bf16 := k0_pay7 (k0_pay3 X x1 x2 x3 x5 x6) (k0_pay4 X x1 x2 x3 x5 x6) x7 x8
/-- The second half's gate. -/
def uB : FVec F S512x1024 .f32 := k0_pay56 X x1 (k0_pay52 x2) (k0_pay53 x3) (k0_pay54 X) x5 x6
/-- The second half's value, normalised. -/
def vB : FVec F S512x1024 .bf16 :=
  k0_pay59 (k0_pay57 X x1 (k0_pay52 x2) (k0_pay53 x3) (k0_pay54 X) x5 x6) (k0_pay58 x7) x8

end

theorem inS (o p : Nat) (h : o + 128 ≤ 1024) (h' : p + 128 ≤ 1024) :
    ∀ a : Fin 2, (![o, p] : Fin 2 → Nat) a + S128x128.size a ≤ S1024x1024.size a
  | ⟨0, _⟩ => h
  | ⟨1, _⟩ => h'

theorem inV (o p : Nat) (h : o + 128 ≤ 512) (h' : p + 128 ≤ 1024) : S512x1024.Slices ![o, p] S128x128 :=
  ⟨rfl, fun a => match a with
    | ⟨0, _⟩ => h
    | ⟨1, _⟩ => h'⟩

theorem inW (g : Nat) (h : g + 1 ≤ 8) : ∀ a : Fin 3, (![g, 0, 0] : Fin 3 → Nat) a + S1x128x128.size a ≤ S8x128x128.size a
  | ⟨0, _⟩ => h
  | ⟨1, _⟩ => Nat.le_refl 128
  | ⟨2, _⟩ => Nat.le_refl 128

theorem inB (p : Nat) (h : p + 128 ≤ 1024) : ∀ a : Fin 2, (![0, p] : Fin 2 → Nat) a + S128x128.size a ≤ S128x1024.size a
  | ⟨0, _⟩ => Nat.le_refl 128
  | ⟨1, _⟩ => h

/-- One tile of the mixed value: a group's weights against a chunk's rows in that group, and the bias. -/
def tile0 (w : Vec F S1x128x128 .bf16) (v : FVec F S128x128 .bf16) (b : Vec F S128x128 .f32) : Vec F S128x128 .f32 :=
  shapeCast S128x128 (addf (matmul dot_S128x128_S128x128_S128x128_1_0_0_1_n_n none
    (shapeCast S128x128 w shapeCasts_S1x128x128_S128x128 : FVec F S128x128 .bf16) v (constant S128x128 .f32 0x00000000#32)) b) shapeCasts_S128x128_S128x128

/-- The tile at row `o` of a half and column `p`. -/
def tile (vb : FVec F S512x1024 .bf16) (x9 : Vec F S8x128x128 .bf16) (x10 : Vec F S128x1024 .f32) (o p g : Nat)
    (ho : o + 128 ≤ 512) (hp : p + 128 ≤ 1024) (hg : g + 1 ≤ 8) : Vec F S128x128 .f32 :=
  tile0 (View.ld x9 (Rect.unit ![g, 0, 0] S1x128x128.size (inW g hg))) (extractStridedSlice S128x128 ![o, p] vb (inV o p ho hp))
    (View.ld x10 (Rect.unit ![0, p] S128x128.size (inB p hp)))

/-- The first half's tiles, the last one stored first. -/
def tilesA (vb : FVec F S512x1024 .bf16) (x9 : Vec F S8x128x128 .bf16) (x10 : Vec F S128x1024 .f32) :
    List (View.Piece (Elt F) S1024x1024 .f32) :=
  [
    ⟨Rect.unit ![384, 896] S128x128.size (inS 384 896 (by omega) (by omega)), tile vb x9 x10 384 896 7 (by omega) (by omega) (by omega)⟩,
    ⟨Rect.unit ![384, 768] S128x128.size (inS 384 768 (by omega) (by omega)), tile vb x9 x10 384 768 6 (by omega) (by omega) (by omega)⟩,
    ⟨Rect.unit ![384, 640] S128x128.size (inS 384 640 (by omega) (by omega)), tile vb x9 x10 384 640 5 (by omega) (by omega) (by omega)⟩,
    ⟨Rect.unit ![384, 512] S128x128.size (inS 384 512 (by omega) (by omega)), tile vb x9 x10 384 512 4 (by omega) (by omega) (by omega)⟩,
    ⟨Rect.unit ![384, 384] S128x128.size (inS 384 384 (by omega) (by omega)), tile vb x9 x10 384 384 3 (by omega) (by omega) (by omega)⟩,
    ⟨Rect.unit ![384, 256] S128x128.size (inS 384 256 (by omega) (by omega)), tile vb x9 x10 384 256 2 (by omega) (by omega) (by omega)⟩,
    ⟨Rect.unit ![384, 128] S128x128.size (inS 384 128 (by omega) (by omega)), tile vb x9 x10 384 128 1 (by omega) (by omega) (by omega)⟩,
    ⟨Rect.unit ![384, 0] S128x128.size (inS 384 0 (by omega) (by omega)), tile vb x9 x10 384 0 0 (by omega) (by omega) (by omega)⟩,
    ⟨Rect.unit ![256, 896] S128x128.size (inS 256 896 (by omega) (by omega)), tile vb x9 x10 256 896 7 (by omega) (by omega) (by omega)⟩,
    ⟨Rect.unit ![256, 768] S128x128.size (inS 256 768 (by omega) (by omega)), tile vb x9 x10 256 768 6 (by omega) (by omega) (by omega)⟩,
    ⟨Rect.unit ![256, 640] S128x128.size (inS 256 640 (by omega) (by omega)), tile vb x9 x10 256 640 5 (by omega) (by omega) (by omega)⟩,
    ⟨Rect.unit ![256, 512] S128x128.size (inS 256 512 (by omega) (by omega)), tile vb x9 x10 256 512 4 (by omega) (by omega) (by omega)⟩,
    ⟨Rect.unit ![256, 384] S128x128.size (inS 256 384 (by omega) (by omega)), tile vb x9 x10 256 384 3 (by omega) (by omega) (by omega)⟩,
    ⟨Rect.unit ![256, 256] S128x128.size (inS 256 256 (by omega) (by omega)), tile vb x9 x10 256 256 2 (by omega) (by omega) (by omega)⟩,
    ⟨Rect.unit ![256, 128] S128x128.size (inS 256 128 (by omega) (by omega)), tile vb x9 x10 256 128 1 (by omega) (by omega) (by omega)⟩,
    ⟨Rect.unit ![256, 0] S128x128.size (inS 256 0 (by omega) (by omega)), tile vb x9 x10 256 0 0 (by omega) (by omega) (by omega)⟩,
    ⟨Rect.unit ![128, 896] S128x128.size (inS 128 896 (by omega) (by omega)), tile vb x9 x10 128 896 7 (by omega) (by omega) (by omega)⟩,
    ⟨Rect.unit ![128, 768] S128x128.size (inS 128 768 (by omega) (by omega)), tile vb x9 x10 128 768 6 (by omega) (by omega) (by omega)⟩,
    ⟨Rect.unit ![128, 640] S128x128.size (inS 128 640 (by omega) (by omega)), tile vb x9 x10 128 640 5 (by omega) (by omega) (by omega)⟩,
    ⟨Rect.unit ![128, 512] S128x128.size (inS 128 512 (by omega) (by omega)), tile vb x9 x10 128 512 4 (by omega) (by omega) (by omega)⟩,
    ⟨Rect.unit ![128, 384] S128x128.size (inS 128 384 (by omega) (by omega)), tile vb x9 x10 128 384 3 (by omega) (by omega) (by omega)⟩,
    ⟨Rect.unit ![128, 256] S128x128.size (inS 128 256 (by omega) (by omega)), tile vb x9 x10 128 256 2 (by omega) (by omega) (by omega)⟩,
    ⟨Rect.unit ![128, 128] S128x128.size (inS 128 128 (by omega) (by omega)), tile vb x9 x10 128 128 1 (by omega) (by omega) (by omega)⟩,
    ⟨Rect.unit ![128, 0] S128x128.size (inS 128 0 (by omega) (by omega)), tile vb x9 x10 128 0 0 (by omega) (by omega) (by omega)⟩,
    ⟨Rect.unit ![0, 896] S128x128.size (inS 0 896 (by omega) (by omega)), tile vb x9 x10 0 896 7 (by omega) (by omega) (by omega)⟩,
    ⟨Rect.unit ![0, 768] S128x128.size (inS 0 768 (by omega) (by omega)), tile vb x9 x10 0 768 6 (by omega) (by omega) (by omega)⟩,
    ⟨Rect.unit ![0, 640] S128x128.size (inS 0 640 (by omega) (by omega)), tile vb x9 x10 0 640 5 (by omega) (by omega) (by omega)⟩,
    ⟨Rect.unit ![0, 512] S128x128.size (inS 0 512 (by omega) (by omega)), tile vb x9 x10 0 512 4 (by omega) (by omega) (by omega)⟩,
    ⟨Rect.unit ![0, 384] S128x128.size (inS 0 384 (by omega) (by omega)), tile vb x9 x10 0 384 3 (by omega) (by omega) (by omega)⟩,
    ⟨Rect.unit ![0, 256] S128x128.size (inS 0 256 (by omega) (by omega)), tile vb x9 x10 0 256 2 (by omega) (by omega) (by omega)⟩,
    ⟨Rect.unit ![0, 128] S128x128.size (inS 0 128 (by omega) (by omega)), tile vb x9 x10 0 128 1 (by omega) (by omega) (by omega)⟩,
    ⟨Rect.unit ![0, 0] S128x128.size (inS 0 0 (by omega) (by omega)), tile vb x9 x10 0 0 0 (by omega) (by omega) (by omega)⟩
  ]

/-- The second half's tiles, the last one stored first. -/
def tilesB (vb : FVec F S512x1024 .bf16) (x9 : Vec F S8x128x128 .bf16) (x10 : Vec F S128x1024 .f32) :
    List (View.Piece (Elt F) S1024x1024 .f32) :=
  [
    ⟨Rect.unit ![896, 896] S128x128.size (inS 896 896 (by omega) (by omega)), tile vb x9 x10 384 896 7 (by omega) (by omega) (by omega)⟩,
    ⟨Rect.unit ![896, 768] S128x128.size (inS 896 768 (by omega) (by omega)), tile vb x9 x10 384 768 6 (by omega) (by omega) (by omega)⟩,
    ⟨Rect.unit ![896, 640] S128x128.size (inS 896 640 (by omega) (by omega)), tile vb x9 x10 384 640 5 (by omega) (by omega) (by omega)⟩,
    ⟨Rect.unit ![896, 512] S128x128.size (inS 896 512 (by omega) (by omega)), tile vb x9 x10 384 512 4 (by omega) (by omega) (by omega)⟩,
    ⟨Rect.unit ![896, 384] S128x128.size (inS 896 384 (by omega) (by omega)), tile vb x9 x10 384 384 3 (by omega) (by omega) (by omega)⟩,
    ⟨Rect.unit ![896, 256] S128x128.size (inS 896 256 (by omega) (by omega)), tile vb x9 x10 384 256 2 (by omega) (by omega) (by omega)⟩,
    ⟨Rect.unit ![896, 128] S128x128.size (inS 896 128 (by omega) (by omega)), tile vb x9 x10 384 128 1 (by omega) (by omega) (by omega)⟩,
    ⟨Rect.unit ![896, 0] S128x128.size (inS 896 0 (by omega) (by omega)), tile vb x9 x10 384 0 0 (by omega) (by omega) (by omega)⟩,
    ⟨Rect.unit ![768, 896] S128x128.size (inS 768 896 (by omega) (by omega)), tile vb x9 x10 256 896 7 (by omega) (by omega) (by omega)⟩,
    ⟨Rect.unit ![768, 768] S128x128.size (inS 768 768 (by omega) (by omega)), tile vb x9 x10 256 768 6 (by omega) (by omega) (by omega)⟩,
    ⟨Rect.unit ![768, 640] S128x128.size (inS 768 640 (by omega) (by omega)), tile vb x9 x10 256 640 5 (by omega) (by omega) (by omega)⟩,
    ⟨Rect.unit ![768, 512] S128x128.size (inS 768 512 (by omega) (by omega)), tile vb x9 x10 256 512 4 (by omega) (by omega) (by omega)⟩,
    ⟨Rect.unit ![768, 384] S128x128.size (inS 768 384 (by omega) (by omega)), tile vb x9 x10 256 384 3 (by omega) (by omega) (by omega)⟩,
    ⟨Rect.unit ![768, 256] S128x128.size (inS 768 256 (by omega) (by omega)), tile vb x9 x10 256 256 2 (by omega) (by omega) (by omega)⟩,
    ⟨Rect.unit ![768, 128] S128x128.size (inS 768 128 (by omega) (by omega)), tile vb x9 x10 256 128 1 (by omega) (by omega) (by omega)⟩,
    ⟨Rect.unit ![768, 0] S128x128.size (inS 768 0 (by omega) (by omega)), tile vb x9 x10 256 0 0 (by omega) (by omega) (by omega)⟩,
    ⟨Rect.unit ![640, 896] S128x128.size (inS 640 896 (by omega) (by omega)), tile vb x9 x10 128 896 7 (by omega) (by omega) (by omega)⟩,
    ⟨Rect.unit ![640, 768] S128x128.size (inS 640 768 (by omega) (by omega)), tile vb x9 x10 128 768 6 (by omega) (by omega) (by omega)⟩,
    ⟨Rect.unit ![640, 640] S128x128.size (inS 640 640 (by omega) (by omega)), tile vb x9 x10 128 640 5 (by omega) (by omega) (by omega)⟩,
    ⟨Rect.unit ![640, 512] S128x128.size (inS 640 512 (by omega) (by omega)), tile vb x9 x10 128 512 4 (by omega) (by omega) (by omega)⟩,
    ⟨Rect.unit ![640, 384] S128x128.size (inS 640 384 (by omega) (by omega)), tile vb x9 x10 128 384 3 (by omega) (by omega) (by omega)⟩,
    ⟨Rect.unit ![640, 256] S128x128.size (inS 640 256 (by omega) (by omega)), tile vb x9 x10 128 256 2 (by omega) (by omega) (by omega)⟩,
    ⟨Rect.unit ![640, 128] S128x128.size (inS 640 128 (by omega) (by omega)), tile vb x9 x10 128 128 1 (by omega) (by omega) (by omega)⟩,
    ⟨Rect.unit ![640, 0] S128x128.size (inS 640 0 (by omega) (by omega)), tile vb x9 x10 128 0 0 (by omega) (by omega) (by omega)⟩,
    ⟨Rect.unit ![512, 896] S128x128.size (inS 512 896 (by omega) (by omega)), tile vb x9 x10 0 896 7 (by omega) (by omega) (by omega)⟩,
    ⟨Rect.unit ![512, 768] S128x128.size (inS 512 768 (by omega) (by omega)), tile vb x9 x10 0 768 6 (by omega) (by omega) (by omega)⟩,
    ⟨Rect.unit ![512, 640] S128x128.size (inS 512 640 (by omega) (by omega)), tile vb x9 x10 0 640 5 (by omega) (by omega) (by omega)⟩,
    ⟨Rect.unit ![512, 512] S128x128.size (inS 512 512 (by omega) (by omega)), tile vb x9 x10 0 512 4 (by omega) (by omega) (by omega)⟩,
    ⟨Rect.unit ![512, 384] S128x128.size (inS 512 384 (by omega) (by omega)), tile vb x9 x10 0 384 3 (by omega) (by omega) (by omega)⟩,
    ⟨Rect.unit ![512, 256] S128x128.size (inS 512 256 (by omega) (by omega)), tile vb x9 x10 0 256 2 (by omega) (by omega) (by omega)⟩,
    ⟨Rect.unit ![512, 128] S128x128.size (inS 512 128 (by omega) (by omega)), tile vb x9 x10 0 128 1 (by omega) (by omega) (by omega)⟩,
    ⟨Rect.unit ![512, 0] S128x128.size (inS 512 0 (by omega) (by omega)), tile vb x9 x10 0 0 0 (by omega) (by omega) (by omega)⟩
  ]

theorem inH0 : ∀ a : Fin 2, (![0, 0] : Fin 2 → Nat) a + S512x1024.size a ≤ S1024x1024.size a := by decide
theorem inH1 : ∀ a : Fin 2, (![512, 0] : Fin 2 → Nat) a + S512x1024.size a ≤ S1024x1024.size a := by decide

/-- The rows of a block's first half. -/
def half0 (x : Vec F S1024x1024 .f32) : Vec F S512x1024 .f32 := View.ld x (Rect.unit ![0, 0] S512x1024.size inH0)
/-- The rows of a block's second half. -/
def half1 (x : Vec F S1024x1024 .f32) : Vec F S512x1024 .f32 := View.ld x (Rect.unit ![512, 0] S512x1024.size inH1)

section
variable (x0 : Vec F S1024x1024 .f32) (x1 : Vec F S1x1024 .f32) (x2 x3 x4 : Vec F S1x1x1024 .f32) (x5 : Vec F S1024x2048 .bf16)
  (x6 : Vec F S1x2048 .f32) (x7 x8 : Vec F S1x1024 .f32) (x9 : Vec F S8x128x128 .bf16) (x10 : Vec F S128x1024 .f32)
  (x11 : Vec F S1024x1024 .bf16)

/-- The mixed value's tiles after the first half. -/
def mixA : List (View.Piece (Elt F) S1024x1024 .f32) := tilesA (vA (half0 x0) x1 x2 x3 x5 x6 x7 x8) x9 x10
/-- The mixed value's tiles after the second half. -/
def mixB : List (View.Piece (Elt F) S1024x1024 .f32) :=
  tilesB (vB (half1 x0) x1 x2 x3 x5 x6 x7 x8) x9 x10 ++ mixA x0 x1 x2 x3 x5 x6 x7 x8 x9 x10

/-- The first half of the block the body leaves. -/
def outA : Vec F S512x1024 .f32 :=
  k0_pay51 (half0 x0) (uA (half0 x0) x1 x2 x3 x5 x6) (half0 (View.canon (mixA x0 x1 x2 x3 x5 x6 x7 x8 x9 x10))) x4 x11
/-- The second half of the block the body leaves. -/
def outB : Vec F S512x1024 .f32 :=
  k0_pay1 (half1 x0) (k0_pay98 (uB (half1 x0) x1 x2 x3 x5 x6) (half1 (View.canon (mixB x0 x1 x2 x3 x5 x6 x7 x8 x9 x10))) x4 x11)

/-- The block the body leaves. -/
def blockV : Vec F S1024x1024 .f32 :=
  View.canon ([⟨Rect.unit ![512, 0] S512x1024.size inH1, outB x0 x1 x2 x3 x4 x5 x6 x7 x8 x9 x10 x11⟩,
    ⟨Rect.unit ![0, 0] S512x1024.size inH0, outA x0 x1 x2 x3 x4 x5 x6 x7 x8 x9 x10 x11⟩] : List (View.Piece (Elt F) S1024x1024 .f32))

end

variable (c : Dev nD) (i : grid0.Coords)
    (a1 : Memref sig .tc .vmem S1024x1024 .f32) (h1 : a1.IsWhole)
    (a2 : Memref sig .tc .vmem S1x1024 .f32) (h2 : a2.IsWhole)
    (a3 : Memref sig .tc .vmem S1x1x1024 .f32) (h3 : a3.IsWhole)
    (a4 : Memref sig .tc .vmem S1x1x1024 .f32) (h4 : a4.IsWhole)
    (a5 : Memref sig .tc .vmem S1x1x1024 .f32) (h5 : a5.IsWhole)
    (a6 : Memref sig .tc .vmem S1024x2048 .bf16) (h6 : a6.IsWhole)
    (a7 : Memref sig .tc .vmem S1x2048 .f32) (h7 : a7.IsWhole)
    (a8 : Memref sig .tc .vmem S1x1024 .f32) (h8 : a8.IsWhole)
    (a9 : Memref sig .tc .vmem S1x1024 .f32) (h9 : a9.IsWhole)
    (a10 : Memref sig .tc .vmem S8x128x128 .bf16) (h10 : a10.IsWhole)
    (a11 : Memref sig .tc .vmem S128x1024 .f32) (h11 : a11.IsWhole)
    (a12 : Memref sig .tc .vmem S1024x1024 .bf16) (h12 : a12.IsWhole)
    (a13 : Memref sig .tc .vmem S1024x1024 .f32) (h13 : a13.IsWhole)
    (a14 : Memref sig .tc .vmem S1024x1024 .f32) (h14 : a14.IsWhole)
    (x0 : Vec F S1024x1024 .f32)
    (x1 : Vec F S1x1024 .f32)
    (x2 : Vec F S1x1x1024 .f32)
    (x3 : Vec F S1x1x1024 .f32)
    (x4 : Vec F S1x1x1024 .f32)
    (x5 : Vec F S1024x2048 .bf16)
    (x6 : Vec F S1x2048 .f32)
    (x7 : Vec F S1x1024 .f32)
    (x8 : Vec F S1x1024 .f32)
    (x9 : Vec F S8x128x128 .bf16)
    (x10 : Vec F S128x1024 .f32)
    (x11 : Vec F S1024x1024 .bf16)

theorem mixA_eq : kernelRun0_A.sl.HS0_32 c a1 h1 a2 h2 a3 h3 a4 h4 a6 h6 a7 h7 a8 h8 a9 h9 a10 h10 a11 h11 x0 x1 x2 x3 x5 x6 x7 x8 x9 x10
    = mixA x0 x1 x2 x3 x5 x6 x7 x8 x9 x10 := by
  unfold kernelRun0_A.sl.HS0_32
  simp (disch := decide) only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.cst_39, View.readAt_eq_ld, Memref.IsWhole.read_unread, View.ld_unit_lit']
  rfl

theorem mixB_eq : kernelRun0_A.sl.HS0_64 c a1 h1 a2 h2 a3 h3 a4 h4 a6 h6 a7 h7 a8 h8 a9 h9 a10 h10 a11 h11 x0 x1 x2 x3 x5 x6 x7 x8 x9 x10
    = mixB x0 x1 x2 x3 x5 x6 x7 x8 x9 x10 := by
  unfold kernelRun0_A.sl.HS0_64
  rw [mixA_eq]
  simp (disch := decide) only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.cst_39, View.readAt_eq_ld, Memref.IsWhole.read_unread, View.ld_unit_lit']
  rfl

theorem v351_eq : kernelRun0_A.sl.v351 c a1 h1 a2 h2 a3 h3 a4 h4 a6 h6 a7 h7 a8 h8 a9 h9 a10 h10 a11 h11 a14 x0 x1 x2 x3 x5 x6 x7 x8 x9 x10
    = half0 (View.canon (mixA x0 x1 x2 x3 x5 x6 x7 x8 x9 x10)) := by
  unfold kernelRun0_A.sl.v351
  rw [View.readCov_eq_canon', mixA_eq]
  rfl

theorem v713_eq : kernelRun0_A.sl.v713 c a1 h1 a2 h2 a3 h3 a4 h4 a6 h6 a7 h7 a8 h8 a9 h9 a10 h10 a11 h11 a14 x0 x1 x2 x3 x5 x6 x7 x8 x9 x10
    = half1 (View.canon (mixB x0 x1 x2 x3 x5 x6 x7 x8 x9 x10)) := by
  unfold kernelRun0_A.sl.v713
  rw [View.readCov_eq_canon', mixB_eq]
  rfl

theorem out_eq : out0_A_12 c i a1 h1 a2 h2 a3 h3 a4 h4 a5 h5 a6 h6 a7 h7 a8 h8 a9 h9 a10 h10 a11 h11 a12 h12 a13 h13 a14 h14 x0 x1 x2 x3 x4 x5 x6 x7 x8 x9 x10 x11
    = blockV x0 x1 x2 x3 x4 x5 x6 x7 x8 x9 x10 x11 := by
  unfold out0_A_12
  rw [View.read_writes_junk_eq_canon]
  unfold kernelRun0_A
  dsimp only
  simp (disch := decide) only [kernelRun0_A.sl.r_37, v351_eq, v713_eq, kernelRun0_A.sl.r, kernelRun0_A.sl.r_1, kernelRun0_A.sl.r_2, kernelRun0_A.sl.r_3, kernelRun0_A.sl.r_16, kernelRun0_A.sl.r_17, kernelRun0_A.sl.r_18, kernelRun0_A.sl.r_19, kernelRun0_A.sl.r_20, kernelRun0_A.sl.r_21, View.readAt_eq_ld, Memref.IsWhole.read_unread, View.ld_unit_lit']
  rfl

end Cert.Proof.SguOut
end
-- ==== Proof.SguIdeal.Value.lean ====
/- The kernel's named payloads at an index, over the reals. -/
module

public import proofs.«01_k».proof.Proof.SguIdeal.Read
public import proofs.«01_k».proof.Proof.SguIdeal.Math
public import Idealize.ShloMosaic.Lib.Pointwise

@[expose] public section

set_option maxRecDepth 16384

noncomputable section

namespace Cert.Proof.SguOut

open Cert.SguIdeal Cert.SguIdeal.Gen Cert.Proof.FfnMath Cert.Proof.SguMath
open Idealize.ShloMosaic

section
variable (X : Vec Ideal S512x1024 .f32) (x1 : Vec Ideal S1x1024 .f32) (x2 x3 : Vec Ideal S1x1x1024 .f32) (x5 : Vec Ideal S1024x2048 .bf16)
  (x6 : Vec Ideal S1x2048 .f32) (x7 x8 : Vec Ideal S1x1024 .f32)

/-- The activation of row `r` of a half at a column. -/
def acr (r : Fin 512) (n : Fin 2048) : EReal :=
  gl (up (nrm (fun e => X (ix2 r e)) (fun e => x1 (ix2 0 e)) (fun e => x2 (ix3 0 0 e)) fun e => x3 (ix3 0 0 e)) (fun d => x5 (ix2 d n)) + x6 (ix2 0 n))

theorem pay5_apply (r : Fin 512) (n : Fin 2048) :
    k0_pay5 (F := Ideal) (k0_pay3 X x1 x2 x3 x5 x6) (k0_pay4 X x1 x2 x3 x5 x6) (ix2 r n) = acr X x1 x2 x3 x5 x6 r n := by
  pointwise [k0_pay5, k0_pay3, k0_pay4, k0_pay2]
  rfl

theorem pay55_apply (r : Fin 512) (n : Fin 2048) :
    k0_pay55 (F := Ideal) X x1 (k0_pay52 x2) (k0_pay53 x3) (k0_pay54 X) x5 x6 (ix2 r n) = acr X x1 x2 x3 x5 x6 r n := by
  pointwise [k0_pay55, k0_pay52, k0_pay53, k0_pay54]
  rfl

theorem uA_apply (r : Fin 512) (d : Fin 1024) : uA (F := Ideal) X x1 x2 x3 x5 x6 (ix2 r d) = acr X x1 x2 x3 x5 x6 r (lo d) := by
  rw [← pay5_apply]
  unfold uA k0_pay6
  generalize k0_pay5 (F := Ideal) (k0_pay3 X x1 x2 x3 x5 x6) (k0_pay4 X x1 x2 x3 x5 x6) = y
  pointwise
  exact congrArg y (congrArg (ix2 r) (Fin.ext (by show _ = d.val; simp)))

theorem uB_apply (r : Fin 512) (d : Fin 1024) : uB (F := Ideal) X x1 x2 x3 x5 x6 (ix2 r d) = acr X x1 x2 x3 x5 x6 r (lo d) := by
  rw [← pay55_apply]
  unfold uB k0_pay56
  generalize k0_pay55 (F := Ideal) X x1 (k0_pay52 x2) (k0_pay53 x3) (k0_pay54 X) x5 x6 = y
  pointwise
  exact congrArg y (congrArg (ix2 r) (Fin.ext (by show _ = d.val; simp)))

theorem vA_apply (r : Fin 512) (d : Fin 1024) :
    vA (F := Ideal) X x1 x2 x3 x5 x6 x7 x8 (ix2 r d)
      = lnr (fun e => acr X x1 x2 x3 x5 x6 r (hi e)) (fun e => x7 (ix2 0 e)) (fun e => x8 (ix2 0 e)) d := by
  simp only [← pay5_apply]
  unfold vA k0_pay7
  generalize k0_pay5 (F := Ideal) (k0_pay3 X x1 x2 x3 x5 x6) (k0_pay4 X x1 x2 x3 x5 x6) = y
  pointwise
  rfl

theorem vB_apply (r : Fin 512) (d : Fin 1024) :
    vB (F := Ideal) X x1 x2 x3 x5 x6 x7 x8 (ix2 r d)
      = lnr (fun e => acr X x1 x2 x3 x5 x6 r (hi e)) (fun e => x7 (ix2 0 e)) (fun e => x8 (ix2 0 e)) d := by
  simp only [← pay55_apply]
  unfold vB k0_pay59 k0_pay57 k0_pay58
  generalize k0_pay55 (F := Ideal) X x1 (k0_pay52 x2) (k0_pay53 x3) (k0_pay54 X) x5 x6 = y
  pointwise
  rfl

end

theorem tile0_apply (w : Vec Ideal S1x128x128 .bf16) (v : FVec Ideal S128x128 .bf16) (b : Vec Ideal S128x128 .f32) (t u : Fin 128) :
    tile0 (F := Ideal) w v b (ix2 t u) = (∑ q : Fin 128, w (ix3 0 t q) * v (ix2 q u)) + b (ix2 t u) := by
  pointwise [tile0]

theorem pay51_apply (x : Vec Ideal S512x1024 .f32) (u : FVec Ideal S512x1024 .f32) (s : Vec Ideal S512x1024 .f32) (g1 : Vec Ideal S1x1x1024 .f32)
    (w : Vec Ideal S1024x1024 .bf16) (r : Fin 512) (d : Fin 1024) :
    k0_pay51 (F := Ideal) x u s g1 w (ix2 r d)
      = x (ix2 r d) + g1 (ix3 0 0 d) * ∑ k : Fin 1024, u (ix2 r k) * s (ix2 r k) * w (ix2 k d) := by
  pointwise [k0_pay51]

theorem pay98_apply (x : Vec Ideal S512x1024 .f32) (u : FVec Ideal S512x1024 .f32) (s : Vec Ideal S512x1024 .f32) (g1 : Vec Ideal S1x1x1024 .f32)
    (w : Vec Ideal S1024x1024 .bf16) (r : Fin 512) (d : Fin 1024) :
    k0_pay1 (F := Ideal) x (k0_pay98 u s g1 w) (ix2 r d)
      = x (ix2 r d) + g1 (ix3 0 0 d) * ∑ k : Fin 1024, u (ix2 r k) * s (ix2 r k) * w (ix2 k d) := by
  pointwise [k0_pay1, k0_pay98]

end Cert.Proof.SguOut
end
-- ==== Proof.SguIdeal.Block.lean ====
/- The block the body leaves, at an index: the mixed value's tiles at a row and a column, the two halves' closing products. -/
module

public import proofs.«01_k».proof.Proof.SguIdeal.Value

@[expose] public section

set_option maxRecDepth 16384

noncomputable section

namespace Cert.Proof.SguOut

open Cert.SguIdeal Cert.SguIdeal.Gen Cert.Proof.FfnMath Cert.Proof.SguMath
open Idealize.ShloMosaic

section
variable (vb : FVec Ideal S512x1024 .bf16) (x9 : Vec Ideal S8x128x128 .bf16) (x10 : Vec Ideal S128x1024 .f32)

/-- The mixed value at row `r` of a half and a column. -/
def mixv (r : Fin 512) (n : Fin 1024) : EReal :=
  (∑ q : Fin 128, x9 (ix3 (grp n) ⟨r.val % 128, by omega⟩ q) * vb (ix2 ⟨r.val / 128 * 128 + q.val, by omega⟩ n))
    + x10 (ix2 ⟨r.val % 128, by omega⟩ n)

theorem ldW (g : Nat) (h : g + 1 ≤ 8) (G : Fin 8) (e : G.val = g) (t q : Fin 128) :
    View.ld x9 (Rect.unit ![g, 0, 0] S1x128x128.size (inW g h)) (ix3 0 t q) = x9 (ix3 G t q) :=
  View.ld_unit_apply_of x9 _ _ _ _ _ fun a => match a with
    | ⟨0, _⟩ => e
    | ⟨1, _⟩ => (Nat.zero_add t.val).symm
    | ⟨2, _⟩ => (Nat.zero_add q.val).symm

theorem ldB (p : Nat) (h : p + 128 ≤ 1024) (t u : Fin 128) (n : Fin 1024) (e : n.val = p + u.val) :
    View.ld x10 (Rect.unit ![0, p] S128x128.size (inB p h)) (ix2 t u) = x10 (ix2 t n) :=
  View.ld_unit_apply_of x10 _ _ _ _ _ fun a => match a with
    | ⟨0, _⟩ => (Nat.zero_add t.val).symm
    | ⟨1, _⟩ => e

theorem cutV (o p : Nat) (h : o + 128 ≤ 512) (h' : p + 128 ≤ 1024) (q u : Fin 128) (r : Fin 512) (n : Fin 1024) (e : r.val = o + q.val)
    (e' : n.val = p + u.val) : extractStridedSlice S128x128 ![o, p] vb (inV o p h h') (ix2 q u) = vb (ix2 r n) := by
  refine congrArg vb (funext fun a => Fin.ext ?_)
  match a with
  | ⟨0, _⟩ => exact e.symm
  | ⟨1, _⟩ => exact e'.symm

theorem tile_at (O o p g b : Nat) (ho : o + 128 ≤ 512) (hp : p + 128 ≤ 1024) (hg : g + 1 ≤ 8) (hpg : p = 128 * g) (h8 : o % 128 = 0)
    (hO : O = b + o) (r : Fin 1024) (r' : Fin 512) (hr : r.val = b + r'.val) (n : Fin 1024) :
    View.TileAt (Val := Elt Ideal) (S := S1024x1024) (e := .f32) (ix2 r n) ![O, p] S128x128.size
      (tile (F := Ideal) vb x9 x10 o p g ho hp hg) (mixv vb x9 x10 r' n) := by
  intro x hx
  obtain ⟨a, u, rfl⟩ : ∃ (a u : Fin 128), x = ix2 a u := ⟨_, _, eq_ix2 x⟩
  have h0 : r.val = O + a.val := hx 0
  have h1 : n.val = p + u.val := hx 1
  have ea : r'.val % 128 = a.val := by omega
  have eo : r'.val / 128 * 128 = o := by omega
  have eg : n.val / 128 = g := by omega
  have ea' : (⟨r'.val % 128, by omega⟩ : Fin 128) = a := Fin.ext ea
  have kv := fun q : Fin 128 => cutV vb o p ho hp q u ⟨r'.val / 128 * 128 + q.val, by omega⟩ n (by show _ + _ = _; omega) h1
  unfold tile mixv
  rw [tile0_apply, ldB x10 p hp _ u n h1]
  simp only [ldW x9 g hg (grp n) eg, kv, ea']

/-- A first-half tile holds no row of the second half. -/
theorem tile_off (O p : Nat) (hO : O + 128 ≤ 512) (r : Fin 1024) (hr : 512 ≤ r.val) (n : Fin 1024) (w : (⟨2, S128x128.size⟩ : Shape).Idx → Elt Ideal .f32)
    (v : Elt Ideal .f32) : View.TileAt (Val := Elt Ideal) (S := S1024x1024) (e := .f32) (ix2 r n) ![O, p] S128x128.size w v := by
  intro x hx
  have h0 : r.val = O + (x 0).val := hx 0
  have : (x 0).val < 128 := (x 0).isLt
  omega

theorem tiles_cover (va : FVec Ideal S512x1024 .bf16) (y : S1024x1024.Idx) :
    ∃ p ∈ tilesB (F := Ideal) vb x9 x10 ++ tilesA (F := Ideal) va x9 x10, y ∈ p.1.set :=
  View.cover_of_tiled (tilesB (F := Ideal) vb x9 x10 ++ tilesA (F := Ideal) va x9 x10) S128x128.size (by rfl) y

theorem tilesB_low : ∀ p ∈ tilesB (F := Ideal) vb x9 x10, 512 ≤ p.1.off 0 := by
  unfold tilesB
  iterate 32 refine List.forall_mem_cons.mpr ⟨?_, ?_⟩; · exact Nat.le_of_ble_eq_true rfl
  exact fun _ h => absurd h List.not_mem_nil

theorem off_le {S : Shape} (p : Rect S) (y : S.Idx) (h : y ∈ p.set) (a : Fin S.rank) : p.off a ≤ (y a : Nat) := by
  obtain ⟨x, rfl⟩ := p.exists_idx_of_mem h
  rw [show p.idx x = p.emb x from rfl, Rect.emb_apply]
  exact Nat.le_add_right _ _

theorem mixA_at (r : Fin 1024) (r' : Fin 512) (hr : r.val = 0 + r'.val) (n : Fin 1024) :
    View.canon (tilesA (F := Ideal) vb x9 x10) (ix2 r n) = mixv vb x9 x10 r' n := by
  refine View.canon_eq_of_allAt _ _ _ ?_ ?_
  · obtain ⟨p, hp, hy⟩ := tiles_cover vb x9 x10 vb (ix2 r n)
    rcases List.mem_append.mp hp with h | h
    · have h1 := tilesB_low vb x9 x10 p h
      have h2 : p.1.off 0 ≤ r.val := off_le p.1 _ hy 0
      omega
    · exact ⟨p, h, hy⟩
  unfold tilesA
  iterate 32 refine View.allAt_cons_unit _ _ _ _ _ (tile_at vb x9 x10 _ _ _ _ 0 _ _ _ (by rfl) (by rfl) (by rfl) r r' hr n) ?_
  exact View.allAt_nil _ _

theorem mixB_at (va : FVec Ideal S512x1024 .bf16) (r : Fin 1024) (r' : Fin 512) (hr : r.val = 512 + r'.val) (n : Fin 1024) :
    View.canon (tilesB (F := Ideal) vb x9 x10 ++ tilesA (F := Ideal) va x9 x10) (ix2 r n) = mixv vb x9 x10 r' n := by
  refine View.canon_eq_of_allAt _ _ _ (tiles_cover vb x9 x10 va _) ?_
  unfold tilesB
  simp only [List.cons_append, List.nil_append]
  iterate 32 refine View.allAt_cons_unit _ _ _ _ _ (tile_at vb x9 x10 _ _ _ _ 512 _ _ _ (by rfl) (by rfl) (by rfl) r r' hr n) ?_
  unfold tilesA
  iterate 32 refine View.allAt_cons_unit _ _ _ _ _ (tile_off _ _ (by omega) r (by omega) n _ _) ?_
  exact View.allAt_nil _ _

end

theorem half0_at (x : Vec Ideal S1024x1024 .f32) (r : Fin 1024) (r' : Fin 512) (hr : r.val = 0 + r'.val) (n : Fin 1024) :
    half0 (F := Ideal) x (ix2 r' n) = x (ix2 r n) :=
  View.ld_unit_apply_of x _ _ _ _ _ fun a => match a with
    | ⟨0, _⟩ => hr
    | ⟨1, _⟩ => (Nat.zero_add n.val).symm

theorem half1_at (x : Vec Ideal S1024x1024 .f32) (r : Fin 1024) (r' : Fin 512) (hr : r.val = 512 + r'.val) (n : Fin 1024) :
    half1 (F := Ideal) x (ix2 r' n) = x (ix2 r n) :=
  View.ld_unit_apply_of x _ _ _ _ _ fun a => match a with
    | ⟨0, _⟩ => hr
    | ⟨1, _⟩ => (Nat.zero_add n.val).symm

section
variable (x0 : Vec Ideal S1024x1024 .f32) (x1 : Vec Ideal S1x1024 .f32) (x2 x3 x4 : Vec Ideal S1x1x1024 .f32) (x5 : Vec Ideal S1024x2048 .bf16)
  (x6 : Vec Ideal S1x2048 .f32) (x7 x8 : Vec Ideal S1x1024 .f32) (x9 : Vec Ideal S8x128x128 .bf16) (x10 : Vec Ideal S128x1024 .f32)
  (x11 : Vec Ideal S1024x1024 .bf16)

/-- What the blocks give a row. -/
def pr : Pr where
  g e := x1 (ix2 0 e)
  sh e := x2 (ix3 0 0 e)
  sc e := x3 (ix3 0 0 e)
  g1 e := x4 (ix3 0 0 e)
  w d n := x5 (ix2 d n)
  bi n := x6 (ix2 0 n)
  lg e := x7 (ix2 0 e)
  lb e := x8 (ix2 0 e)
  ws g t q := x9 (ix3 g t q)
  bs t n := x10 (ix2 t n)
  wo k d := x11 (ix2 k d)

/-- The rows of the chunk of row `r`. -/
def chk (r : Fin 1024) (q : Fin 128) (e : Fin 1024) : EReal := x0 (ix2 ⟨r.val / 128 * 128 + q.val, by omega⟩ e)

/-- A row's place in its chunk. -/
def plc (r : Fin 1024) : Fin 128 := ⟨r.val % 128, by omega⟩

theorem chk_plc (r : Fin 1024) : chk x0 r (plc r) = fun e => x0 (ix2 r e) := by
  funext e
  refine congrArg (fun s => x0 (ix2 s e)) (Fin.ext ?_)
  show r.val / 128 * 128 + r.val % 128 = r.val
  omega

theorem blockV_at (r : Fin 1024) (d : Fin 1024) :
    blockV (F := Ideal) x0 x1 x2 x3 x4 x5 x6 x7 x8 x9 x10 x11 (ix2 r d)
      = fo (pr x1 x2 x3 x4 x5 x6 x7 x8 x9 x10 x11) (chk x0 r) (plc r) d := by
  refine View.canon_eq_of_allAt _ _ _ ?_ ?_
  · by_cases h : r.val < 512
    · exact ⟨_, List.mem_cons_of_mem _ List.mem_cons_self, (Rect.mem_set_unit (inb := inH0)).mpr fun a => match a with
        | ⟨0, _⟩ => by show 0 ≤ r.val ∧ r.val < 0 + 512; omega
        | ⟨1, _⟩ => by show 0 ≤ d.val ∧ d.val < 0 + 1024; omega⟩
    · exact ⟨_, List.mem_cons_self, (Rect.mem_set_unit (inb := inH1)).mpr fun a => match a with
        | ⟨0, _⟩ => by show 512 ≤ r.val ∧ r.val < 512 + 512; omega
        | ⟨1, _⟩ => by show 0 ≤ d.val ∧ d.val < 0 + 1024; omega⟩
  refine View.allAt_cons_unit _ _ _ _ _ ?_ (View.allAt_cons_unit _ _ _ _ _ ?_ (View.allAt_nil _ _))
  · intro x hx
    obtain ⟨r', b, rfl⟩ : ∃ (r' : Fin 512) (b : Fin 1024), x = ix2 r' b := ⟨_, _, eq_ix2 x⟩
    have h0 : r.val = 512 + r'.val := hx 0
    have h1 : d.val = 0 + b.val := hx 1
    obtain rfl : b = d := Fin.ext (by omega)
    have kx := fun e => half1_at x0 r r' h0 e
    have km := fun k => (half1_at (View.canon (mixB (F := Ideal) x0 x1 x2 x3 x5 x6 x7 x8 x9 x10)) r r' h0 k).trans
      (mixB_at (vB (F := Ideal) (half1 x0) x1 x2 x3 x5 x6 x7 x8) x9 x10 (vA (F := Ideal) (half0 x0) x1 x2 x3 x5 x6 x7 x8) r r' h0 k)
    have kq := fun (q : Fin 128) e => half1_at x0 ⟨r.val / 128 * 128 + q.val, by omega⟩ ⟨r'.val / 128 * 128 + q.val, by omega⟩
      (by show _ / 128 * 128 + _ = 512 + (_ / 128 * 128 + _); omega) e
    have et : (⟨r'.val % 128, by omega⟩ : Fin 128) = plc r := Fin.ext (by show r'.val % 128 = r.val % 128; omega)
    unfold outB
    rw [pay98_apply]
    simp only [km, uB_apply]
    unfold mixv
    simp only [vB_apply]
    unfold acr
    simp only [kx, kq, et]
    unfold fo
    rw [chk_plc]
    rfl
  · intro x hx
    obtain ⟨r', b, rfl⟩ : ∃ (r' : Fin 512) (b : Fin 1024), x = ix2 r' b := ⟨_, _, eq_ix2 x⟩
    have h0 : r.val = 0 + r'.val := hx 0
    have h1 : d.val = 0 + b.val := hx 1
    obtain rfl : b = d := Fin.ext (by omega)
    have kx := fun e => half0_at x0 r r' h0 e
    have km := fun k => (half0_at (View.canon (mixA (F := Ideal) x0 x1 x2 x3 x5 x6 x7 x8 x9 x10)) r r' h0 k).trans
      (mixA_at (vA (F := Ideal) (half0 x0) x1 x2 x3 x5 x6 x7 x8) x9 x10 r r' h0 k)
    have kq := fun (q : Fin 128) e => half0_at x0 ⟨r.val / 128 * 128 + q.val, by omega⟩ ⟨r'.val / 128 * 128 + q.val, by omega⟩
      (by show _ / 128 * 128 + _ = 0 + (_ / 128 * 128 + _); omega) e
    have et : (⟨r'.val % 128, by omega⟩ : Fin 128) = plc r := Fin.ext (by show r'.val % 128 = r.val % 128; omega)
    unfold outA
    rw [pay51_apply]
    simp only [km, uA_apply]
    unfold mixv
    simp only [vA_apply]
    unfold acr
    simp only [kx, kq, et]
    unfold fo
    rw [chk_plc]
    rfl

end

end Cert.Proof.SguOut
end
-- ==== Proof.SguIdeal.Final.lean ====
/- The result array: each block of rows is written back at its place, so the array ends at the formula of the arguments. -/
module

public import proofs.«01_k».proof.Proof.SguIdeal.Block

@[expose] public section

set_option maxRecDepth 16384

noncomputable section

namespace Cert.Proof.SguOut

open Cert.SguIdeal Cert.SguIdeal.Gen Cert.Proof.FfnMath Cert.Proof.SguMath
open Idealize.ShloMosaic Idealize.ShloMosaic.TcCoe Idealize.SL.Sem

variable (m : (ℓ : Loc nD τ sig) → Buf (Elt Ideal) ℓ) (ρ : Dev nD → PrngReg)

/-- The arguments of device `c`. -/
abbrev a0 (c : Dev nD) : FVec Ideal S32768x1024 .f32 := m ((c : Thread nD τ).loc main_arg0)
abbrev a1 (c : Dev nD) : FVec Ideal S1x1024 .f32 := m ((c : Thread nD τ).loc main_arg1)
abbrev a2 (c : Dev nD) : FVec Ideal S4x1x1024 .f32 := m ((c : Thread nD τ).loc main_arg2)
abbrev a3 (c : Dev nD) : FVec Ideal S4x1x1024 .f32 := m ((c : Thread nD τ).loc main_arg3)
abbrev a4 (c : Dev nD) : FVec Ideal S4x1x1024 .f32 := m ((c : Thread nD τ).loc main_arg4)
abbrev a5 (c : Dev nD) : FVec Ideal S1024x2048 .bf16 := m ((c : Thread nD τ).loc main_arg5)
abbrev a6 (c : Dev nD) : FVec Ideal S1x2048 .f32 := m ((c : Thread nD τ).loc main_arg6)
abbrev a7 (c : Dev nD) : FVec Ideal S1x1024 .f32 := m ((c : Thread nD τ).loc main_arg7)
abbrev a8 (c : Dev nD) : FVec Ideal S1x1024 .f32 := m ((c : Thread nD τ).loc main_arg8)
abbrev a9 (c : Dev nD) : FVec Ideal S8x128x128 .bf16 := m ((c : Thread nD τ).loc main_arg9)
abbrev a10 (c : Dev nD) : FVec Ideal S128x1024 .f32 := m ((c : Thread nD τ).loc main_arg10)
abbrev a11 (c : Dev nD) : FVec Ideal S1024x1024 .bf16 := m ((c : Thread nD τ).loc main_arg11)

/-- What the arguments give a row of a sequence. -/
abbrev PA (c : Dev nD) (b : Fin 4) : Pr :=
  prA (a1 m c) (a2 m c) (a3 m c) (a4 m c) (a5 m c) (a6 m c) (a7 m c) (a8 m c) (a9 m c) (a10 m c) (a11 m c) b

/-- The result array of device `c`. -/
def G (c : Dev nD) : Buf (Elt Ideal) ((c : Thread nD τ).loc main_v0) := fun i : S32768x1024.Idx =>
  fo (PA m c (bat (i 0))) (ck (a0 m c) (bat (i 0)) (pos (i 0))) (ckp (pos (i 0))) (i 1)

/-- A point's sequence, and the place in it of a row of its block. -/
def tb (t : Fin cfg0.N) : Fin 4 := ⟨t.val / 8, Nat.div_lt_of_lt_mul t.isLt⟩
def sp (t : Fin cfg0.N) (r : Fin 1024) : Fin 8192 := ⟨t.val % 8 * 1024 + r.val, by omega⟩

theorem t_lt (t : Fin cfg0.N) : t.val < 32 := t.isLt

theorem idx0 : ∀ t : Fin 32, win0_0.index t 0 = t.val ∧ win0_0.index t 1 = 0 := by decide +kernel
theorem idx12 : ∀ t : Fin 32, win0_12.index t 0 = t.val ∧ win0_12.index t 1 = 0 := by decide +kernel
theorem idx1 : ∀ t : Fin 32, win0_1.index t 0 = 0 ∧ win0_1.index t 1 = 0 := by decide +kernel
theorem idx5 : ∀ t : Fin 32, win0_5.index t 0 = 0 ∧ win0_5.index t 1 = 0 := by decide +kernel
theorem idx6 : ∀ t : Fin 32, win0_6.index t 0 = 0 ∧ win0_6.index t 1 = 0 := by decide +kernel
theorem idx7 : ∀ t : Fin 32, win0_7.index t 0 = 0 ∧ win0_7.index t 1 = 0 := by decide +kernel
theorem idx8 : ∀ t : Fin 32, win0_8.index t 0 = 0 ∧ win0_8.index t 1 = 0 := by decide +kernel
theorem idx10 : ∀ t : Fin 32, win0_10.index t 0 = 0 ∧ win0_10.index t 1 = 0 := by decide +kernel
theorem idx11 : ∀ t : Fin 32, win0_11.index t 0 = 0 ∧ win0_11.index t 1 = 0 := by decide +kernel
theorem idx9 : ∀ t : Fin 32, win0_9.index t 0 = 0 ∧ win0_9.index t 1 = 0 ∧ win0_9.index t 2 = 0 := by decide +kernel
theorem idx2 : ∀ t : Fin 32, win0_2.index t 0 = t.val / 8 ∧ win0_2.index t 1 = 0 ∧ win0_2.index t 2 = 0 := by decide +kernel
theorem idx3 : ∀ t : Fin 32, win0_3.index t 0 = t.val / 8 ∧ win0_3.index t 1 = 0 ∧ win0_3.index t 2 = 0 := by decide +kernel
theorem idx4 : ∀ t : Fin 32, win0_4.index t 0 = t.val / 8 ∧ win0_4.index t 1 = 0 ∧ win0_4.index t 2 = 0 := by decide +kernel

theorem iblk0 (c : Dev nD) (t : Fin cfg0.N) (R : Fin 32768) (x : Fin 1024) (e : R.val = t.val * 1024 + x.val) (y : Fin 1024) :
    (iblk m c 0 t : Vec Ideal S1024x1024 .f32) (ix2 x y) = a0 m c (ix2 R y) := by
  unfold iblk
  refine congrArg (a0 m c) (funext fun a => Fin.ext ?_)
  obtain ⟨e0, e1⟩ := idx0 t
  match a with
  | ⟨0, _⟩ => show win0_0.index t 0 * 1024 + 1 * x.val = R.val; rw [e0]; omega
  | ⟨1, _⟩ => show win0_0.index t 1 * 1024 + 1 * y.val = y.val; rw [e1]; omega

theorem iblk1 (c : Dev nD) (t : Fin cfg0.N) (x : Fin 1) (y : Fin 1024) : (iblk m c 1 t : Vec Ideal S1x1024 .f32) (ix2 x y) = a1 m c (ix2 x y) := by
  unfold iblk
  refine congrArg (a1 m c) (funext fun a => Fin.ext ?_)
  obtain ⟨e0, e1⟩ := idx1 t
  match a with
  | ⟨0, _⟩ => show win0_1.index t 0 * 1 + 1 * x.val = x.val; rw [e0]; omega
  | ⟨1, _⟩ => show win0_1.index t 1 * 1024 + 1 * y.val = y.val; rw [e1]; omega

theorem iblk5 (c : Dev nD) (t : Fin cfg0.N) (x : Fin 1024) (y : Fin 2048) : (iblk m c 5 t : Vec Ideal S1024x2048 .bf16) (ix2 x y) = a5 m c (ix2 x y) := by
  unfold iblk
  refine congrArg (a5 m c) (funext fun a => Fin.ext ?_)
  obtain ⟨e0, e1⟩ := idx5 t
  match a with
  | ⟨0, _⟩ => show win0_5.index t 0 * 1024 + 1 * x.val = x.val; rw [e0]; omega
  | ⟨1, _⟩ => show win0_5.index t 1 * 2048 + 1 * y.val = y.val; rw [e1]; omega

theorem iblk6 (c : Dev nD) (t : Fin cfg0.N) (x : Fin 1) (y : Fin 2048) : (iblk m c 6 t : Vec Ideal S1x2048 .f32) (ix2 x y) = a6 m c (ix2 x y) := by
  unfold iblk
  refine congrArg (a6 m c) (funext fun a => Fin.ext ?_)
  obtain ⟨e0, e1⟩ := idx6 t
  match a with
  | ⟨0, _⟩ => show win0_6.index t 0 * 1 + 1 * x.val = x.val; rw [e0]; omega
  | ⟨1, _⟩ => show win0_6.index t 1 * 2048 + 1 * y.val = y.val; rw [e1]; omega

theorem iblk7 (c : Dev nD) (t : Fin cfg0.N) (x : Fin 1) (y : Fin 1024) : (iblk m c 7 t : Vec Ideal S1x1024 .f32) (ix2 x y) = a7 m c (ix2 x y) := by
  unfold iblk
  refine congrArg (a7 m c) (funext fun a => Fin.ext ?_)
  obtain ⟨e0, e1⟩ := idx7 t
  match a with
  | ⟨0, _⟩ => show win0_7.index t 0 * 1 + 1 * x.val = x.val; rw [e0]; omega
  | ⟨1, _⟩ => show win0_7.index t 1 * 1024 + 1 * y.val = y.val; rw [e1]; omega

theorem iblk8 (c : Dev nD) (t : Fin cfg0.N) (x : Fin 1) (y : Fin 1024) : (iblk m c 8 t : Vec Ideal S1x1024 .f32) (ix2 x y) = a8 m c (ix2 x y) := by
  unfold iblk
  refine congrArg (a8 m c) (funext fun a => Fin.ext ?_)
  obtain ⟨e0, e1⟩ := idx8 t
  match a with
  | ⟨0, _⟩ => show win0_8.index t 0 * 1 + 1 * x.val = x.val; rw [e0]; omega
  | ⟨1, _⟩ => show win0_8.index t 1 * 1024 + 1 * y.val = y.val; rw [e1]; omega

theorem iblk10 (c : Dev nD) (t : Fin cfg0.N) (x : Fin 128) (y : Fin 1024) : (iblk m c 10 t : Vec Ideal S128x1024 .f32) (ix2 x y) = a10 m c (ix2 x y) := by
  unfold iblk
  refine congrArg (a10 m c) (funext fun a => Fin.ext ?_)
  obtain ⟨e0, e1⟩ := idx10 t
  match a with
  | ⟨0, _⟩ => show win0_10.index t 0 * 128 + 1 * x.val = x.val; rw [e0]; omega
  | ⟨1, _⟩ => show win0_10.index t 1 * 1024 + 1 * y.val = y.val; rw [e1]; omega

theorem iblk11 (c : Dev nD) (t : Fin cfg0.N) (x : Fin 1024) (y : Fin 1024) : (iblk m c 11 t : Vec Ideal S1024x1024 .bf16) (ix2 x y) = a11 m c (ix2 x y) := by
  unfold iblk
  refine congrArg (a11 m c) (funext fun a => Fin.ext ?_)
  obtain ⟨e0, e1⟩ := idx11 t
  match a with
  | ⟨0, _⟩ => show win0_11.index t 0 * 1024 + 1 * x.val = x.val; rw [e0]; omega
  | ⟨1, _⟩ => show win0_11.index t 1 * 1024 + 1 * y.val = y.val; rw [e1]; omega

theorem iblk9 (c : Dev nD) (t : Fin cfg0.N) (x : Fin 8) (y z : Fin 128) : (iblk m c 9 t : Vec Ideal S8x128x128 .bf16) (ix3 x y z) = a9 m c (ix3 x y z) := by
  unfold iblk
  refine congrArg (a9 m c) (funext fun a => Fin.ext ?_)
  obtain ⟨e0, e1, e2⟩ := idx9 t
  match a with
  | ⟨0, _⟩ => show win0_9.index t 0 * 8 + 1 * x.val = x.val; rw [e0]; omega
  | ⟨1, _⟩ => show win0_9.index t 1 * 128 + 1 * y.val = y.val; rw [e1]; omega
  | ⟨2, _⟩ => show win0_9.index t 2 * 128 + 1 * z.val = z.val; rw [e2]; omega

theorem iblk2 (c : Dev nD) (t : Fin cfg0.N) (y : Fin 1024) : (iblk m c 2 t : Vec Ideal S1x1x1024 .f32) (ix3 0 0 y) = a2 m c (ix3 (tb t) 0 y) := by
  unfold iblk
  refine congrArg (a2 m c) (funext fun a => Fin.ext ?_)
  obtain ⟨e0, e1, e2⟩ := idx2 t
  match a with
  | ⟨0, _⟩ => show win0_2.index t 0 * 1 + 1 * 0 = t.val / 8; rw [e0]; omega
  | ⟨1, _⟩ => show win0_2.index t 1 * 1 + 1 * 0 = 0; rw [e1]
  | ⟨2, _⟩ => show win0_2.index t 2 * 1024 + 1 * y.val = y.val; rw [e2]; omega

theorem iblk3 (c : Dev nD) (t : Fin cfg0.N) (y : Fin 1024) : (iblk m c 3 t : Vec Ideal S1x1x1024 .f32) (ix3 0 0 y) = a3 m c (ix3 (tb t) 0 y) := by
  unfold iblk
  refine congrArg (a3 m c) (funext fun a => Fin.ext ?_)
  obtain ⟨e0, e1, e2⟩ := idx3 t
  match a with
  | ⟨0, _⟩ => show win0_3.index t 0 * 1 + 1 * 0 = t.val / 8; rw [e0]; omega
  | ⟨1, _⟩ => show win0_3.index t 1 * 1 + 1 * 0 = 0; rw [e1]
  | ⟨2, _⟩ => show win0_3.index t 2 * 1024 + 1 * y.val = y.val; rw [e2]; omega

theorem iblk4 (c : Dev nD) (t : Fin cfg0.N) (y : Fin 1024) : (iblk m c 4 t : Vec Ideal S1x1x1024 .f32) (ix3 0 0 y) = a4 m c (ix3 (tb t) 0 y) := by
  unfold iblk
  refine congrArg (a4 m c) (funext fun a => Fin.ext ?_)
  obtain ⟨e0, e1, e2⟩ := idx4 t
  match a with
  | ⟨0, _⟩ => show win0_4.index t 0 * 1 + 1 * 0 = t.val / 8; rw [e0]; omega
  | ⟨1, _⟩ => show win0_4.index t 1 * 1 + 1 * 0 = 0; rw [e1]
  | ⟨2, _⟩ => show win0_4.index t 2 * 1024 + 1 * y.val = y.val; rw [e2]; omega

theorem row_val (t : Fin cfg0.N) (r : Fin 1024) : (row (tb t) (sp t r)).val = t.val * 1024 + r.val := by
  show t.val / 8 * 8192 + (t.val % 8 * 1024 + r.val) = _
  omega

/-- A point's blocks give a row what the arguments give its sequence's rows. -/
theorem pr_eq (c : Dev nD) (t : Fin cfg0.N) :
    pr (iblk m c 1 t) (iblk m c 2 t) (iblk m c 3 t) (iblk m c 4 t) (iblk m c 5 t) (iblk m c 6 t) (iblk m c 7 t) (iblk m c 8 t) (iblk m c 9 t) (iblk m c 10 t) (iblk m c 11 t)
      = PA m c (tb t) := by
  unfold pr PA prA
  simp only [iblk1, iblk2, iblk3, iblk4, iblk5, iblk6, iblk7, iblk8, iblk9, iblk10, iblk11]

theorem chk_eq (c : Dev nD) (t : Fin cfg0.N) (r : Fin 1024) : chk (iblk m c 0 t) r = ck (a0 m c) (tb t) (sp t r) := by
  funext q e
  refine iblk0 m c t _ _ ?_ e
  show t.val / 8 * 8192 + ((t.val % 8 * 1024 + r.val) / 128 * 128 + q.val) = t.val * 1024 + (r.val / 128 * 128 + q.val)
  omega

theorem plc_eq (t : Fin cfg0.N) (r : Fin 1024) : plc r = ckp (sp t r) := Fin.ext (by
  show r.val % 128 = (t.val % 8 * 1024 + r.val) % 128
  omega)

/-- The block of a point at an index. -/
theorem block_eq (c : Dev nD) (t : Fin cfg0.N) (r d : Fin 1024) :
    blockV (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
      = fo (PA m c (tb t)) (ck (a0 m c) (tb t) (sp t r)) (ckp (sp t r)) d := by
  refine (blockV_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r d).trans ?_
  rw [pr_eq, chk_eq, plc_eq t]

/-- What a point writes back is its block of the result. -/
theorem flushed_eq (c : Dev nD) (t : Fin cfg0.N) : (dats m 0 c).flushed 12 t = (win0_12.blk t).view.read (Elt Ideal) (G m c) := by
  have ht := t_lt t
  rw [Value.flushed12_A, out_eq]
  funext (y : S1024x1024.Idx)
  obtain ⟨r, d, rfl⟩ : ∃ (r d : Fin 1024), y = ix2 r d := ⟨_, _, eq_ix2 y⟩
  obtain ⟨e0, e1⟩ := idx12 t
  refine (block_eq m c t r d).trans ?_
  have hv : ((win0_12.blk t).view.emb (ix2 r d) : S32768x1024.Idx) = ix2 (row (tb t) (sp t r)) d := by
    funext a
    apply Fin.ext
    match a with
    | ⟨0, _⟩ => show win0_12.index t 0 * 1024 + 1 * r.val = (row (tb t) (sp t r)).val; rw [e0, row_val]; omega
    | ⟨1, _⟩ => show win0_12.index t 1 * 1024 + 1 * d.val = d.val; rw [e1]; omega
  show _ = G m c ((win0_12.blk t).view.emb (ix2 r d))
  rw [hv]
  refine congrArg₂ (fun b s => fo (PA m c b) (ck (a0 m c) b s) (ckp s) d) (Fin.ext ?_) (Fin.ext ?_)
  · show t.val / 8 = (row (tb t) (sp t r)).val / 8192; rw [row_val]; omega
  · show t.val % 8 * 1024 + r.val = (row (tb t) (sp t r)).val % 8192; rw [row_val]; omega

theorem mem_blk (t : Fin cfg0.N) (i : S32768x1024.Idx) : i ∈ ((cfg0.win 12).blk t).view.set ↔ t.val = (i 0 : Nat) / 1024 := by
  show i ∈ ((View.whole main_v0).slice (win0_12.rect t)).set ↔ _
  rw [View.set_slice_whole, Rect.mem_set_unit]
  obtain ⟨e0, e1⟩ := idx12 t
  have h1 : (i 1 : Nat) < 1024 := (i 1).isLt
  refine ⟨fun h => ?_, fun h a => ?_⟩
  · have p0 : win0_12.index t 0 * 1024 ≤ (i 0 : Nat) ∧ (i 0 : Nat) < win0_12.index t 0 * 1024 + 1024 := h 0
    rw [e0] at p0
    omega
  · match a with
    | ⟨0, _⟩ => show win0_12.index t 0 * 1024 ≤ (i 0 : Nat) ∧ (i 0 : Nat) < win0_12.index t 0 * 1024 + 1024; rw [e0]; omega
    | ⟨1, _⟩ => show win0_12.index t 1 * 1024 ≤ (i 1 : Nat) ∧ (i 1 : Nat) < win0_12.index t 1 * 1024 + 1024; rw [e1]; omega

/-- The blocks cover the result. -/
theorem cover (i : S32768x1024.Idx) : ∃ t : Fin cfg0.N, (cfg0.win 12).flush t = true ∧ i ∈ ((cfg0.win 12).blk t).view.set := by
  have h0 : (i 0 : Nat) < 32768 := (i 0).isLt
  have ht : (i 0 : Nat) / 1024 < cfg0.N := by show _ < 32; omega
  exact ⟨⟨_, ht⟩, flush0_12 _, (mem_blk _ _).mpr rfl⟩

theorem final_o (c : Dev nD) : (dats m 0 c).arrAt 12 cfg0.N = G m c :=
  (dats m 0 c).arrAt_eq_of_cover 12 (G m c) (fun t _ => flushed_eq m c t) cover

/-- The run: the result at the formula, the arguments unchanged. -/
theorem run : θ_run (defs (F := Ideal)) (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final_o m c), (h c).2⟩) (Value.run_blocks m ρ)

end Cert.Proof.SguOut

end
-- ==== Proof.OutIdeal.Block.lean ====
/- The block the output projection's body leaves, at an index: the two products, scaled and added to the residual row. -/
module

public import proofs.«01_k».proof.Proof.Gen.OutIdeal.Value
public import proofs.«01_k».proof.Proof.LastIdeal.Spec
public import Idealize.ShloMosaic.Lib.Pipeline.ValueKit
public import Idealize.ShloMosaic.Lib.Pointwise

@[expose] public section

set_option maxRecDepth 16384

noncomputable section

namespace Cert.Proof.OutMath

open Idealize.ShloMosaic Cert.Proof.FfnMath

/-- The residual and the two halves' products. -/
def op (x g : EReal) (ya wa yb wb : Fin 512 → EReal) : EReal := x + g * ((∑ k, ya k * wa k) + ∑ k, yb k * wb k)

/-- The formula of the arguments at a row of a sequence. -/
def ou (x0 : FVec Ideal ⟨2, ![32768, 1024]⟩ .f32) (x1 : FVec Ideal ⟨4, ![4, 128, 64, 512]⟩ .f32) (x2 : FVec Ideal ⟨2, ![32768, 512]⟩ .bf16)
    (x3 x4 : FVec Ideal ⟨2, ![512, 1024]⟩ .bf16) (x5 : FVec Ideal ⟨3, ![4, 1, 1024]⟩ .f32) (b : Fin 4) (s : Fin 8192) (d : Fin 1024) : EReal :=
  op (x0 (ix2 (row b s) d)) (x5 (ix3 b 0 d)) (fun k => x1 (ix4 b ⟨s.val % 128, by omega⟩ ⟨s.val / 128, by omega⟩ k)) (fun k => x3 (ix2 k d))
    (fun k => x2 (ix2 (row b s) k)) fun k => x4 (ix2 k d)

end Cert.Proof.OutMath

namespace Cert.Proof.OutOut

open Cert.OutIdeal Cert.OutIdeal.Gen Cert.Proof.FfnMath Cert.Proof.OutMath
open Idealize.ShloMosaic

theorem inY (n : Fin 8) : ∀ a : Fin 4, (![0, 0, n.val, 0] : Fin 4 → Nat) a + S1x128x1x512.size a ≤ S1x128x8x512.size a
  | ⟨0, _⟩ => Nat.le_refl 1
  | ⟨1, _⟩ => Nat.le_refl 128
  | ⟨2, _⟩ => n.isLt
  | ⟨3, _⟩ => Nat.le_refl 512

theorem cast_at (y : Vec Ideal S1x128x1x512 .f32) (a : Fin 128) (k : Fin 512) :
    (shapeCast S128x512 y shapeCasts_S1x128x1x512_S128x512 : FVec Ideal S128x512 .f32) (ix2 a k) = y (ix4 0 a 0 k) := by
  pointwise

section
variable (x0 : Vec Ideal S1024x1024 .f32) (x1 : Vec Ideal S1x128x8x512 .f32) (x2 : Vec Ideal S1024x512 .bf16) (x3 x4 : Vec Ideal S512x1024 .bf16)
  (x5 : Vec Ideal S1x1x1024 .f32)

/-- The rows of one place of the third axis. -/
def piece (n : Fin 8) : FVec Ideal S128x512 .f32 :=
  shapeCast S128x512 (View.ld x1 (Rect.unit ![0, 0, n.val, 0] S1x128x1x512.size (inY n)) : Vec Ideal S1x128x1x512 .f32) shapeCasts_S1x128x1x512_S128x512

theorem piece_at (n : Fin 8) (a : Fin 128) (k : Fin 512) : piece x1 n (ix2 a k) = x1 (ix4 0 a n k) := by
  unfold piece
  rw [cast_at]
  refine View.ld_unit_apply_of x1 _ _ _ _ _ fun b => ?_
  match b with
  | ⟨0, _⟩ => rfl
  | ⟨1, _⟩ => exact (Nat.zero_add _).symm
  | ⟨2, _⟩ => rfl
  | ⟨3, _⟩ => exact (Nat.zero_add _).symm

/-- The pieces one after another. -/
def rowsA : FVec Ideal S1024x512 .f32 :=
  concatenate S1024x512 0 (List.ofFn fun n : Fin 8 => (⟨S128x512, piece x1 n⟩ : (s : Shape) × (s.Idx → Elt Ideal .f32)))
    concatenates_S128x512_S128x512_S128x512_S128x512_S128x512_S128x512_S128x512_S128x512_S1024x512_d0

theorem rowsA_at (r : Fin 1024) (k : Fin 512) : rowsA x1 (ix2 r k) = x1 (ix4 0 ⟨r.val % 128, by omega⟩ ⟨r.val / 128, by omega⟩ k) := by
  unfold rowsA
  refine (concatenate_ofFn_apply (t := S1024x512) (s₁ := S128x512) 0 (piece x1) _ rfl 128 rfl (ix2 r k) ⟨r.val / 128, by omega⟩ rfl
    (ix2 ⟨r.val % 128, by omega⟩ k) rfl fun b hb => ?_).trans (piece_at x1 _ _ _)
  match b with
  | ⟨0, _⟩ => exact absurd rfl hb
  | ⟨1, _⟩ => rfl

theorem pay2_eq : k0_pay2 (F := Ideal) (View.ld x1 r0_0) (View.ld x1 r0_1) (View.ld x1 r0_2) (View.ld x1 r0_3) (View.ld x1 r0_4) (View.ld x1 r0_5)
      (View.ld x1 r0_6) (View.ld x1 r0_7) x3
    = matmul (φ₂ := .bf16) dot_S1024x512_S512x1024_S1024x1024_1_0_0_1_n_n none (truncf .bf16 (rowsA x1) bitsLt_bf16_f32 : FVec Ideal S1024x512 .bf16) x3
        (constant S1024x1024 .f32 0x00000000#32) := rfl

theorem ld8 (x : Vec Ideal S512x1024 .bf16) : View.ld x r0_8 = x := View.ld_unit_zero (by decide) _ x
theorem ld9 (x : Vec Ideal S1024x512 .bf16) : View.ld x r0_9 = x := View.ld_unit_zero (by decide) _ x
theorem ld10 (x : Vec Ideal S1024x1024 .f32) : View.ld x r0_10 = x := View.ld_unit_zero (by decide) _ x
theorem ld11 (x : Vec Ideal S1x1x1024 .f32) : View.ld x r0_11 = x := View.ld_unit_zero (by decide) _ x

theorem pay1_at (v : FVec Ideal S1024x1024 .f32) (r d : Fin 1024) :
    k0_pay1 (F := Ideal) v x2 x4 x0 x5 (ix2 r d)
      = x0 (ix2 r d) + x5 (ix3 0 0 d) * (v (ix2 r d) + ∑ k : Fin 512, x2 (ix2 r k) * x4 (ix2 k d)) := by
  pointwise [k0_pay1]

theorem mm_at (y : FVec Ideal S1024x512 .f32) (r d : Fin 1024) :
    matmul (φ₂ := .bf16) dot_S1024x512_S512x1024_S1024x1024_1_0_0_1_n_n none (truncf .bf16 y bitsLt_bf16_f32 : FVec Ideal S1024x512 .bf16) x3
        (constant (F := Ideal) S1024x1024 .f32 0x00000000#32) (ix2 r d) = ∑ k : Fin 512, y (ix2 r k) * x3 (ix2 k d) := by
  pointwise

theorem out_at (r d : Fin 1024) :
    out0_6 (F := Ideal) x0 x1 x2 x3 x4 x5 (ix2 r d)
      = op (x0 (ix2 r d)) (x5 (ix3 0 0 d)) (fun k => x1 (ix4 0 ⟨r.val % 128, by omega⟩ ⟨r.val / 128, by omega⟩ k)) (fun k => x3 (ix2 k d))
          (fun k => x2 (ix2 r k)) fun k => x4 (ix2 k d) := by
  unfold out0_6
  rw [View.canon_unit_zero (by decide), ld8, ld8, ld9, ld10, ld11, pay2_eq, pay1_at, mm_at]
  simp only [rowsA_at]
  rfl

end

end Cert.Proof.OutOut
end
-- ==== Proof.OutIdeal.Ref.lean ====
/- The output projection's reference at an index: the product over the joined channels, split at their middle. -/
module

public import proofs.«01_k».proof.Proof.Gen.OutRefIdeal.Read
public import proofs.«01_k».proof.Proof.OutIdeal.Block
public import Idealize.ShloMosaic.Lib.KernelVsHost

@[expose] public section

set_option maxRecDepth 16384

noncomputable section

namespace Cert.Proof.OutRef

open Cert.OutRefIdeal Cert.OutRefIdeal.Gen Cert.OutRefIdeal.Read Cert.Proof.FfnMath Cert.Proof.OutMath
open Idealize.ShloMosaic

variable (x0 : FVec Ideal S32768x1024 .f32) (x1 : FVec Ideal S4x128x64x512 .f32) (x2 : FVec Ideal S32768x512 .bf16)
  (x3 x4 : FVec Ideal S512x1024 .bf16) (x5 : FVec Ideal S4x1x1024 .f32)

/-- A channel of the first half, and of the second. -/
def k0 (k : Fin 512) : Fin 1024 := ⟨k.val, by omega⟩
def k1 (k : Fin 512) : Fin 1024 := ⟨512 + k.val, by omega⟩

theorem sum_split (f : Fin 1024 → EReal) : ∑ k : Fin 1024, f k = (∑ k : Fin 512, f (k0 k)) + ∑ k : Fin 512, f (k1 k) :=
  Fin.sum_univ_add (a := 512) (b := 512) f

theorem v0_eq (b : Fin 4) (s : Fin 8192) (d : Fin 1024) : val_main_v0 (F := Ideal) x0 (ix3 b s d) = x0 (ix2 (row b s) d) := by
  rw [val_main_v0_apply]
  exact congrArg x0 (funext fun a => Fin.ext (by
    match a with
    | ⟨0, _⟩ => show ((b.val * 8192 + s.val) * 1024 + d.val) / 1024 = b.val * 8192 + s.val; omega
    | ⟨1, _⟩ => show ((b.val * 8192 + s.val) * 1024 + d.val) % 1024 = d.val; omega))

theorem v2_eq (b : Fin 4) (s : Fin 8192) (k : Fin 512) :
    val_main_v2 (F := Ideal) x1 (ix3 b s k) = x1 (ix4 b ⟨s.val % 128, by omega⟩ ⟨s.val / 128, by omega⟩ k) := by
  rw [val_main_v2_apply, val_main_v1_apply]
  exact congrArg x1 (funext fun a => Fin.ext (by
    match a with
    | ⟨0, _⟩ => show ((b.val * 8192 + s.val) * 512 + k.val) / 4194304 = b.val; omega
    | ⟨1, _⟩ => show ((b.val * 8192 + s.val) * 512 + k.val) / 512 % 128 = s.val % 128; omega
    | ⟨2, _⟩ => show ((b.val * 8192 + s.val) * 512 + k.val) / 65536 % 64 = s.val / 128; omega
    | ⟨3, _⟩ => show ((b.val * 8192 + s.val) * 512 + k.val) % 512 = k.val; omega))

theorem v4_eq (b : Fin 4) (s : Fin 8192) (k : Fin 512) : val_main_v4 (F := Ideal) x2 (ix3 b s k) = x2 (ix2 (row b s) k) := by
  rw [val_main_v4_apply, val_main_v3_apply]
  exact congrArg x2 (funext fun a => Fin.ext (by
    match a with
    | ⟨0, _⟩ => show ((b.val * 8192 + s.val) * 512 + k.val) / 512 = b.val * 8192 + s.val; omega
    | ⟨1, _⟩ => show ((b.val * 8192 + s.val) * 512 + k.val) % 512 = k.val; omega))

theorem v6_lo (k : Fin 512) (d : Fin 1024) : val_main_v6 (F := Ideal) x3 x4 (ix2 (k0 k) d) = x3 (ix2 k d) := by
  rw [val_main_v6_apply]
  unfold val_main_v5
  exact concatenate_pair_apply_left (t := S1024x1024) (s₁ := S512x1024) (s₂ := S512x1024) 0 x3 x4 concatenates_S512x1024_S512x1024_S1024x1024_d0 (ix2 (k0 k) d) rfl (ix2 k d) fun b => match b with
    | ⟨0, _⟩ => rfl
    | ⟨1, _⟩ => rfl

theorem v6_hi (k : Fin 512) (d : Fin 1024) : val_main_v6 (F := Ideal) x3 x4 (ix2 (k1 k) d) = x4 (ix2 k d) := by
  rw [val_main_v6_apply]
  unfold val_main_v5
  exact concatenate_pair_apply_right (t := S1024x1024) (s₁ := S512x1024) (s₂ := S512x1024) 0 x3 x4 concatenates_S512x1024_S512x1024_S1024x1024_d0 (ix2 (k1 k) d) rfl rfl (ix2 k d) (fun b hb => match b, hb with
    | ⟨0, _⟩, hb => absurd rfl hb
    | ⟨1, _⟩, _ => rfl) (Nat.add_comm k.val 512)

theorem v7_lo (b : Fin 4) (s : Fin 8192) (k : Fin 512) :
    val_main_v7 (F := Ideal) x1 x2 (ix3 b s (k0 k)) = x1 (ix4 b ⟨s.val % 128, by omega⟩ ⟨s.val / 128, by omega⟩ k) := by
  unfold val_main_v7
  exact (concatenate_pair_apply_left (t := S4x8192x1024) (s₁ := S4x8192x512) (s₂ := S4x8192x512) 2 (val_main_v2 (F := Ideal) x1) (val_main_v4 (F := Ideal) x2)
    concatenates_S4x8192x512_S4x8192x512_S4x8192x1024_d2 (ix3 b s (k0 k)) rfl
    (ix3 b s k) fun c => match c with
    | ⟨0, _⟩ => rfl
    | ⟨1, _⟩ => rfl
    | ⟨2, _⟩ => rfl).trans (v2_eq x1 b s k)

theorem v7_hi (b : Fin 4) (s : Fin 8192) (k : Fin 512) : val_main_v7 (F := Ideal) x1 x2 (ix3 b s (k1 k)) = x2 (ix2 (row b s) k) := by
  unfold val_main_v7
  exact (concatenate_pair_apply_right (t := S4x8192x1024) (s₁ := S4x8192x512) (s₂ := S4x8192x512) 2 (val_main_v2 (F := Ideal) x1) (val_main_v4 (F := Ideal) x2)
    concatenates_S4x8192x512_S4x8192x512_S4x8192x1024_d2 (ix3 b s (k1 k)) rfl rfl
    (ix3 b s k) (fun c hc => match c, hc with
    | ⟨0, _⟩, _ => rfl
    | ⟨1, _⟩, _ => rfl
    | ⟨2, _⟩, hc => absurd rfl hc) (Nat.add_comm k.val 512)).trans (v4_eq x2 b s k)

theorem v11_eq (b : Fin 4) (s : Fin 8192) (d : Fin 1024) :
    val_main_v11 (F := Ideal) x0 x1 x2 x3 x4 x5 (ix3 b s d) = ou x0 x1 x2 x3 x4 x5 b s d := by
  have hj : idx_main_v9 (ix3 b s d) = ix3 b 0 d := eq_ix3 _
  have hl : ∀ k, lidx_main_v8 (ix3 b s d) k = ix3 b s k := fun k => eq_ix3 _
  have hr : ∀ k, ridx_main_v8 (ix3 b s d) k = ix2 k d := fun k => eq_ix2 _
  rw [val_main_v11_apply, val_main_v10_apply, val_main_v9_apply, hj, val_main_v8_apply, v0_eq, sum_split]
  simp only [hl, hr, v6_lo, v6_hi, v7_lo, v7_hi]
  rfl

/-- The reference's result at an index. -/
theorem v12_eq (r : Fin 32768) (d : Fin 1024) :
    val_main_v12 (F := Ideal) x0 x1 x2 x3 x4 x5 (ix2 r d) = ou x0 x1 x2 x3 x4 x5 (bat r) (pos r) d := by
  have hi : idx_main_v12 (ix2 r d) = ix3 (bat r) (pos r) d := by
    funext a
    apply Fin.ext
    match a with
    | ⟨0, _⟩ => show (r.val * 1024 + d.val) / 8388608 = r.val / 8192; omega
    | ⟨1, _⟩ => show (r.val * 1024 + d.val) / 1024 % 8192 = r.val % 8192; omega
    | ⟨2, _⟩ => show (r.val * 1024 + d.val) % 1024 = d.val; omega
  rw [val_main_v12_apply, hi, v11_eq]

end Cert.Proof.OutRef

end
-- ==== Proof.OutIdeal.Final.lean ====
/- The result array: each block of rows is written back at its place, so the array ends at the formula of the arguments. -/
module

public import proofs.«01_k».proof.Proof.OutIdeal.Block

@[expose] public section

set_option maxRecDepth 16384

noncomputable section

namespace Cert.Proof.OutOut

open Cert.OutIdeal Cert.OutIdeal.Gen Cert.Proof.FfnMath Cert.Proof.OutMath
open Idealize.ShloMosaic Idealize.ShloMosaic.TcCoe Idealize.SL.Sem

variable (m : (ℓ : Loc nD τ sig) → Buf (Elt Ideal) ℓ) (ρ : Dev nD → PrngReg)

/-- The arguments of device `c`. -/
abbrev a0 (c : Dev nD) : FVec Ideal S32768x1024 .f32 := m ((c : Thread nD τ).loc main_arg0)
abbrev a1 (c : Dev nD) : FVec Ideal S4x128x64x512 .f32 := m ((c : Thread nD τ).loc main_arg1)
abbrev a2 (c : Dev nD) : FVec Ideal S32768x512 .bf16 := m ((c : Thread nD τ).loc main_arg2)
abbrev a3 (c : Dev nD) : FVec Ideal S512x1024 .bf16 := m ((c : Thread nD τ).loc main_arg3)
abbrev a4 (c : Dev nD) : FVec Ideal S512x1024 .bf16 := m ((c : Thread nD τ).loc main_arg4)
abbrev a5 (c : Dev nD) : FVec Ideal S4x1x1024 .f32 := m ((c : Thread nD τ).loc main_arg5)

/-- The result at a row of a sequence. -/
abbrev ro (c : Dev nD) (b : Fin 4) (s : Fin 8192) (d : Fin 1024) : EReal :=
  ou (a0 m c) (a1 m c) (a2 m c) (a3 m c) (a4 m c) (a5 m c) b s d

/-- The result array of device `c`. -/
def G (c : Dev nD) : Buf (Elt Ideal) ((c : Thread nD τ).loc main_v0) := fun i : S32768x1024.Idx => ro m c (bat (i 0)) (pos (i 0)) (i 1)

/-- A point's sequence, and the place in it of a row of its block. -/
def tb (t : Fin cfg0.N) : Fin 4 := ⟨t.val / 8, Nat.div_lt_of_lt_mul t.isLt⟩
def sp (t : Fin cfg0.N) (r : Fin 1024) : Fin 8192 := ⟨t.val % 8 * 1024 + r.val, by omega⟩

theorem t_lt (t : Fin cfg0.N) : t.val < 32 := t.isLt

theorem idx0 : ∀ t : Fin 32, win0_0.index t 0 = t.val ∧ win0_0.index t 1 = 0 := by decide +kernel
theorem idx2 : ∀ t : Fin 32, win0_2.index t 0 = t.val ∧ win0_2.index t 1 = 0 := by decide +kernel
theorem idx6 : ∀ t : Fin 32, win0_6.index t 0 = t.val ∧ win0_6.index t 1 = 0 := by decide +kernel
theorem idx3 : ∀ t : Fin 32, win0_3.index t 0 = 0 ∧ win0_3.index t 1 = 0 := by decide +kernel
theorem idx4 : ∀ t : Fin 32, win0_4.index t 0 = 0 ∧ win0_4.index t 1 = 0 := by decide +kernel
theorem idx1 : ∀ t : Fin 32, win0_1.index t 0 = t.val / 8 ∧ win0_1.index t 1 = 0 ∧ win0_1.index t 2 = t.val % 8 ∧ win0_1.index t 3 = 0 := by decide +kernel
theorem idx5 : ∀ t : Fin 32, win0_5.index t 0 = t.val / 8 ∧ win0_5.index t 1 = 0 ∧ win0_5.index t 2 = 0 := by decide +kernel

theorem iblk0 (c : Dev nD) (t : Fin cfg0.N) (R : Fin 32768) (x : Fin 1024) (e : R.val = t.val * 1024 + x.val) (y : Fin 1024) :
    (iblk m c 0 t : Vec Ideal S1024x1024 .f32) (ix2 x y) = a0 m c (ix2 R y) := by
  unfold iblk
  refine congrArg (a0 m c) (funext fun a => Fin.ext ?_)
  obtain ⟨e0, e1⟩ := idx0 t
  match a with
  | ⟨0, _⟩ => show win0_0.index t 0 * 1024 + 1 * x.val = R.val; rw [e0]; omega
  | ⟨1, _⟩ => show win0_0.index t 1 * 1024 + 1 * y.val = y.val; rw [e1]; omega

theorem iblk2 (c : Dev nD) (t : Fin cfg0.N) (R : Fin 32768) (x : Fin 1024) (e : R.val = t.val * 1024 + x.val) (y : Fin 512) :
    (iblk m c 2 t : Vec Ideal S1024x512 .bf16) (ix2 x y) = a2 m c (ix2 R y) := by
  unfold iblk
  refine congrArg (a2 m c) (funext fun a => Fin.ext ?_)
  obtain ⟨e0, e1⟩ := idx2 t
  match a with
  | ⟨0, _⟩ => show win0_2.index t 0 * 1024 + 1 * x.val = R.val; rw [e0]; omega
  | ⟨1, _⟩ => show win0_2.index t 1 * 512 + 1 * y.val = y.val; rw [e1]; omega

theorem iblk3 (c : Dev nD) (t : Fin cfg0.N) (x : Fin 512) (y : Fin 1024) : (iblk m c 3 t : Vec Ideal S512x1024 .bf16) (ix2 x y) = a3 m c (ix2 x y) := by
  unfold iblk
  refine congrArg (a3 m c) (funext fun a => Fin.ext ?_)
  obtain ⟨e0, e1⟩ := idx3 t
  match a with
  | ⟨0, _⟩ => show win0_3.index t 0 * 512 + 1 * x.val = x.val; rw [e0]; omega
  | ⟨1, _⟩ => show win0_3.index t 1 * 1024 + 1 * y.val = y.val; rw [e1]; omega

theorem iblk4 (c : Dev nD) (t : Fin cfg0.N) (x : Fin 512) (y : Fin 1024) : (iblk m c 4 t : Vec Ideal S512x1024 .bf16) (ix2 x y) = a4 m c (ix2 x y) := by
  unfold iblk
  refine congrArg (a4 m c) (funext fun a => Fin.ext ?_)
  obtain ⟨e0, e1⟩ := idx4 t
  match a with
  | ⟨0, _⟩ => show win0_4.index t 0 * 512 + 1 * x.val = x.val; rw [e0]; omega
  | ⟨1, _⟩ => show win0_4.index t 1 * 1024 + 1 * y.val = y.val; rw [e1]; omega

theorem iblk1 (c : Dev nD) (t : Fin cfg0.N) (x : Fin 128) (y : Fin 8) (Y : Fin 64) (e : Y.val = t.val % 8 * 8 + y.val) (z : Fin 512) :
    (iblk m c 1 t : Vec Ideal S1x128x8x512 .f32) (ix4 0 x y z) = a1 m c (ix4 (tb t) x Y z) := by
  unfold iblk
  refine congrArg (a1 m c) (funext fun a => Fin.ext ?_)
  obtain ⟨e0, e1, e2, e3⟩ := idx1 t
  match a with
  | ⟨0, _⟩ => show win0_1.index t 0 * 1 + 1 * 0 = t.val / 8; rw [e0]; omega
  | ⟨1, _⟩ => show win0_1.index t 1 * 128 + 1 * x.val = x.val; rw [e1]; omega
  | ⟨2, _⟩ => show win0_1.index t 2 * 8 + 1 * y.val = Y.val; rw [e2]; omega
  | ⟨3, _⟩ => show win0_1.index t 3 * 512 + 1 * z.val = z.val; rw [e3]; omega

theorem iblk5 (c : Dev nD) (t : Fin cfg0.N) (y : Fin 1024) : (iblk m c 5 t : Vec Ideal S1x1x1024 .f32) (ix3 0 0 y) = a5 m c (ix3 (tb t) 0 y) := by
  unfold iblk
  refine congrArg (a5 m c) (funext fun a => Fin.ext ?_)
  obtain ⟨e0, e1, e2⟩ := idx5 t
  match a with
  | ⟨0, _⟩ => show win0_5.index t 0 * 1 + 1 * 0 = t.val / 8; rw [e0]; omega
  | ⟨1, _⟩ => show win0_5.index t 1 * 1 + 1 * 0 = 0; rw [e1]
  | ⟨2, _⟩ => show win0_5.index t 2 * 1024 + 1 * y.val = y.val; rw [e2]; omega

theorem row_val (t : Fin cfg0.N) (r : Fin 1024) : (row (tb t) (sp t r)).val = t.val * 1024 + r.val := by
  show t.val / 8 * 8192 + (t.val % 8 * 1024 + r.val) = _
  omega

theorem ya_eq (c : Dev nD) (t : Fin cfg0.N) (r : Fin 1024) (k : Fin 512) (h : r.val % 128 < 128) (h' : r.val / 128 < 8)
    (h₁ : (sp t r).val % 128 < 128) (h₂ : (sp t r).val / 128 < 64) :
    (iblk m c 1 t : Vec Ideal S1x128x8x512 .f32) (ix4 0 ⟨r.val % 128, h⟩ ⟨r.val / 128, h'⟩ k)
      = a1 m c (ix4 (tb t) ⟨(sp t r).val % 128, h₁⟩ ⟨(sp t r).val / 128, h₂⟩ k) := by
  refine (iblk1 m c t _ _ ⟨(sp t r).val / 128, h₂⟩ ?_ k).trans (congrArg (fun x => a1 m c (ix4 (tb t) x _ k)) (Fin.ext ?_))
  · show (t.val % 8 * 1024 + r.val) / 128 = t.val % 8 * 8 + r.val / 128; omega
  · show r.val % 128 = (t.val % 8 * 1024 + r.val) % 128; omega

/-- The block of a point at an index. -/
theorem block_eq (c : Dev nD) (t : Fin cfg0.N) (r d : Fin 1024) :
    out0_6 (F := Ideal) (iblk m c 0 t) (iblk m c 1 t) (iblk m c 2 t) (iblk m c 3 t) (iblk m c 4 t) (iblk m c 5 t) (ix2 r d)
      = ro m c (tb t) (sp t r) d := by
  refine (out_at (iblk m c 0 t) (iblk m c 1 t) (iblk m c 2 t) (iblk m c 3 t) (iblk m c 4 t) (iblk m c 5 t) r d).trans ?_
  have e0 := iblk0 m c t (row (tb t) (sp t r)) r (row_val t r) d
  have e2 := fun k => iblk2 m c t (row (tb t) (sp t r)) r (row_val t r) k
  rw [e0, iblk5]
  simp only [e2, iblk3, iblk4]
  unfold ro ou
  refine congrArg (fun y => op _ _ y _ _ _) (funext fun k => ya_eq m c t r k _ _ _ _)

/-- What a point writes back is its block of the result. -/
theorem flushed_eq (c : Dev nD) (t : Fin cfg0.N) : (dats m 0 c).flushed 6 t = (win0_6.blk t).view.read (Elt Ideal) (G m c) := by
  have ht := t_lt t
  rw [Value.flushed6]
  funext (y : S1024x1024.Idx)
  obtain ⟨r, d, rfl⟩ : ∃ (r d : Fin 1024), y = ix2 r d := ⟨_, _, eq_ix2 y⟩
  obtain ⟨e0, e1⟩ := idx6 t
  refine (block_eq m c t r d).trans ?_
  have hv : ((win0_6.blk t).view.emb (ix2 r d) : S32768x1024.Idx) = ix2 (row (tb t) (sp t r)) d := by
    funext a
    apply Fin.ext
    match a with
    | ⟨0, _⟩ => show win0_6.index t 0 * 1024 + 1 * r.val = (row (tb t) (sp t r)).val; rw [e0, row_val]; omega
    | ⟨1, _⟩ => show win0_6.index t 1 * 1024 + 1 * d.val = d.val; rw [e1]; omega
  show _ = G m c ((win0_6.blk t).view.emb (ix2 r d))
  rw [hv]
  refine congrArg₂ (fun b s => ro m c b s d) (Fin.ext ?_) (Fin.ext ?_)
  · show t.val / 8 = (row (tb t) (sp t r)).val / 8192; rw [row_val]; omega
  · show t.val % 8 * 1024 + r.val = (row (tb t) (sp t r)).val % 8192; rw [row_val]; omega

theorem mem_blk (t : Fin cfg0.N) (i : S32768x1024.Idx) : i ∈ ((cfg0.win 6).blk t).view.set ↔ t.val = (i 0 : Nat) / 1024 := by
  show i ∈ ((View.whole main_v0).slice (win0_6.rect t)).set ↔ _
  rw [View.set_slice_whole, Rect.mem_set_unit]
  obtain ⟨e0, e1⟩ := idx6 t
  have h1 : (i 1 : Nat) < 1024 := (i 1).isLt
  refine ⟨fun h => ?_, fun h a => ?_⟩
  · have p0 : win0_6.index t 0 * 1024 ≤ (i 0 : Nat) ∧ (i 0 : Nat) < win0_6.index t 0 * 1024 + 1024 := h 0
    rw [e0] at p0
    omega
  · match a with
    | ⟨0, _⟩ => show win0_6.index t 0 * 1024 ≤ (i 0 : Nat) ∧ (i 0 : Nat) < win0_6.index t 0 * 1024 + 1024; rw [e0]; omega
    | ⟨1, _⟩ => show win0_6.index t 1 * 1024 ≤ (i 1 : Nat) ∧ (i 1 : Nat) < win0_6.index t 1 * 1024 + 1024; rw [e1]; omega

/-- The blocks cover the result. -/
theorem cover (i : S32768x1024.Idx) : ∃ t : Fin cfg0.N, (cfg0.win 6).flush t = true ∧ i ∈ ((cfg0.win 6).blk t).view.set := by
  have h0 : (i 0 : Nat) < 32768 := (i 0).isLt
  have ht : (i 0 : Nat) / 1024 < cfg0.N := by show _ < 32; omega
  exact ⟨⟨_, ht⟩, flush0_6 _, (mem_blk _ _).mpr rfl⟩

theorem final_o (c : Dev nD) : (dats m 0 c).arrAt 6 cfg0.N = G m c :=
  (dats m 0 c).arrAt_eq_of_cover 6 (G m c) (fun t _ => flushed_eq m c t) cover

/-- The run: the result at the formula, the arguments unchanged. -/
theorem run : θ_run (defs (F := Ideal)) (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final_o m c), (h c).2⟩) (Value.run_blocks m ρ)

end Cert.Proof.OutOut

end
-- ==== Proof.InpIdeal.Math.lean ====
/- The input projection as formulas of its arguments: the convolved product of the normalised rows, the rotated columns,
and the products that make v. -/
module

public import proofs.«01_k».proof.Proof.LastIdeal.Spec

@[expose] public section

noncomputable section

namespace Cert.Proof.InpMath

open Idealize.ShloMosaic Cert.Proof.FfnMath

/-- The arguments that make the normalised rows. -/
def ai (x0 : FVec Ideal ⟨2, ![32768, 1024]⟩ .f32) (x1 : FVec Ideal ⟨2, ![1, 1024]⟩ .f32) (x2 x3 : FVec Ideal ⟨3, ![4, 1, 1024]⟩ .f32) : Ar :=
  ar x0 x1 x2 x3 (fun _ => 0) (fun _ => 0) (fun _ => 0) (fun _ => 0) (fun _ => 0) (fun _ => 0)

/-- The convolved product at a row and a column. -/
def hc (A : Ar) (w : FVec Ideal ⟨2, ![1024, 1536]⟩ .bf16) (cw : FVec Ideal ⟨2, ![3, 1536]⟩ .f32) (cb : FVec Ideal ⟨2, ![1, 1536]⟩ .f32)
    (b : Fin 4) (s : Fin 8192) (n : Fin 1536) : EReal :=
  cv (fun a => cw (ix2 a n)) (cb (ix2 0 n)) (up (pv A b s) fun d => w (ix2 d n)) (up (nr A b s) fun d => w (ix2 d n))
    (up (nx A b s) fun d => w (ix2 d n))

/-- A column's lane in its head. -/
def lane (n : Fin 1024) : Fin 128 := ⟨n.val % 128, by omega⟩

/-- A column's partner in the rotation. -/
def par (n : Fin 1024) : Fin 1024 := ⟨if n.val / 16 % 2 = 0 then n.val + 16 else n.val - 16, by split <;> omega⟩

/-- The rotated product at a row and a column. -/
def ro (A : Ar) (w : FVec Ideal ⟨2, ![1024, 1024]⟩ .bf16) (cs sn : FVec Ideal ⟨2, ![8192, 128]⟩ .f32)
    (b : Fin 4) (s : Fin 8192) (n : Fin 1024) : EReal :=
  up (nr A b s) (fun d => w (ix2 d n)) * cs (ix2 s (lane n)) + up (nr A b s) (fun d => w (ix2 d (par n))) * sn (ix2 s (lane n))

/-- The scale of q. -/
def qs : EReal := Ideal.ofBits .f32 0x3E38AA3B#32

/-- The product that makes v. -/
def vv (A : Ar) (w : FVec Ideal ⟨2, ![512, 1024]⟩ .bf16) (b : Fin 4) (s : Fin 8192) (n : Fin 512) : EReal :=
  up (nr A b s) fun d => w (ix2 n d)

end Cert.Proof.InpMath

end
-- ==== Proof.InpIdeal.Ref.lean ====
/- The reference's stages at an index: each is the formula of the arguments. -/
module

public import proofs.«01_k».proof.Proof.Gen.InpRefIdeal.Read
public import proofs.«01_k».proof.Proof.InpIdeal.Math
public import Idealize.ShloMosaic.Lib.KernelVsHost

@[expose] public section

set_option maxRecDepth 16384

noncomputable section

namespace Cert.Proof.InpRef

open Cert.InpRefIdeal Cert.InpRefIdeal.Gen Cert.InpRefIdeal.Read Cert.Proof.FfnMath Cert.Proof.InpMath
open Idealize.ShloMosaic

variable (x0 : FVec Ideal S32768x1024 .f32) (x1 : FVec Ideal S1x1024 .f32) (x2 x3 : FVec Ideal S4x1x1024 .f32)
  (x4 : FVec Ideal S1024x1536 .bf16) (x5 : FVec Ideal S1024x1024 .bf16) (x6 : FVec Ideal S512x1024 .bf16)
  (x7 x8 : FVec Ideal S8192x128 .f32) (x9 : FVec Ideal S3x1536 .f32) (x10 : FVec Ideal S1x1536 .f32)

theorem v0_eq (b : Fin 4) (s : Fin 8192) (d : Fin 1024) : val_main_v0 (F := Ideal) x0 (ix3 b s d) = x0 (ix2 (row b s) d) := by
  rw [val_main_v0_apply]
  exact congrArg x0 (funext fun a => Fin.ext (by
    match a with
    | ⟨0, _⟩ => show ((b.val * 8192 + s.val) * 1024 + d.val) / 1024 = b.val * 8192 + s.val; omega
    | ⟨1, _⟩ => show ((b.val * 8192 + s.val) * 1024 + d.val) % 1024 = d.val; omega))

theorem v3_eq (b : Fin 4) (s : Fin 8192) :
    val_main_v3 (F := Ideal) x0 (ix2 b s) = ∑ e : Fin 1024, x0 (ix2 (row b s) e) * x0 (ix2 (row b s) e) := by
  rw [val_main_v3_apply, show val_main_cst (F := Ideal) (Shape.Idx.first h_S_) = (0 : EReal) from Ideal.ofBits_zero_f32, zero_add]
  refine Finset.sum_congr rfl fun e _ => ?_
  have hi : idx_main_v3 (ix2 b s) e = ix3 b s e := eq_ix3 _
  rw [val_main_v2_apply, hi, v0_eq]
  rfl

theorem v10_eq (b : Fin 4) (s : Fin 8192) (d : Fin 1024) :
    val_main_v10 (F := Ideal) x0 (ix3 b s d) = inv fun e => x0 (ix2 (row b s) e) := by
  have hi : idx_main_v4 (idx_main_v10 (ix3 b s d)) = ix2 b s := eq_ix2 _
  rw [val_main_v10_apply, val_main_v9_apply, val_main_v8_apply, val_main_v6_apply, val_main_v4_apply, val_main_v5_apply, val_main_v7_apply,
    val_main_cst_0_apply, val_main_cst_1_apply, hi, v3_eq]
  rfl

theorem v13_eq (b : Fin 4) (s : Fin 8192) (d : Fin 1024) : val_main_v13 (F := Ideal) x1 (ix3 b s d) = x1 (ix2 0 d) := by
  rw [val_main_v13_apply, val_main_v12_apply, val_main_v1_apply]
  exact congrArg x1 (funext fun a => Fin.ext (by
    match a with
    | ⟨0, _⟩ => rfl
    | ⟨1, _⟩ => show d.val % 1024 = d.val; omega))

theorem v17_eq (b : Fin 4) (s : Fin 8192) (d : Fin 1024) : val_main_v17 (F := Ideal) x3 (ix3 b s d) = 1 + x3 (ix3 b 0 d) := by
  have hi : idx_main_v17 (ix3 b s d) = ix3 b 0 d := eq_ix3 _
  rw [val_main_v17_apply, val_main_v16_apply, val_main_v15_apply, val_main_cst_2_apply, hi]
  exact congrArg (· + x3 (ix3 b 0 d)) lit_one

theorem v20_eq (b : Fin 4) (s : Fin 8192) (d : Fin 1024) :
    val_main_v20 (F := Ideal) x0 x1 x2 x3 (ix3 b s d) = nr (ai x0 x1 x2 x3) b s d := by
  have hi : idx_main_v19 (ix3 b s d) = ix3 b 0 d := eq_ix3 _
  rw [val_main_v20_apply, val_main_v18_apply, val_main_v14_apply, val_main_v11_apply, val_main_v19_apply, v0_eq, v10_eq, v13_eq, v17_eq, hi]
  rfl

theorem v22_eq (b : Fin 4) (s : Fin 8192) (n : Fin 1536) :
    val_main_v22 (F := Ideal) x0 x1 x2 x3 x4 (ix3 b s n) = up (nr (ai x0 x1 x2 x3) b s) fun d => x4 (ix2 d n) := by
  rw [val_main_v22_apply]
  refine Finset.sum_congr rfl fun d _ => ?_
  have hl : lidx_main_v22 (ix3 b s n) d = ix3 b s d := eq_ix3 _
  have hr : ridx_main_v22 (ix3 b s n) d = ix2 d n := eq_ix2 _
  rw [hl, hr, v20_eq x0 x1 x2 x3, val_main_v21_apply]
  rfl

theorem pad_val : val_main_call0_v0 (F := Ideal) (Shape.Idx.first h_S_) = (0 : EReal) := by
  show (((0 : Int) : ℝ) : EReal) = 0
  simp

theorem v24_in (b : Fin 4) (ρ : Fin 8194) (s : Fin 8192) (n : Fin 1536) (e : ρ.val = s.val + 1) :
    val_main_v24 (F := Ideal) x0 x1 x2 x3 x4 (ix3 b ρ n) = up (nr (ai x0 x1 x2 x3) b s) fun d => x4 (ix2 d n) := by
  rw [← v22_eq]
  unfold val_main_v24
  generalize val_main_v22 (F := Ideal) x0 x1 x2 x3 x4 = y
  refine pad_apply_of_inside _ _ _ y _ _ _ _ (ix3 b s n) fun a => ?_
  match a with
  | ⟨0, _⟩ => show b.val = 0 + b.val * (0 + 1); omega
  | ⟨1, _⟩ => show ρ.val = 1 + s.val * (0 + 1); omega
  | ⟨2, _⟩ => show n.val = 0 + n.val * (0 + 1); omega

theorem v24_out (b : Fin 4) (ρ : Fin 8194) (n : Fin 1536) (e : ρ.val = 0 ∨ ρ.val = 8193) :
    val_main_v24 (F := Ideal) x0 x1 x2 x3 x4 (ix3 b ρ n) = 0 := by
  unfold val_main_v24
  generalize val_main_v22 (F := Ideal) x0 x1 x2 x3 x4 = y
  refine (pad_apply_of_not_inside _ _ _ y _ _ _ _ (1 : Fin 3) ?_).trans pad_val
  rintro ⟨p1, -, p3⟩
  have q1 : 1 ≤ ρ.val := p1
  have q3 : (ρ.val - 1) / (0 + 1) < 8192 := p3
  omega

theorem v25_eq (b : Fin 4) (s : Fin 8192) (n : Fin 1536) :
    val_main_v25 (F := Ideal) x0 x1 x2 x3 x4 (ix3 b s n) = up (pv (ai x0 x1 x2 x3) b s) fun d => x4 (ix2 d n) := by
  have hi : idx_main_v25 (ix3 b s n) = ix3 b ⟨s.val, by omega⟩ n := eq_ix3 _
  rw [val_main_v25_apply, hi, up_pv]
  split
  · next h => exact v24_out x0 x1 x2 x3 x4 b _ n (Or.inl h)
  · next h => exact v24_in x0 x1 x2 x3 x4 b _ _ n (by show s.val = s.val - 1 + 1; omega)

theorem v31_eq (b : Fin 4) (s : Fin 8192) (n : Fin 1536) :
    val_main_v31 (F := Ideal) x0 x1 x2 x3 x4 (ix3 b s n) = up (nr (ai x0 x1 x2 x3) b s) fun d => x4 (ix2 d n) := by
  have hi : idx_main_v31 (ix3 b s n) = ix3 b ⟨1 + s.val, by omega⟩ n := eq_ix3 _
  rw [val_main_v31_apply, hi]
  exact v24_in x0 x1 x2 x3 x4 b _ _ n (Nat.add_comm _ _)

theorem v38_eq (b : Fin 4) (s : Fin 8192) (n : Fin 1536) :
    val_main_v38 (F := Ideal) x0 x1 x2 x3 x4 (ix3 b s n) = up (nx (ai x0 x1 x2 x3) b s) fun d => x4 (ix2 d n) := by
  have hi : idx_main_v38 (ix3 b s n) = ix3 b ⟨2 + s.val, by omega⟩ n := eq_ix3 _
  rw [val_main_v38_apply, hi, up_nx]
  split
  · next h => exact v24_out x0 x1 x2 x3 x4 b _ n (Or.inr (by show 2 + s.val = 8193; omega))
  · next h => exact v24_in x0 x1 x2 x3 x4 b _ _ n (by show 2 + s.val = s.val + 1 + 1; omega)

theorem v29_eq (b : Fin 4) (s : Fin 8192) (n : Fin 1536) : val_main_v29 (F := Ideal) x9 (ix3 b s n) = x9 (ix2 0 n) := by
  rw [val_main_v29_apply, val_main_v28_apply, val_main_v27_apply, val_main_v26_apply]
  exact congrArg x9 (funext fun a => Fin.ext (by
    match a with
    | ⟨0, _⟩ => rfl
    | ⟨1, _⟩ => show n.val % 1536 = n.val; omega))

theorem v35_eq (b : Fin 4) (s : Fin 8192) (n : Fin 1536) : val_main_v35 (F := Ideal) x9 (ix3 b s n) = x9 (ix2 1 n) := by
  rw [val_main_v35_apply, val_main_v34_apply, val_main_v33_apply, val_main_v32_apply]
  exact congrArg x9 (funext fun a => Fin.ext (by
    match a with
    | ⟨0, _⟩ => rfl
    | ⟨1, _⟩ => show n.val % 1536 = n.val; omega))

theorem v42_eq (b : Fin 4) (s : Fin 8192) (n : Fin 1536) : val_main_v42 (F := Ideal) x9 (ix3 b s n) = x9 (ix2 2 n) := by
  rw [val_main_v42_apply, val_main_v41_apply, val_main_v40_apply, val_main_v39_apply]
  exact congrArg x9 (funext fun a => Fin.ext (by
    match a with
    | ⟨0, _⟩ => rfl
    | ⟨1, _⟩ => show n.val % 1536 = n.val; omega))

theorem v46_eq (b : Fin 4) (s : Fin 8192) (n : Fin 1536) : val_main_v46 (F := Ideal) x10 (ix3 b s n) = x10 (ix2 0 n) := by
  rw [val_main_v46_apply, val_main_v45_apply, val_main_v23_apply]
  exact congrArg x10 (funext fun a => Fin.ext (by
    match a with
    | ⟨0, _⟩ => rfl
    | ⟨1, _⟩ => show n.val % 1536 = n.val; omega))

theorem v47_eq (b : Fin 4) (s : Fin 8192) (n : Fin 1536) :
    val_main_v47 (F := Ideal) x0 x1 x2 x3 x4 x9 x10 (ix3 b s n) = hc (ai x0 x1 x2 x3) x4 x9 x10 b s n := by
  rw [val_main_v47_apply, val_main_v44_apply, val_main_v37_apply, val_main_v30_apply, val_main_v36_apply, val_main_v43_apply,
    v25_eq x0 x1 x2 x3 x4, v31_eq x0 x1 x2 x3 x4, v38_eq x0 x1 x2 x3 x4, v29_eq, v35_eq,
    v42_eq, v46_eq]
  unfold hc cv
  refine congrArg (· + x10 (ix2 0 n)) ?_
  exact congrArg₂ (· + ·) (congrArg₂ (· + ·) (mul_comm _ _) (mul_comm _ _)) (mul_comm _ _)

/-- A result of the convolution at an index. -/
theorem v117_eq (r : Fin 32768) (d : Fin 512) (n : Fin 1536) (e : n.val = 0 + d.val) :
    val_main_v117 (F := Ideal) x0 x1 x2 x3 x4 x9 x10 (ix2 r d) = hc (ai x0 x1 x2 x3) x4 x9 x10 (bat r) (pos r) n := by
  have hi : idx_main_v48 (idx_main_v117 (ix2 r d)) = ix3 (bat r) (pos r) n := by
    funext a
    apply Fin.ext
    match a with
    | ⟨0, _⟩ => show (r.val * 512 + d.val) / 4194304 = r.val / 8192; omega
    | ⟨1, _⟩ => show (r.val * 512 + d.val) / 512 % 8192 = r.val % 8192; omega
    | ⟨2, _⟩ => show (r.val * 512 + d.val) % 512 = n.val; omega
  rw [val_main_v117_apply, val_main_v48_apply, hi, v47_eq]

/-- A result of the convolution at an index. -/
theorem v118_eq (r : Fin 32768) (d : Fin 512) (n : Fin 1536) (e : n.val = 512 + d.val) :
    val_main_v118 (F := Ideal) x0 x1 x2 x3 x4 x9 x10 (ix2 r d) = hc (ai x0 x1 x2 x3) x4 x9 x10 (bat r) (pos r) n := by
  have hi : idx_main_v49 (idx_main_v118 (ix2 r d)) = ix3 (bat r) (pos r) n := by
    funext a
    apply Fin.ext
    match a with
    | ⟨0, _⟩ => show (r.val * 512 + d.val) / 4194304 = r.val / 8192; omega
    | ⟨1, _⟩ => show (r.val * 512 + d.val) / 512 % 8192 = r.val % 8192; omega
    | ⟨2, _⟩ => show 512 + (r.val * 512 + d.val) % 512 = n.val; omega
  rw [val_main_v118_apply, val_main_v49_apply, hi, v47_eq]

/-- A result of the convolution at an index. -/
theorem v119_eq (r : Fin 32768) (d : Fin 512) (n : Fin 1536) (e : n.val = 1024 + d.val) :
    val_main_v119 (F := Ideal) x0 x1 x2 x3 x4 x9 x10 (ix2 r d) = hc (ai x0 x1 x2 x3) x4 x9 x10 (bat r) (pos r) n := by
  have hi : idx_main_v50 (idx_main_v119 (ix2 r d)) = ix3 (bat r) (pos r) n := by
    funext a
    apply Fin.ext
    match a with
    | ⟨0, _⟩ => show (r.val * 512 + d.val) / 4194304 = r.val / 8192; omega
    | ⟨1, _⟩ => show (r.val * 512 + d.val) / 512 % 8192 = r.val % 8192; omega
    | ⟨2, _⟩ => show 1024 + (r.val * 512 + d.val) % 512 = n.val; omega
  rw [val_main_v119_apply, val_main_v50_apply, hi, v47_eq]

/-- The product of q and k at a row and a column. -/
def pp (b : Fin 4) (s : Fin 8192) (n : Fin 1024) : EReal := up (nr (ai x0 x1 x2 x3) b s) fun d => x5 (ix2 d n)

theorem v52_eq (b : Fin 4) (s : Fin 8192) (n : Fin 1024) : val_main_v52 (F := Ideal) x0 x1 x2 x3 x5 (ix3 b s n) = pp x0 x1 x2 x3 x5 b s n := by
  unfold pp up
  rw [val_main_v52_apply]
  refine Finset.sum_congr rfl fun d _ => ?_
  have hl : lidx_main_v52 (ix3 b s n) d = ix3 b s d := eq_ix3 _
  have hr : ridx_main_v52 (ix3 b s n) d = ix2 d n := eq_ix2 _
  rw [hl, hr, v20_eq x0 x1 x2 x3, val_main_v51_apply]
  rfl

theorem v54_eq (b : Fin 4) (h : Fin 8) (c : Fin 2) (s : Fin 8192) (e : Fin 64) (n : Fin 1024) (hn : n.val = h.val * 128 + c.val * 64 + e.val) :
    val_main_v54 (F := Ideal) x0 x1 x2 x3 x5 (ix5 b h c s e) = pp x0 x1 x2 x3 x5 b s n := by
  have hi : idx_main_v53 (idx_main_v54 (ix5 b h c s e)) = ix3 b s n := by
    funext a
    apply Fin.ext
    match a with
    | ⟨0, _⟩ => show ((((b.val * 8192 + s.val) * 8 + h.val) * 2 + c.val) * 64 + e.val) / 8388608 = b.val; omega
    | ⟨1, _⟩ => show ((((b.val * 8192 + s.val) * 8 + h.val) * 2 + c.val) * 64 + e.val) / 1024 % 8192 = s.val; omega
    | ⟨2, _⟩ => show ((((b.val * 8192 + s.val) * 8 + h.val) * 2 + c.val) * 64 + e.val) % 1024 = n.val; omega
  rw [val_main_v54_apply, val_main_v53_apply, hi, v52_eq]

theorem ro_lo (b : Fin 4) (s : Fin 8192) (n k : Fin 1024) (l : Fin 128) (h : n.val / 16 % 2 = 0) (hk : k.val = n.val + 16) (hl : l.val = n.val % 128) :
    ro (ai x0 x1 x2 x3) x5 x7 x8 b s n = pp x0 x1 x2 x3 x5 b s n * x7 (ix2 s l) + pp x0 x1 x2 x3 x5 b s k * x8 (ix2 s l) := by
  have e1 : lane n = l := Fin.ext hl.symm
  have e2 : par n = k := Fin.ext ((if_pos h).trans hk.symm)
  unfold ro
  rw [e1, e2]
  rfl

theorem ro_hi (b : Fin 4) (s : Fin 8192) (n k : Fin 1024) (l : Fin 128) (h : ¬ n.val / 16 % 2 = 0) (hk : k.val = n.val - 16) (hl : l.val = n.val % 128) :
    ro (ai x0 x1 x2 x3) x5 x7 x8 b s n = pp x0 x1 x2 x3 x5 b s k * x8 (ix2 s l) + pp x0 x1 x2 x3 x5 b s n * x7 (ix2 s l) := by
  have e1 : lane n = l := Fin.ext hl.symm
  have e2 : par n = k := Fin.ext ((if_neg h).trans hk.symm)
  unfold ro
  rw [e1, e2]
  exact add_comm _ _

theorem v62_eq (b : Fin 4) (h : Fin 8) (c : Fin 2) (s : Fin 8192) (e : Fin 16) (n : Fin 1024) (hn : n.val = h.val * 128 + c.val * 64 + (e.val)) :
    val_main_v62 (F := Ideal) x0 x1 x2 x3 x5 (ix5 b h c s e) = pp x0 x1 x2 x3 x5 b s n := by
  have hi : idx_main_v59 (idx_main_v62 (ix5 b h c s e)) = ix5 b h c s ⟨e.val, by omega⟩ := eq_ix5 _
  rw [val_main_v62_apply, val_main_v59_apply, hi]
  exact v54_eq x0 x1 x2 x3 x5 b h c s _ n hn

theorem v63_eq (b : Fin 4) (h : Fin 8) (c : Fin 2) (s : Fin 8192) (e : Fin 16) (n : Fin 1024) (hn : n.val = h.val * 128 + c.val * 64 + (16 + e.val)) :
    val_main_v63 (F := Ideal) x0 x1 x2 x3 x5 (ix5 b h c s e) = pp x0 x1 x2 x3 x5 b s n := by
  have hi : idx_main_v59 (idx_main_v63 (ix5 b h c s e)) = ix5 b h c s ⟨16 + e.val, by omega⟩ := eq_ix5 _
  rw [val_main_v63_apply, val_main_v59_apply, hi]
  exact v54_eq x0 x1 x2 x3 x5 b h c s _ n hn

theorem v66_eq (b : Fin 4) (h : Fin 8) (c : Fin 2) (s : Fin 8192) (e : Fin 16) (l : Fin 128) (hl : l.val = c.val * 64 + (e.val)) :
    val_main_v66 (F := Ideal) x7 (ix5 b h c s e) = x7 (ix2 s l) := by
  rw [val_main_v66_apply, val_main_v65_apply, val_main_v64_apply, val_main_v60_apply, val_main_v56_apply, val_main_v55_apply]
  exact congrArg x7 (funext fun a => Fin.ext (by
    match a with
    | ⟨0, _⟩ => show ((s.val * 2 + c.val) * 64 + (e.val)) / 128 = s.val; omega
    | ⟨1, _⟩ => show ((s.val * 2 + c.val) * 64 + (e.val)) % 128 = l.val; omega))

theorem v70_eq (b : Fin 4) (h : Fin 8) (c : Fin 2) (s : Fin 8192) (e : Fin 16) (l : Fin 128) (hl : l.val = c.val * 64 + (e.val)) :
    val_main_v70 (F := Ideal) x8 (ix5 b h c s e) = x8 (ix2 s l) := by
  rw [val_main_v70_apply, val_main_v69_apply, val_main_v68_apply, val_main_v61_apply, val_main_v58_apply, val_main_v57_apply]
  exact congrArg x8 (funext fun a => Fin.ext (by
    match a with
    | ⟨0, _⟩ => show ((s.val * 2 + c.val) * 64 + (e.val)) / 128 = s.val; omega
    | ⟨1, _⟩ => show ((s.val * 2 + c.val) * 64 + (e.val)) % 128 = l.val; omega))

theorem v75_eq (b : Fin 4) (h : Fin 8) (c : Fin 2) (s : Fin 8192) (e : Fin 16) (l : Fin 128) (hl : l.val = c.val * 64 + (16 + e.val)) :
    val_main_v75 (F := Ideal) x8 (ix5 b h c s e) = x8 (ix2 s l) := by
  rw [val_main_v75_apply, val_main_v74_apply, val_main_v73_apply, val_main_v61_apply, val_main_v58_apply, val_main_v57_apply]
  exact congrArg x8 (funext fun a => Fin.ext (by
    match a with
    | ⟨0, _⟩ => show ((s.val * 2 + c.val) * 64 + (16 + e.val)) / 128 = s.val; omega
    | ⟨1, _⟩ => show ((s.val * 2 + c.val) * 64 + (16 + e.val)) % 128 = l.val; omega))

theorem v79_eq (b : Fin 4) (h : Fin 8) (c : Fin 2) (s : Fin 8192) (e : Fin 16) (l : Fin 128) (hl : l.val = c.val * 64 + (16 + e.val)) :
    val_main_v79 (F := Ideal) x7 (ix5 b h c s e) = x7 (ix2 s l) := by
  rw [val_main_v79_apply, val_main_v78_apply, val_main_v77_apply, val_main_v60_apply, val_main_v56_apply, val_main_v55_apply]
  exact congrArg x7 (funext fun a => Fin.ext (by
    match a with
    | ⟨0, _⟩ => show ((s.val * 2 + c.val) * 64 + (16 + e.val)) / 128 = s.val; omega
    | ⟨1, _⟩ => show ((s.val * 2 + c.val) * 64 + (16 + e.val)) % 128 = l.val; omega))

theorem v72_eq (b : Fin 4) (h : Fin 8) (c : Fin 2) (s : Fin 8192) (e : Fin 16) (n : Fin 1024) (hn : n.val = h.val * 128 + c.val * 64 + (e.val)) :
    val_main_v72 (F := Ideal) x0 x1 x2 x3 x5 x7 x8 (ix5 b h c s e) = ro (ai x0 x1 x2 x3) x5 x7 x8 b s n := by
  rw [ro_lo x0 x1 x2 x3 x5 x7 x8 b s n ⟨n.val + 16, by omega⟩ ⟨n.val % 128, by omega⟩ (by omega) rfl rfl, val_main_v72_apply, val_main_v67_apply, val_main_v71_apply,
    v62_eq x0 x1 x2 x3 x5 b h c s e n hn,
    v63_eq x0 x1 x2 x3 x5 b h c s e ⟨n.val + 16, by omega⟩ (by show n.val + 16 = _; omega), v66_eq x7 b h c s e ⟨n.val % 128, by omega⟩ (by show n.val % 128 = _; omega),
    v70_eq x8 b h c s e ⟨n.val % 128, by omega⟩ (by show n.val % 128 = _; omega)]
  rfl

theorem v81_eq (b : Fin 4) (h : Fin 8) (c : Fin 2) (s : Fin 8192) (e : Fin 16) (n : Fin 1024) (hn : n.val = h.val * 128 + c.val * 64 + (16 + e.val)) :
    val_main_v81 (F := Ideal) x0 x1 x2 x3 x5 x7 x8 (ix5 b h c s e) = ro (ai x0 x1 x2 x3) x5 x7 x8 b s n := by
  rw [ro_hi x0 x1 x2 x3 x5 x7 x8 b s n ⟨n.val - 16, by omega⟩ ⟨n.val % 128, by omega⟩ (by omega) rfl rfl, val_main_v81_apply, val_main_v76_apply, val_main_v80_apply,
    v62_eq x0 x1 x2 x3 x5 b h c s e ⟨n.val - 16, by omega⟩ (by show n.val - 16 = _; omega),
    v63_eq x0 x1 x2 x3 x5 b h c s e n hn, v75_eq x8 b h c s e ⟨n.val % 128, by omega⟩ (by show n.val % 128 = _; omega),
    v79_eq x7 b h c s e ⟨n.val % 128, by omega⟩ (by show n.val % 128 = _; omega)]
  rfl

theorem v82_eq (b : Fin 4) (h : Fin 8) (c : Fin 2) (s : Fin 8192) (e : Fin 32) (n : Fin 1024) (hn : n.val = h.val * 128 + c.val * 64 + (0 + e.val)) :
    val_main_v82 (F := Ideal) x0 x1 x2 x3 x5 x7 x8 (ix5 b h c s e) = ro (ai x0 x1 x2 x3) x5 x7 x8 b s n := by
  unfold val_main_v82
  by_cases he : e.val < 16
  · rw [← v72_eq x0 x1 x2 x3 x5 x7 x8 b h c s ⟨e.val, he⟩ n (by show n.val = h.val * 128 + c.val * 64 + (e.val); omega)]
    exact concatenate_pair_apply_left (t := S4x8x2x8192x32) (s₁ := S4x8x2x8192x16) (s₂ := S4x8x2x8192x16) 4 (val_main_v72 (F := Ideal) x0 x1 x2 x3 x5 x7 x8)
      (val_main_v81 (F := Ideal) x0 x1 x2 x3 x5 x7 x8) concatenates_S4x8x2x8192x16_S4x8x2x8192x16_S4x8x2x8192x32_d4 (ix5 b h c s e) rfl
      (ix5 b h c s ⟨e.val, he⟩) fun a => match a with
      | ⟨0, _⟩ => rfl
      | ⟨1, _⟩ => rfl
      | ⟨2, _⟩ => rfl
      | ⟨3, _⟩ => rfl
      | ⟨4, _⟩ => rfl
  · rw [← v81_eq x0 x1 x2 x3 x5 x7 x8 b h c s ⟨e.val - 16, by omega⟩ n (by show n.val = h.val * 128 + c.val * 64 + (16 + (e.val - 16)); omega)]
    exact concatenate_pair_apply_right (t := S4x8x2x8192x32) (s₁ := S4x8x2x8192x16) (s₂ := S4x8x2x8192x16) 4 (val_main_v72 (F := Ideal) x0 x1 x2 x3 x5 x7 x8)
      (val_main_v81 (F := Ideal) x0 x1 x2 x3 x5 x7 x8) concatenates_S4x8x2x8192x16_S4x8x2x8192x16_S4x8x2x8192x32_d4 (ix5 b h c s e) rfl rfl
      (ix5 b h c s ⟨e.val - 16, by omega⟩) (fun a ha => match a, ha with
      | ⟨0, _⟩, _ => rfl
      | ⟨1, _⟩, _ => rfl
      | ⟨2, _⟩, _ => rfl
      | ⟨3, _⟩, _ => rfl
      | ⟨4, _⟩, ha => absurd rfl ha) (by show e.val - 16 + 16 = e.val; omega)

theorem v86_eq (b : Fin 4) (h : Fin 8) (c : Fin 2) (s : Fin 8192) (e : Fin 16) (n : Fin 1024) (hn : n.val = h.val * 128 + c.val * 64 + (32 + e.val)) :
    val_main_v86 (F := Ideal) x0 x1 x2 x3 x5 (ix5 b h c s e) = pp x0 x1 x2 x3 x5 b s n := by
  have hi : idx_main_v83 (idx_main_v86 (ix5 b h c s e)) = ix5 b h c s ⟨32 + e.val, by omega⟩ := eq_ix5 _
  rw [val_main_v86_apply, val_main_v83_apply, hi]
  exact v54_eq x0 x1 x2 x3 x5 b h c s _ n hn

theorem v87_eq (b : Fin 4) (h : Fin 8) (c : Fin 2) (s : Fin 8192) (e : Fin 16) (n : Fin 1024) (hn : n.val = h.val * 128 + c.val * 64 + (32 + (16 + e.val))) :
    val_main_v87 (F := Ideal) x0 x1 x2 x3 x5 (ix5 b h c s e) = pp x0 x1 x2 x3 x5 b s n := by
  have hi : idx_main_v83 (idx_main_v87 (ix5 b h c s e)) = ix5 b h c s ⟨32 + (16 + e.val), by omega⟩ := eq_ix5 _
  rw [val_main_v87_apply, val_main_v83_apply, hi]
  exact v54_eq x0 x1 x2 x3 x5 b h c s _ n hn

theorem v90_eq (b : Fin 4) (h : Fin 8) (c : Fin 2) (s : Fin 8192) (e : Fin 16) (l : Fin 128) (hl : l.val = c.val * 64 + (32 + e.val)) :
    val_main_v90 (F := Ideal) x7 (ix5 b h c s e) = x7 (ix2 s l) := by
  rw [val_main_v90_apply, val_main_v89_apply, val_main_v88_apply, val_main_v84_apply, val_main_v56_apply, val_main_v55_apply]
  exact congrArg x7 (funext fun a => Fin.ext (by
    match a with
    | ⟨0, _⟩ => show ((s.val * 2 + c.val) * 64 + (32 + e.val)) / 128 = s.val; omega
    | ⟨1, _⟩ => show ((s.val * 2 + c.val) * 64 + (32 + e.val)) % 128 = l.val; omega))

theorem v94_eq (b : Fin 4) (h : Fin 8) (c : Fin 2) (s : Fin 8192) (e : Fin 16) (l : Fin 128) (hl : l.val = c.val * 64 + (32 + e.val)) :
    val_main_v94 (F := Ideal) x8 (ix5 b h c s e) = x8 (ix2 s l) := by
  rw [val_main_v94_apply, val_main_v93_apply, val_main_v92_apply, val_main_v85_apply, val_main_v58_apply, val_main_v57_apply]
  exact congrArg x8 (funext fun a => Fin.ext (by
    match a with
    | ⟨0, _⟩ => show ((s.val * 2 + c.val) * 64 + (32 + e.val)) / 128 = s.val; omega
    | ⟨1, _⟩ => show ((s.val * 2 + c.val) * 64 + (32 + e.val)) % 128 = l.val; omega))

theorem v99_eq (b : Fin 4) (h : Fin 8) (c : Fin 2) (s : Fin 8192) (e : Fin 16) (l : Fin 128) (hl : l.val = c.val * 64 + (32 + (16 + e.val))) :
    val_main_v99 (F := Ideal) x8 (ix5 b h c s e) = x8 (ix2 s l) := by
  rw [val_main_v99_apply, val_main_v98_apply, val_main_v97_apply, val_main_v85_apply, val_main_v58_apply, val_main_v57_apply]
  exact congrArg x8 (funext fun a => Fin.ext (by
    match a with
    | ⟨0, _⟩ => show ((s.val * 2 + c.val) * 64 + (32 + (16 + e.val))) / 128 = s.val; omega
    | ⟨1, _⟩ => show ((s.val * 2 + c.val) * 64 + (32 + (16 + e.val))) % 128 = l.val; omega))

theorem v103_eq (b : Fin 4) (h : Fin 8) (c : Fin 2) (s : Fin 8192) (e : Fin 16) (l : Fin 128) (hl : l.val = c.val * 64 + (32 + (16 + e.val))) :
    val_main_v103 (F := Ideal) x7 (ix5 b h c s e) = x7 (ix2 s l) := by
  rw [val_main_v103_apply, val_main_v102_apply, val_main_v101_apply, val_main_v84_apply, val_main_v56_apply, val_main_v55_apply]
  exact congrArg x7 (funext fun a => Fin.ext (by
    match a with
    | ⟨0, _⟩ => show ((s.val * 2 + c.val) * 64 + (32 + (16 + e.val))) / 128 = s.val; omega
    | ⟨1, _⟩ => show ((s.val * 2 + c.val) * 64 + (32 + (16 + e.val))) % 128 = l.val; omega))

theorem v96_eq (b : Fin 4) (h : Fin 8) (c : Fin 2) (s : Fin 8192) (e : Fin 16) (n : Fin 1024) (hn : n.val = h.val * 128 + c.val * 64 + (32 + e.val)) :
    val_main_v96 (F := Ideal) x0 x1 x2 x3 x5 x7 x8 (ix5 b h c s e) = ro (ai x0 x1 x2 x3) x5 x7 x8 b s n := by
  rw [ro_lo x0 x1 x2 x3 x5 x7 x8 b s n ⟨n.val + 16, by omega⟩ ⟨n.val % 128, by omega⟩ (by omega) rfl rfl, val_main_v96_apply, val_main_v91_apply, val_main_v95_apply,
    v86_eq x0 x1 x2 x3 x5 b h c s e n hn,
    v87_eq x0 x1 x2 x3 x5 b h c s e ⟨n.val + 16, by omega⟩ (by show n.val + 16 = _; omega), v90_eq x7 b h c s e ⟨n.val % 128, by omega⟩ (by show n.val % 128 = _; omega),
    v94_eq x8 b h c s e ⟨n.val % 128, by omega⟩ (by show n.val % 128 = _; omega)]
  rfl

theorem v105_eq (b : Fin 4) (h : Fin 8) (c : Fin 2) (s : Fin 8192) (e : Fin 16) (n : Fin 1024) (hn : n.val = h.val * 128 + c.val * 64 + (32 + (16 + e.val))) :
    val_main_v105 (F := Ideal) x0 x1 x2 x3 x5 x7 x8 (ix5 b h c s e) = ro (ai x0 x1 x2 x3) x5 x7 x8 b s n := by
  rw [ro_hi x0 x1 x2 x3 x5 x7 x8 b s n ⟨n.val - 16, by omega⟩ ⟨n.val % 128, by omega⟩ (by omega) rfl rfl, val_main_v105_apply, val_main_v100_apply, val_main_v104_apply,
    v86_eq x0 x1 x2 x3 x5 b h c s e ⟨n.val - 16, by omega⟩ (by show n.val - 16 = _; omega),
    v87_eq x0 x1 x2 x3 x5 b h c s e n hn, v99_eq x8 b h c s e ⟨n.val % 128, by omega⟩ (by show n.val % 128 = _; omega),
    v103_eq x7 b h c s e ⟨n.val % 128, by omega⟩ (by show n.val % 128 = _; omega)]
  rfl

theorem v106_eq (b : Fin 4) (h : Fin 8) (c : Fin 2) (s : Fin 8192) (e : Fin 32) (n : Fin 1024) (hn : n.val = h.val * 128 + c.val * 64 + (32 + e.val)) :
    val_main_v106 (F := Ideal) x0 x1 x2 x3 x5 x7 x8 (ix5 b h c s e) = ro (ai x0 x1 x2 x3) x5 x7 x8 b s n := by
  unfold val_main_v106
  by_cases he : e.val < 16
  · rw [← v96_eq x0 x1 x2 x3 x5 x7 x8 b h c s ⟨e.val, he⟩ n (by show n.val = h.val * 128 + c.val * 64 + (32 + e.val); omega)]
    exact concatenate_pair_apply_left (t := S4x8x2x8192x32) (s₁ := S4x8x2x8192x16) (s₂ := S4x8x2x8192x16) 4 (val_main_v96 (F := Ideal) x0 x1 x2 x3 x5 x7 x8)
      (val_main_v105 (F := Ideal) x0 x1 x2 x3 x5 x7 x8) concatenates_S4x8x2x8192x16_S4x8x2x8192x16_S4x8x2x8192x32_d4 (ix5 b h c s e) rfl
      (ix5 b h c s ⟨e.val, he⟩) fun a => match a with
      | ⟨0, _⟩ => rfl
      | ⟨1, _⟩ => rfl
      | ⟨2, _⟩ => rfl
      | ⟨3, _⟩ => rfl
      | ⟨4, _⟩ => rfl
  · rw [← v105_eq x0 x1 x2 x3 x5 x7 x8 b h c s ⟨e.val - 16, by omega⟩ n (by show n.val = h.val * 128 + c.val * 64 + (32 + (16 + (e.val - 16))); omega)]
    exact concatenate_pair_apply_right (t := S4x8x2x8192x32) (s₁ := S4x8x2x8192x16) (s₂ := S4x8x2x8192x16) 4 (val_main_v96 (F := Ideal) x0 x1 x2 x3 x5 x7 x8)
      (val_main_v105 (F := Ideal) x0 x1 x2 x3 x5 x7 x8) concatenates_S4x8x2x8192x16_S4x8x2x8192x16_S4x8x2x8192x32_d4 (ix5 b h c s e) rfl rfl
      (ix5 b h c s ⟨e.val - 16, by omega⟩) (fun a ha => match a, ha with
      | ⟨0, _⟩, _ => rfl
      | ⟨1, _⟩, _ => rfl
      | ⟨2, _⟩, _ => rfl
      | ⟨3, _⟩, _ => rfl
      | ⟨4, _⟩, ha => absurd rfl ha) (by show e.val - 16 + 16 = e.val; omega)

theorem v107_eq (b : Fin 4) (h : Fin 8) (c : Fin 2) (s : Fin 8192) (e : Fin 64) (n : Fin 1024) (hn : n.val = h.val * 128 + c.val * 64 + e.val) :
    val_main_v107 (F := Ideal) x0 x1 x2 x3 x5 x7 x8 (ix5 b h c s e) = ro (ai x0 x1 x2 x3) x5 x7 x8 b s n := by
  unfold val_main_v107
  by_cases he : e.val < 32
  · rw [← v82_eq x0 x1 x2 x3 x5 x7 x8 b h c s ⟨e.val, he⟩ n (by show n.val = h.val * 128 + c.val * 64 + (0 + e.val); omega)]
    exact concatenate_pair_apply_left (t := S4x8x2x8192x64) (s₁ := S4x8x2x8192x32) (s₂ := S4x8x2x8192x32) 4 (val_main_v82 (F := Ideal) x0 x1 x2 x3 x5 x7 x8)
      (val_main_v106 (F := Ideal) x0 x1 x2 x3 x5 x7 x8) concatenates_S4x8x2x8192x32_S4x8x2x8192x32_S4x8x2x8192x64_d4 (ix5 b h c s e) rfl
      (ix5 b h c s ⟨e.val, he⟩) fun a => match a with
      | ⟨0, _⟩ => rfl
      | ⟨1, _⟩ => rfl
      | ⟨2, _⟩ => rfl
      | ⟨3, _⟩ => rfl
      | ⟨4, _⟩ => rfl
  · rw [← v106_eq x0 x1 x2 x3 x5 x7 x8 b h c s ⟨e.val - 32, by omega⟩ n (by show n.val = h.val * 128 + c.val * 64 + (32 + (e.val - 32)); omega)]
    exact concatenate_pair_apply_right (t := S4x8x2x8192x64) (s₁ := S4x8x2x8192x32) (s₂ := S4x8x2x8192x32) 4 (val_main_v82 (F := Ideal) x0 x1 x2 x3 x5 x7 x8)
      (val_main_v106 (F := Ideal) x0 x1 x2 x3 x5 x7 x8) concatenates_S4x8x2x8192x32_S4x8x2x8192x32_S4x8x2x8192x64_d4 (ix5 b h c s e) rfl rfl
      (ix5 b h c s ⟨e.val - 32, by omega⟩) (fun a ha => match a, ha with
      | ⟨0, _⟩, _ => rfl
      | ⟨1, _⟩, _ => rfl
      | ⟨2, _⟩, _ => rfl
      | ⟨3, _⟩, _ => rfl
      | ⟨4, _⟩, ha => absurd rfl ha) (by show e.val - 32 + 32 = e.val; omega)

/-- The rotated product at a row and a column. -/
theorem v109_eq (b : Fin 4) (s : Fin 8192) (n : Fin 1024) :
    val_main_v109 (F := Ideal) x0 x1 x2 x3 x5 x7 x8 (ix3 b s n) = ro (ai x0 x1 x2 x3) x5 x7 x8 b s n := by
  have hi : idx_main_v108 (idx_main_v109 (ix3 b s n))
      = ix5 b ⟨n.val / 128, by omega⟩ ⟨n.val / 64 % 2, by omega⟩ s ⟨n.val % 64, by omega⟩ := by
    funext a
    apply Fin.ext
    match a with
    | ⟨0, _⟩ => show ((b.val * 8192 + s.val) * 1024 + n.val) / 8388608 = b.val; omega
    | ⟨1, _⟩ => show ((b.val * 8192 + s.val) * 1024 + n.val) / 128 % 8 = n.val / 128; omega
    | ⟨2, _⟩ => show ((b.val * 8192 + s.val) * 1024 + n.val) / 64 % 2 = n.val / 64 % 2; omega
    | ⟨3, _⟩ => show ((b.val * 8192 + s.val) * 1024 + n.val) / 1024 % 8192 = s.val; omega
    | ⟨4, _⟩ => show ((b.val * 8192 + s.val) * 1024 + n.val) % 64 = n.val % 64; omega
  rw [val_main_v109_apply, val_main_v108_apply, hi]
  exact v107_eq x0 x1 x2 x3 x5 x7 x8 b _ _ s _ n (by show n.val = n.val / 128 * 128 + n.val / 64 % 2 * 64 + n.val % 64; omega)

/-- The q of the reference at an index. -/
theorem v121_eq (r : Fin 32768) (d : Fin 512) (n : Fin 1024) (e : n.val = d.val) :
    val_main_v121 (F := Ideal) x0 x1 x2 x3 x5 x7 x8 (ix2 r d) = ro (ai x0 x1 x2 x3) x5 x7 x8 (bat r) (pos r) n * qs := by
  have hi : idx_main_v110 (idx_main_v120 (ix2 r d)) = ix3 (bat r) (pos r) n := by
    funext a
    apply Fin.ext
    match a with
    | ⟨0, _⟩ => show (r.val * 512 + d.val) / 4194304 = r.val / 8192; omega
    | ⟨1, _⟩ => show (r.val * 512 + d.val) / 512 % 8192 = r.val % 8192; omega
    | ⟨2, _⟩ => show (r.val * 512 + d.val) % 512 = n.val; omega
  rw [val_main_v121_apply, val_main_v120_apply, val_main_v112_apply, val_main_v110_apply, hi, v109_eq, val_main_v111_apply, val_main_cst_3_apply]
  rfl

/-- The k of the reference at an index. -/
theorem v123_eq (r : Fin 32768) (d : Fin 512) (n : Fin 1024) (e : n.val = 512 + d.val) :
    val_main_v123 (F := Ideal) x0 x1 x2 x3 x5 x7 x8 (ix2 r d) = ro (ai x0 x1 x2 x3) x5 x7 x8 (bat r) (pos r) n := by
  have hi : idx_main_v113 (idx_main_v122 (ix2 r d)) = ix3 (bat r) (pos r) n := by
    funext a
    apply Fin.ext
    match a with
    | ⟨0, _⟩ => show (r.val * 512 + d.val) / 4194304 = r.val / 8192; omega
    | ⟨1, _⟩ => show (r.val * 512 + d.val) / 512 % 8192 = r.val % 8192; omega
    | ⟨2, _⟩ => show 512 + (r.val * 512 + d.val) % 512 = n.val; omega
  rw [val_main_v123_apply, val_main_v122_apply, val_main_v113_apply, hi, v109_eq]
  rfl

/-- The v of the reference at an index. -/
theorem v125_eq (b : Fin 4) (n : Fin 512) (s : Fin 8192) :
    val_main_v125 (F := Ideal) x0 x1 x2 x3 x6 (ix3 b n s) = vv (ai x0 x1 x2 x3) x6 b s n := by
  have hi : idx_main_v124 (ix3 b n s) = ix3 b s n := eq_ix3 _
  unfold vv up
  rw [val_main_v125_apply, val_main_v124_apply, hi, val_main_v116_apply]
  refine Finset.sum_congr rfl fun d _ => ?_
  have hl : lidx_main_v116 (ix3 b s n) d = ix3 b s d := eq_ix3 _
  have hr : idx_main_v115 (ridx_main_v116 (ix3 b s n) d) = ix2 n d := eq_ix2 _
  rw [hl, v20_eq x0 x1 x2 x3, val_main_v115_apply, hr, val_main_v114_apply]
  rfl

end Cert.Proof.InpRef

end
-- ==== Proof.InpIdeal.Read.lean ====
/- What the kernel's body leaves in its six output blocks, as expressions over its input blocks: the product of the
normalised rows and their two halos in a buffer, the convolution over it, the rotated columns of q and k, and v. -/
module

public import proofs.«01_k».proof.Proof.Gen.InpIdeal.Value
public import Idealize.ShloMosaic.Lib.Pipeline.ValueKit

@[expose] public section

noncomputable section

namespace Cert.Proof.InpOut

open Cert.InpIdeal Cert.InpIdeal.Gen Idealize.ShloMosaic Idealize.ShloMosaic.TcCoe
open Idealize.SL Idealize.SL.Sem

variable {F : FTy → Type} [FloatOps F]

theorem inH0 : ∀ a : Fin 2, (![0, 0] : Fin 2 → Nat) a + S8x1536.size a ≤ S1040x1536.size a := by decide
theorem inH1 : ∀ a : Fin 2, (![8, 0] : Fin 2 → Nat) a + S1024x1536.size a ≤ S1040x1536.size a := by decide
theorem inH2 : ∀ a : Fin 2, (![1032, 0] : Fin 2 → Nat) a + S8x1536.size a ≤ S1040x1536.size a := by decide

theorem inQ (o : Nat) (h : o + 128 ≤ 512) : ∀ a : Fin 2, (![0, o] : Fin 2 → Nat) a + S1024x128.size a ≤ S1024x512.size a
  | ⟨0, _⟩ => Nat.le_refl 1024
  | ⟨1, _⟩ => h

/-- The grid point begins a sequence. -/
def atFirst (i : grid0.Coords) : BitVec 1 := kernelRun0_A.sl.v10 i
/-- The grid point ends a sequence. -/
def atLast (i : grid0.Coords) : BitVec 1 := kernelRun0_A.sl.v21 i

/-- The normalised rows. -/
def hmid (x1 : Vec F S1024x1024 .f32) (x3 : Vec F S1x1024 .f32) (x4 x5 : Vec F S1x1x1024 .f32) : FVec F S1024x1024 .bf16 :=
  k0_pay8 x3 (k0_pay5 x4) (k0_pay6 x5) x1 (k0_pay7 x1)

/-- The stores of the products, the last one first. -/
def bufL (i : grid0.Coords) (x0 : Vec F S8x1024 .f32) (x1 : Vec F S1024x1024 .f32) (x2 : Vec F S8x1024 .f32)
    (x3 : Vec F S1x1024 .f32) (x4 x5 : Vec F S1x1x1024 .f32) (x6 : Vec F S1024x1536 .bf16) : List (View.Piece (Elt F) S1040x1536 .f32) :=
  [⟨Rect.unit ![1032, 0] S8x1536.size inH2, k0_pay13 (atLast i) x3 (k0_pay5 x4) (k0_pay6 x5) x2 (k0_pay10 x2) x6⟩,
   ⟨Rect.unit ![8, 0] S1024x1536.size inH1, k0_pay12 (hmid x1 x3 x4 x5) x6⟩,
   ⟨Rect.unit ![0, 0] S8x1536.size inH0, k0_pay11 (k0_pay9 (atFirst i) x3 (k0_pay5 x4) (k0_pay6 x5) x0) x6⟩]

/-- The convolution over the products. -/
def convV (e : Vec F S1040x1536 .f32) (x11 : Vec F S3x1536 .f32) (x12 : Vec F S1x1536 .f32) : FVec F S1024x1536 .f32 :=
  k0_pay17 x11 (k0_pay14 e) (k0_pay15 x11 e) (k0_pay16 x11 e) x12

/-- The lanes of the first half of a rotated pair. -/
def lanes : IVec S1024x128 1 :=
  k0_pay26 (iota .tc S1024x128 32 [1] iota_S1024x128_d1_w32) 16#32 k0_pay23 k0_pay24 k0_pay25

/-- The stores of q, the last one first. -/
def qL (p : FVec F S1024x1024 .f32) (x9 x10 : Vec F S1024x128 .f32) : List (View.Piece (Elt F) S1024x512 .bf16) :=
  [⟨Rect.unit ![0, 384] S1024x128.size (inQ 384 (by omega)), k0_pay3 p x9 x10 lanes⟩,
   ⟨Rect.unit ![0, 256] S1024x128.size (inQ 256 (by omega)), k0_pay1 (k0_pay31 p x9 x10 lanes)⟩,
   ⟨Rect.unit ![0, 128] S1024x128.size (inQ 128 (by omega)), k0_pay29 p x9 x10 lanes⟩,
   ⟨Rect.unit ![0, 0] S1024x128.size (inQ 0 (by omega)),
     k0_pay27 p x9 x10 (iota .tc S1024x128 32 [1] iota_S1024x128_d1_w32) 16#32 k0_pay23 k0_pay24 k0_pay25⟩]

/-- The stores of k, the last one first. -/
def kL (p : FVec F S1024x1024 .f32) (x9 x10 : Vec F S1024x128 .f32) : List (View.Piece (Elt F) S1024x512 .bf16) :=
  [⟨Rect.unit ![0, 384] S1024x128.size (inQ 384 (by omega)), k0_pay4 p x9 x10 lanes⟩,
   ⟨Rect.unit ![0, 256] S1024x128.size (inQ 256 (by omega)), k0_pay2 p x9 x10 lanes⟩,
   ⟨Rect.unit ![0, 128] S1024x128.size (inQ 128 (by omega)), k0_pay30 p x9 x10 lanes⟩,
   ⟨Rect.unit ![0, 0] S1024x128.size (inQ 0 (by omega)), k0_pay28 p x9 x10 lanes⟩]

theorem z2 : (![0, 0] : Fin 2 → Nat) = fun _ => 0 := by decide
theorem z3 : (![0, 0, 0] : Fin 3 → Nat) = fun _ => 0 := by decide

variable (c : Dev nD) (i : grid0.Coords)
    (a1 : Memref sig .tc .vmem S8x1024 .f32) (h1 : a1.IsWhole)
    (a2 : Memref sig .tc .vmem S1024x1024 .f32) (h2 : a2.IsWhole)
    (a3 : Memref sig .tc .vmem S8x1024 .f32) (h3 : a3.IsWhole)
    (a4 : Memref sig .tc .vmem S1x1024 .f32) (h4 : a4.IsWhole)
    (a5 : Memref sig .tc .vmem S1x1x1024 .f32) (h5 : a5.IsWhole)
    (a6 : Memref sig .tc .vmem S1x1x1024 .f32) (h6 : a6.IsWhole)
    (a7 : Memref sig .tc .vmem S1024x1536 .bf16) (h7 : a7.IsWhole)
    (a8 : Memref sig .tc .vmem S1024x1024 .bf16) (h8 : a8.IsWhole)
    (a9 : Memref sig .tc .vmem S512x1024 .bf16) (h9 : a9.IsWhole)
    (a10 : Memref sig .tc .vmem S1024x128 .f32) (h10 : a10.IsWhole)
    (a11 : Memref sig .tc .vmem S1024x128 .f32) (h11 : a11.IsWhole)
    (a12 : Memref sig .tc .vmem S3x1536 .f32) (h12 : a12.IsWhole)
    (a13 : Memref sig .tc .vmem S1x1536 .f32) (h13 : a13.IsWhole)
    (a14 : Memref sig .tc .vmem S1024x512 .f32) (h14 : a14.IsWhole)
    (a15 : Memref sig .tc .vmem S1024x512 .f32) (h15 : a15.IsWhole)
    (a16 : Memref sig .tc .vmem S1024x512 .f32) (h16 : a16.IsWhole)
    (a17 : Memref sig .tc .vmem S1024x512 .bf16) (h17 : a17.IsWhole)
    (a18 : Memref sig .tc .vmem S1024x512 .bf16) (h18 : a18.IsWhole)
    (a19 : Memref sig .tc .vmem S1x512x1024 .bf16) (h19 : a19.IsWhole)
    (a20 : Memref sig .tc .vmem S1040x1536 .f32) (h20 : a20.IsWhole)
    (x0 : Vec F S8x1024 .f32)
    (x1 : Vec F S1024x1024 .f32)
    (x2 : Vec F S8x1024 .f32)
    (x3 : Vec F S1x1024 .f32)
    (x4 : Vec F S1x1x1024 .f32)
    (x5 : Vec F S1x1x1024 .f32)
    (x6 : Vec F S1024x1536 .bf16)
    (x7 : Vec F S1024x1024 .bf16)
    (x8 : Vec F S512x1024 .bf16)
    (x9 : Vec F S1024x128 .f32)
    (x10 : Vec F S1024x128 .f32)
    (x11 : Vec F S3x1536 .f32)
    (x12 : Vec F S1x1536 .f32)

theorem buf_eq : kernelRun0_A.sl.v105 c i a1 h1 a2 h2 a3 h3 a4 h4 a5 h5 a6 h6 a7 h7 a20 x0 x1 x2 x3 x4 x5 x6
    = View.canon (bufL i x0 x1 x2 x3 x4 x5 x6) := by
  unfold kernelRun0_A.sl.v105 kernelRun0_A.sl.HS0_3
  rw [View.readCov_eq_canon']
  unfold kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  simp (disch := decide) only [View.readAt_eq_ld, Memref.IsWhole.read_unread, View.ld_unit_lit']
  exact View.ld_unit_zero z2 _ _

theorem out_eq13 : out0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12
    = extractStridedSlice S1024x512 ![0, 0] (convV (View.canon (bufL i x0 x1 x2 x3 x4 x5 x6)) x11 x12) slices_S1024x1536_o0_0_S1024x512 := by
  unfold out0_A_13
  rw [View.read_writes_junk_eq_canon]
  unfold kernelRun0_A
  dsimp only
  rw [View.canon_unit_zero z2]
  unfold kernelRun0_A.sl.r_9 kernelRun0_A.sl.r_10 kernelRun0_A.sl.r_11 kernelRun0_A.sl.r_12
  simp (disch := decide) only [buf_eq, View.readAt_eq_ld, Memref.IsWhole.read_unread, View.ld_unit_lit']
  rfl

theorem out_eq14 : out0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12
    = extractStridedSlice S1024x512 ![0, 512] (convV (View.canon (bufL i x0 x1 x2 x3 x4 x5 x6)) x11 x12) slices_S1024x1536_o0_512_S1024x512 := by
  unfold out0_A_14
  rw [View.read_writes_junk_eq_canon]
  unfold kernelRun0_A
  dsimp only
  rw [View.canon_unit_zero z2]
  unfold kernelRun0_A.sl.r_9 kernelRun0_A.sl.r_10 kernelRun0_A.sl.r_11 kernelRun0_A.sl.r_12
  simp (disch := decide) only [buf_eq, View.readAt_eq_ld, Memref.IsWhole.read_unread, View.ld_unit_lit']
  rfl

theorem out_eq15 : out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12
    = extractStridedSlice S1024x512 ![0, 1024] (convV (View.canon (bufL i x0 x1 x2 x3 x4 x5 x6)) x11 x12) slices_S1024x1536_o0_1024_S1024x512 := by
  unfold out0_A_15
  rw [View.read_writes_junk_eq_canon]
  unfold kernelRun0_A
  dsimp only
  rw [View.canon_unit_zero z2]
  unfold kernelRun0_A.sl.r_9 kernelRun0_A.sl.r_10 kernelRun0_A.sl.r_11 kernelRun0_A.sl.r_12
  simp (disch := decide) only [buf_eq, View.readAt_eq_ld, Memref.IsWhole.read_unread, View.ld_unit_lit']
  rfl

theorem out_eq16 : out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12
    = View.canon (qL (k0_pay21 (hmid x1 x3 x4 x5) x7) x9 x10) := by
  unfold out0_A_16
  rw [View.read_writes_junk_eq_canon]
  unfold kernelRun0_A
  dsimp only
  simp (disch := decide) only [kernelRun0_A.sl.r_13, kernelRun0_A.sl.r_14, kernelRun0_A.sl.r_15, kernelRun0_A.sl.r_16, kernelRun0_A.sl.r_17, kernelRun0_A.sl.r_18, kernelRun0_A.sl.r, kernelRun0_A.sl.r_1, kernelRun0_A.sl.r_2, kernelRun0_A.sl.r_3, kernelRun0_A.sl.r_4, kernelRun0_A.sl.r_5, View.readAt_eq_ld, Memref.IsWhole.read_unread, View.ld_unit_lit']
  rfl

theorem out_eq17 : out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12
    = View.canon (kL (k0_pay21 (hmid x1 x3 x4 x5) x7) x9 x10) := by
  unfold out0_A_17
  rw [View.read_writes_junk_eq_canon]
  unfold kernelRun0_A
  dsimp only
  simp (disch := decide) only [kernelRun0_A.sl.r_13, kernelRun0_A.sl.r_14, kernelRun0_A.sl.r_15, kernelRun0_A.sl.r_16, kernelRun0_A.sl.r, kernelRun0_A.sl.r_1, kernelRun0_A.sl.r_2, kernelRun0_A.sl.r_3, kernelRun0_A.sl.r_4, kernelRun0_A.sl.r_5, View.readAt_eq_ld, Memref.IsWhole.read_unread, View.ld_unit_lit']
  rfl

theorem out_eq18 : out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12
    = k0_pay22 (hmid x1 x3 x4 x5) x8 := by
  unfold out0_A_18
  rw [View.read_writes_junk_eq_canon]
  unfold kernelRun0_A
  dsimp only
  rw [View.canon_unit_zero z3]
  simp (disch := decide) only [kernelRun0_A.sl.r, kernelRun0_A.sl.r_1, kernelRun0_A.sl.r_2, kernelRun0_A.sl.r_3, kernelRun0_A.sl.r_4, kernelRun0_A.sl.r_5, View.readAt_eq_ld, Memref.IsWhole.read_unread, View.ld_unit_lit']
  rfl

end Cert.Proof.InpOut

end
-- ==== Proof.InpIdeal.Value.lean ====
/- The kernel's named payloads at an index, over the reals. -/
module

public import proofs.«01_k».proof.Proof.InpIdeal.Read
public import proofs.«01_k».proof.Proof.InpIdeal.Math
public import Idealize.ShloMosaic.Lib.Pointwise

@[expose] public section

set_option maxRecDepth 16384

noncomputable section

namespace Cert.Proof.InpOut

open Cert.InpIdeal Cert.InpIdeal.Gen Cert.Proof.FfnMath Cert.Proof.InpMath
open Idealize.ShloMosaic

theorem hmid_apply (x : Vec Ideal S1024x1024 .f32) (g : Vec Ideal S1x1024 .f32) (sh sc : Vec Ideal S1x1x1024 .f32) (r d : Fin 1024) :
    hmid (F := Ideal) x g sh sc (ix2 r d)
      = nrm (fun e => x (ix2 r e)) (fun e => g (ix2 0 e)) (fun e => sh (ix3 0 0 e)) (fun e => sc (ix3 0 0 e)) d := by
  pointwise [hmid, k0_pay8, k0_pay5, k0_pay6, k0_pay7]
  rfl

theorem pay9_apply (b : BitVec 1) (g : Vec Ideal S1x1024 .f32) (sh sc : Vec Ideal S1x1x1024 .f32) (x : Vec Ideal S8x1024 .f32) (r : Fin 8) (d : Fin 1024) :
    k0_pay9 (F := Ideal) b g (k0_pay5 sh) (k0_pay6 sc) x (ix2 r d)
      = Scalar.select b 0 (nrm (fun e => x (ix2 r e)) (fun e => g (ix2 0 e)) (fun e => sh (ix3 0 0 e)) (fun e => sc (ix3 0 0 e)) d) := by
  pointwise [k0_pay9, k0_pay5, k0_pay6]
  rfl

theorem pay11_apply (h : FVec Ideal S8x1024 .bf16) (w : Vec Ideal S1024x1536 .bf16) (r : Fin 8) (n : Fin 1536) :
    k0_pay11 (F := Ideal) h w (ix2 r n) = up (fun d => h (ix2 r d)) fun d => w (ix2 d n) := by
  pointwise [k0_pay11]
  rfl

theorem pay12_apply (h : FVec Ideal S1024x1024 .bf16) (w : Vec Ideal S1024x1536 .bf16) (r : Fin 1024) (n : Fin 1536) :
    k0_pay12 (F := Ideal) h w (ix2 r n) = up (fun d => h (ix2 r d)) fun d => w (ix2 d n) := by
  pointwise [k0_pay12]
  rfl

theorem sel_mul (b : BitVec 1) (y w : EReal) : Scalar.select b 0 y * w = Scalar.select b 0 (y * w) := by
  unfold Scalar.select
  split
  · exact zero_mul w
  · rfl

theorem pay13_apply (b : BitVec 1) (g : Vec Ideal S1x1024 .f32) (sh sc : Vec Ideal S1x1x1024 .f32) (x : Vec Ideal S8x1024 .f32)
    (w : Vec Ideal S1024x1536 .bf16) (r : Fin 8) (n : Fin 1536) :
    k0_pay13 (F := Ideal) b g (k0_pay5 sh) (k0_pay6 sc) x (k0_pay10 x) w (ix2 r n)
      = up (fun d => Scalar.select b 0 (nrm (fun e => x (ix2 r e)) (fun e => g (ix2 0 e)) (fun e => sh (ix3 0 0 e)) (fun e => sc (ix3 0 0 e)) d))
        fun d => w (ix2 d n) := by
  pointwise [k0_pay13, k0_pay5, k0_pay6, k0_pay10]
  unfold up
  simp only [sel_mul]
  rfl

theorem conv_apply (e : Vec Ideal S1040x1536 .f32) (w : Vec Ideal S3x1536 .f32) (b : Vec Ideal S1x1536 .f32) (r : Fin 1024) (n : Fin 1536) :
    convV (F := Ideal) e w b (ix2 r n)
      = cv (fun a => w (ix2 a n)) (b (ix2 0 n)) (e (ix2 ⟨r.val + 7, by omega⟩ n)) (e (ix2 ⟨r.val + 8, by omega⟩ n))
        (e (ix2 ⟨r.val + 9, by omega⟩ n)) := by
  pointwise [convV, k0_pay17, k0_pay14, k0_pay15, k0_pay16]
  have e1 : (8 + r.val + 1040 - 1) % 1040 = r.val + 7 := by omega
  have e2 : (8 + r.val + 1040 - 1039) % 1040 = r.val + 9 := by omega
  have e3 : 8 + r.val = r.val + 8 := by omega
  simp only [e1, e2]
  simp only [e3]
  rfl

theorem pay21_apply (h w : FVec Ideal S1024x1024 .bf16) (r n : Fin 1024) :
    k0_pay21 (F := Ideal) h w (ix2 r n) = up (fun d => h (ix2 r d)) fun d => w (ix2 d n) := by
  pointwise [k0_pay21]
  rfl

theorem pay22_apply (h : FVec Ideal S1024x1024 .bf16) (w : Vec Ideal S512x1024 .bf16) (n : Fin 512) (r : Fin 1024) :
    k0_pay22 (F := Ideal) h w (ix3 0 n r) = up (fun d => w (ix2 n d)) fun d => h (ix2 r d) := by
  pointwise [k0_pay22]
  rfl

/-- The lane mask as one word expression of the lane. -/
theorem lanes_apply (r : Fin 1024) (j : Fin 128) : lanes (ix2 r j) = if j.val / 16 % 2 = 0 then 1#1 else 0#1 := by
  pointwise [lanes, k0_pay26, k0_pay23, k0_pay24, k0_pay25]
  revert j
  decide +kernel

/-- A lane's partner. -/
def prt (j : Fin 128) : Fin 128 := if j.val / 16 % 2 = 0 then ⟨(j.val + 16) % 128, by omega⟩ else ⟨(j.val + 112) % 128, by omega⟩

/-- A rotated lane. -/
def rt (p : Fin 128 → EReal) (c s : Fin 128 → EReal) (j : Fin 128) : EReal := p j * c j + p (prt j) * s j

theorem sel_apply (r : Fin 1024) (j : Fin 128) (p : Fin 128 → EReal) :
    Scalar.select (lanes (ix2 r j)) (p ⟨(j.val + 16) % 128, by omega⟩) (p ⟨(j.val + 112) % 128, by omega⟩) = p (prt j) := by
  rw [lanes_apply]
  unfold prt
  split <;> rfl

section
variable (p : FVec Ideal S1024x1024 .f32) (x9 x10 : Vec Ideal S1024x128 .f32) (r : Fin 1024) (j : Fin 128)

/-- The lanes of a head. -/
def hd (o : Nat) (h : o + 128 ≤ 1024) (j : Fin 128) : EReal := p (ix2 r ⟨o + j.val, by omega⟩)

theorem pay29_apply : k0_pay29 (F := Ideal) p x9 x10 lanes (ix2 r j)
    = rt (hd p r 128 (by omega)) (fun j => x9 (ix2 r j)) (fun j => x10 (ix2 r j)) j * qs := by
  unfold rt
  rw [← sel_apply r j (hd p r 128 (by omega))]
  generalize lanes = m
  pointwise [k0_pay29]
  rfl

theorem pay3_apply : k0_pay3 (F := Ideal) p x9 x10 lanes (ix2 r j)
    = rt (hd p r 384 (by omega)) (fun j => x9 (ix2 r j)) (fun j => x10 (ix2 r j)) j * qs := by
  unfold rt
  rw [← sel_apply r j (hd p r 384 (by omega))]
  generalize lanes = m
  pointwise [k0_pay3]
  rfl

theorem pay28_apply : k0_pay28 (F := Ideal) p x9 x10 lanes (ix2 r j)
    = rt (hd p r 512 (by omega)) (fun j => x9 (ix2 r j)) (fun j => x10 (ix2 r j)) j := by
  unfold rt
  rw [← sel_apply r j (hd p r 512 (by omega))]
  generalize lanes = m
  pointwise [k0_pay28]
  rfl

theorem pay30_apply : k0_pay30 (F := Ideal) p x9 x10 lanes (ix2 r j)
    = rt (hd p r 640 (by omega)) (fun j => x9 (ix2 r j)) (fun j => x10 (ix2 r j)) j := by
  unfold rt
  rw [← sel_apply r j (hd p r 640 (by omega))]
  generalize lanes = m
  pointwise [k0_pay30]
  rfl

theorem pay2_apply : k0_pay2 (F := Ideal) p x9 x10 lanes (ix2 r j)
    = rt (hd p r 768 (by omega)) (fun j => x9 (ix2 r j)) (fun j => x10 (ix2 r j)) j := by
  unfold rt
  rw [← sel_apply r j (hd p r 768 (by omega))]
  generalize lanes = m
  pointwise [k0_pay2]
  rfl

theorem pay4_apply : k0_pay4 (F := Ideal) p x9 x10 lanes (ix2 r j)
    = rt (hd p r 896 (by omega)) (fun j => x9 (ix2 r j)) (fun j => x10 (ix2 r j)) j := by
  unfold rt
  rw [← sel_apply r j (hd p r 896 (by omega))]
  generalize lanes = m
  pointwise [k0_pay4]
  rfl

theorem pay1_apply : k0_pay1 (F := Ideal) (k0_pay31 p x9 x10 lanes) (ix2 r j)
    = rt (hd p r 256 (by omega)) (fun j => x9 (ix2 r j)) (fun j => x10 (ix2 r j)) j * qs := by
  unfold rt
  rw [← sel_apply r j (hd p r 256 (by omega))]
  generalize lanes = m
  pointwise [k0_pay1, k0_pay31]
  rfl

theorem pay27_apply : k0_pay27 (F := Ideal) p x9 x10 (iota .tc S1024x128 32 [1] iota_S1024x128_d1_w32) 16#32 k0_pay23 k0_pay24 k0_pay25 (ix2 r j)
    = rt (hd p r 0 (by omega)) (fun j => x9 (ix2 r j)) (fun j => x10 (ix2 r j)) j * qs := by
  unfold rt k0_pay27
  rw [← sel_apply r j (hd p r 0 (by omega))]
  change (truncf .bf16 (mulf (addf (mulf _ x9) (mulf (select lanes _ _) x10)) _) _ : FVec Ideal S1024x128 .bf16) (ix2 r j) = _
  generalize lanes = m
  pointwise []
  simp only [hd, Nat.zero_add]
  rfl

end

end Cert.Proof.InpOut

end
-- ==== Proof.InpIdeal.Block.lean ====
/- The stored blocks at an index: the rows of the product buffer, the convolution over them, and the tiles of q and k. -/
module

public import proofs.«01_k».proof.Proof.InpIdeal.Value

@[expose] public section

set_option maxRecDepth 16384

noncomputable section

namespace Cert.Proof.InpOut

open Cert.InpIdeal Cert.InpIdeal.Gen Cert.Proof.FfnMath Cert.Proof.InpMath
open Idealize.ShloMosaic

section
variable (p : FVec Ideal S1024x1024 .f32) (x9 x10 : Vec Ideal S1024x128 .f32)

/-- A rotated column of a block's row. -/
def rF (r n : Fin 1024) : EReal := p (ix2 r n) * x9 (ix2 r (lane n)) + p (ix2 r (par n)) * x10 (ix2 r (lane n))

theorem rt_eq (r : Fin 1024) (j : Fin 128) (o : Nat) (h : o + 128 ≤ 1024) (ho : o % 128 = 0) (n : Fin 1024) (e : n.val = o + j.val) :
    rt (hd p r o h) (fun j => x9 (ix2 r j)) (fun j => x10 (ix2 r j)) j = rF p x9 x10 r n := by
  have el : lane n = j := Fin.ext (by show n.val % 128 = j.val; omega)
  have en : (⟨o + j.val, by omega⟩ : Fin 1024) = n := Fin.ext e.symm
  have ep : (⟨o + (prt j).val, by omega⟩ : Fin 1024) = par n := by
    apply Fin.ext
    show o + (prt j).val = if n.val / 16 % 2 = 0 then n.val + 16 else n.val - 16
    unfold prt
    by_cases hj : j.val / 16 % 2 = 0
    · rw [if_pos hj, if_pos (by omega)]
      show o + (j.val + 16) % 128 = n.val + 16
      omega
    · rw [if_neg hj, if_neg (by omega)]
      show o + (j.val + 112) % 128 = n.val - 16
      omega
  unfold rt rF hd
  rw [el, en, ep]

theorem tile_of (v : FVec Ideal S1024x128 .bf16) (o : Nat) (h : o + 128 ≤ 512) (r : Fin 1024) (n : Fin 512) (y : EReal)
    (hv : ∀ j : Fin 128, n.val = o + j.val → v (ix2 r j) = y) :
    View.TileAt (Val := Elt Ideal) (S := S1024x512) (e := .bf16) (ix2 r n) ![0, o] S1024x128.size v y := by
  intro x hx
  obtain ⟨a, b, rfl⟩ : ∃ (a : Fin 1024) (b : Fin 128), x = ix2 a b := ⟨_, _, eq_ix2 x⟩
  have h0 : r.val = 0 + a.val := hx 0
  have h1 : n.val = o + b.val := hx 1
  obtain rfl : a = r := Fin.ext (by omega)
  exact hv b h1

theorem q_apply (r : Fin 1024) (n : Fin 512) :
    View.canon (qL (F := Ideal) p x9 x10) (ix2 r n) = rF p x9 x10 r ⟨n.val, by omega⟩ * qs := by
  refine View.canon_eq_of_allAt _ _ _ (View.cover_of_tiled (qL (F := Ideal) p x9 x10) S1024x128.size (by rfl) _) ?_
  unfold qL
  refine View.allAt_cons_unit _ _ _ _ _ (tile_of _ 384 (by omega) r n _ fun j e => (pay3_apply p x9 x10 r j).trans (congrArg (· * qs) (rt_eq p x9 x10 r j 384 (by omega) rfl ⟨n.val, by omega⟩ (by show n.val = 384 + j.val; omega)))) ?_
  refine View.allAt_cons_unit _ _ _ _ _ (tile_of _ 256 (by omega) r n _ fun j e => (pay1_apply p x9 x10 r j).trans (congrArg (· * qs) (rt_eq p x9 x10 r j 256 (by omega) rfl ⟨n.val, by omega⟩ (by show n.val = 256 + j.val; omega)))) ?_
  refine View.allAt_cons_unit _ _ _ _ _ (tile_of _ 128 (by omega) r n _ fun j e => (pay29_apply p x9 x10 r j).trans (congrArg (· * qs) (rt_eq p x9 x10 r j 128 (by omega) rfl ⟨n.val, by omega⟩ (by show n.val = 128 + j.val; omega)))) ?_
  refine View.allAt_cons_unit _ _ _ _ _ (tile_of _ 0 (by omega) r n _ fun j e => (pay27_apply p x9 x10 r j).trans (congrArg (· * qs) (rt_eq p x9 x10 r j 0 (by omega) rfl ⟨n.val, by omega⟩ (by show n.val = 0 + j.val; omega)))) ?_
  exact View.allAt_nil _ _

theorem k_apply (r : Fin 1024) (n : Fin 512) :
    View.canon (kL (F := Ideal) p x9 x10) (ix2 r n) = rF p x9 x10 r ⟨512 + n.val, by omega⟩ := by
  refine View.canon_eq_of_allAt _ _ _ (View.cover_of_tiled (kL (F := Ideal) p x9 x10) S1024x128.size (by rfl) _) ?_
  unfold kL
  refine View.allAt_cons_unit _ _ _ _ _ (tile_of _ 384 (by omega) r n _ fun j e => (pay4_apply p x9 x10 r j).trans ((rt_eq p x9 x10 r j 896 (by omega) rfl ⟨512 + n.val, by omega⟩ (by show 512 + n.val = 896 + j.val; omega)))) ?_
  refine View.allAt_cons_unit _ _ _ _ _ (tile_of _ 256 (by omega) r n _ fun j e => (pay2_apply p x9 x10 r j).trans ((rt_eq p x9 x10 r j 768 (by omega) rfl ⟨512 + n.val, by omega⟩ (by show 512 + n.val = 768 + j.val; omega)))) ?_
  refine View.allAt_cons_unit _ _ _ _ _ (tile_of _ 128 (by omega) r n _ fun j e => (pay30_apply p x9 x10 r j).trans ((rt_eq p x9 x10 r j 640 (by omega) rfl ⟨512 + n.val, by omega⟩ (by show 512 + n.val = 640 + j.val; omega)))) ?_
  refine View.allAt_cons_unit _ _ _ _ _ (tile_of _ 0 (by omega) r n _ fun j e => (pay28_apply p x9 x10 r j).trans ((rt_eq p x9 x10 r j 512 (by omega) rfl ⟨512 + n.val, by omega⟩ (by show 512 + n.val = 512 + j.val; omega)))) ?_
  exact View.allAt_nil _ _

end

section
variable (i : grid0.Coords) (x0 : Vec Ideal S8x1024 .f32) (x1 : Vec Ideal S1024x1024 .f32) (x2 : Vec Ideal S8x1024 .f32)
  (x3 : Vec Ideal S1x1024 .f32) (x4 x5 : Vec Ideal S1x1x1024 .f32) (x6 : Vec Ideal S1024x1536 .bf16)

/-- The norm of a row of a block. -/
def nrow (x : Fin 1024 → EReal) : Fin 1024 → EReal :=
  nrm x (fun e => x3 (ix2 0 e)) (fun e => x4 (ix3 0 0 e)) (fun e => x5 (ix3 0 0 e))

/-- The product buffer. -/
def bufV : Vec Ideal S1040x1536 .f32 := View.canon (bufL (F := Ideal) i x0 x1 x2 x3 x4 x5 x6)

theorem buf_mid (r : Fin 1024) (ρ : Fin 1040) (e : ρ.val = r.val + 8) (n : Fin 1536) :
    bufV i x0 x1 x2 x3 x4 x5 x6 (ix2 ρ n) = up (nrow x3 x4 x5 (fun e => x1 (ix2 r e))) fun d => x6 (ix2 d n) := by
  refine View.canon_eq_of_allAt _ _ _ ⟨_, List.mem_cons_of_mem _ List.mem_cons_self, (Rect.mem_set_unit (inb := inH1)).mpr fun a => ?_⟩ ?_
  · match a with
    | ⟨0, _⟩ => show 8 ≤ ρ.val ∧ ρ.val < 8 + 1024; omega
    | ⟨1, _⟩ => show 0 ≤ n.val ∧ n.val < 0 + 1536; omega
  unfold bufL
  refine View.allAt_cons_unit _ _ _ _ _ ?_ (View.allAt_cons_unit _ _ _ _ _ ?_ (View.allAt_cons_unit _ _ _ _ _ ?_ (View.allAt_nil _ _)))
  · intro x hx
    have h0 : ρ.val = 1032 + (x 0).val := hx 0
    omega
  · intro x hx
    obtain ⟨a, b, rfl⟩ : ∃ (a : Fin 1024) (b : Fin 1536), x = ix2 a b := ⟨_, _, eq_ix2 x⟩
    have h0 : ρ.val = 8 + a.val := hx 0
    have h1 : n.val = 0 + b.val := hx 1
    obtain rfl : a = r := Fin.ext (by omega)
    obtain rfl : b = n := Fin.ext (by omega)
    refine (pay12_apply (hmid x1 x3 x4 x5) x6 a b).trans ?_
    simp only [hmid_apply]
    rfl
  · intro x hx
    have h0 : ρ.val = 0 + (x 0).val := hx 0
    have : (x 0).val < 8 := (x 0).isLt
    omega

theorem buf_lo (ρ : Fin 1040) (e : ρ.val = 7) (n : Fin 1536) :
    bufV i x0 x1 x2 x3 x4 x5 x6 (ix2 ρ n)
      = up (fun d => Scalar.select (atFirst i) 0 (nrow x3 x4 x5 (fun e => x0 (ix2 7 e)) d)) fun d => x6 (ix2 d n) := by
  refine View.canon_eq_of_allAt _ _ _ ⟨_, List.mem_cons_of_mem _ (List.mem_cons_of_mem _ List.mem_cons_self), (Rect.mem_set_unit (inb := inH0)).mpr fun a => ?_⟩ ?_
  · match a with
    | ⟨0, _⟩ => show 0 ≤ ρ.val ∧ ρ.val < 0 + 8; omega
    | ⟨1, _⟩ => show 0 ≤ n.val ∧ n.val < 0 + 1536; omega
  unfold bufL
  refine View.allAt_cons_unit _ _ _ _ _ ?_ (View.allAt_cons_unit _ _ _ _ _ ?_ (View.allAt_cons_unit _ _ _ _ _ ?_ (View.allAt_nil _ _)))
  · intro x hx
    have h0 : ρ.val = 1032 + (x 0).val := hx 0
    omega
  · intro x hx
    have h0 : ρ.val = 8 + (x 0).val := hx 0
    omega
  · intro x hx
    obtain ⟨a, b, rfl⟩ : ∃ (a : Fin 8) (b : Fin 1536), x = ix2 a b := ⟨_, _, eq_ix2 x⟩
    have h0 : ρ.val = 0 + a.val := hx 0
    have h1 : n.val = 0 + b.val := hx 1
    obtain rfl : a = 7 := Fin.ext (by show a.val = 7; omega)
    obtain rfl : b = n := Fin.ext (by omega)
    refine (pay11_apply (k0_pay9 (atFirst i) x3 (k0_pay5 x4) (k0_pay6 x5) x0) x6 7 b).trans ?_
    simp only [pay9_apply]
    rfl

theorem buf_hi (ρ : Fin 1040) (e : ρ.val = 1032) (n : Fin 1536) :
    bufV i x0 x1 x2 x3 x4 x5 x6 (ix2 ρ n)
      = up (fun d => Scalar.select (atLast i) 0 (nrow x3 x4 x5 (fun e => x2 (ix2 0 e)) d)) fun d => x6 (ix2 d n) := by
  refine View.canon_eq_of_allAt _ _ _ ⟨_, List.mem_cons_self, (Rect.mem_set_unit (inb := inH2)).mpr fun a => ?_⟩ ?_
  · match a with
    | ⟨0, _⟩ => show 1032 ≤ ρ.val ∧ ρ.val < 1032 + 8; omega
    | ⟨1, _⟩ => show 0 ≤ n.val ∧ n.val < 0 + 1536; omega
  unfold bufL
  refine View.allAt_cons_unit _ _ _ _ _ ?_ (View.allAt_cons_unit _ _ _ _ _ ?_ (View.allAt_cons_unit _ _ _ _ _ ?_ (View.allAt_nil _ _)))
  · intro x hx
    obtain ⟨a, b, rfl⟩ : ∃ (a : Fin 8) (b : Fin 1536), x = ix2 a b := ⟨_, _, eq_ix2 x⟩
    have h0 : ρ.val = 1032 + a.val := hx 0
    have h1 : n.val = 0 + b.val := hx 1
    obtain rfl : a = 0 := Fin.ext (by show a.val = 0; omega)
    obtain rfl : b = n := Fin.ext (by omega)
    exact pay13_apply (atLast i) x3 x4 x5 x2 x6 0 b
  · intro x hx
    have h0 : ρ.val = 8 + (x 0).val := hx 0
    have : (x 0).val < 1024 := (x 0).isLt
    omega
  · intro x hx
    have h0 : ρ.val = 0 + (x 0).val := hx 0
    have : (x 0).val < 8 := (x 0).isLt
    omega

end

end Cert.Proof.InpOut

end
-- ==== Proof.InpIdeal.Final.lean ====
/- The six result arrays: each block of rows is written back at its place, so the arrays end at the formulas of the
arguments. -/
module

public import proofs.«01_k».proof.Proof.InpIdeal.Block

@[expose] public section

set_option maxRecDepth 16384

noncomputable section

namespace Cert.Proof.InpOut

open Cert.InpIdeal Cert.InpIdeal.Gen Cert.Proof.FfnMath Cert.Proof.InpMath
open Idealize.ShloMosaic Idealize.ShloMosaic.TcCoe Idealize.SL.Sem

variable (m : (ℓ : Loc nD τ sig) → Buf (Elt Ideal) ℓ) (ρ : Dev nD → PrngReg)

/-- The arguments of device `c`. -/
abbrev a0 (c : Dev nD) : FVec Ideal S32768x1024 .f32 := m ((c : Thread nD τ).loc main_arg0)
abbrev a1 (c : Dev nD) : FVec Ideal S1x1024 .f32 := m ((c : Thread nD τ).loc main_arg1)
abbrev a2 (c : Dev nD) : FVec Ideal S4x1x1024 .f32 := m ((c : Thread nD τ).loc main_arg2)
abbrev a3 (c : Dev nD) : FVec Ideal S4x1x1024 .f32 := m ((c : Thread nD τ).loc main_arg3)
abbrev a4 (c : Dev nD) : FVec Ideal S1024x1536 .bf16 := m ((c : Thread nD τ).loc main_arg4)
abbrev a5 (c : Dev nD) : FVec Ideal S1024x1024 .bf16 := m ((c : Thread nD τ).loc main_arg5)
abbrev a6 (c : Dev nD) : FVec Ideal S512x1024 .bf16 := m ((c : Thread nD τ).loc main_arg6)
abbrev a7 (c : Dev nD) : FVec Ideal S8192x128 .f32 := m ((c : Thread nD τ).loc main_arg7)
abbrev a8 (c : Dev nD) : FVec Ideal S8192x128 .f32 := m ((c : Thread nD τ).loc main_arg8)
abbrev a9 (c : Dev nD) : FVec Ideal S3x1536 .f32 := m ((c : Thread nD τ).loc main_arg9)
abbrev a10 (c : Dev nD) : FVec Ideal S1x1536 .f32 := m ((c : Thread nD τ).loc main_arg10)

/-- The arguments that make the normalised rows. -/
abbrev AA (c : Dev nD) : Ar := ai (a0 m c) (a1 m c) (a2 m c) (a3 m c)

/-- The convolved product of device `c`. -/
abbrev HC (c : Dev nD) : Fin 4 → Fin 8192 → Fin 1536 → EReal := hc (AA m c) (a4 m c) (a9 m c) (a10 m c)
/-- The rotated product of device `c`. -/
abbrev RO (c : Dev nD) : Fin 4 → Fin 8192 → Fin 1024 → EReal := ro (AA m c) (a5 m c) (a7 m c) (a8 m c)

/-- A column of the three parts of the convolution. -/
def c0 (n : Fin 512) : Fin 1536 := ⟨0 + n.val, by omega⟩
def c1 (n : Fin 512) : Fin 1536 := ⟨512 + n.val, by omega⟩
def c2 (n : Fin 512) : Fin 1536 := ⟨1024 + n.val, by omega⟩
/-- A column of q and of k. -/
def d0 (n : Fin 512) : Fin 1024 := ⟨n.val, by omega⟩
def d1 (n : Fin 512) : Fin 1024 := ⟨512 + n.val, by omega⟩

/-- The result arrays of device `c`. -/
def G13 (c : Dev nD) : Buf (Elt Ideal) ((c : Thread nD τ).loc main_v0_0) := fun i : S32768x512.Idx => HC m c (bat (i 0)) (pos (i 0)) (c0 (i 1))
def G14 (c : Dev nD) : Buf (Elt Ideal) ((c : Thread nD τ).loc main_v0_1) := fun i : S32768x512.Idx => HC m c (bat (i 0)) (pos (i 0)) (c1 (i 1))
def G15 (c : Dev nD) : Buf (Elt Ideal) ((c : Thread nD τ).loc main_v0_2) := fun i : S32768x512.Idx => HC m c (bat (i 0)) (pos (i 0)) (c2 (i 1))
def G16 (c : Dev nD) : Buf (Elt Ideal) ((c : Thread nD τ).loc main_v0_3) := fun i : S32768x512.Idx => RO m c (bat (i 0)) (pos (i 0)) (d0 (i 1)) * qs
def G17 (c : Dev nD) : Buf (Elt Ideal) ((c : Thread nD τ).loc main_v0_4) := fun i : S32768x512.Idx => RO m c (bat (i 0)) (pos (i 0)) (d1 (i 1))
def G18 (c : Dev nD) : Buf (Elt Ideal) ((c : Thread nD τ).loc main_v0_5) := fun i : S4x512x8192.Idx => vv (AA m c) (a6 m c) (i 0) (i 2) (i 1)

/-- A point's sequence, and the place in it of a row of its block. -/
def tb (t : Fin cfg0.N) : Fin 4 := ⟨t.val / 8, Nat.div_lt_of_lt_mul t.isLt⟩
def sp (t : Fin cfg0.N) (r : Fin 1024) : Fin 8192 := ⟨t.val % 8 * 1024 + r.val, by omega⟩

theorem t_lt (t : Fin cfg0.N) : t.val < 32 := t.isLt

theorem first_eq : ∀ t : Fin 32, atFirst (grid0.coords t) = if t.val % 8 = 0 then 1#1 else 0#1 := by decide +kernel
theorem last_eq : ∀ t : Fin 32, atLast (grid0.coords t) = if t.val % 8 = 7 then 1#1 else 0#1 := by decide +kernel

theorem idx0 : ∀ t : Fin 32, win0_0.index t 0 = t.val * 128 - 1 ∧ win0_0.index t 1 = 0 := by decide +kernel
theorem idx1 : ∀ t : Fin 32, win0_1.index t 0 = t.val ∧ win0_1.index t 1 = 0 := by decide +kernel
theorem idx2 : ∀ t : Fin 32, win0_2.index t 0 = min ((t.val + 1) * 128) 4095 ∧ win0_2.index t 1 = 0 := by decide +kernel
theorem idx3 : ∀ t : Fin 32, win0_3.index t 0 = 0 ∧ win0_3.index t 1 = 0 := by decide +kernel
theorem idx6 : ∀ t : Fin 32, win0_6.index t 0 = 0 ∧ win0_6.index t 1 = 0 := by decide +kernel
theorem idx7 : ∀ t : Fin 32, win0_7.index t 0 = 0 ∧ win0_7.index t 1 = 0 := by decide +kernel
theorem idx8 : ∀ t : Fin 32, win0_8.index t 0 = 0 ∧ win0_8.index t 1 = 0 := by decide +kernel
theorem idx11 : ∀ t : Fin 32, win0_11.index t 0 = 0 ∧ win0_11.index t 1 = 0 := by decide +kernel
theorem idx12 : ∀ t : Fin 32, win0_12.index t 0 = 0 ∧ win0_12.index t 1 = 0 := by decide +kernel
theorem idx4 : ∀ t : Fin 32, win0_4.index t 0 = t.val / 8 ∧ win0_4.index t 1 = 0 ∧ win0_4.index t 2 = 0 := by decide +kernel
theorem idx5 : ∀ t : Fin 32, win0_5.index t 0 = t.val / 8 ∧ win0_5.index t 1 = 0 ∧ win0_5.index t 2 = 0 := by decide +kernel
theorem idx9 : ∀ t : Fin 32, win0_9.index t 0 = t.val % 8 ∧ win0_9.index t 1 = 0 := by decide +kernel
theorem idx10 : ∀ t : Fin 32, win0_10.index t 0 = t.val % 8 ∧ win0_10.index t 1 = 0 := by decide +kernel
theorem idx13 : ∀ t : Fin 32, win0_13.index t 0 = t.val ∧ win0_13.index t 1 = 0 := by decide +kernel
theorem idx14 : ∀ t : Fin 32, win0_14.index t 0 = t.val ∧ win0_14.index t 1 = 0 := by decide +kernel
theorem idx15 : ∀ t : Fin 32, win0_15.index t 0 = t.val ∧ win0_15.index t 1 = 0 := by decide +kernel
theorem idx16 : ∀ t : Fin 32, win0_16.index t 0 = t.val ∧ win0_16.index t 1 = 0 := by decide +kernel
theorem idx17 : ∀ t : Fin 32, win0_17.index t 0 = t.val ∧ win0_17.index t 1 = 0 := by decide +kernel
theorem idx18 : ∀ t : Fin 32, win0_18.index t 0 = t.val / 8 ∧ win0_18.index t 1 = 0 ∧ win0_18.index t 2 = t.val % 8 := by decide +kernel

theorem iblk0 (c : Dev nD) (t : Fin cfg0.N) (R : Fin 32768) (e : R.val = t.val * 1024 - 1) (ht : t.val ≠ 0) (y : Fin 1024) :
    (iblk m c 0 t : Vec Ideal S8x1024 .f32) (ix2 7 y) = a0 m c (ix2 R y) := by
  unfold iblk
  refine congrArg (a0 m c) (funext fun a => Fin.ext ?_)
  obtain ⟨e0, e1⟩ := idx0 t
  match a with
  | ⟨0, _⟩ => show win0_0.index t 0 * 8 + 1 * 7 = R.val; rw [e0]; omega
  | ⟨1, _⟩ => show win0_0.index t 1 * 1024 + 1 * y.val = y.val; rw [e1]; omega

theorem iblk1 (c : Dev nD) (t : Fin cfg0.N) (R : Fin 32768) (x : Fin 1024) (e : R.val = t.val * 1024 + x.val) (y : Fin 1024) :
    (iblk m c 1 t : Vec Ideal S1024x1024 .f32) (ix2 x y) = a0 m c (ix2 R y) := by
  unfold iblk
  refine congrArg (a0 m c) (funext fun a => Fin.ext ?_)
  obtain ⟨e0, e1⟩ := idx1 t
  match a with
  | ⟨0, _⟩ => show win0_1.index t 0 * 1024 + 1 * x.val = R.val; rw [e0]; omega
  | ⟨1, _⟩ => show win0_1.index t 1 * 1024 + 1 * y.val = y.val; rw [e1]; omega

theorem iblk2 (c : Dev nD) (t : Fin cfg0.N) (R : Fin 32768) (e : R.val = (t.val + 1) * 1024) (y : Fin 1024) :
    (iblk m c 2 t : Vec Ideal S8x1024 .f32) (ix2 0 y) = a0 m c (ix2 R y) := by
  unfold iblk
  refine congrArg (a0 m c) (funext fun a => Fin.ext ?_)
  obtain ⟨e0, e1⟩ := idx2 t
  have hR : R.val < 32768 := R.isLt
  match a with
  | ⟨0, _⟩ => show win0_2.index t 0 * 8 + 1 * 0 = R.val; rw [e0]; omega
  | ⟨1, _⟩ => show win0_2.index t 1 * 1024 + 1 * y.val = y.val; rw [e1]; omega

theorem iblk3 (c : Dev nD) (t : Fin cfg0.N) (x : Fin 1) (y : Fin 1024) : (iblk m c 3 t : Vec Ideal S1x1024 .f32) (ix2 x y) = a1 m c (ix2 x y) := by
  unfold iblk
  refine congrArg (a1 m c) (funext fun a => Fin.ext ?_)
  obtain ⟨e0, e1⟩ := idx3 t
  match a with
  | ⟨0, _⟩ => show win0_3.index t 0 * 1 + 1 * x.val = x.val; rw [e0]; omega
  | ⟨1, _⟩ => show win0_3.index t 1 * 1024 + 1 * y.val = y.val; rw [e1]; omega

theorem iblk6 (c : Dev nD) (t : Fin cfg0.N) (x : Fin 1024) (y : Fin 1536) : (iblk m c 6 t : Vec Ideal S1024x1536 .bf16) (ix2 x y) = a4 m c (ix2 x y) := by
  unfold iblk
  refine congrArg (a4 m c) (funext fun a => Fin.ext ?_)
  obtain ⟨e0, e1⟩ := idx6 t
  match a with
  | ⟨0, _⟩ => show win0_6.index t 0 * 1024 + 1 * x.val = x.val; rw [e0]; omega
  | ⟨1, _⟩ => show win0_6.index t 1 * 1536 + 1 * y.val = y.val; rw [e1]; omega

theorem iblk7 (c : Dev nD) (t : Fin cfg0.N) (x : Fin 1024) (y : Fin 1024) : (iblk m c 7 t : Vec Ideal S1024x1024 .bf16) (ix2 x y) = a5 m c (ix2 x y) := by
  unfold iblk
  refine congrArg (a5 m c) (funext fun a => Fin.ext ?_)
  obtain ⟨e0, e1⟩ := idx7 t
  match a with
  | ⟨0, _⟩ => show win0_7.index t 0 * 1024 + 1 * x.val = x.val; rw [e0]; omega
  | ⟨1, _⟩ => show win0_7.index t 1 * 1024 + 1 * y.val = y.val; rw [e1]; omega

theorem iblk8 (c : Dev nD) (t : Fin cfg0.N) (x : Fin 512) (y : Fin 1024) : (iblk m c 8 t : Vec Ideal S512x1024 .bf16) (ix2 x y) = a6 m c (ix2 x y) := by
  unfold iblk
  refine congrArg (a6 m c) (funext fun a => Fin.ext ?_)
  obtain ⟨e0, e1⟩ := idx8 t
  match a with
  | ⟨0, _⟩ => show win0_8.index t 0 * 512 + 1 * x.val = x.val; rw [e0]; omega
  | ⟨1, _⟩ => show win0_8.index t 1 * 1024 + 1 * y.val = y.val; rw [e1]; omega

theorem iblk11 (c : Dev nD) (t : Fin cfg0.N) (x : Fin 3) (y : Fin 1536) : (iblk m c 11 t : Vec Ideal S3x1536 .f32) (ix2 x y) = a9 m c (ix2 x y) := by
  unfold iblk
  refine congrArg (a9 m c) (funext fun a => Fin.ext ?_)
  obtain ⟨e0, e1⟩ := idx11 t
  match a with
  | ⟨0, _⟩ => show win0_11.index t 0 * 3 + 1 * x.val = x.val; rw [e0]; omega
  | ⟨1, _⟩ => show win0_11.index t 1 * 1536 + 1 * y.val = y.val; rw [e1]; omega

theorem iblk12 (c : Dev nD) (t : Fin cfg0.N) (x : Fin 1) (y : Fin 1536) : (iblk m c 12 t : Vec Ideal S1x1536 .f32) (ix2 x y) = a10 m c (ix2 x y) := by
  unfold iblk
  refine congrArg (a10 m c) (funext fun a => Fin.ext ?_)
  obtain ⟨e0, e1⟩ := idx12 t
  match a with
  | ⟨0, _⟩ => show win0_12.index t 0 * 1 + 1 * x.val = x.val; rw [e0]; omega
  | ⟨1, _⟩ => show win0_12.index t 1 * 1536 + 1 * y.val = y.val; rw [e1]; omega

theorem iblk4 (c : Dev nD) (t : Fin cfg0.N) (y : Fin 1024) : (iblk m c 4 t : Vec Ideal S1x1x1024 .f32) (ix3 0 0 y) = a2 m c (ix3 (tb t) 0 y) := by
  unfold iblk
  refine congrArg (a2 m c) (funext fun a => Fin.ext ?_)
  obtain ⟨e0, e1, e2⟩ := idx4 t
  match a with
  | ⟨0, _⟩ => show win0_4.index t 0 * 1 + 1 * 0 = t.val / 8; rw [e0]; omega
  | ⟨1, _⟩ => show win0_4.index t 1 * 1 + 1 * 0 = 0; rw [e1]
  | ⟨2, _⟩ => show win0_4.index t 2 * 1024 + 1 * y.val = y.val; rw [e2]; omega

theorem iblk5 (c : Dev nD) (t : Fin cfg0.N) (y : Fin 1024) : (iblk m c 5 t : Vec Ideal S1x1x1024 .f32) (ix3 0 0 y) = a3 m c (ix3 (tb t) 0 y) := by
  unfold iblk
  refine congrArg (a3 m c) (funext fun a => Fin.ext ?_)
  obtain ⟨e0, e1, e2⟩ := idx5 t
  match a with
  | ⟨0, _⟩ => show win0_5.index t 0 * 1 + 1 * 0 = t.val / 8; rw [e0]; omega
  | ⟨1, _⟩ => show win0_5.index t 1 * 1 + 1 * 0 = 0; rw [e1]
  | ⟨2, _⟩ => show win0_5.index t 2 * 1024 + 1 * y.val = y.val; rw [e2]; omega

theorem iblk9 (c : Dev nD) (t : Fin cfg0.N) (x : Fin 1024) (y : Fin 128) : (iblk m c 9 t : Vec Ideal S1024x128 .f32) (ix2 x y) = a7 m c (ix2 (sp t x) y) := by
  unfold iblk
  refine congrArg (a7 m c) (funext fun a => Fin.ext ?_)
  obtain ⟨e0, e1⟩ := idx9 t
  match a with
  | ⟨0, _⟩ => show win0_9.index t 0 * 1024 + 1 * x.val = t.val % 8 * 1024 + x.val; rw [e0]; omega
  | ⟨1, _⟩ => show win0_9.index t 1 * 128 + 1 * y.val = y.val; rw [e1]; omega

theorem iblk10 (c : Dev nD) (t : Fin cfg0.N) (x : Fin 1024) (y : Fin 128) : (iblk m c 10 t : Vec Ideal S1024x128 .f32) (ix2 x y) = a8 m c (ix2 (sp t x) y) := by
  unfold iblk
  refine congrArg (a8 m c) (funext fun a => Fin.ext ?_)
  obtain ⟨e0, e1⟩ := idx10 t
  match a with
  | ⟨0, _⟩ => show win0_10.index t 0 * 1024 + 1 * x.val = t.val % 8 * 1024 + x.val; rw [e0]; omega
  | ⟨1, _⟩ => show win0_10.index t 1 * 128 + 1 * y.val = y.val; rw [e1]; omega

/-- The product buffer of a point. -/
def bfT (c : Dev nD) (t : Fin cfg0.N) : Vec Ideal S1040x1536 .f32 :=
  bufV (grid0.coords t) (iblk m c 0 t) (iblk m c 1 t) (iblk m c 2 t) (iblk m c 3 t) (iblk m c 4 t) (iblk m c 5 t) (iblk m c 6 t)

theorem row_val (t : Fin cfg0.N) (r : Fin 1024) : (row (tb t) (sp t r)).val = t.val * 1024 + r.val := by
  show t.val / 8 * 8192 + (t.val % 8 * 1024 + r.val) = _
  omega

theorem nrow_eq (c : Dev nD) (t : Fin cfg0.N) (x : Fin 1024 → EReal) (s : Fin 8192) (hx : ∀ e, x e = a0 m c (ix2 (row (tb t) s) e)) :
    nrow (iblk m c 3 t) (iblk m c 4 t) (iblk m c 5 t) x = nr (AA m c) (tb t) s := by
  obtain rfl : x = fun e => a0 m c (ix2 (row (tb t) s) e) := funext hx
  unfold nrow
  simp only [iblk3, iblk4, iblk5]
  rfl

theorem w_eq (c : Dev nD) (t : Fin cfg0.N) (n : Fin 1536) : (fun d : Fin 1024 => (iblk m c 6 t : Vec Ideal S1024x1536 .bf16) (ix2 d n)) = fun d => a4 m c (ix2 d n) :=
  funext fun d => iblk6 m c t d n

theorem bf_c (c : Dev nD) (t : Fin cfg0.N) (r : Fin 1024) (ϱ : Fin 1040) (e : ϱ.val = r.val + 8) (n : Fin 1536) :
    bfT m c t (ix2 ϱ n) = up (nr (AA m c) (tb t) (sp t r)) fun d => a4 m c (ix2 d n) := by
  unfold bfT
  rw [buf_mid _ _ _ _ _ _ _ _ r ϱ e n, nrow_eq m c t _ (sp t r) fun y => iblk1 m c t _ r (row_val t r) y, w_eq]

theorem bf_p (c : Dev nD) (t : Fin cfg0.N) (r : Fin 1024) (ϱ : Fin 1040) (e : ϱ.val = r.val + 7) (n : Fin 1536) :
    bfT m c t (ix2 ϱ n) = up (pv (AA m c) (tb t) (sp t r)) fun d => a4 m c (ix2 d n) := by
  have ht := t_lt t
  unfold pv
  by_cases hr : r.val = 0
  · by_cases h8 : t.val % 8 = 0
    · have hb : atFirst (grid0.coords t) = 1#1 := (first_eq t).trans (if_pos h8)
      have hs : t.val % 8 * 1024 + r.val = 0 := by omega
      rw [if_pos (show (sp t r).val = 0 from hs)]
      unfold bfT
      rw [buf_lo _ _ _ _ _ _ _ _ ϱ (by omega) n, hb, w_eq]
      rfl
    · have hb : atFirst (grid0.coords t) = 0#1 := (first_eq t).trans (if_neg h8)
      have hs : ¬ t.val % 8 * 1024 + r.val = 0 := by omega
      rw [if_neg (show ¬ (sp t r).val = 0 from hs)]
      unfold bfT
      rw [buf_lo _ _ _ _ _ _ _ _ ϱ (by omega) n, hb, w_eq]
      have hlt : t.val % 8 * 1024 + r.val - 1 < 8192 := by omega
      have hR : t.val / 8 * 8192 + (t.val % 8 * 1024 + r.val - 1) = t.val * 1024 - 1 := by omega
      exact congrArg (fun h => up h fun d => a4 m c (ix2 d n)) (nrow_eq m c t _ ⟨(sp t r).val - 1, hlt⟩ fun y => iblk0 m c t _ hR (by omega) y)
  · have hs : ¬ t.val % 8 * 1024 + r.val = 0 := by omega
    rw [if_neg (show ¬ (sp t r).val = 0 from hs), bf_c m c t ⟨r.val - 1, by omega⟩ ϱ (by show ϱ.val = r.val - 1 + 8; omega)]
    refine congrArg (fun s => up (nr (AA m c) (tb t) s) fun d => a4 m c (ix2 d n)) (Fin.ext ?_)
    show t.val % 8 * 1024 + (r.val - 1) = t.val % 8 * 1024 + r.val - 1
    omega

theorem bf_n (c : Dev nD) (t : Fin cfg0.N) (r : Fin 1024) (ϱ : Fin 1040) (e : ϱ.val = r.val + 9) (n : Fin 1536) :
    bfT m c t (ix2 ϱ n) = up (nx (AA m c) (tb t) (sp t r)) fun d => a4 m c (ix2 d n) := by
  have ht := t_lt t
  unfold nx
  by_cases hr : r.val = 1023
  · by_cases h8 : t.val % 8 = 7
    · have hb : atLast (grid0.coords t) = 1#1 := (last_eq t).trans (if_pos h8)
      have hs : t.val % 8 * 1024 + r.val = 8191 := by omega
      rw [dif_pos (show (sp t r).val = 8191 from hs)]
      unfold bfT
      rw [buf_hi _ _ _ _ _ _ _ _ ϱ (by omega) n, hb, w_eq]
      rfl
    · have hb : atLast (grid0.coords t) = 0#1 := (last_eq t).trans (if_neg h8)
      have hs : ¬ t.val % 8 * 1024 + r.val = 8191 := by omega
      rw [dif_neg (show ¬ (sp t r).val = 8191 from hs)]
      unfold bfT
      rw [buf_hi _ _ _ _ _ _ _ _ ϱ (by omega) n, hb, w_eq]
      have hlt : t.val % 8 * 1024 + r.val + 1 < 8192 := by omega
      have hR : t.val / 8 * 8192 + (t.val % 8 * 1024 + r.val + 1) = (t.val + 1) * 1024 := by omega
      exact congrArg (fun h => up h fun d => a4 m c (ix2 d n)) (nrow_eq m c t _ ⟨(sp t r).val + 1, hlt⟩ fun y => iblk2 m c t _ hR y)
  · have hs : ¬ t.val % 8 * 1024 + r.val = 8191 := by omega
    rw [dif_neg (show ¬ (sp t r).val = 8191 from hs), bf_c m c t ⟨r.val + 1, by omega⟩ ϱ (by show ϱ.val = r.val + 1 + 8; omega)]
    rfl

/-- The convolution of a point at a row and a column. -/
theorem conv_at (c : Dev nD) (t : Fin cfg0.N) (r : Fin 1024) (n : Fin 1536) :
    convV (F := Ideal) (bfT m c t) (iblk m c 11 t) (iblk m c 12 t) (ix2 r n) = HC m c (tb t) (sp t r) n := by
  rw [conv_apply, bf_p m c t r _ rfl, bf_c m c t r _ rfl, bf_n m c t r _ rfl]
  simp only [iblk11, iblk12]
  rfl

/-- The normalised rows of a point. -/
theorem h_at (c : Dev nD) (t : Fin cfg0.N) (r : Fin 1024) :
    (fun d : Fin 1024 => hmid (F := Ideal) (iblk m c 1 t) (iblk m c 3 t) (iblk m c 4 t) (iblk m c 5 t) (ix2 r d)) = nr (AA m c) (tb t) (sp t r) := by
  funext d
  rw [hmid_apply]
  exact congrFun (nrow_eq m c t _ (sp t r) fun y => iblk1 m c t _ r (row_val t r) y) d

/-- The rotated product of a point at a row and a column. -/
theorem ro_at (c : Dev nD) (t : Fin cfg0.N) (r n : Fin 1024) :
    rF (k0_pay21 (F := Ideal) (hmid (iblk m c 1 t) (iblk m c 3 t) (iblk m c 4 t) (iblk m c 5 t)) (iblk m c 7 t)) (iblk m c 9 t) (iblk m c 10 t) r n
      = RO m c (tb t) (sp t r) n := by
  have hw : ∀ k : Fin 1024, (fun d : Fin 1024 => (iblk m c 7 t : Vec Ideal S1024x1024 .bf16) (ix2 d k)) = fun d => a5 m c (ix2 d k) :=
    fun k => funext fun d => iblk7 m c t d k
  unfold rF
  rw [pay21_apply, pay21_apply, h_at, hw, hw, iblk9, iblk10]
  rfl

theorem hb_eq (t : Fin cfg0.N) (r : Fin 1024) : bat (row (tb t) (sp t r)) = tb t := by
  apply Fin.ext
  show (row (tb t) (sp t r)).val / 8192 = t.val / 8
  rw [row_val]; omega

theorem hp_eq (t : Fin cfg0.N) (r : Fin 1024) : pos (row (tb t) (sp t r)) = sp t r := by
  apply Fin.ext
  show (row (tb t) (sp t r)).val % 8192 = t.val % 8 * 1024 + r.val
  rw [row_val]; omega

theorem flushed_eq13 (c : Dev nD) (t : Fin cfg0.N) : (dats m 0 c).flushed 13 t = (win0_13.blk t).view.read (Elt Ideal) (G13 m c) := by
  have ht := t_lt t
  rw [Value.flushed13_A, out_eq13]
  funext (y : S1024x512.Idx)
  obtain ⟨r, d, rfl⟩ : ∃ (r : Fin 1024) (d : Fin 512), y = ix2 r d := ⟨_, _, eq_ix2 y⟩
  obtain ⟨e0, e1⟩ := idx13 t
  have hv : ((win0_13.blk t).view.emb (ix2 r d) : S32768x512.Idx) = ix2 (row (tb t) (sp t r)) d := by
    funext a
    apply Fin.ext
    match a with
    | ⟨0, _⟩ => show win0_13.index t 0 * 1024 + 1 * r.val = (row (tb t) (sp t r)).val; rw [e0, row_val]; omega
    | ⟨1, _⟩ => show win0_13.index t 1 * 512 + 1 * d.val = d.val; rw [e1]; omega
  show _ = G13 m c ((win0_13.blk t).view.emb (ix2 r d))
  rw [hv]
  show _ = HC m c (bat (row (tb t) (sp t r))) (pos (row (tb t) (sp t r))) (c0 d)
  rw [hb_eq, hp_eq, ← conv_at]
  unfold bfT bufV
  generalize convV (F := Ideal) _ _ _ = y
  exact extractStridedSlice_apply _ y _ _ (ix2 r (c0 d)) fun a => match a with
    | ⟨0, _⟩ => (Nat.zero_add r.val).symm
    | ⟨1, _⟩ => rfl

theorem mem_blk13 (t : Fin cfg0.N) (i : S32768x512.Idx) : i ∈ ((cfg0.win 13).blk t).view.set ↔ t.val = (i 0 : Nat) / 1024 := by
  show i ∈ ((View.whole main_v0_0).slice (win0_13.rect t)).set ↔ _
  rw [View.set_slice_whole, Rect.mem_set_unit]
  obtain ⟨e0, e1⟩ := idx13 t
  have h1 : (i 1 : Nat) < 512 := (i 1).isLt
  refine ⟨fun h => ?_, fun h a => ?_⟩
  · have p0 : win0_13.index t 0 * 1024 ≤ (i 0 : Nat) ∧ (i 0 : Nat) < win0_13.index t 0 * 1024 + 1024 := h 0
    rw [e0] at p0
    omega
  · match a with
    | ⟨0, _⟩ => show win0_13.index t 0 * 1024 ≤ (i 0 : Nat) ∧ (i 0 : Nat) < win0_13.index t 0 * 1024 + 1024; rw [e0]; omega
    | ⟨1, _⟩ => show win0_13.index t 1 * 512 ≤ (i 1 : Nat) ∧ (i 1 : Nat) < win0_13.index t 1 * 512 + 512; rw [e1]; omega

theorem cover13 (i : S32768x512.Idx) : ∃ t : Fin cfg0.N, (cfg0.win 13).flush t = true ∧ i ∈ ((cfg0.win 13).blk t).view.set := by
  have h0 : (i 0 : Nat) < 32768 := (i 0).isLt
  have ht : (i 0 : Nat) / 1024 < cfg0.N := by show _ < 32; omega
  exact ⟨⟨_, ht⟩, flush0_13 _, (mem_blk13 _ _).mpr rfl⟩

theorem final13 (c : Dev nD) : (dats m 0 c).arrAt 13 cfg0.N = G13 m c :=
  (dats m 0 c).arrAt_eq_of_cover 13 (G13 m c) (fun t _ => flushed_eq13 m c t) cover13

theorem flushed_eq14 (c : Dev nD) (t : Fin cfg0.N) : (dats m 0 c).flushed 14 t = (win0_14.blk t).view.read (Elt Ideal) (G14 m c) := by
  have ht := t_lt t
  rw [Value.flushed14_A, out_eq14]
  funext (y : S1024x512.Idx)
  obtain ⟨r, d, rfl⟩ : ∃ (r : Fin 1024) (d : Fin 512), y = ix2 r d := ⟨_, _, eq_ix2 y⟩
  obtain ⟨e0, e1⟩ := idx14 t
  have hv : ((win0_14.blk t).view.emb (ix2 r d) : S32768x512.Idx) = ix2 (row (tb t) (sp t r)) d := by
    funext a
    apply Fin.ext
    match a with
    | ⟨0, _⟩ => show win0_14.index t 0 * 1024 + 1 * r.val = (row (tb t) (sp t r)).val; rw [e0, row_val]; omega
    | ⟨1, _⟩ => show win0_14.index t 1 * 512 + 1 * d.val = d.val; rw [e1]; omega
  show _ = G14 m c ((win0_14.blk t).view.emb (ix2 r d))
  rw [hv]
  show _ = HC m c (bat (row (tb t) (sp t r))) (pos (row (tb t) (sp t r))) (c1 d)
  rw [hb_eq, hp_eq, ← conv_at]
  unfold bfT bufV
  generalize convV (F := Ideal) _ _ _ = y
  exact extractStridedSlice_apply _ y _ _ (ix2 r (c1 d)) fun a => match a with
    | ⟨0, _⟩ => (Nat.zero_add r.val).symm
    | ⟨1, _⟩ => rfl

theorem mem_blk14 (t : Fin cfg0.N) (i : S32768x512.Idx) : i ∈ ((cfg0.win 14).blk t).view.set ↔ t.val = (i 0 : Nat) / 1024 := by
  show i ∈ ((View.whole main_v0_1).slice (win0_14.rect t)).set ↔ _
  rw [View.set_slice_whole, Rect.mem_set_unit]
  obtain ⟨e0, e1⟩ := idx14 t
  have h1 : (i 1 : Nat) < 512 := (i 1).isLt
  refine ⟨fun h => ?_, fun h a => ?_⟩
  · have p0 : win0_14.index t 0 * 1024 ≤ (i 0 : Nat) ∧ (i 0 : Nat) < win0_14.index t 0 * 1024 + 1024 := h 0
    rw [e0] at p0
    omega
  · match a with
    | ⟨0, _⟩ => show win0_14.index t 0 * 1024 ≤ (i 0 : Nat) ∧ (i 0 : Nat) < win0_14.index t 0 * 1024 + 1024; rw [e0]; omega
    | ⟨1, _⟩ => show win0_14.index t 1 * 512 ≤ (i 1 : Nat) ∧ (i 1 : Nat) < win0_14.index t 1 * 512 + 512; rw [e1]; omega

theorem cover14 (i : S32768x512.Idx) : ∃ t : Fin cfg0.N, (cfg0.win 14).flush t = true ∧ i ∈ ((cfg0.win 14).blk t).view.set := by
  have h0 : (i 0 : Nat) < 32768 := (i 0).isLt
  have ht : (i 0 : Nat) / 1024 < cfg0.N := by show _ < 32; omega
  exact ⟨⟨_, ht⟩, flush0_14 _, (mem_blk14 _ _).mpr rfl⟩

theorem final14 (c : Dev nD) : (dats m 0 c).arrAt 14 cfg0.N = G14 m c :=
  (dats m 0 c).arrAt_eq_of_cover 14 (G14 m c) (fun t _ => flushed_eq14 m c t) cover14

theorem flushed_eq15 (c : Dev nD) (t : Fin cfg0.N) : (dats m 0 c).flushed 15 t = (win0_15.blk t).view.read (Elt Ideal) (G15 m c) := by
  have ht := t_lt t
  rw [Value.flushed15_A, out_eq15]
  funext (y : S1024x512.Idx)
  obtain ⟨r, d, rfl⟩ : ∃ (r : Fin 1024) (d : Fin 512), y = ix2 r d := ⟨_, _, eq_ix2 y⟩
  obtain ⟨e0, e1⟩ := idx15 t
  have hv : ((win0_15.blk t).view.emb (ix2 r d) : S32768x512.Idx) = ix2 (row (tb t) (sp t r)) d := by
    funext a
    apply Fin.ext
    match a with
    | ⟨0, _⟩ => show win0_15.index t 0 * 1024 + 1 * r.val = (row (tb t) (sp t r)).val; rw [e0, row_val]; omega
    | ⟨1, _⟩ => show win0_15.index t 1 * 512 + 1 * d.val = d.val; rw [e1]; omega
  show _ = G15 m c ((win0_15.blk t).view.emb (ix2 r d))
  rw [hv]
  show _ = HC m c (bat (row (tb t) (sp t r))) (pos (row (tb t) (sp t r))) (c2 d)
  rw [hb_eq, hp_eq, ← conv_at]
  unfold bfT bufV
  generalize convV (F := Ideal) _ _ _ = y
  exact extractStridedSlice_apply _ y _ _ (ix2 r (c2 d)) fun a => match a with
    | ⟨0, _⟩ => (Nat.zero_add r.val).symm
    | ⟨1, _⟩ => rfl

theorem mem_blk15 (t : Fin cfg0.N) (i : S32768x512.Idx) : i ∈ ((cfg0.win 15).blk t).view.set ↔ t.val = (i 0 : Nat) / 1024 := by
  show i ∈ ((View.whole main_v0_2).slice (win0_15.rect t)).set ↔ _
  rw [View.set_slice_whole, Rect.mem_set_unit]
  obtain ⟨e0, e1⟩ := idx15 t
  have h1 : (i 1 : Nat) < 512 := (i 1).isLt
  refine ⟨fun h => ?_, fun h a => ?_⟩
  · have p0 : win0_15.index t 0 * 1024 ≤ (i 0 : Nat) ∧ (i 0 : Nat) < win0_15.index t 0 * 1024 + 1024 := h 0
    rw [e0] at p0
    omega
  · match a with
    | ⟨0, _⟩ => show win0_15.index t 0 * 1024 ≤ (i 0 : Nat) ∧ (i 0 : Nat) < win0_15.index t 0 * 1024 + 1024; rw [e0]; omega
    | ⟨1, _⟩ => show win0_15.index t 1 * 512 ≤ (i 1 : Nat) ∧ (i 1 : Nat) < win0_15.index t 1 * 512 + 512; rw [e1]; omega

theorem cover15 (i : S32768x512.Idx) : ∃ t : Fin cfg0.N, (cfg0.win 15).flush t = true ∧ i ∈ ((cfg0.win 15).blk t).view.set := by
  have h0 : (i 0 : Nat) < 32768 := (i 0).isLt
  have ht : (i 0 : Nat) / 1024 < cfg0.N := by show _ < 32; omega
  exact ⟨⟨_, ht⟩, flush0_15 _, (mem_blk15 _ _).mpr rfl⟩

theorem final15 (c : Dev nD) : (dats m 0 c).arrAt 15 cfg0.N = G15 m c :=
  (dats m 0 c).arrAt_eq_of_cover 15 (G15 m c) (fun t _ => flushed_eq15 m c t) cover15

theorem flushed_eq16 (c : Dev nD) (t : Fin cfg0.N) : (dats m 0 c).flushed 16 t = (win0_16.blk t).view.read (Elt Ideal) (G16 m c) := by
  have ht := t_lt t
  rw [Value.flushed16_A, out_eq16]
  funext (y : S1024x512.Idx)
  obtain ⟨r, d, rfl⟩ : ∃ (r : Fin 1024) (d : Fin 512), y = ix2 r d := ⟨_, _, eq_ix2 y⟩
  obtain ⟨e0, e1⟩ := idx16 t
  have hv : ((win0_16.blk t).view.emb (ix2 r d) : S32768x512.Idx) = ix2 (row (tb t) (sp t r)) d := by
    funext a
    apply Fin.ext
    match a with
    | ⟨0, _⟩ => show win0_16.index t 0 * 1024 + 1 * r.val = (row (tb t) (sp t r)).val; rw [e0, row_val]; omega
    | ⟨1, _⟩ => show win0_16.index t 1 * 512 + 1 * d.val = d.val; rw [e1]; omega
  show _ = G16 m c ((win0_16.blk t).view.emb (ix2 r d))
  rw [hv]
  show _ = RO m c (bat (row (tb t) (sp t r))) (pos (row (tb t) (sp t r))) (d0 d) * qs
  rw [hb_eq, hp_eq, ← ro_at]
  exact q_apply _ _ _ r d

theorem mem_blk16 (t : Fin cfg0.N) (i : S32768x512.Idx) : i ∈ ((cfg0.win 16).blk t).view.set ↔ t.val = (i 0 : Nat) / 1024 := by
  show i ∈ ((View.whole main_v0_3).slice (win0_16.rect t)).set ↔ _
  rw [View.set_slice_whole, Rect.mem_set_unit]
  obtain ⟨e0, e1⟩ := idx16 t
  have h1 : (i 1 : Nat) < 512 := (i 1).isLt
  refine ⟨fun h => ?_, fun h a => ?_⟩
  · have p0 : win0_16.index t 0 * 1024 ≤ (i 0 : Nat) ∧ (i 0 : Nat) < win0_16.index t 0 * 1024 + 1024 := h 0
    rw [e0] at p0
    omega
  · match a with
    | ⟨0, _⟩ => show win0_16.index t 0 * 1024 ≤ (i 0 : Nat) ∧ (i 0 : Nat) < win0_16.index t 0 * 1024 + 1024; rw [e0]; omega
    | ⟨1, _⟩ => show win0_16.index t 1 * 512 ≤ (i 1 : Nat) ∧ (i 1 : Nat) < win0_16.index t 1 * 512 + 512; rw [e1]; omega

theorem cover16 (i : S32768x512.Idx) : ∃ t : Fin cfg0.N, (cfg0.win 16).flush t = true ∧ i ∈ ((cfg0.win 16).blk t).view.set := by
  have h0 : (i 0 : Nat) < 32768 := (i 0).isLt
  have ht : (i 0 : Nat) / 1024 < cfg0.N := by show _ < 32; omega
  exact ⟨⟨_, ht⟩, flush0_16 _, (mem_blk16 _ _).mpr rfl⟩

theorem final16 (c : Dev nD) : (dats m 0 c).arrAt 16 cfg0.N = G16 m c :=
  (dats m 0 c).arrAt_eq_of_cover 16 (G16 m c) (fun t _ => flushed_eq16 m c t) cover16

theorem flushed_eq17 (c : Dev nD) (t : Fin cfg0.N) : (dats m 0 c).flushed 17 t = (win0_17.blk t).view.read (Elt Ideal) (G17 m c) := by
  have ht := t_lt t
  rw [Value.flushed17_A, out_eq17]
  funext (y : S1024x512.Idx)
  obtain ⟨r, d, rfl⟩ : ∃ (r : Fin 1024) (d : Fin 512), y = ix2 r d := ⟨_, _, eq_ix2 y⟩
  obtain ⟨e0, e1⟩ := idx17 t
  have hv : ((win0_17.blk t).view.emb (ix2 r d) : S32768x512.Idx) = ix2 (row (tb t) (sp t r)) d := by
    funext a
    apply Fin.ext
    match a with
    | ⟨0, _⟩ => show win0_17.index t 0 * 1024 + 1 * r.val = (row (tb t) (sp t r)).val; rw [e0, row_val]; omega
    | ⟨1, _⟩ => show win0_17.index t 1 * 512 + 1 * d.val = d.val; rw [e1]; omega
  show _ = G17 m c ((win0_17.blk t).view.emb (ix2 r d))
  rw [hv]
  show _ = RO m c (bat (row (tb t) (sp t r))) (pos (row (tb t) (sp t r))) (d1 d)
  rw [hb_eq, hp_eq, ← ro_at]
  exact k_apply _ _ _ r d

theorem mem_blk17 (t : Fin cfg0.N) (i : S32768x512.Idx) : i ∈ ((cfg0.win 17).blk t).view.set ↔ t.val = (i 0 : Nat) / 1024 := by
  show i ∈ ((View.whole main_v0_4).slice (win0_17.rect t)).set ↔ _
  rw [View.set_slice_whole, Rect.mem_set_unit]
  obtain ⟨e0, e1⟩ := idx17 t
  have h1 : (i 1 : Nat) < 512 := (i 1).isLt
  refine ⟨fun h => ?_, fun h a => ?_⟩
  · have p0 : win0_17.index t 0 * 1024 ≤ (i 0 : Nat) ∧ (i 0 : Nat) < win0_17.index t 0 * 1024 + 1024 := h 0
    rw [e0] at p0
    omega
  · match a with
    | ⟨0, _⟩ => show win0_17.index t 0 * 1024 ≤ (i 0 : Nat) ∧ (i 0 : Nat) < win0_17.index t 0 * 1024 + 1024; rw [e0]; omega
    | ⟨1, _⟩ => show win0_17.index t 1 * 512 ≤ (i 1 : Nat) ∧ (i 1 : Nat) < win0_17.index t 1 * 512 + 512; rw [e1]; omega

theorem cover17 (i : S32768x512.Idx) : ∃ t : Fin cfg0.N, (cfg0.win 17).flush t = true ∧ i ∈ ((cfg0.win 17).blk t).view.set := by
  have h0 : (i 0 : Nat) < 32768 := (i 0).isLt
  have ht : (i 0 : Nat) / 1024 < cfg0.N := by show _ < 32; omega
  exact ⟨⟨_, ht⟩, flush0_17 _, (mem_blk17 _ _).mpr rfl⟩

theorem final17 (c : Dev nD) : (dats m 0 c).arrAt 17 cfg0.N = G17 m c :=
  (dats m 0 c).arrAt_eq_of_cover 17 (G17 m c) (fun t _ => flushed_eq17 m c t) cover17

theorem flushed_eq18 (c : Dev nD) (t : Fin cfg0.N) : (dats m 0 c).flushed 18 t = (win0_18.blk t).view.read (Elt Ideal) (G18 m c) := by
  have ht := t_lt t
  rw [Value.flushed18_A, out_eq18]
  funext (y : S1x512x1024.Idx)
  obtain ⟨z, n, r, rfl⟩ : ∃ (z : Fin 1) (n : Fin 512) (r : Fin 1024), y = ix3 z n r := ⟨_, _, _, eq_ix3 y⟩
  obtain rfl : z = 0 := Subsingleton.elim _ _
  obtain ⟨e0, e1, e2⟩ := idx18 t
  have hv : ((win0_18.blk t).view.emb (ix3 0 n r) : S4x512x8192.Idx) = ix3 (tb t) n (sp t r) := by
    funext a
    apply Fin.ext
    match a with
    | ⟨0, _⟩ => show win0_18.index t 0 * 1 + 1 * 0 = t.val / 8; rw [e0]; omega
    | ⟨1, _⟩ => show win0_18.index t 1 * 512 + 1 * n.val = n.val; rw [e1]; omega
    | ⟨2, _⟩ => show win0_18.index t 2 * 1024 + 1 * r.val = t.val % 8 * 1024 + r.val; rw [e2]; omega
  show _ = G18 m c ((win0_18.blk t).view.emb (ix3 0 n r))
  rw [hv]
  show _ = vv (AA m c) (a6 m c) (tb t) (sp t r) n
  refine (pay22_apply _ _ n r).trans ?_
  rw [h_at]
  unfold vv up
  refine Finset.sum_congr rfl fun d _ => ?_
  exact (congrArg (fun z : EReal => z * nr (AA m c) (tb t) (sp t r) d) (iblk8 m c t n d)).trans (mul_comm _ _)

theorem mem_blk18 (t : Fin cfg0.N) (i : S4x512x8192.Idx) :
    i ∈ ((cfg0.win 18).blk t).view.set ↔ t.val = (i 0 : Nat) * 8 + (i 2 : Nat) / 1024 := by
  show i ∈ ((View.whole main_v0_5).slice (win0_18.rect t)).set ↔ _
  rw [View.set_slice_whole, Rect.mem_set_unit]
  obtain ⟨e0, e1, e2⟩ := idx18 t
  have h1 : (i 1 : Nat) < 512 := (i 1).isLt
  have h2 : (i 2 : Nat) < 8192 := (i 2).isLt
  refine ⟨fun h => ?_, fun h a => ?_⟩
  · have p0 : win0_18.index t 0 * 1 ≤ (i 0 : Nat) ∧ (i 0 : Nat) < win0_18.index t 0 * 1 + 1 := h 0
    have p2 : win0_18.index t 2 * 1024 ≤ (i 2 : Nat) ∧ (i 2 : Nat) < win0_18.index t 2 * 1024 + 1024 := h 2
    rw [e0] at p0
    rw [e2] at p2
    omega
  · match a with
    | ⟨0, _⟩ => show win0_18.index t 0 * 1 ≤ (i 0 : Nat) ∧ (i 0 : Nat) < win0_18.index t 0 * 1 + 1; rw [e0]; omega
    | ⟨1, _⟩ => show win0_18.index t 1 * 512 ≤ (i 1 : Nat) ∧ (i 1 : Nat) < win0_18.index t 1 * 512 + 512; rw [e1]; omega
    | ⟨2, _⟩ => show win0_18.index t 2 * 1024 ≤ (i 2 : Nat) ∧ (i 2 : Nat) < win0_18.index t 2 * 1024 + 1024; rw [e2]; omega

theorem cover18 (i : S4x512x8192.Idx) : ∃ t : Fin cfg0.N, (cfg0.win 18).flush t = true ∧ i ∈ ((cfg0.win 18).blk t).view.set := by
  have h0 : (i 0 : Nat) < 4 := (i 0).isLt
  have h2 : (i 2 : Nat) < 8192 := (i 2).isLt
  have ht : (i 0 : Nat) * 8 + (i 2 : Nat) / 1024 < cfg0.N := by show _ < 32; omega
  exact ⟨⟨_, ht⟩, flush0_18 _, (mem_blk18 _ _).mpr rfl⟩

theorem final18 (c : Dev nD) : (dats m 0 c).arrAt 18 cfg0.N = G18 m c :=
  (dats m 0 c).arrAt_eq_of_cover 18 (G18 m c) (fun t _ => flushed_eq18 m c t) cover18

/-- The run: the results at the formulas, the arguments unchanged. -/
theorem run : θ_run (defs (F := Ideal)) (onTc (τ := τ) (main (F := Ideal))) ⟨m, fun _ => 0, ρ⟩ fun r => ∀ c : Dev nD,
      r.2.mem ((c : Thread nD τ).loc main_v0_0) = G13 m c
      ∧ r.2.mem ((c : Thread nD τ).loc main_v0_1) = G14 m c
      ∧ r.2.mem ((c : Thread nD τ).loc main_v0_2) = G15 m c
      ∧ r.2.mem ((c : Thread nD τ).loc main_v0_3) = G16 m c
      ∧ r.2.mem ((c : Thread nD τ).loc main_v0_4) = G17 m c
      ∧ r.2.mem ((c : Thread nD τ).loc main_v0_5) = G18 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => by
    obtain ⟨h0, h1, h2, h3, h4, h5, h6⟩ := h c
    exact ⟨h0.trans (final13 m c), h1.trans (final14 m c), h2.trans (final15 m c), h3.trans (final16 m c), h4.trans (final17 m c),
      h5.trans (final18 m c), h6⟩) (Value.run_blocks m ρ)

end Cert.Proof.InpOut

end
-- ==== Proof.lean ====
/- The certificate of the input projection, of the differential attention, of its output projection, of the spatial gating and of the two
   feed-forward calls: the frames of each kernel, of its idealization and of its reference, and over the reals the kernel's results at the
   reference's. -/
module

public import proofs.«01_k».proof.Defs
public import proofs.«01_k».proof.Proof.Gen.Attn
public import proofs.«01_k».proof.Proof.Gen.AttnIdeal
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_all_finite
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.FfnIdeal.Value
public import proofs.«01_k».proof.Proof.Gen.LastIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.LastRefIdeal
public import proofs.«01_k».proof.Proof.Gen.LastRefIdeal.Run
public import proofs.«01_k».proof.Proof.Gen.LastRefIdeal.Read
public import proofs.«01_k».proof.Proof.Gen.Pre_ffn_finite
public import proofs.«01_k».proof.Proof.Gen.Sgu
public import proofs.«01_k».proof.Proof.Gen.Sgu.Frame
public import proofs.«01_k».proof.Proof.Gen.SguIdeal
public import proofs.«01_k».proof.Proof.Gen.SguIdeal.Frame
public import proofs.«01_k».proof.Proof.Gen.SguIdeal.Value
public import proofs.«01_k».proof.Proof.Gen.SguRefIdeal
public import proofs.«01_k».proof.Proof.Gen.SguRefIdeal.Run
public import proofs.«01_k».proof.Proof.Gen.SguRefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Attn.Run
public import proofs.«01_k».proof.Proof.AttnIdeal.Run
public import proofs.«01_k».proof.Proof.AttnIdeal.Final
public import proofs.«01_k».proof.Proof.LastIdeal.Pre
public import proofs.«01_k».proof.Proof.LastIdeal.Ref
public import proofs.«01_k».proof.Proof.LastIdeal.Final
public import proofs.«01_k».proof.Proof.FfnIdeal.Ref
public import proofs.«01_k».proof.Proof.FfnIdeal.Final
public import proofs.«01_k».proof.Proof.SguIdeal.Ref
public import proofs.«01_k».proof.Proof.SguIdeal.Final
public import proofs.«01_k».proof.Proof.Gen.Inp
public import proofs.«01_k».proof.Proof.Gen.Inp.Frame
public import proofs.«01_k».proof.Proof.Gen.InpIdeal
public import proofs.«01_k».proof.Proof.Gen.InpIdeal.Frame
public import proofs.«01_k».proof.Proof.Gen.InpIdeal.Value
public import proofs.«01_k».proof.Proof.Gen.InpRefIdeal
public import proofs.«01_k».proof.Proof.Gen.InpRefIdeal.Run
public import proofs.«01_k».proof.Proof.Gen.InpRefIdeal.Read
public import proofs.«01_k».proof.Proof.OutIdeal.Ref
public import proofs.«01_k».proof.Proof.OutIdeal.Final
public import proofs.«01_k».proof.Proof.InpIdeal.Ref
public import proofs.«01_k».proof.Proof.InpIdeal.Final
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame. -/
theorem frame_ref : Cert.quiescent_AttnRefIdeal := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)

/-- Over the reals the kernel's result array ends at the reference's. -/
theorem algebraic : Cert.algebraic_AttnIdeal_AttnRefIdeal_pre_all_finite := by
  intro m ρ m' ρ' hpre hagree
  have hm : ∀ c, Cert.Proof.AttnIdeal.Args m c := fun c => by
    obtain ⟨p0, p2, p3, p4, p5, p6⟩ := hpre c
    exact ⟨AttnIdeal.pre0 _ _ _ _ _ _ _ p0, AttnIdeal.pre2 _ _ _ _ _ _ _ p2, AttnIdeal.pre3 _ _ _ _ _ _ _ p3, AttnIdeal.pre4 _ _ _ _ _ _ _ p4,
      AttnIdeal.pre5 _ _ _ _ _ _ _ p5, AttnIdeal.pre6 _ _ _ _ _ _ _ p6⟩
  refine ⟨fun c => Cert.Proof.AttnIdeal.G m c, Cert.Proof.AttnIdeal.run m ρ hm, ?_⟩
  refine (θ_run Cert.AttnRefIdeal.defs _ _).mono (fun _ h c => ⟨(h c).1.trans ?_, (h c).2⟩) (Cert.AttnRefIdeal.Value.run (F := Ideal) m' ρ')
  obtain ⟨g0, g1, g2, g3, g4, g5, g6⟩ := hagree c
  rw [Cert.AttnRefIdeal.Read.val_main_v76_eq]
  funext i
  obtain ⟨b, r, ch, rfl⟩ : ∃ (b : Fin 4) (r : Fin 8192) (ch : Fin 512), i = ix3 b r ch := ⟨i 0, i 1, i 2, eq_ix3 i⟩
  refine (AttnIdeal.Ref.v76_eq _ _ _ _ _ _ _ b r ch).trans ?_
  rw [g0, g1, g2, g3, g4, g5, g6]
  rfl

/-- The frame of the reference of a feed-forward block that is not the last. -/
theorem frame_FfnRef : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

/-- Over the reals the result array of a feed-forward block that is not the last ends at the reference's. -/
theorem algebraic_Ffn : Cert.algebraic_FfnIdeal_FfnRefIdeal_pre_ffn_finite := by
  intro m ρ m' ρ' hpre hagree
  have hm : ∀ c, FfnMath.Fine (FfnOut.AA m c) := fun c => by
    obtain ⟨p1, p2, p3, p5, p6, p7⟩ := hpre c
    exact FfnPre.fine _ _ _ _ _ _ _ _ _ _ (FfnPre.pre1 _ _ _ _ _ _ _ _ _ _ p1)
      (FfnPre.pre2 _ _ _ _ _ _ _ _ _ _ p2) (FfnPre.pre3 _ _ _ _ _ _ _ _ _ _ p3) (FfnPre.pre5 _ _ _ _ _ _ _ _ _ _ p5)
      (FfnPre.pre6 _ _ _ _ _ _ _ _ _ _ p6) (FfnPre.pre7 _ _ _ _ _ _ _ _ _ _ p7)
  refine ⟨fun c => FfnOut.G m c, FfnOut.run m ρ, ?_⟩
  refine (θ_run Cert.FfnRefIdeal.defs _ _).mono (fun _ h c => ⟨(h c).1.trans ?_, (h c).2⟩) (Cert.FfnRefIdeal.Value.run (F := Ideal) m' ρ')
  obtain ⟨g0, g1, g2, g3, g4, g5, g6, g7, g8, _⟩ := hagree c
  rw [Cert.FfnRefIdeal.Read.val_main_v57_eq]
  funext i
  obtain ⟨r, d, rfl⟩ : ∃ (r : Fin 32768) (d : Fin 1024), i = ix2 r d := ⟨i 0, i 1, eq_ix2 i⟩
  refine (FfnRef.v57_eq _ _ _ _ _ _ _ _ _ (FfnOut.a9 m c) r d).trans ?_
  rw [g0, g1, g2, g3, g4, g5, g6, g7, g8]
  exact ((hm c).zz _ _ _).symm

/-- The frame of the reference of the last feed-forward block. -/
theorem frame_LastRef : Cert.quiescent_LastRefIdeal := fun m ρ _ =>
  (θ_run Cert.LastRefIdeal.defs _ _).mono (fun r h => ⟨fun c => (h c).2, Idealize.ShloMosaic.sem_eq_zero_of_no_sems (by decide) r.2⟩)
    (Cert.LastRefIdeal.Value.run (F := Ideal) m ρ)

/-- Over the reals the result array of the last feed-forward block ends at the reference's. -/
theorem algebraic_Last : Cert.algebraic_LastIdeal_LastRefIdeal_pre_ffn_finite := by
  intro m ρ m' ρ' hpre hagree
  have hm : ∀ c, FfnMath.Fine (LastOut.AA m c) := fun c => by
    obtain ⟨p1, p2, p3, p5, p6, p7⟩ := hpre c
    exact FfnPre.fine _ _ _ _ _ _ _ _ _ _ (FfnPre.pre1 _ _ _ _ _ _ _ _ _ _ p1)
      (FfnPre.pre2 _ _ _ _ _ _ _ _ _ _ p2) (FfnPre.pre3 _ _ _ _ _ _ _ _ _ _ p3) (FfnPre.pre5 _ _ _ _ _ _ _ _ _ _ p5)
      (FfnPre.pre6 _ _ _ _ _ _ _ _ _ _ p6) (FfnPre.pre7 _ _ _ _ _ _ _ _ _ _ p7)
  refine ⟨fun c => LastOut.G m c, LastOut.run m ρ, ?_⟩
  refine (θ_run Cert.LastRefIdeal.defs _ _).mono (fun _ h c => ⟨(h c).1.trans ?_, (h c).2⟩) (Cert.LastRefIdeal.Value.run (F := Ideal) m' ρ')
  obtain ⟨g0, g1, g2, g3, g4, g5, g6, g7, g8, g9⟩ := hagree c
  rw [Cert.LastRefIdeal.Read.val_main_v71_eq]
  funext i
  obtain ⟨r, d, rfl⟩ : ∃ (r : Fin 32768) (d : Fin 1024), i = ix2 r d := ⟨i 0, i 1, eq_ix2 i⟩
  refine (LastRef.v71_eq _ _ _ _ _ _ _ _ _ _ r d).trans ?_
  rw [g0, g1, g2, g3, g4, g5, g6, g7, g8, g9]
  exact ((hm c).fin _ _ _).symm

/-- The frame of the reference of the spatial gating. -/
theorem frame_SguRef : Cert.quiescent_SguRefIdeal := fun m ρ _ =>
  (θ_run Cert.SguRefIdeal.defs _ _).mono (fun r h => ⟨fun c => (h c).2, Idealize.ShloMosaic.sem_eq_zero_of_no_sems (by decide) r.2⟩)
    (Cert.SguRefIdeal.Value.run (F := Ideal) m ρ)

/-- Over the reals the result array of the spatial gating ends at the reference's. -/
theorem algebraic_Sgu : Cert.algebraic_SguIdeal_SguRefIdeal := by
  intro m ρ m' ρ' hpre hagree
  refine ⟨fun c => SguOut.G m c, SguOut.run m ρ, ?_⟩
  refine (θ_run Cert.SguRefIdeal.defs _ _).mono (fun _ h c => ⟨(h c).1.trans ?_, (h c).2⟩) (Cert.SguRefIdeal.Value.run (F := Ideal) m' ρ')
  obtain ⟨g0, g1, g2, g3, g4, g5, g6, g7, g8, g9, g10, g11⟩ := hagree c
  rw [Cert.SguRefIdeal.Read.val_main_v75_eq]
  funext i
  obtain ⟨r, d, rfl⟩ : ∃ (r : Fin 32768) (d : Fin 1024), i = ix2 r d := ⟨i 0, i 1, eq_ix2 i⟩
  refine (SguRef.v75_eq _ _ _ _ _ _ _ _ _ _ _ _ r d).trans ?_
  rw [g0, g1, g2, g3, g4, g5, g6, g7, g8, g9, g10, g11]
  rfl

/-- The frame of the reference of the output projection. -/
theorem frame_OutRef : Cert.quiescent_OutRefIdeal := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)

/-- Over the reals the result array of the output projection ends at the reference's. -/
theorem algebraic_Out : Cert.algebraic_OutIdeal_OutRefIdeal := by
  intro m ρ m' ρ' hpre hagree
  refine ⟨fun c => OutOut.G m c, OutOut.run m ρ, ?_⟩
  refine (θ_run Cert.OutRefIdeal.defs _ _).mono (fun _ h c => ⟨(h c).1.trans ?_, (h c).2⟩) (Cert.OutRefIdeal.Value.run (F := Ideal) m' ρ')
  obtain ⟨g0, g1, g2, g3, g4, g5⟩ := hagree c
  rw [Cert.OutRefIdeal.Read.val_main_v12_eq]
  funext i
  obtain ⟨r, d, rfl⟩ : ∃ (r : Fin 32768) (d : Fin 1024), i = ix2 r d := ⟨i 0, i 1, eq_ix2 i⟩
  refine (OutRef.v12_eq _ _ _ _ _ _ r d).trans ?_
  rw [g0, g1, g2, g3, g4, g5]
  rfl

theorem frame_InpRef : Cert.quiescent_InpRefIdeal := fun m ρ _ =>
  (θ_run Cert.InpRefIdeal.defs _ _).mono (fun r h => ⟨fun c => (h c).2.2.2.2.2.2, Idealize.ShloMosaic.sem_eq_zero_of_no_sems (by decide) r.2⟩)
    (Cert.InpRefIdeal.Value.run (F := Ideal) m ρ)

/-- The kernel's six results over the reals are the reference's. -/
theorem algebraic_Inp : Cert.algebraic_InpIdeal_InpRefIdeal := by
  intro m ρ m' ρ' hpre hagree
  refine ⟨fun c => InpOut.G13 m c, fun c => InpOut.G14 m c, fun c => InpOut.G15 m c, fun c => InpOut.G16 m c, fun c => InpOut.G17 m c,
    fun c => InpOut.G18 m c, InpOut.run m ρ, ?_⟩
  refine (θ_run Cert.InpRefIdeal.defs _ _).mono (fun _ h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2⟩) (Cert.InpRefIdeal.Value.run (F := Ideal) m' ρ')
  all_goals obtain ⟨g0, g1, g2, g3, g4, g5, g6, g7, g8, g9, g10⟩ := hagree c
  · rw [Cert.InpRefIdeal.Read.val_main_v117_eq]
    funext i
    obtain ⟨r, d, rfl⟩ : ∃ (r : Fin 32768) (d : Fin 512), i = ix2 r d := ⟨i 0, i 1, eq_ix2 i⟩
    refine (InpRef.v117_eq _ _ _ _ _ _ _ r d (InpOut.c0 d) rfl).trans ?_
    rw [g0, g1, g2, g3, g4, g9, g10]
    rfl
  · rw [Cert.InpRefIdeal.Read.val_main_v118_eq]
    funext i
    obtain ⟨r, d, rfl⟩ : ∃ (r : Fin 32768) (d : Fin 512), i = ix2 r d := ⟨i 0, i 1, eq_ix2 i⟩
    refine (InpRef.v118_eq _ _ _ _ _ _ _ r d (InpOut.c1 d) rfl).trans ?_
    rw [g0, g1, g2, g3, g4, g9, g10]
    rfl
  · rw [Cert.InpRefIdeal.Read.val_main_v119_eq]
    funext i
    obtain ⟨r, d, rfl⟩ : ∃ (r : Fin 32768) (d : Fin 512), i = ix2 r d := ⟨i 0, i 1, eq_ix2 i⟩
    refine (InpRef.v119_eq _ _ _ _ _ _ _ r d (InpOut.c2 d) rfl).trans ?_
    rw [g0, g1, g2, g3, g4, g9, g10]
    rfl
  · rw [Cert.InpRefIdeal.Read.val_main_v121_eq]
    funext i
    obtain ⟨r, d, rfl⟩ : ∃ (r : Fin 32768) (d : Fin 512), i = ix2 r d := ⟨i 0, i 1, eq_ix2 i⟩
    refine (InpRef.v121_eq _ _ _ _ _ _ _ r d (InpOut.d0 d) rfl).trans ?_
    rw [g0, g1, g2, g3, g5, g7, g8]
    rfl
  · rw [Cert.InpRefIdeal.Read.val_main_v123_eq]
    funext i
    obtain ⟨r, d, rfl⟩ : ∃ (r : Fin 32768) (d : Fin 512), i = ix2 r d := ⟨i 0, i 1, eq_ix2 i⟩
    refine (InpRef.v123_eq _ _ _ _ _ _ _ r d (InpOut.d1 d) rfl).trans ?_
    rw [g0, g1, g2, g3, g5, g7, g8]
    rfl
  · rw [Cert.InpRefIdeal.Read.val_main_v125_eq]
    funext i
    obtain ⟨b, n, s, rfl⟩ : ∃ (b : Fin 4) (n : Fin 512) (s : Fin 8192), i = ix3 b n s := ⟨i 0, i 1, i 2, eq_ix3 i⟩
    refine (InpRef.v125_eq _ _ _ _ _ b n s).trans ?_
    rw [g0, g1, g2, g3, g6]
    rfl

theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts,
  Cert.Last.Gen.facts, Cert.LastIdeal.Gen.facts, Cert.LastRefIdeal.Gen.facts, Cert.Sgu.Gen.facts, Cert.SguIdeal.Gen.facts, Cert.SguRefIdeal.Gen.facts,
  Cert.Out.Gen.facts, Cert.OutIdeal.Gen.facts, Cert.OutRefIdeal.Gen.facts,
  Cert.Inp.Gen.facts, Cert.InpIdeal.Gen.facts, Cert.InpRefIdeal.Gen.facts,
  Cert.Pre_all_finite.Gen.facts, Cert.Pre_ffn_finite.Gen.facts,
  fun m ρ _ => Cert.Proof.Attn.frame m ρ, fun m ρ _ => Cert.Proof.AttnIdeal.frame m ρ, fun m ρ _ => Cert.Proof.AttnIdeal.frame m ρ,
  frame_ref, fun m ρ _ => frame_ref m ρ trivial,
  fun m ρ _ => Cert.Ffn.Gen.frame m ρ, fun m ρ _ => Cert.FfnIdeal.Gen.frame m ρ, fun m ρ _ => Cert.FfnIdeal.Gen.frame m ρ,
  frame_FfnRef, fun m ρ _ => frame_FfnRef m ρ trivial,
  fun m ρ _ => Cert.Last.Gen.frame m ρ, fun m ρ _ => Cert.LastIdeal.Gen.frame m ρ, fun m ρ _ => Cert.LastIdeal.Gen.frame m ρ,
  frame_LastRef, fun m ρ _ => frame_LastRef m ρ trivial,
  fun m ρ _ => Cert.Sgu.Gen.frame m ρ, fun m ρ _ => Cert.SguIdeal.Gen.frame m ρ, frame_SguRef,
  fun m ρ _ => Cert.Out.Gen.frame m ρ, fun m ρ _ => Cert.OutIdeal.Gen.frame m ρ, frame_OutRef,
  fun m ρ _ => Cert.Inp.Gen.frame m ρ, fun m ρ _ => Cert.InpIdeal.Gen.frame m ρ, frame_InpRef,
  trivial, algebraic, trivial, algebraic_Ffn, trivial, algebraic_Last,
  trivial, algebraic_Sgu,
  trivial, algebraic_Out,
  trivial, algebraic_Inp⟩

end Cert.Proof

end
